-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v6) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v61_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v61_1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite2 : Cert.Pre_finite2.Facts) (hPre_finite3 : Cert.Pre_finite3.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal_pre_finite3 (hKernel3Ideal := hKernel3Ideal) (hReference3Ideal := hReference3Ideal) (hPre_finite3 := hPre_finite3)
-- ==== Pre_finite.lean ====
abbrev S8x4096x1024 : Shape := ⟨3, ![8, 4096, 1024]⟩
abbrev S1x1024x4744 : Shape := ⟨3, ![1, 1024, 4744]⟩
abbrev S8x3072 : Shape := ⟨2, ![8, 3072]⟩
abbrev S8x4096x512 : Shape := ⟨3, ![8, 4096, 512]⟩
abbrev S1x1024x1024 : Shape := ⟨3, ![1, 1024, 1024]⟩
abbrev S1024 : Shape := ⟨1, ![1024]⟩
abbrev S1x4x1024 : Shape := ⟨3, ![1, 4, 1024]⟩
abbrev S1x1024 : Shape := ⟨2, ![1, 1024]⟩
abbrev S1x4 : Shape := ⟨2, ![1, 4]⟩
abbrev S1x512 : Shape := ⟨2, ![1, 512]⟩
abbrev S_ : Shape := ⟨0, ![]⟩

class Facts : Prop where
  bitsLt_bf16_f32 : FTy.bits .bf16 < FTy.bits .f32
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x4096x512 : S_.BroadcastsInDim S8x4096x512 (![] : Fin 0 → Fin S8x4096x512.rank)
  reducesTo_S8x4096x512_S_d0_1_2 : S8x4096x512.ReducesTo [0, 1, 2] S_
  bcast_S_S1x1024x4744 : S_.BroadcastsInDim S1x1024x4744 (![] : Fin 0 → Fin S1x1024x4744.rank)
  reducesTo_S1x1024x4744_S_d0_1_2 : S1x1024x4744.ReducesTo [0, 1, 2] S_
  bcast_S_S8x3072 : S_.BroadcastsInDim S8x3072 (![] : Fin 0 → Fin S8x3072.rank)
  reducesTo_S8x3072_S_d0_1 : S8x3072.ReducesTo [0, 1] S_
  bcast_S_S1x1024x1024 : S_.BroadcastsInDim S1x1024x1024 (![] : Fin 0 → Fin S1x1024x1024.rank)
  reducesTo_S1x1024x1024_S_d0_1_2 : S1x1024x1024.ReducesTo [0, 1, 2] S_
  bcast_S_S1024 : S_.BroadcastsInDim S1024 (![] : Fin 0 → Fin S1024.rank)
  reducesTo_S1024_S_d0 : S1024.ReducesTo [0] S_
  bcast_S_S1x4x1024 : S_.BroadcastsInDim S1x4x1024 (![] : Fin 0 → Fin S1x4x1024.rank)
  reducesTo_S1x4x1024_S_d0_1_2 : S1x4x1024.ReducesTo [0, 1, 2] S_
  bcast_S_S1x1024 : S_.BroadcastsInDim S1x1024 (![] : Fin 0 → Fin S1x1024.rank)
  reducesTo_S1x1024_S_d0_1 : S1x1024.ReducesTo [0, 1] S_
  bcast_S_S1x4 : S_.BroadcastsInDim S1x4 (![] : Fin 0 → Fin S1x4.rank)
  reducesTo_S1x4_S_d0_1 : S1x4.ReducesTo [0, 1] S_
  bcast_S_S1x512 : S_.BroadcastsInDim S1x512 (![] : Fin 0 → Fin S1x512.rank)
  reducesTo_S1x512_S_d0_1 : S1x512.ReducesTo [0, 1] S_

variable [Facts]

def fn_part3 {F : FTy → Type} [FloatOps F] (main_arg11 : FVec F S1x512 .f32) (main_arg12 : FVec F S1x512 .f32) (main_v50 : IVec S_ 1) (main_v51 : FVec F S1x4 .f32) : IVec S_ 1 :=
  let main_cst_18 : FVec F S_ .f32 := constant S_ .f32 0x7F800000#32
  let main_v52 : FVec F S1x4 .f32 := broadcastInDim S1x4 ![] bcast_S_S1x4 main_cst_18
  let main_v53 : IVec S1x4 1 := cmpf .olt main_v51 main_v52
  let main_c_19 : IVec S_ 1 := constantI S_ 1 1#1
  let main_v54 : IVec S_ 1 := (fun x v => Host.reduce IntOp.andi x v reducesTo_S1x4_S_d0_1 h_S_) main_v53 main_c_19
  let main_v55 : IVec S_ 1 := andi main_v50 main_v54
  let main_v56 : FVec F S1x512 .f32 := Host.absf main_arg11
  let main_cst_20 : FVec F S_ .f32 := constant S_ .f32 0x7F800000#32
  let main_v57 : FVec F S1x512 .f32 := broadcastInDim S1x512 ![] bcast_S_S1x512 main_cst_20
  let main_v58 : IVec S1x512 1 := cmpf .olt main_v56 main_v57
  let main_c_21 : IVec S_ 1 := constantI S_ 1 1#1
  let main_v59 : IVec S_ 1 := (fun x v => Host.reduce IntOp.andi x v reducesTo_S1x512_S_d0_1 h_S_) main_v58 main_c_21
  let main_v60 : IVec S_ 1 := andi main_v55 main_v59
  let main_v61 : FVec F S1x512 .f32 := Host.absf main_arg12
  let main_cst_22 : FVec F S_ .f32 := constant S_ .f32 0x7F800000#32
  let main_v62 : FVec F S1x512 .f32 := broadcastInDim S1x512 ![] bcast_S_S1x512 main_cst_22
  let main_v63 : IVec S1x512 1 := cmpf .olt main_v61 main_v62
  let main_c_23 : IVec S_ 1 := constantI S_ 1 1#1
  let main_v64 : IVec S_ 1 := (fun x v => Host.reduce IntOp.andi x v reducesTo_S1x512_S_d0_1 h_S_) main_v63 main_c_23
  let main_v65 : IVec S_ 1 := andi main_v60 main_v64
  main_v65

def fn_part2 {F : FTy → Type} [FloatOps F] (main_arg7 : FVec F S1x4x1024 .f32) (main_arg8 : FVec F S1x1024 .f32) (main_arg9 : FVec F S1x4 .f32) (main_arg10 : FVec F S1x4 .f32) (main_arg11 : FVec F S1x512 .f32) (main_arg12 : FVec F S1x512 .f32) (main_v30 : IVec S_ 1) (main_v33 : IVec S1024 1) (main_c_11 : IVec S_ 1) : IVec S_ 1 :=
  let main_v34 : IVec S_ 1 := (fun x v => Host.reduce IntOp.andi x v reducesTo_S1024_S_d0 h_S_) main_v33 main_c_11
  let main_v35 : IVec S_ 1 := andi main_v30 main_v34
  let main_v36 : FVec F S1x4x1024 .f32 := Host.absf main_arg7
  let main_cst_12 : FVec F S_ .f32 := constant S_ .f32 0x7F800000#32
  let main_v37 : FVec F S1x4x1024 .f32 := broadcastInDim S1x4x1024 ![] bcast_S_S1x4x1024 main_cst_12
  let main_v38 : IVec S1x4x1024 1 := cmpf .olt main_v36 main_v37
  let main_c_13 : IVec S_ 1 := constantI S_ 1 1#1
  let main_v39 : IVec S_ 1 := (fun x v => Host.reduce IntOp.andi x v reducesTo_S1x4x1024_S_d0_1_2 h_S_) main_v38 main_c_13
  let main_v40 : IVec S_ 1 := andi main_v35 main_v39
  let main_v41 : FVec F S1x1024 .f32 := Host.absf main_arg8
  let main_cst_14 : FVec F S_ .f32 := constant S_ .f32 0x7F800000#32
  let main_v42 : FVec F S1x1024 .f32 := broadcastInDim S1x1024 ![] bcast_S_S1x1024 main_cst_14
  let main_v43 : IVec S1x1024 1 := cmpf .olt main_v41 main_v42
  let main_c_15 : IVec S_ 1 := constantI S_ 1 1#1
  let main_v44 : IVec S_ 1 := (fun x v => Host.reduce IntOp.andi x v reducesTo_S1x1024_S_d0_1 h_S_) main_v43 main_c_15
  let main_v45 : IVec S_ 1 := andi main_v40 main_v44
  let main_v46 : FVec F S1x4 .f32 := Host.absf main_arg9
  let main_cst_16 : FVec F S_ .f32 := constant S_ .f32 0x7F800000#32
  let main_v47 : FVec F S1x4 .f32 := broadcastInDim S1x4 ![] bcast_S_S1x4 main_cst_16
  let main_v48 : IVec S1x4 1 := cmpf .olt main_v46 main_v47
  let main_c_17 : IVec S_ 1 := constantI S_ 1 1#1
  let main_v49 : IVec S_ 1 := (fun x v => Host.reduce IntOp.andi x v reducesTo_S1x4_S_d0_1 h_S_) main_v48 main_c_17
  let main_v50 : IVec S_ 1 := andi main_v45 main_v49
  let main_v51 : FVec F S1x4 .f32 := Host.absf main_arg10
  fn_part3 (F := F) main_arg11 main_arg12 main_v50 main_v51

def fn_part1 {F : FTy → Type} [FloatOps F] (main_arg3 : FVec F S8x3072 .f32) (main_arg5 : FVec F S1x1024x1024 .f32) (main_arg6 : FVec F S1024 .f32) (main_arg7 : FVec F S1x4x1024 .f32) (main_arg8 : FVec F S1x1024 .f32) (main_arg9 : FVec F S1x4 .f32) (main_arg10 : FVec F S1x4 .f32) (main_arg11 : FVec F S1x512 .f32) (main_arg12 : FVec F S1x512 .f32) (main_v15 : IVec S_ 1) (main_v16 : FVec F S8x4096x1024 .f32) (main_cst_4 : FVec F S_ .f32) : IVec S_ 1 :=
  let main_v17 : FVec F S8x4096x1024 .f32 := broadcastInDim S8x4096x1024 ![] bcast_S_S8x4096x1024 main_cst_4
  let main_v18 : IVec S8x4096x1024 1 := cmpf .olt main_v16 main_v17
  let main_c_5 : IVec S_ 1 := constantI S_ 1 1#1
  let main_v19 : IVec S_ 1 := (fun x v => Host.reduce IntOp.andi x v reducesTo_S8x4096x1024_S_d0_1_2 h_S_) main_v18 main_c_5
  let main_v20 : IVec S_ 1 := andi main_v15 main_v19
  let main_v21 : FVec F S8x3072 .f32 := Host.absf main_arg3
  let main_cst_6 : FVec F S_ .f32 := constant S_ .f32 0x7F800000#32
  let main_v22 : FVec F S8x3072 .f32 := broadcastInDim S8x3072 ![] bcast_S_S8x3072 main_cst_6
  let main_v23 : IVec S8x3072 1 := cmpf .olt main_v21 main_v22
  let main_c_7 : IVec S_ 1 := constantI S_ 1 1#1
  let main_v24 : IVec S_ 1 := (fun x v => Host.reduce IntOp.andi x v reducesTo_S8x3072_S_d0_1 h_S_) main_v23 main_c_7
  let main_v25 : IVec S_ 1 := andi main_v20 main_v24
  let main_v26 : FVec F S1x1024x1024 .f32 := Host.absf main_arg5
  let main_cst_8 : FVec F S_ .f32 := constant S_ .f32 0x7F800000#32
  let main_v27 : FVec F S1x1024x1024 .f32 := broadcastInDim S1x1024x1024 ![] bcast_S_S1x1024x1024 main_cst_8
  let main_v28 : IVec S1x1024x1024 1 := cmpf .olt main_v26 main_v27
  let main_c_9 : IVec S_ 1 := constantI S_ 1 1#1
  let main_v29 : IVec S_ 1 := (fun x v => Host.reduce IntOp.andi x v reducesTo_S1x1024x1024_S_d0_1_2 h_S_) main_v28 main_c_9
  let main_v30 : IVec S_ 1 := andi main_v25 main_v29
  let main_v31 : FVec F S1024 .f32 := Host.absf main_arg6
  let main_cst_10 : FVec F S_ .f32 := constant S_ .f32 0x7F800000#32
  let main_v32 : FVec F S1024 .f32 := broadcastInDim S1024 ![] bcast_S_S1024 main_cst_10
  let main_v33 : IVec S1024 1 := cmpf .olt main_v31 main_v32
  let main_c_11 : IVec S_ 1 := constantI S_ 1 1#1
  fn_part2 (F := F) main_arg7 main_arg8 main_arg9 main_arg10 main_arg11 main_arg12 main_v30 main_v33 main_c_11

def fn {F : FTy → Type} [FloatOps F] (main_arg0 : FVec F S8x4096x1024 .bf16) (main_arg1 : FVec F S1x1024x4744 .f32) (main_arg2 : FVec F S8x4096x1024 .f32) (main_arg3 : FVec F S8x3072 .f32) (main_arg4 : FVec F S8x4096x512 .bf16) (main_arg5 : FVec F S1x1024x1024 .f32) (main_arg6 : FVec F S1024 .f32) (main_arg7 : FVec F S1x4x1024 .f32) (main_arg8 : FVec F S1x1024 .f32) (main_arg9 : FVec F S1x4 .f32) (main_arg10 : FVec F S1x4 .f32) (main_arg11 : FVec F S1x512 .f32) (main_arg12 : FVec F S1x512 .f32) : IVec S_ 1 :=
  let main_v0 : FVec F S8x4096x1024 .f32 := (extf .f32 · bitsLt_bf16_f32) main_arg0
  let main_v1 : FVec F S8x4096x1024 .f32 := Host.absf main_v0
  let main_cst : FVec F S_ .f32 := constant S_ .f32 0x7F800000#32
  let main_v2 : FVec F S8x4096x1024 .f32 := broadcastInDim S8x4096x1024 ![] bcast_S_S8x4096x1024 main_cst
  let main_v3 : IVec S8x4096x1024 1 := cmpf .olt main_v1 main_v2
  let main_c : IVec S_ 1 := constantI S_ 1 1#1
  let main_v4 : IVec S_ 1 := (fun x v => Host.reduce IntOp.andi x v reducesTo_S8x4096x1024_S_d0_1_2 h_S_) main_v3 main_c
  let main_v5 : FVec F S8x4096x512 .f32 := (extf .f32 · bitsLt_bf16_f32) main_arg4
  let main_v6 : FVec F S8x4096x512 .f32 := Host.absf main_v5
  let main_cst_0 : FVec F S_ .f32 := constant S_ .f32 0x7F800000#32
  let main_v7 : FVec F S8x4096x512 .f32 := broadcastInDim S8x4096x512 ![] bcast_S_S8x4096x512 main_cst_0
  let main_v8 : IVec S8x4096x512 1 := cmpf .olt main_v6 main_v7
  let main_c_1 : IVec S_ 1 := constantI S_ 1 1#1
  let main_v9 : IVec S_ 1 := (fun x v => Host.reduce IntOp.andi x v reducesTo_S8x4096x512_S_d0_1_2 h_S_) main_v8 main_c_1
  let main_v10 : IVec S_ 1 := andi main_v4 main_v9
  let main_v11 : FVec F S1x1024x4744 .f32 := Host.absf main_arg1
  let main_cst_2 : FVec F S_ .f32 := constant S_ .f32 0x7F800000#32
  let main_v12 : FVec F S1x1024x4744 .f32 := broadcastInDim S1x1024x4744 ![] bcast_S_S1x1024x4744 main_cst_2
  let main_v13 : IVec S1x1024x4744 1 := cmpf .olt main_v11 main_v12
  let main_c_3 : IVec S_ 1 := constantI S_ 1 1#1
  let main_v14 : IVec S_ 1 := (fun x v => Host.reduce IntOp.andi x v reducesTo_S1x1024x4744_S_d0_1_2 h_S_) main_v13 main_c_3
  let main_v15 : IVec S_ 1 := andi main_v10 main_v14
  let main_v16 : FVec F S8x4096x1024 .f32 := Host.absf main_arg2
  let main_cst_4 : FVec F S_ .f32 := constant S_ .f32 0x7F800000#32
  fn_part1 (F := F) main_arg3 main_arg5 main_arg6 main_arg7 main_arg8 main_arg9 main_arg10 main_arg11 main_arg12 main_v15 main_v16 main_cst_4
-- ==== Pre_finite2.lean ====
abbrev S8x1024 : Shape := ⟨2, ![8, 1024]⟩
abbrev S1x1024x3072 : Shape := ⟨3, ![1, 1024, 3072]⟩
abbrev S1x3072 : Shape := ⟨2, ![1, 3072]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1x1024x3072 : S_.BroadcastsInDim S1x1024x3072 (![] : Fin 0 → Fin S1x1024x3072.rank)
  reducesTo_S1x1024x3072_S_d0_1_2 : S1x1024x3072.ReducesTo [0, 1, 2] S_
  bcast_S_S1x3072 : S_.BroadcastsInDim S1x3072 (![] : Fin 0 → Fin S1x3072.rank)
  reducesTo_S1x3072_S_d0_1 : S1x3072.ReducesTo [0, 1] S_

variable [Facts]

def fn {F : FTy → Type} [FloatOps F] (main_arg0 : FVec F S8x1024 .f32) (main_arg1 : FVec F S1x1024x3072 .f32) (main_arg2 : FVec F S1x3072 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1x1024x3072 .f32 := Host.absf main_arg1
  let main_cst_0 : FVec F S_ .f32 := constant S_ .f32 0x7F800000#32
  let main_v5 : FVec F S1x1024x3072 .f32 := broadcastInDim S1x1024x3072 ![] bcast_S_S1x1024x3072 main_cst_0
  let main_v6 : IVec S1x1024x3072 1 := cmpf .olt main_v4 main_v5
  let main_c_1 : IVec S_ 1 := constantI S_ 1 1#1
  let main_v7 : IVec S_ 1 := (fun x v => Host.reduce IntOp.andi x v reducesTo_S1x1024x3072_S_d0_1_2 h_S_) main_v6 main_c_1
  let main_v8 : IVec S_ 1 := andi main_v3 main_v7
  let main_v9 : FVec F S1x3072 .f32 := Host.absf main_arg2
  let main_cst_2 : FVec F S_ .f32 := constant S_ .f32 0x7F800000#32
  let main_v10 : FVec F S1x3072 .f32 := broadcastInDim S1x3072 ![] bcast_S_S1x3072 main_cst_2
  let main_v11 : IVec S1x3072 1 := cmpf .olt main_v9 main_v10
  let main_c_3 : IVec S_ 1 := constantI S_ 1 1#1
  let main_v12 : IVec S_ 1 := (fun x v => Host.reduce IntOp.andi x v reducesTo_S1x3072_S_d0_1 h_S_) main_v11 main_c_3
  let main_v13 : IVec S_ 1 := andi main_v8 main_v12
  main_v13
-- ==== Pre_finite3.lean ====
abbrev S8x4096x1024 : Shape := ⟨3, ![8, 4096, 1024]⟩
abbrev S8x3072 : Shape := ⟨2, ![8, 3072]⟩
abbrev S1x1024 : Shape := ⟨2, ![1, 1024]⟩
abbrev S1x1024x4744 : Shape := ⟨3, ![1, 1024, 4744]⟩
abbrev S1x1664 : Shape := ⟨2, ![1, 1664]⟩
abbrev S1x64x512 : Shape := ⟨3, ![1, 64, 512]⟩
abbrev S1x512 : Shape := ⟨2, ![1, 512]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x3072 : S_.BroadcastsInDim S8x3072 (![] : Fin 0 → Fin S8x3072.rank)
  reducesTo_S8x3072_S_d0_1 : S8x3072.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8x4096x1024 .f32) (main_arg1 : FVec F S8x3072 .f32) (main_arg2 : FVec F S1x1024 .f32) (main_arg3 : FVec F S1x1024x4744 .f32) (main_arg4 : FVec F S1x1664 .f32) (main_arg5 : FVec F S1x64x512 .f32) (main_arg6 : FVec F S1x512 .f32) (main_arg7 : FVec F S1x64x512 .f32) (main_arg8 : FVec F S1x512 .f32) (main_arg9 : FVec F S1x512 .f32) (main_arg10 : FVec F S1x512 .f32) (main_arg11 : FVec F S1x512 .f32) (main_arg12 : FVec F S1x512 .f32) (main_arg13 : FVec F S1x512 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x3072 .f32 := Host.absf main_arg1
  let main_cst_0 : FVec F S_ .f32 := constant S_ .f32 0x7F800000#32
  let main_v5 : FVec F S8x3072 .f32 := broadcastInDim S8x3072 ![] bcast_S_S8x3072 main_cst_0
  let main_v6 : IVec S8x3072 1 := cmpf .olt main_v4 main_v5
  let main_c_1 : IVec S_ 1 := constantI S_ 1 1#1
  let main_v7 : IVec S_ 1 := (fun x v => Host.reduce IntOp.andi x v reducesTo_S8x3072_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  main_v13
-- ==== Kernel.lean ====
abbrev S8x4096x1024 : Shape := ⟨3, ![8, 4096, 1024]⟩
abbrev S1x1024x4744 : Shape := ⟨3, ![1, 1024, 4744]⟩
abbrev S8x3072 : Shape := ⟨2, ![8, 3072]⟩
abbrev S8x4096x512 : Shape := ⟨3, ![8, 4096, 512]⟩
abbrev S1x1024x1024 : Shape := ⟨3, ![1, 1024, 1024]⟩
abbrev S1024 : Shape := ⟨1, ![1024]⟩
abbrev S1x4x1024 : Shape := ⟨3, ![1, 4, 1024]⟩
abbrev S1x1024 : Shape := ⟨2, ![1, 1024]⟩
abbrev S1x4 : Shape := ⟨2, ![1, 4]⟩
abbrev S1x512 : Shape := ⟨2, ![1, 512]⟩
abbrev S1024x4744 : Shape := ⟨2, ![1024, 4744]⟩
abbrev S_ : Shape := ⟨0, ![]⟩
abbrev S1024x120 : Shape := ⟨2, ![1024, 120]⟩
abbrev S1024x512 : Shape := ⟨2, ![1024, 512]⟩
abbrev S1024x8 : Shape := ⟨2, ![1024, 8]⟩
abbrev S1024x640 : Shape := ⟨2, ![1024, 640]⟩
abbrev S4x1024 : Shape := ⟨2, ![4, 1024]⟩
abbrev S4 : Shape := ⟨1, ![4]⟩
abbrev S512 : Shape := ⟨1, ![512]⟩
abbrev S1024x1024 : Shape := ⟨2, ![1024, 1024]⟩
abbrev S120 : Shape := ⟨1, ![120]⟩
abbrev S128 : Shape := ⟨1, ![128]⟩
abbrev S1x128 : Shape := ⟨2, ![1, 128]⟩
abbrev S8x1x3072 : Shape := ⟨3, ![8, 1, 3072]⟩
abbrev S512x1 : Shape := ⟨2, ![512, 1]⟩
abbrev S512x512 : Shape := ⟨2, ![512, 512]⟩
abbrev S1x512x1024 : Shape := ⟨3, ![1, 512, 1024]⟩
abbrev S1024x2048 : Shape := ⟨2, ![1024, 2048]⟩
abbrev S1x1x1024 : Shape := ⟨3, ![1, 1, 1024]⟩
abbrev S1x512x512 : Shape := ⟨3, ![1, 512, 512]⟩
abbrev S512x2688 : Shape := ⟨2, ![512, 2688]⟩
abbrev S512x1024 : Shape := ⟨2, ![512, 1024]⟩
abbrev S520x1024 : Shape := ⟨2, ![520, 1024]⟩
abbrev S4x128x256 : Shape := ⟨3, ![4, 128, 256]⟩
abbrev S8x128 : Shape := ⟨2, ![8, 128]⟩
abbrev S8x1024 : Shape := ⟨2, ![8, 1024]⟩
abbrev S512x256 : Shape := ⟨2, ![512, 256]⟩
abbrev S520x256 : Shape := ⟨2, ![520, 256]⟩
abbrev S1x256 : Shape := ⟨2, ![1, 256]⟩
abbrev S8x256 : Shape := ⟨2, ![8, 256]⟩
abbrev S512x128 : Shape := ⟨2, ![512, 128]⟩
abbrev S128x128 : Shape := ⟨2, ![128, 128]⟩
abbrev S128x256 : Shape := ⟨2, ![128, 256]⟩
abbrev S128x1 : Shape := ⟨2, ![128, 1]⟩
abbrev S1024x256 : Shape := ⟨2, ![1024, 256]⟩
abbrev S1x512x256 : Shape := ⟨3, ![1, 512, 256]⟩
abbrev S1x1x256 : Shape := ⟨3, ![1, 1, 256]⟩
abbrev S1024x128 : Shape := ⟨2, ![1024, 128]⟩
abbrev S1x1 : Shape := ⟨2, ![1, 1]⟩
abbrev S1x128x256 : Shape := ⟨3, ![1, 128, 256]⟩
abbrev S256x256 : Shape := ⟨2, ![256, 256]⟩

abbrev nBuf : Space → Nat
  | .hbm => 87
  | .vmem => 28
  | .smem => 0
  | _ => 0

abbrev bufTy : (tb : Table) → Fin (tcTables nBuf tb) → BufTy
  | .hbm, ⟨0, _⟩ => ⟨S8x4096x1024, .bf16⟩
  | .hbm, ⟨1, _⟩ => ⟨S1x1024x4744, .f32⟩
  | .hbm, ⟨2, _⟩ => ⟨S8x4096x1024, .f32⟩
  | .hbm, ⟨3, _⟩ => ⟨S8x3072, .f32⟩
  | .hbm, ⟨4, _⟩ => ⟨S8x4096x512, .bf16⟩
  | .hbm, ⟨5, _⟩ => ⟨S1x1024x1024, .f32⟩
  | .hbm, ⟨6, _⟩ => ⟨S1024, .f32⟩
  | .hbm, ⟨7, _⟩ => ⟨S1x4x1024, .f32⟩
  | .hbm, ⟨8, _⟩ => ⟨S1x1024, .f32⟩
  | .hbm, ⟨9, _⟩ => ⟨S1x4, .f32⟩
  | .hbm, ⟨10, _⟩ => ⟨S1x4, .f32⟩
  | .hbm, ⟨11, _⟩ => ⟨S1x512, .f32⟩
  | .hbm, ⟨12, _⟩ => ⟨S1x512, .f32⟩
  | .hbm, ⟨13, _⟩ => ⟨S1024x4744, .f32⟩
  | .hbm, ⟨14, _⟩ => ⟨S_, .f32⟩
  | .hbm, ⟨15, _⟩ => ⟨S1024x120, .f32⟩
  | .hbm, ⟨16, _⟩ => ⟨S1024x512, .f32⟩
  | .hbm, ⟨17, _⟩ => ⟨S1024x8, .f32⟩
  | .hbm, ⟨18, _⟩ => ⟨S1024x640, .f32⟩
  | .hbm, ⟨19, _⟩ => ⟨S1024x4744, .bf16⟩
  | .hbm, ⟨20, _⟩ => ⟨S1024x640, .bf16⟩
  | .hbm, ⟨21, _⟩ => ⟨S4x1024, .f32⟩
  | .hbm, ⟨22, _⟩ => ⟨S1024, .f32⟩
  | .hbm, ⟨23, _⟩ => ⟨S4, .f32⟩
  | .hbm, ⟨24, _⟩ => ⟨S4, .f32⟩
  | .hbm, ⟨25, _⟩ => ⟨S512, .f32⟩
  | .hbm, ⟨26, _⟩ => ⟨S512, .f32⟩
  | .hbm, ⟨27, _⟩ => ⟨S1024x1024, .f32⟩
  | .hbm, ⟨28, _⟩ => ⟨S1024x1024, .bf16⟩
  | .hbm, ⟨29, _⟩ => ⟨S_, .f32⟩
  | .hbm, ⟨30, _⟩ => ⟨S120, .f32⟩
  | .hbm, ⟨31, _⟩ => ⟨S128, .f32⟩
  | .hbm, ⟨32, _⟩ => ⟨S1x128, .f32⟩
  | .hbm, ⟨33, _⟩ => ⟨S8x1x3072, .f32⟩
  | .hbm, ⟨34, _⟩ => ⟨S1x1024, .f32⟩
  | .hbm, ⟨35, _⟩ => ⟨S1x1024, .f32⟩
  | .hbm, ⟨36, _⟩ => ⟨S1x512, .f32⟩
  | .hbm, ⟨37, _⟩ => ⟨S1x512, .f32⟩
  | .hbm, ⟨38, _⟩ => ⟨S512, .i32⟩
  | .hbm, ⟨39, _⟩ => ⟨S512x1, .i32⟩
  | .hbm, ⟨40, _⟩ => ⟨S512, .i32⟩
  | .hbm, ⟨41, _⟩ => ⟨S1x512, .i32⟩
  | .hbm, ⟨42, _⟩ => ⟨S_, .i32⟩
  | .hbm, ⟨43, _⟩ => ⟨S_, .i32⟩
  | .hbm, ⟨44, _⟩ => ⟨S512x1, .i32⟩
  | .hbm, ⟨45, _⟩ => ⟨S512x1, .i32⟩
  | .hbm, ⟨46, _⟩ => ⟨S512x1, .i32⟩
  | .hbm, ⟨47, _⟩ => ⟨S_, .i32⟩
  | .hbm, ⟨48, _⟩ => ⟨S512x1, .i32⟩
  | .hbm, ⟨49, _⟩ => ⟨S512x1, .i1⟩
  | .hbm, ⟨50, _⟩ => ⟨S512x1, .i32⟩
  | .hbm, ⟨51, _⟩ => ⟨S512x1, .i32⟩
  | .hbm, ⟨52, _⟩ => ⟨S_, .i32⟩
  | .hbm, ⟨53, _⟩ => ⟨S512x1, .i32⟩
  | .hbm, ⟨54, _⟩ => ⟨S512x1, .i1⟩
  | .hbm, ⟨55, _⟩ => ⟨S512x1, .i1⟩
  | .hbm, ⟨56, _⟩ => ⟨S_, .i32⟩
  | .hbm, ⟨57, _⟩ => ⟨S512x1, .i32⟩
  | .hbm, ⟨58, _⟩ => ⟨S512x1, .i32⟩
  | .hbm, ⟨59, _⟩ => ⟨S512x1, .i32⟩
  | .hbm, ⟨60, _⟩ => ⟨S_, .i32⟩
  | .hbm, ⟨61, _⟩ => ⟨S_, .i32⟩
  | .hbm, ⟨62, _⟩ => ⟨S1x512, .i32⟩
  | .hbm, ⟨63, _⟩ => ⟨S1x512, .i32⟩
  | .hbm, ⟨64, _⟩ => ⟨S1x512, .i32⟩
  | .hbm, ⟨65, _⟩ => ⟨S_, .i32⟩
  | .hbm, ⟨66, _⟩ => ⟨S1x512, .i32⟩
  | .hbm, ⟨67, _⟩ => ⟨S1x512, .i1⟩
  | .hbm, ⟨68, _⟩ => ⟨S1x512, .i32⟩
  | .hbm, ⟨69, _⟩ => ⟨S1x512, .i32⟩
  | .hbm, ⟨70, _⟩ => ⟨S_, .i32⟩
  | .hbm, ⟨71, _⟩ => ⟨S1x512, .i32⟩
  | .hbm, ⟨72, _⟩ => ⟨S1x512, .i1⟩
  | .hbm, ⟨73, _⟩ => ⟨S1x512, .i1⟩
  | .hbm, ⟨74, _⟩ => ⟨S_, .i32⟩
  | .hbm, ⟨75, _⟩ => ⟨S1x512, .i32⟩
  | .hbm, ⟨76, _⟩ => ⟨S1x512, .i32⟩
  | .hbm, ⟨77, _⟩ => ⟨S1x512, .i32⟩
  | .hbm, ⟨78, _⟩ => ⟨S512x512, .i32⟩
  | .hbm, ⟨79, _⟩ => ⟨S512x512, .i32⟩
  | .hbm, ⟨80, _⟩ => ⟨S512x512, .i1⟩
  | .hbm, ⟨81, _⟩ => ⟨S512x512, .i32⟩
  | .hbm, ⟨82, _⟩ => ⟨S512x512, .i32⟩
  | .hbm, ⟨83, _⟩ => ⟨S512x512, .i1⟩
  | .hbm, ⟨84, _⟩ => ⟨S512x512, .i1⟩
  | .hbm, ⟨85, _⟩ => ⟨S512x512, .bf16⟩
  | .hbm, ⟨86, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1024x2048, .bf16⟩
  | .local _ .vmem, ⟨3, _⟩ => ⟨S1024x640, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x512x512, .bf16⟩
  | .local _ .vmem, ⟨9, _⟩ => ⟨S1x512x512, .bf16⟩
  | .local _ .vmem, ⟨10, _⟩ => ⟨S1024x1024, .bf16⟩
  | .local _ .vmem, ⟨11, _⟩ => ⟨S1x1024, .f32⟩
  | .local _ .vmem, ⟨12, _⟩ => ⟨S4x1024, .f32⟩
  | .local _ .vmem, ⟨13, _⟩ => ⟨S1x1024, .f32⟩
  | .local _ .vmem, ⟨14, _⟩ => ⟨S1x128, .f32⟩
  | .local _ .vmem, ⟨15, _⟩ => ⟨S1x512, .f32⟩
  | .local _ .vmem, ⟨16, _⟩ => ⟨S1x512, .f32⟩
  | .local _ .vmem, ⟨17, _⟩ => ⟨S512x512, .bf16⟩
  | .local _ .vmem, ⟨18, _⟩ => ⟨S1x512x1024, .f32⟩
  | .local _ .vmem, ⟨19, _⟩ => ⟨S1x512x1024, .f32⟩
  | .local _ .vmem, ⟨20, _⟩ => ⟨S512x2688, .f32⟩
  | .local _ .vmem, ⟨21, _⟩ => ⟨S512x2688, .f32⟩
  | .local _ .vmem, ⟨22, _⟩ => ⟨S512x512, .bf16⟩
  | .local _ .vmem, ⟨23, _⟩ => ⟨S512x512, .bf16⟩
  | .local _ .vmem, ⟨24, _⟩ => ⟨S512x1024, .f32⟩
  | .local _ .vmem, ⟨25, _⟩ => ⟨S520x1024, .f32⟩
  | .local _ .vmem, ⟨26, _⟩ => ⟨S4x128x256, .f32⟩
  | .local _ .vmem, ⟨27, _⟩ => ⟨S8x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_0 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_v6 : Ref sig .tc := ⟨.hbm, 49, rfl⟩
abbrev main_call0_v7 : Ref sig .tc := ⟨.hbm, 50, rfl⟩
abbrev main_call0_v8 : Ref sig .tc := ⟨.hbm, 51, rfl⟩
abbrev main_call0_c : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_c_0 : Ref sig .tc := ⟨.hbm, 56, rfl⟩
abbrev main_call0_v12 : Ref sig .tc := ⟨.hbm, 57, rfl⟩
abbrev main_call0_v13 : Ref sig .tc := ⟨.hbm, 58, rfl⟩
abbrev main_v27 : Ref sig .tc := ⟨.hbm, 59, rfl⟩
abbrev main_c_1 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_c : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_0 : Ref sig .tc := ⟨.hbm, 74, rfl⟩
abbrev main_call1_v12 : Ref sig .tc := ⟨.hbm, 75, rfl⟩
abbrev main_call1_v13 : Ref sig .tc := ⟨.hbm, 76, rfl⟩
abbrev main_v28 : Ref sig .tc := ⟨.hbm, 77, rfl⟩
abbrev main_v29 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_scratch5 : Ref sig .tc := ⟨.vmem, 25, rfl⟩
abbrev cc0_scratch6 : Ref sig .tc := ⟨.vmem, 26, rfl⟩
abbrev cc0_scratch7 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem14_1 : DmaSem sig := 19

abbrev nD : Nat := 1
abbrev τ : Topo := Topo.v7x

variable {F : FTy → Type} [FloatOps F]

abbrev grid0 : Pipeline.Grid := ⟨1, ![66], ![false]⟩

def k0_cond3 (i : grid0.Coords) : BitVec 1 :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32_6 : BitVec 32 := 1#32
  let v12 : BitVec 32 := Scalar.select v11 c1_i32_6 c2_i32
  let v13 : BitVec 32 := Scalar.remsi arg0 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c0_i32_10 : BitVec 32 := 0#32
  let v21 : BitVec 1 := Scalar.cmpi .eq v20 c0_i32_10
  let v22 : BitVec 32 := Scalar.extui v21
  let c0_i32_11 : BitVec 32 := 0#32
  let v23 : BitVec 1 := Scalar.cmpi .ne v22 c0_i32_11
  v23

def k0_cond4 (i : grid0.Coords) : BitVec 1 :=
  let arg0 : BitVec 32 := BitVec.ofNat 32 (i 0).val
  let c2_i32_12 : BitVec 32 := 2#32
  let c0_i32_13 : BitVec 32 := 0#32
  let v24 : BitVec 1 := Scalar.cmpi .eq c2_i32_12 c0_i32_13
  let c1_i32_14 : BitVec 32 := 1#32
  let v25 : BitVec 32 := Scalar.select v24 c1_i32_14 c2_i32_12
  let v26 : BitVec 32 := Scalar.remsi arg0 v25
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let c0_i32_15 : BitVec 32 := 0#32
  let v27 : BitVec 1 := Scalar.cmpi .ne v26 c0_i32_15
  let v31 : BitVec 1 := Scalar.andi v30 v27
  let v32 : BitVec 32 := Scalar.addi v26 v25
  let v33 : BitVec 32 := Scalar.select v31 v32 v26
  let c1_i32_18 : BitVec 32 := 1#32
  let v34 : BitVec 1 := Scalar.cmpi .eq v33 c1_i32_18
  let v35 : BitVec 32 := Scalar.extui v34
  let c0_i32_19 : BitVec 32 := 0#32
  let v36 : BitVec 1 := Scalar.cmpi .ne v35 c0_i32_19
  v36

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c8_i32 : BitVec 32 := 8#32
  let v1 : BitVec 32 := Scalar.divsi v0 c8_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c8_i32 c0_i32_1
  let v8 : BitVec 32 := Scalar.extui v7
  let c0_i32_2 : BitVec 32 := 0#32
  let v9 : BitVec 1 := Scalar.cmpi .slt c8_i32 c0_i32_2
  let v10 : BitVec 32 := Scalar.extui v9
  let v11 : BitVec 32 := Scalar.subi v8 v10
  let v12 : BitVec 1 := Scalar.cmpi .ne v6 v11
  let v13 : BitVec 32 := Scalar.remsi v0 c8_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c63_i32_4 : BitVec 32 := 63#32
  let v18 : BitVec 32 := Scalar.minsi arg0 c63_i32_4
  let c8_i32_5 : BitVec 32 := 8#32
  let c0_i32_6 : BitVec 32 := 0#32
  let v19 : BitVec 1 := Scalar.cmpi .eq c8_i32_5 c0_i32_6
  let c1_i32_7 : BitVec 32 := 1#32
  let v20 : BitVec 32 := Scalar.select v19 c1_i32_7 c8_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 2 → Nat :=
  let arg0 : BitVec 32 := BitVec.ofNat 32 (i 0).val
  let c0_i32 : BitVec 32 := 0#32
  let c2176_i32 : BitVec 32 := 2176#32
  let c0_i32_0 : BitVec 32 := 0#32
  ![c0_i32.toNat, c2176_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c63_i32 : BitVec 32 := 63#32
  let v1 : BitVec 32 := Scalar.maxsi c0_i32 v0
  let v2 : BitVec 32 := Scalar.minsi c63_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c2_i32_5 : BitVec 32 := 2#32
  let v20 : BitVec 32 := Scalar.subi arg0 c2_i32_5
  let c0_i32_6 : BitVec 32 := 0#32
  let c63_i32_7 : BitVec 32 := 63#32
  let v21 : BitVec 32 := Scalar.maxsi c0_i32_6 v20
  let v22 : BitVec 32 := Scalar.minsi c63_i32_7 v21
  let c8_i32_8 : BitVec 32 := 8#32
  let c0_i32_9 : BitVec 32 := 0#32
  let v23 : BitVec 1 := Scalar.cmpi .eq c8_i32_8 c0_i32_9
  let c1_i32_10 : BitVec 32 := 1#32
  let v24 : BitVec 32 := Scalar.select v23 c1_i32_10 c8_i32_8
  let v25 : BitVec 32 := Scalar.remsi v22 v24
  let c0_i32_11 : BitVec 32 := 0#32
  let v26 : BitVec 1 := Scalar.cmpi .ne v25 c0_i32_11
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let v30 : BitVec 1 := Scalar.andi v29 v26
  let v31 : BitVec 32 := Scalar.addi v25 v24
  let v32 : BitVec 32 := Scalar.select v30 v31 v25
  let c0_i32_14 : BitVec 32 := 0#32
  let c0_i32_15 : BitVec 32 := 0#32
  ![v19.toNat, v32.toNat, c0_i32_14.toNat]

def cc0_transform_4 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c63_i32 : BitVec 32 := 63#32
  let v1 : BitVec 32 := Scalar.maxsi c0_i32 v0
  let v2 : BitVec 32 := Scalar.minsi c63_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c0_i32_5 : BitVec 32 := 0#32
  let c2_i32_6 : BitVec 32 := 2#32
  let c0_i32_7 : BitVec 32 := 0#32
  ![v19.toNat, c0_i32_5.toNat, c2_i32_6.toNat]

def cc0_transform_5 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c63_i32 : BitVec 32 := 63#32
  let v1 : BitVec 32 := Scalar.maxsi c0_i32 v0
  let v2 : BitVec 32 := Scalar.minsi c63_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c2_i32_5 : BitVec 32 := 2#32
  let v20 : BitVec 32 := Scalar.subi arg0 c2_i32_5
  let c0_i32_6 : BitVec 32 := 0#32
  let c63_i32_7 : BitVec 32 := 63#32
  let v21 : BitVec 32 := Scalar.maxsi c0_i32_6 v20
  let v22 : BitVec 32 := Scalar.minsi c63_i32_7 v21
  let c8_i32_8 : BitVec 32 := 8#32
  let c0_i32_9 : BitVec 32 := 0#32
  let v23 : BitVec 1 := Scalar.cmpi .eq c8_i32_8 c0_i32_9
  let c1_i32_10 : BitVec 32 := 1#32
  let v24 : BitVec 32 := Scalar.select v23 c1_i32_10 c8_i32_8
  let v25 : BitVec 32 := Scalar.remsi v22 v24
  let c0_i32_11 : BitVec 32 := 0#32
  let v26 : BitVec 1 := Scalar.cmpi .ne v25 c0_i32_11
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let v30 : BitVec 1 := Scalar.andi v29 v26
  let v31 : BitVec 32 := Scalar.addi v25 v24
  let v32 : BitVec 32 := Scalar.select v30 v31 v25
  let c0_i32_14 : BitVec 32 := 0#32
  let c0_i32_15 : BitVec 32 := 0#32
  ![v19.toNat, v32.toNat, c0_i32_14.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c2_i32 : BitVec 32 := 2#32
  let v0 : BitVec 32 := Scalar.subi arg0 c2_i32
  let c0_i32 : BitVec 32 := 0#32
  let c63_i32 : BitVec 32 := 63#32
  let v1 : BitVec 32 := Scalar.maxsi c0_i32 v0
  let v2 : BitVec 32 := Scalar.minsi c63_i32 v1
  let c8_i32 : BitVec 32 := 8#32
  let v3 : BitVec 32 := Scalar.divsi v2 c8_i32
  let c0_i32_0 : BitVec 32 := 0#32
  let v4 : BitVec 1 := Scalar.cmpi .sgt v2 c0_i32_0
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c8_i32 c0_i32_2
  let v10 : BitVec 32 := Scalar.extui v9
  let c0_i32_3 : BitVec 32 := 0#32
  let v11 : BitVec 1 := Scalar.cmpi .slt c8_i32 c0_i32_3
  let v12 : BitVec 32 := Scalar.extui v11
  let v13 : BitVec 32 := Scalar.subi v10 v12
  let v14 : BitVec 1 := Scalar.cmpi .ne v8 v13
  let v15 : BitVec 32 := Scalar.remsi v2 c8_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c2_i32_5 : BitVec 32 := 2#32
  let v20 : BitVec 32 := Scalar.subi arg0 c2_i32_5
  let c0_i32_6 : BitVec 32 := 0#32
  let c63_i32_7 : BitVec 32 := 63#32
  let v21 : BitVec 32 := Scalar.maxsi c0_i32_6 v20
  let v22 : BitVec 32 := Scalar.minsi c63_i32_7 v21
  let c8_i32_8 : BitVec 32 := 8#32
  let c0_i32_9 : BitVec 32 := 0#32
  let v23 : BitVec 1 := Scalar.cmpi .eq c8_i32_8 c0_i32_9
  let c1_i32_10 : BitVec 32 := 1#32
  let v24 : BitVec 32 := Scalar.select v23 c1_i32_10 c8_i32_8
  let v25 : BitVec 32 := Scalar.remsi v22 v24
  let c0_i32_11 : BitVec 32 := 0#32
  let v26 : BitVec 1 := Scalar.cmpi .ne v25 c0_i32_11
  let c0_i32_12 : BitVec 32 := 0#32
  let v27 : BitVec 1 := Scalar.cmpi .slt v25 c0_i32_12
  let c0_i32_13 : BitVec 32 := 0#32
  let v28 : BitVec 1 := Scalar.cmpi .slt v24 c0_i32_13
  let v29 : BitVec 1 := Scalar.xori v27 v28
  let v30 : BitVec 1 := Scalar.andi v29 v26
  let v31 : BitVec 32 := Scalar.addi v25 v24
  let v32 : BitVec 32 := Scalar.select v30 v31 v25
  let c0_i32_14 : BitVec 32 := 0#32
  let c0_i32_15 : BitVec 32 := 0#32
  ![v19.toNat, v32.toNat, c0_i32_14.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S4x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S8x4096x1024 : Shape := ⟨3, ![8, 4096, 1024]⟩
abbrev S1x1024x4744 : Shape := ⟨3, ![1, 1024, 4744]⟩
abbrev S8x3072 : Shape := ⟨2, ![8, 3072]⟩
abbrev S8x4096x512 : Shape := ⟨3, ![8, 4096, 512]⟩
abbrev S1x1024x1024 : Shape := ⟨3, ![1, 1024, 1024]⟩
abbrev S1024 : Shape := ⟨1, ![1024]⟩
abbrev S1x4x1024 : Shape := ⟨3, ![1, 4, 1024]⟩
abbrev S1x1024 : Shape := ⟨2, ![1, 1024]⟩
abbrev S1x4 : Shape := ⟨2, ![1, 4]⟩
abbrev S1x512 : Shape := ⟨2, ![1, 512]⟩
abbrev S8x1024 : Shape := ⟨2, ![8, 1024]⟩
abbrev S1024x4744 : Shape := ⟨2, ![1024, 4744]⟩
abbrev S8x4096x4744 : Shape := ⟨3, ![8, 4096, 4744]⟩
abbrev S8x4096x3080 : Shape := ⟨3, ![8, 4096, 3080]⟩
abbrev S8x4096x4 : Shape := ⟨3, ![8, 4096, 4]⟩
abbrev S4x1024 : Shape := ⟨2, ![4, 1024]⟩
abbrev S4 : Shape := ⟨1, ![4]⟩
abbrev S512 : Shape := ⟨1, ![512]⟩
abbrev S_ : Shape := ⟨0, ![]⟩
abbrev S8x4099x1024 : Shape := ⟨3, ![8, 4099, 1024]⟩
abbrev S1x1x1024 : Shape := ⟨3, ![1, 1, 1024]⟩
abbrev S1x1x4 : Shape := ⟨3, ![1, 1, 4]⟩
abbrev S8x64x64x4x128 : Shape := ⟨5, ![8, 64, 64, 4, 128]⟩
abbrev S64x8x4x64x128 : Shape := ⟨5, ![64, 8, 4, 64, 128]⟩
abbrev S8x64x64x4 : Shape := ⟨4, ![8, 64, 64, 4]⟩
abbrev S64x8x4x64 : Shape := ⟨4, ![64, 8, 4, 64]⟩
abbrev S8x4x128x128 : Shape := ⟨4, ![8, 4, 128, 128]⟩
abbrev S8x4x128 : Shape := ⟨3, ![8, 4, 128]⟩
abbrev S8x4 : Shape := ⟨2, ![8, 4]⟩
abbrev S1x8x4x64x128 : Shape := ⟨5, ![1, 8, 4, 64, 128]⟩
abbrev S8x4x64x128 : Shape := ⟨4, ![8, 4, 64, 128]⟩
abbrev S1x8x4x64 : Shape := ⟨4, ![1, 8, 4, 64]⟩
abbrev S8x4x64 : Shape := ⟨3, ![8, 4, 64]⟩
abbrev S8x4x1 : Shape := ⟨3, ![8, 4, 1]⟩
abbrev S64x64 : Shape := ⟨2, ![64, 64]⟩
abbrev S8x4x64x1 : Shape := ⟨4, ![8, 4, 64, 1]⟩
abbrev S8x4x1x64 : Shape := ⟨4, ![8, 4, 1, 64]⟩
abbrev S8x4x64x64 : Shape := ⟨4, ![8, 4, 64, 64]⟩
abbrev S8x4x1x1 : Shape := ⟨4, ![8, 4, 1, 1]⟩
abbrev S8x4096x4x128 : Shape := ⟨4, ![8, 4096, 4, 128]⟩
abbrev S8x4096x4x1 : Shape := ⟨4, ![8, 4096, 4, 1]⟩
abbrev S1x1x512 : Shape := ⟨3, ![1, 1, 512]⟩
abbrev S1024x1024 : Shape := ⟨2, ![1024, 1024]⟩
abbrev S8x1x1024 : Shape := ⟨3, ![8, 1, 1024]⟩
abbrev S8x4096 : Shape := ⟨2, ![8, 4096]⟩
abbrev S8x4096x1 : Shape := ⟨3, ![8, 4096, 1]⟩

abbrev nBuf : Space → Nat
  | .hbm => 336
  | .vmem => 0
  | .smem => 0
  | _ => 0

abbrev hbmTy0_0 (i : Nat) : BufTy := match i % 128 with
  | 0 => ⟨S8x4096x1024, .bf16⟩
  | 1 => ⟨S1x1024x4744, .f32⟩
  | 2 => ⟨S8x4096x1024, .f32⟩
  | 3 => ⟨S8x3072, .f32⟩
  | 4 => ⟨S8x4096x512, .bf16⟩
  | 5 => ⟨S1x1024x1024, .f32⟩
  | 6 => ⟨S1024, .f32⟩
  | 7 => ⟨S1x4x1024, .f32⟩
  | 8 => ⟨S1x1024, .f32⟩
  | 9 => ⟨S1x4, .f32⟩
  | 10 => ⟨S1x4, .f32⟩
  | 11 => ⟨S1x512, .f32⟩
  | 12 => ⟨S1x512, .f32⟩
  | 13 => ⟨S8x1024, .f32⟩
  | 14 => ⟨S8x1024, .f32⟩
  | 15 => ⟨S8x1024, .f32⟩
  | 16 => ⟨S8x4096x1024, .f32⟩
  | 17 => ⟨S1024x4744, .f32⟩
  | 18 => ⟨S8x4096x4744, .f32⟩
  | 19 => ⟨S8x4096x3080, .f32⟩
  | 20 => ⟨S8x4096x512, .f32⟩
  | 21 => ⟨S8x4096x512, .f32⟩
  | 22 => ⟨S8x4096x512, .f32⟩
  | 23 => ⟨S8x4096x512, .f32⟩
  | 24 => ⟨S8x4096x512, .f32⟩
  | 25 => ⟨S8x4096x4, .f32⟩
  | 26 => ⟨S8x4096x4, .f32⟩
  | 27 => ⟨S8x4096x512, .f32⟩
  | 28 => ⟨S4x1024, .f32⟩
  | 29 => ⟨S1024, .f32⟩
  | 30 => ⟨S4, .f32⟩
  | 31 => ⟨S4, .f32⟩
  | 32 => ⟨S512, .f32⟩
  | 33 => ⟨S512, .f32⟩
  | 34 => ⟨S8x4096x1024, .f32⟩
  | 35 => ⟨S_, .i32⟩
  | 36 => ⟨S_, .f32⟩
  | 37 => ⟨S8x4099x1024, .f32⟩
  | 38 => ⟨S1x1024, .f32⟩
  | 39 => ⟨S1024, .f32⟩
  | 40 => ⟨S8x4096x1024, .f32⟩
  | 41 => ⟨S1x1x1024, .f32⟩
  | 42 => ⟨S8x4096x1024, .f32⟩
  | 43 => ⟨S8x4096x1024, .f32⟩
  | 44 => ⟨S1x1x1024, .f32⟩
  | 45 => ⟨S8x4096x1024, .f32⟩
  | 46 => ⟨S8x4096x1024, .f32⟩
  | 47 => ⟨S1x1024, .f32⟩
  | 48 => ⟨S1024, .f32⟩
  | 49 => ⟨S8x4096x1024, .f32⟩
  | 50 => ⟨S1x1x1024, .f32⟩
  | 51 => ⟨S8x4096x1024, .f32⟩
  | 52 => ⟨S8x4096x1024, .f32⟩
  | 53 => ⟨S8x4096x1024, .f32⟩
  | 54 => ⟨S1x1024, .f32⟩
  | 55 => ⟨S1024, .f32⟩
  | 56 => ⟨S8x4096x1024, .f32⟩
  | 57 => ⟨S1x1x1024, .f32⟩
  | 58 => ⟨S8x4096x1024, .f32⟩
  | 59 => ⟨S8x4096x1024, .f32⟩
  | 60 => ⟨S8x4096x1024, .f32⟩
  | 61 => ⟨S1x1024, .f32⟩
  | 62 => ⟨S1024, .f32⟩
  | 63 => ⟨S8x4096x1024, .f32⟩
  | 64 => ⟨S1x1x1024, .f32⟩
  | 65 => ⟨S8x4096x1024, .f32⟩
  | 66 => ⟨S8x4096x1024, .f32⟩
  | 67 => ⟨S8x4096x1024, .f32⟩
  | 68 => ⟨S8x4096x1024, .f32⟩
  | 69 => ⟨S8x4096x1024, .f32⟩
  | 70 => ⟨S_, .f32⟩
  | 71 => ⟨S8x4096x1024, .f32⟩
  | 72 => ⟨S8x4096x1024, .f32⟩
  | 73 => ⟨S_, .f32⟩
  | 74 => ⟨S8x4096x1024, .f32⟩
  | 75 => ⟨S8x4096x1024, .f32⟩
  | 76 => ⟨S8x4096x1024, .f32⟩
  | 77 => ⟨S8x4096x512, .f32⟩
  | 78 => ⟨S8x4096x512, .f32⟩
  | 79 => ⟨S1x1x4, .f32⟩
  | 80 => ⟨S8x4096x4, .f32⟩
  | 81 => ⟨S8x4096x4, .f32⟩
  | 82 => ⟨S1x1x4, .f32⟩
  | 83 => ⟨S8x4096x4, .f32⟩
  | 84 => ⟨S8x4096x4, .f32⟩
  | 85 => ⟨S8x4096x4, .f32⟩
  | 86 => ⟨S_, .f32⟩
  | 87 => ⟨S8x4096x4, .f32⟩
  | 88 => ⟨S8x4096x4, .f32⟩
  | 89 => ⟨S8x4096x4, .f32⟩
  | 90 => ⟨S8x4096x4, .f32⟩
  | 91 => ⟨S8x4096x4, .i1⟩
  | 92 => ⟨S8x4096x4, .f32⟩
  | 93 => ⟨S8x4096x4, .f32⟩
  | 94 => ⟨S8x4096x4, .f32⟩
  | 95 => ⟨S8x4096x4, .f32⟩
  | 96 => ⟨S8x4096x4, .f32⟩
  | 97 => ⟨S8x4096x4, .f32⟩
  | 98 => ⟨S8x4096x4, .f32⟩
  | 99 => ⟨S8x4096x4, .f32⟩
  | 100 => ⟨S8x4096x4, .f32⟩
  | 101 => ⟨S8x64x64x4x128, .f32⟩
  | 102 => ⟨S64x8x4x64x128, .f32⟩
  | 103 => ⟨S8x64x64x4x128, .f32⟩
  | 104 => ⟨S64x8x4x64x128, .f32⟩
  | 105 => ⟨S_, .f32⟩
  | 106 => ⟨S64x8x4x64x128, .f32⟩
  | 107 => ⟨S64x8x4x64x128, .f32⟩
  | 108 => ⟨S8x64x64x4x128, .f32⟩
  | 109 => ⟨S64x8x4x64x128, .f32⟩
  | 110 => ⟨S8x64x64x4, .f32⟩
  | 111 => ⟨S64x8x4x64, .f32⟩
  | 112 => ⟨S8x64x64x4, .f32⟩
  | 113 => ⟨S64x8x4x64, .f32⟩
  | 114 => ⟨S_, .f32⟩
  | 115 => ⟨S8x4x128x128, .f32⟩
  | 116 => ⟨S_, .f32⟩
  | 117 => ⟨S8x4x128, .f32⟩
  | 118 => ⟨S_, .f32⟩
  | 119 => ⟨S8x4, .f32⟩
  | 120 => ⟨S_, .f32⟩
  | 121 => ⟨S64x8x4x64x128, .f32⟩
  | 122 => ⟨S_, .i32⟩
  | 123 => ⟨S64x8x4x64x128, .f32⟩
  | 124 => ⟨S64x8x4x64x128, .f32⟩
  | 125 => ⟨S64x8x4x64x128, .f32⟩
  | 126 => ⟨S64x8x4x64, .f32⟩
  | 127 => ⟨S64x8x4x64, .f32⟩
  | _ => ⟨S8x4096x1024, .bf16⟩

abbrev hbmTy0_1 (i : Nat) : BufTy := match i % 128 with
  | 0 => ⟨S_, .i32⟩
  | 1 => ⟨S8x4x128x128, .f32⟩
  | 2 => ⟨S8x4x128, .f32⟩
  | 3 => ⟨S8x4, .f32⟩
  | 4 => ⟨S64x8x4x64x128, .f32⟩
  | 5 => ⟨S_, .i32⟩
  | 6 => ⟨S_, .i1⟩
  | 7 => ⟨S_, .i32⟩
  | 8 => ⟨S_, .i32⟩
  | 9 => ⟨S_, .i32⟩
  | 10 => ⟨S_, .i32⟩
  | 11 => ⟨S1x8x4x64x128, .f32⟩
  | 12 => ⟨S8x4x64x128, .f32⟩
  | 13 => ⟨S_, .i32⟩
  | 14 => ⟨S_, .i32⟩
  | 15 => ⟨S_, .i32⟩
  | 16 => ⟨S_, .i32⟩
  | 17 => ⟨S1x8x4x64x128, .f32⟩
  | 18 => ⟨S8x4x64x128, .f32⟩
  | 19 => ⟨S_, .i32⟩
  | 20 => ⟨S_, .i32⟩
  | 21 => ⟨S_, .i32⟩
  | 22 => ⟨S_, .i32⟩
  | 23 => ⟨S1x8x4x64x128, .f32⟩
  | 24 => ⟨S8x4x64x128, .f32⟩
  | 25 => ⟨S_, .i32⟩
  | 26 => ⟨S_, .i32⟩
  | 27 => ⟨S_, .i32⟩
  | 28 => ⟨S1x8x4x64, .f32⟩
  | 29 => ⟨S8x4x64, .f32⟩
  | 30 => ⟨S_, .i32⟩
  | 31 => ⟨S_, .i32⟩
  | 32 => ⟨S_, .i32⟩
  | 33 => ⟨S1x8x4x64, .f32⟩
  | 34 => ⟨S8x4x64, .f32⟩
  | 35 => ⟨S_, .f32⟩
  | 36 => ⟨S_, .f32⟩
  | 37 => ⟨S8x4x64, .f32⟩
  | 38 => ⟨S8x4x1, .f32⟩
  | 39 => ⟨S8x4, .f32⟩
  | 40 => ⟨S_, .i1⟩
  | 41 => ⟨S64x64, .i1⟩
  | 42 => ⟨S64x64, .i32⟩
  | 43 => ⟨S_, .i32⟩
  | 44 => ⟨S64x64, .i32⟩
  | 45 => ⟨S64x64, .i32⟩
  | 46 => ⟨S64x64, .i32⟩
  | 47 => ⟨S64x64, .i1⟩
  | 48 => ⟨S_, .i1⟩
  | 49 => ⟨S64x64, .i1⟩
  | 50 => ⟨S64x64, .i1⟩
  | 51 => ⟨S8x4x64x1, .f32⟩
  | 52 => ⟨S8x4x1x64, .f32⟩
  | 53 => ⟨S8x4x64x64, .f32⟩
  | 54 => ⟨S8x4x64x64, .f32⟩
  | 55 => ⟨S8x4x64x64, .f32⟩
  | 56 => ⟨S8x4x1x64, .f32⟩
  | 57 => ⟨S8x4x64x64, .f32⟩
  | 58 => ⟨S8x4x64x64, .f32⟩
  | 59 => ⟨S_, .f32⟩
  | 60 => ⟨S_, .f32⟩
  | 61 => ⟨S8x4x64x64, .i1⟩
  | 62 => ⟨S8x4x64x64, .f32⟩
  | 63 => ⟨S8x4x64x64, .f32⟩
  | 64 => ⟨S8x4x1, .f32⟩
  | 65 => ⟨S8x4x64, .f32⟩
  | 66 => ⟨S8x4x64, .f32⟩
  | 67 => ⟨S_, .f32⟩
  | 68 => ⟨S8x4x64, .f32⟩
  | 69 => ⟨S8x4x64, .f32⟩
  | 70 => ⟨S8x4x64x1, .f32⟩
  | 71 => ⟨S8x4x64x64, .f32⟩
  | 72 => ⟨S8x4x64x64, .f32⟩
  | 73 => ⟨S8x4x64x64, .f32⟩
  | 74 => ⟨S8x4x64x64, .f32⟩
  | 75 => ⟨S8x4x64x64, .f32⟩
  | 76 => ⟨S8x4x64, .f32⟩
  | 77 => ⟨S8x4x64, .f32⟩
  | 78 => ⟨S8x4x64x128, .f32⟩
  | 79 => ⟨S8x4x64x1, .f32⟩
  | 80 => ⟨S8x4x64x128, .f32⟩
  | 81 => ⟨S8x4x64x128, .f32⟩
  | 82 => ⟨S8x4x64x128, .f32⟩
  | 83 => ⟨S8x4x64x128, .f32⟩
  | 84 => ⟨S_, .f32⟩
  | 85 => ⟨S8x4x64, .f32⟩
  | 86 => ⟨S8x4x64, .f32⟩
  | 87 => ⟨S8x4x64, .f32⟩
  | 88 => ⟨S8x4x64, .f32⟩
  | 89 => ⟨S8x4x64, .f32⟩
  | 90 => ⟨S8x4x64, .f32⟩
  | 91 => ⟨S8x4x64, .f32⟩
  | 92 => ⟨S8x4x64, .f32⟩
  | 93 => ⟨S8x4x64x1, .f32⟩
  | 94 => ⟨S8x4x64x128, .f32⟩
  | 95 => ⟨S8x4x64x128, .f32⟩
  | 96 => ⟨S8x4x1, .f32⟩
  | 97 => ⟨S8x4x64, .f32⟩
  | 98 => ⟨S8x4x64, .f32⟩
  | 99 => ⟨S8x4x64, .f32⟩
  | 100 => ⟨S8x4, .f32⟩
  | 101 => ⟨S_, .f32⟩
  | 102 => ⟨S8x4, .f32⟩
  | 103 => ⟨S8x4, .f32⟩
  | 104 => ⟨S8x4x1, .f32⟩
  | 105 => ⟨S8x4x64, .f32⟩
  | 106 => ⟨S8x4x64, .f32⟩
  | 107 => ⟨S8x4x64, .f32⟩
  | 108 => ⟨S8x4, .f32⟩
  | 109 => ⟨S8x4, .f32⟩
  | 110 => ⟨S8x4, .f32⟩
  | 111 => ⟨S8x4x1x1, .f32⟩
  | 112 => ⟨S8x4x128x128, .f32⟩
  | 113 => ⟨S8x4x128x128, .f32⟩
  | 114 => ⟨S8x4x64x1, .f32⟩
  | 115 => ⟨S8x4x64x128, .f32⟩
  | 116 => ⟨S8x4x64x128, .f32⟩
  | 117 => ⟨S8x4x128x128, .f32⟩
  | 118 => ⟨S8x4x128x128, .f32⟩
  | 119 => ⟨S8x4x1, .f32⟩
  | 120 => ⟨S8x4x128, .f32⟩
  | 121 => ⟨S8x4x128, .f32⟩
  | 122 => ⟨S8x4x128, .f32⟩
  | 123 => ⟨S8x4x128, .f32⟩
  | 124 => ⟨S1x8x4x64x128, .f32⟩
  | 125 => ⟨S_, .i32⟩
  | 126 => ⟨S_, .i32⟩
  | 127 => ⟨S_, .i32⟩
  | _ => ⟨S8x4096x1024, .bf16⟩

abbrev hbmTy0_2 (i : Nat) : BufTy := match i % 128 with
  | 0 => ⟨S_, .i32⟩
  | 1 => ⟨S64x8x4x64x128, .f32⟩
  | 2 => ⟨S_, .i32⟩
  | 3 => ⟨S_, .i32⟩
  | 4 => ⟨S8x64x64x4x128, .f32⟩
  | 5 => ⟨S8x4096x4x128, .f32⟩
  | 6 => ⟨S_, .f32⟩
  | 7 => ⟨S8x4096x4, .f32⟩
  | 8 => ⟨S8x4096x4x1, .f32⟩
  | 9 => ⟨S_, .f32⟩
  | 10 => ⟨S8x4096x4x1, .f32⟩
  | 11 => ⟨S8x4096x4x1, .f32⟩
  | 12 => ⟨S8x4096x4x128, .f32⟩
  | 13 => ⟨S8x4096x4x128, .f32⟩
  | 14 => ⟨S8x4096x4x128, .f32⟩
  | 15 => ⟨S_, .f32⟩
  | 16 => ⟨S8x4096x4, .f32⟩
  | 17 => ⟨S8x4096x4x1, .f32⟩
  | 18 => ⟨S_, .f32⟩
  | 19 => ⟨S8x4096x4x1, .f32⟩
  | 20 => ⟨S8x4096x4x1, .f32⟩
  | 21 => ⟨S8x4096x4x128, .f32⟩
  | 22 => ⟨S8x4096x4x128, .f32⟩
  | 23 => ⟨S_, .f32⟩
  | 24 => ⟨S8x4096x4x1, .f32⟩
  | 25 => ⟨S8x4096x4x1, .f32⟩
  | 26 => ⟨S8x4096x4x1, .f32⟩
  | 27 => ⟨S8x4096x4x128, .f32⟩
  | 28 => ⟨S8x4096x4x128, .f32⟩
  | 29 => ⟨S8x4096x512, .f32⟩
  | 30 => ⟨S1x1x512, .f32⟩
  | 31 => ⟨S8x4096x512, .f32⟩
  | 32 => ⟨S8x4096x512, .f32⟩
  | 33 => ⟨S8x4096x512, .f32⟩
  | 34 => ⟨S8x4096x512, .f32⟩
  | 35 => ⟨S_, .f32⟩
  | 36 => ⟨S8x4096x512, .f32⟩
  | 37 => ⟨S8x4096x512, .f32⟩
  | 38 => ⟨S_, .f32⟩
  | 39 => ⟨S8x4096x512, .f32⟩
  | 40 => ⟨S8x4096x512, .f32⟩
  | 41 => ⟨S8x4096x512, .f32⟩
  | 42 => ⟨S1x1x512, .f32⟩
  | 43 => ⟨S8x4096x512, .f32⟩
  | 44 => ⟨S8x4096x512, .f32⟩
  | 45 => ⟨S8x4096x512, .f32⟩
  | 46 => ⟨S8x4096x512, .f32⟩
  | 47 => ⟨S8x4096x512, .f32⟩
  | 48 => ⟨S_, .f32⟩
  | 49 => ⟨S8x4096x512, .f32⟩
  | 50 => ⟨S8x4096x512, .f32⟩
  | 51 => ⟨S_, .f32⟩
  | 52 => ⟨S8x4096x512, .f32⟩
  | 53 => ⟨S8x4096x512, .f32⟩
  | 54 => ⟨S8x4096x512, .f32⟩
  | 55 => ⟨S8x4096x512, .f32⟩
  | 56 => ⟨S8x4096x512, .f32⟩
  | 57 => ⟨S8x4096x1024, .f32⟩
  | 58 => ⟨S1024x1024, .f32⟩
  | 59 => ⟨S8x4096x1024, .f32⟩
  | 60 => ⟨S8x1x1024, .f32⟩
  | 61 => ⟨S8x4096x1024, .f32⟩
  | 62 => ⟨S8x4096x1024, .f32⟩
  | 63 => ⟨S8x4096x1024, .f32⟩
  | 64 => ⟨S8x4096x1024, .f32⟩
  | 65 => ⟨S_, .f32⟩
  | 66 => ⟨S8x4096, .f32⟩
  | 67 => ⟨S8x4096x1, .f32⟩
  | 68 => ⟨S_, .f32⟩
  | 69 => ⟨S8x4096x1, .f32⟩
  | 70 => ⟨S8x4096x1, .f32⟩
  | 71 => ⟨S_, .f32⟩
  | 72 => ⟨S8x4096x1, .f32⟩
  | 73 => ⟨S8x4096x1, .f32⟩
  | 74 => ⟨S8x4096x1, .f32⟩
  | 75 => ⟨S8x4096x1024, .f32⟩
  | 76 => ⟨S8x4096x1024, .f32⟩
  | 77 => ⟨S1x1x1024, .f32⟩
  | 78 => ⟨S8x4096x1024, .f32⟩
  | 79 => ⟨S8x4096x1024, .f32⟩
  | _ => ⟨S8x4096x1024, .bf16⟩

abbrev hbmTy (i : Nat) : BufTy := match i / 128 with
  | 0 => hbmTy0_0 i
  | 1 => hbmTy0_1 i
  | 2 => hbmTy0_2 i
  | _ => ⟨S8x4096x1024, .bf16⟩

abbrev bufTy : (tb : Table) → Fin (tcTables nBuf tb) → BufTy
  | .hbm, ⟨i, _⟩ => hbmTy i
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_call0_v0 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_call2_v0 : Ref sig .tc := ⟨.hbm, 85, rfl⟩
abbrev main_call2_call0_cst : Ref sig .tc := ⟨.hbm, 86, rfl⟩
abbrev main_call2_call0_v0 : Ref sig .tc := ⟨.hbm, 87, rfl⟩
abbrev main_call2_call0_v1 : Ref sig .tc := ⟨.hbm, 88, rfl⟩
abbrev main_call2_call0_v2 : Ref sig .tc := ⟨.hbm, 89, rfl⟩
abbrev main_call2_call0_v3 : Ref sig .tc := ⟨.hbm, 90, rfl⟩
abbrev main_call2_call0_v4 : Ref sig .tc := ⟨.hbm, 91, rfl⟩
abbrev main_call2_call0_v5 : Ref sig .tc := ⟨.hbm, 92, rfl⟩
abbrev main_call2_call0_v6 : Ref sig .tc := ⟨.hbm, 93, rfl⟩
abbrev main_call2_call0_v7 : Ref sig .tc := ⟨.hbm, 94, rfl⟩
abbrev main_call2_call0_v8 : Ref sig .tc := ⟨.hbm, 95, rfl⟩
abbrev main_call2_call0_v9 : Ref sig .tc := ⟨.hbm, 96, rfl⟩
abbrev main_call2_call0_v10 : Ref sig .tc := ⟨.hbm, 97, rfl⟩
abbrev main_call2_call0_v11 : Ref sig .tc := ⟨.hbm, 98, rfl⟩
abbrev main_call2_v1 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_0 : Ref sig .tc := ⟨.hbm, 114, rfl⟩
abbrev main_v75 : Ref sig .tc := ⟨.hbm, 115, rfl⟩
abbrev main_cst_1 : Ref sig .tc := ⟨.hbm, 116, rfl⟩
abbrev main_v76 : Ref sig .tc := ⟨.hbm, 117, rfl⟩
abbrev main_cst_2 : Ref sig .tc := ⟨.hbm, 118, rfl⟩
abbrev main_v77 : Ref sig .tc := ⟨.hbm, 119, rfl⟩
abbrev main_cst_3 : Ref sig .tc := ⟨.hbm, 120, rfl⟩
abbrev main_v78 : Ref sig .tc := ⟨.hbm, 121, rfl⟩
abbrev main_c_4 : Ref sig .tc := ⟨.hbm, 122, rfl⟩
abbrev main_v79_0 : Ref sig .tc := ⟨.hbm, 123, rfl⟩
abbrev main_v79_1 : Ref sig .tc := ⟨.hbm, 124, rfl⟩
abbrev main_v79_2 : Ref sig .tc := ⟨.hbm, 125, rfl⟩
abbrev main_v79_3 : Ref sig .tc := ⟨.hbm, 126, rfl⟩
abbrev main_v79_4 : Ref sig .tc := ⟨.hbm, 127, rfl⟩
abbrev main_v79_5 : Ref sig .tc := ⟨.hbm, 128, rfl⟩
abbrev main_v79_6 : Ref sig .tc := ⟨.hbm, 129, rfl⟩
abbrev main_v79_7 : Ref sig .tc := ⟨.hbm, 130, rfl⟩
abbrev main_v79_8 : Ref sig .tc := ⟨.hbm, 131, rfl⟩
abbrev main_v79_9 : Ref sig .tc := ⟨.hbm, 132, rfl⟩
abbrev main_while0c_c_24 : Ref sig .tc := ⟨.hbm, 133, rfl⟩
abbrev main_while0c_v138 : Ref sig .tc := ⟨.hbm, 134, rfl⟩
abbrev main_while0b_call3_c : Ref sig .tc := ⟨.hbm, 135, rfl⟩
abbrev main_while0b_call3_c_0 : Ref sig .tc := ⟨.hbm, 136, rfl⟩
abbrev main_while0b_call3_c_1 : Ref sig .tc := ⟨.hbm, 137, rfl⟩
abbrev main_while0b_call3_c_2 : Ref sig .tc := ⟨.hbm, 138, rfl⟩
abbrev main_while0b_call3_v0 : Ref sig .tc := ⟨.hbm, 139, rfl⟩
abbrev main_while0b_v138 : Ref sig .tc := ⟨.hbm, 140, rfl⟩
abbrev main_while0b_call4_c : Ref sig .tc := ⟨.hbm, 141, rfl⟩
abbrev main_while0b_call4_c_0 : Ref sig .tc := ⟨.hbm, 142, rfl⟩
abbrev main_while0b_call4_c_1 : Ref sig .tc := ⟨.hbm, 143, rfl⟩
abbrev main_while0b_call4_c_2 : Ref sig .tc := ⟨.hbm, 144, rfl⟩
abbrev main_while0b_call4_v0 : Ref sig .tc := ⟨.hbm, 145, rfl⟩
abbrev main_while0b_v139 : Ref sig .tc := ⟨.hbm, 146, rfl⟩
abbrev main_while0b_call5_c : Ref sig .tc := ⟨.hbm, 147, rfl⟩
abbrev main_while0b_call5_c_0 : Ref sig .tc := ⟨.hbm, 148, rfl⟩
abbrev main_while0b_call5_c_1 : Ref sig .tc := ⟨.hbm, 149, rfl⟩
abbrev main_while0b_call5_c_2 : Ref sig .tc := ⟨.hbm, 150, rfl⟩
abbrev main_while0b_call5_v0 : Ref sig .tc := ⟨.hbm, 151, rfl⟩
abbrev main_while0b_v140 : Ref sig .tc := ⟨.hbm, 152, rfl⟩
abbrev main_while0b_call6_c : Ref sig .tc := ⟨.hbm, 153, rfl⟩
abbrev main_while0b_call6_c_0 : Ref sig .tc := ⟨.hbm, 154, rfl⟩
abbrev main_while0b_call6_c_1 : Ref sig .tc := ⟨.hbm, 155, rfl⟩
abbrev main_while0b_call6_v0 : Ref sig .tc := ⟨.hbm, 156, rfl⟩
abbrev main_while0b_v141 : Ref sig .tc := ⟨.hbm, 157, rfl⟩
abbrev main_while0b_call7_c : Ref sig .tc := ⟨.hbm, 158, rfl⟩
abbrev main_while0b_call7_c_0 : Ref sig .tc := ⟨.hbm, 159, rfl⟩
abbrev main_while0b_call7_c_1 : Ref sig .tc := ⟨.hbm, 160, rfl⟩
abbrev main_while0b_call7_v0 : Ref sig .tc := ⟨.hbm, 161, rfl⟩
abbrev main_while0b_v142 : Ref sig .tc := ⟨.hbm, 162, rfl⟩
abbrev main_while0b_call8_call0_cst : Ref sig .tc := ⟨.hbm, 163, rfl⟩
abbrev main_while0b_call8_call0_v0 : Ref sig .tc := ⟨.hbm, 164, rfl⟩
abbrev main_while0b_v143 : Ref sig .tc := ⟨.hbm, 165, rfl⟩
abbrev main_while0b_v144 : Ref sig .tc := ⟨.hbm, 166, rfl⟩
abbrev main_while0b_v145 : Ref sig .tc := ⟨.hbm, 167, rfl⟩
abbrev main_while0b_c_24 : Ref sig .tc := ⟨.hbm, 168, rfl⟩
abbrev main_while0b_v146 : Ref sig .tc := ⟨.hbm, 169, rfl⟩
abbrev main_while0b_call9_v0 : Ref sig .tc := ⟨.hbm, 170, rfl⟩
abbrev main_while0b_call9_c : Ref sig .tc := ⟨.hbm, 171, rfl⟩
abbrev main_while0b_call9_v1 : Ref sig .tc := ⟨.hbm, 172, rfl⟩
abbrev main_while0b_call9_v2 : Ref sig .tc := ⟨.hbm, 173, rfl⟩
abbrev main_while0b_call9_v3 : Ref sig .tc := ⟨.hbm, 174, rfl⟩
abbrev main_while0b_call9_v4 : Ref sig .tc := ⟨.hbm, 175, rfl⟩
abbrev main_while0b_call9_c_0 : Ref sig .tc := ⟨.hbm, 176, rfl⟩
abbrev main_while0b_call9_v5 : Ref sig .tc := ⟨.hbm, 177, rfl⟩
abbrev main_while0b_v147 : Ref sig .tc := ⟨.hbm, 178, rfl⟩
abbrev main_while0b_v148 : Ref sig .tc := ⟨.hbm, 179, rfl⟩
abbrev main_while0b_v149 : Ref sig .tc := ⟨.hbm, 180, rfl⟩
abbrev main_while0b_v150 : Ref sig .tc := ⟨.hbm, 181, rfl⟩
abbrev main_while0b_v151 : Ref sig .tc := ⟨.hbm, 182, rfl⟩
abbrev main_while0b_v152 : Ref sig .tc := ⟨.hbm, 183, rfl⟩
abbrev main_while0b_v153 : Ref sig .tc := ⟨.hbm, 184, rfl⟩
abbrev main_while0b_v154 : Ref sig .tc := ⟨.hbm, 185, rfl⟩
abbrev main_while0b_v155 : Ref sig .tc := ⟨.hbm, 186, rfl⟩
abbrev main_while0b_cst_25 : Ref sig .tc := ⟨.hbm, 187, rfl⟩
abbrev main_while0b_call10_v0 : Ref sig .tc := ⟨.hbm, 188, rfl⟩
abbrev main_while0b_call10_v1 : Ref sig .tc := ⟨.hbm, 189, rfl⟩
abbrev main_while0b_call10_v2 : Ref sig .tc := ⟨.hbm, 190, rfl⟩
abbrev main_while0b_v156 : Ref sig .tc := ⟨.hbm, 191, rfl⟩
abbrev main_while0b_v157 : Ref sig .tc := ⟨.hbm, 192, rfl⟩
abbrev main_while0b_v158 : Ref sig .tc := ⟨.hbm, 193, rfl⟩
abbrev main_while0b_v159 : Ref sig .tc := ⟨.hbm, 194, rfl⟩
abbrev main_while0b_cst_26 : Ref sig .tc := ⟨.hbm, 195, rfl⟩
abbrev main_while0b_v160 : Ref sig .tc := ⟨.hbm, 196, rfl⟩
abbrev main_while0b_v161 : Ref sig .tc := ⟨.hbm, 197, rfl⟩
abbrev main_while0b_v162 : Ref sig .tc := ⟨.hbm, 198, rfl⟩
abbrev main_while0b_v163 : Ref sig .tc := ⟨.hbm, 199, rfl⟩
abbrev main_while0b_v164 : Ref sig .tc := ⟨.hbm, 200, rfl⟩
abbrev main_while0b_v165 : Ref sig .tc := ⟨.hbm, 201, rfl⟩
abbrev main_while0b_v166 : Ref sig .tc := ⟨.hbm, 202, rfl⟩
abbrev main_while0b_v167 : Ref sig .tc := ⟨.hbm, 203, rfl⟩
abbrev main_while0b_v168 : Ref sig .tc := ⟨.hbm, 204, rfl⟩
abbrev main_while0b_v169 : Ref sig .tc := ⟨.hbm, 205, rfl⟩
abbrev main_while0b_v170 : Ref sig .tc := ⟨.hbm, 206, rfl⟩
abbrev main_while0b_v171 : Ref sig .tc := ⟨.hbm, 207, rfl⟩
abbrev main_while0b_v172 : Ref sig .tc := ⟨.hbm, 208, rfl⟩
abbrev main_while0b_v173 : Ref sig .tc := ⟨.hbm, 209, rfl⟩
abbrev main_while0b_v174 : Ref sig .tc := ⟨.hbm, 210, rfl⟩
abbrev main_while0b_v175 : Ref sig .tc := ⟨.hbm, 211, rfl⟩
abbrev main_while0b_cst_27 : Ref sig .tc := ⟨.hbm, 212, rfl⟩
abbrev main_while0b_v176 : Ref sig .tc := ⟨.hbm, 213, rfl⟩
abbrev main_while0b_v177 : Ref sig .tc := ⟨.hbm, 214, rfl⟩
abbrev main_while0b_v178 : Ref sig .tc := ⟨.hbm, 215, rfl⟩
abbrev main_while0b_v179 : Ref sig .tc := ⟨.hbm, 216, rfl⟩
abbrev main_while0b_v180 : Ref sig .tc := ⟨.hbm, 217, rfl⟩
abbrev main_while0b_v181 : Ref sig .tc := ⟨.hbm, 218, rfl⟩
abbrev main_while0b_v182 : Ref sig .tc := ⟨.hbm, 219, rfl⟩
abbrev main_while0b_v183 : Ref sig .tc := ⟨.hbm, 220, rfl⟩
abbrev main_while0b_v184 : Ref sig .tc := ⟨.hbm, 221, rfl⟩
abbrev main_while0b_v185 : Ref sig .tc := ⟨.hbm, 222, rfl⟩
abbrev main_while0b_v186 : Ref sig .tc := ⟨.hbm, 223, rfl⟩
abbrev main_while0b_v187 : Ref sig .tc := ⟨.hbm, 224, rfl⟩
abbrev main_while0b_v188 : Ref sig .tc := ⟨.hbm, 225, rfl⟩
abbrev main_while0b_v189 : Ref sig .tc := ⟨.hbm, 226, rfl⟩
abbrev main_while0b_v190 : Ref sig .tc := ⟨.hbm, 227, rfl⟩
abbrev main_while0b_v191 : Ref sig .tc := ⟨.hbm, 228, rfl⟩
abbrev main_while0b_cst_28 : Ref sig .tc := ⟨.hbm, 229, rfl⟩
abbrev main_while0b_v192 : Ref sig .tc := ⟨.hbm, 230, rfl⟩
abbrev main_while0b_v193 : Ref sig .tc := ⟨.hbm, 231, rfl⟩
abbrev main_while0b_v194 : Ref sig .tc := ⟨.hbm, 232, rfl⟩
abbrev main_while0b_v195 : Ref sig .tc := ⟨.hbm, 233, rfl⟩
abbrev main_while0b_v196 : Ref sig .tc := ⟨.hbm, 234, rfl⟩
abbrev main_while0b_v197 : Ref sig .tc := ⟨.hbm, 235, rfl⟩
abbrev main_while0b_v198 : Ref sig .tc := ⟨.hbm, 236, rfl⟩
abbrev main_while0b_v199 : Ref sig .tc := ⟨.hbm, 237, rfl⟩
abbrev main_while0b_v200 : Ref sig .tc := ⟨.hbm, 238, rfl⟩
abbrev main_while0b_v201 : Ref sig .tc := ⟨.hbm, 239, rfl⟩
abbrev main_while0b_v202 : Ref sig .tc := ⟨.hbm, 240, rfl⟩
abbrev main_while0b_v203 : Ref sig .tc := ⟨.hbm, 241, rfl⟩
abbrev main_while0b_v204 : Ref sig .tc := ⟨.hbm, 242, rfl⟩
abbrev main_while0b_v205 : Ref sig .tc := ⟨.hbm, 243, rfl⟩
abbrev main_while0b_v206 : Ref sig .tc := ⟨.hbm, 244, rfl⟩
abbrev main_while0b_v207 : Ref sig .tc := ⟨.hbm, 245, rfl⟩
abbrev main_while0b_v208 : Ref sig .tc := ⟨.hbm, 246, rfl⟩
abbrev main_while0b_v209 : Ref sig .tc := ⟨.hbm, 247, rfl⟩
abbrev main_while0b_v210 : Ref sig .tc := ⟨.hbm, 248, rfl⟩
abbrev main_while0b_v211 : Ref sig .tc := ⟨.hbm, 249, rfl⟩
abbrev main_while0b_v212 : Ref sig .tc := ⟨.hbm, 250, rfl⟩
abbrev main_while0b_v213 : Ref sig .tc := ⟨.hbm, 251, rfl⟩
abbrev main_while0b_call11_v0 : Ref sig .tc := ⟨.hbm, 252, rfl⟩
abbrev main_while0b_call11_c : Ref sig .tc := ⟨.hbm, 253, rfl⟩
abbrev main_while0b_call11_c_0 : Ref sig .tc := ⟨.hbm, 254, rfl⟩
abbrev main_while0b_call11_c_1 : Ref sig .tc := ⟨.hbm, 255, rfl⟩
abbrev main_while0b_call11_c_2 : Ref sig .tc := ⟨.hbm, 256, rfl⟩
abbrev main_while0b_v214 : Ref sig .tc := ⟨.hbm, 257, rfl⟩
abbrev main_while0b_c_29 : Ref sig .tc := ⟨.hbm, 258, rfl⟩
abbrev main_while0b_v215 : Ref sig .tc := ⟨.hbm, 259, rfl⟩
abbrev main_v80 : Ref sig .tc := ⟨.hbm, 260, rfl⟩
abbrev main_v81 : Ref sig .tc := ⟨.hbm, 261, rfl⟩
abbrev main_cst_5 : Ref sig .tc := ⟨.hbm, 262, rfl⟩
abbrev main_v82 : Ref sig .tc := ⟨.hbm, 263, rfl⟩
abbrev main_v83 : Ref sig .tc := ⟨.hbm, 264, rfl⟩
abbrev main_cst_6 : Ref sig .tc := ⟨.hbm, 265, rfl⟩
abbrev main_v84 : Ref sig .tc := ⟨.hbm, 266, rfl⟩
abbrev main_v85 : Ref sig .tc := ⟨.hbm, 267, rfl⟩
abbrev main_v86 : Ref sig .tc := ⟨.hbm, 268, rfl⟩
abbrev main_v87 : Ref sig .tc := ⟨.hbm, 269, rfl⟩
abbrev main_v88 : Ref sig .tc := ⟨.hbm, 270, rfl⟩
abbrev main_cst_7 : Ref sig .tc := ⟨.hbm, 271, rfl⟩
abbrev main_v89 : Ref sig .tc := ⟨.hbm, 272, rfl⟩
abbrev main_v90 : Ref sig .tc := ⟨.hbm, 273, rfl⟩
abbrev main_cst_8 : Ref sig .tc := ⟨.hbm, 274, rfl⟩
abbrev main_v91 : Ref sig .tc := ⟨.hbm, 275, rfl⟩
abbrev main_v92 : Ref sig .tc := ⟨.hbm, 276, rfl⟩
abbrev main_v93 : Ref sig .tc := ⟨.hbm, 277, rfl⟩
abbrev main_v94 : Ref sig .tc := ⟨.hbm, 278, rfl⟩
abbrev main_cst_9 : Ref sig .tc := ⟨.hbm, 279, rfl⟩
abbrev main_v95 : Ref sig .tc := ⟨.hbm, 280, rfl⟩
abbrev main_v96 : Ref sig .tc := ⟨.hbm, 281, rfl⟩
abbrev main_v97 : Ref sig .tc := ⟨.hbm, 282, rfl⟩
abbrev main_v98 : Ref sig .tc := ⟨.hbm, 283, rfl⟩
abbrev main_v99 : Ref sig .tc := ⟨.hbm, 284, rfl⟩
abbrev main_v100 : Ref sig .tc := ⟨.hbm, 285, rfl⟩
abbrev main_v101 : Ref sig .tc := ⟨.hbm, 286, rfl⟩
abbrev main_v102 : Ref sig .tc := ⟨.hbm, 287, rfl⟩
abbrev main_v103 : Ref sig .tc := ⟨.hbm, 288, rfl⟩
abbrev main_v104 : Ref sig .tc := ⟨.hbm, 289, rfl⟩
abbrev main_v105 : Ref sig .tc := ⟨.hbm, 290, rfl⟩
abbrev main_cst_10 : Ref sig .tc := ⟨.hbm, 291, rfl⟩
abbrev main_v106 : Ref sig .tc := ⟨.hbm, 292, rfl⟩
abbrev main_v107 : Ref sig .tc := ⟨.hbm, 293, rfl⟩
abbrev main_cst_11 : Ref sig .tc := ⟨.hbm, 294, rfl⟩
abbrev main_v108 : Ref sig .tc := ⟨.hbm, 295, rfl⟩
abbrev main_v109 : Ref sig .tc := ⟨.hbm, 296, rfl⟩
abbrev main_v110 : Ref sig .tc := ⟨.hbm, 297, rfl⟩
abbrev main_v111 : Ref sig .tc := ⟨.hbm, 298, rfl⟩
abbrev main_v112 : Ref sig .tc := ⟨.hbm, 299, rfl⟩
abbrev main_v113 : Ref sig .tc := ⟨.hbm, 300, rfl⟩
abbrev main_v114 : Ref sig .tc := ⟨.hbm, 301, rfl⟩
abbrev main_call12_v0 : Ref sig .tc := ⟨.hbm, 302, rfl⟩
abbrev main_call12_v1 : Ref sig .tc := ⟨.hbm, 303, rfl⟩
abbrev main_call12_cst : Ref sig .tc := ⟨.hbm, 304, rfl⟩
abbrev main_call12_v2 : Ref sig .tc := ⟨.hbm, 305, rfl⟩
abbrev main_call12_v3 : Ref sig .tc := ⟨.hbm, 306, rfl⟩
abbrev main_call12_cst_0 : Ref sig .tc := ⟨.hbm, 307, rfl⟩
abbrev main_call12_v4 : Ref sig .tc := ⟨.hbm, 308, rfl⟩
abbrev main_call12_v5 : Ref sig .tc := ⟨.hbm, 309, rfl⟩
abbrev main_v115 : Ref sig .tc := ⟨.hbm, 310, rfl⟩
abbrev main_v116 : Ref sig .tc := ⟨.hbm, 311, rfl⟩
abbrev main_v117 : Ref sig .tc := ⟨.hbm, 312, rfl⟩
abbrev main_v118 : Ref sig .tc := ⟨.hbm, 313, rfl⟩
abbrev main_v119 : Ref sig .tc := ⟨.hbm, 314, rfl⟩
abbrev main_v120 : Ref sig .tc := ⟨.hbm, 315, rfl⟩
abbrev main_v121 : Ref sig .tc := ⟨.hbm, 316, rfl⟩
abbrev main_v122 : Ref sig .tc := ⟨.hbm, 317, rfl⟩
abbrev main_v123 : Ref sig .tc := ⟨.hbm, 318, rfl⟩
abbrev main_v124 : Ref sig .tc := ⟨.hbm, 319, rfl⟩
abbrev main_v125 : Ref sig .tc := ⟨.hbm, 320, rfl⟩
abbrev main_cst_12 : Ref sig .tc := ⟨.hbm, 321, rfl⟩
abbrev main_v126 : Ref sig .tc := ⟨.hbm, 322, rfl⟩
abbrev main_v127 : Ref sig .tc := ⟨.hbm, 323, rfl⟩
abbrev main_cst_13 : Ref sig .tc := ⟨.hbm, 324, rfl⟩
abbrev main_v128 : Ref sig .tc := ⟨.hbm, 325, rfl⟩
abbrev main_v129 : Ref sig .tc := ⟨.hbm, 326, rfl⟩
abbrev main_cst_14 : Ref sig .tc := ⟨.hbm, 327, rfl⟩
abbrev main_v130 : Ref sig .tc := ⟨.hbm, 328, rfl⟩
abbrev main_v131 : Ref sig .tc := ⟨.hbm, 329, rfl⟩
abbrev main_v132 : Ref sig .tc := ⟨.hbm, 330, rfl⟩
abbrev main_v133 : Ref sig .tc := ⟨.hbm, 331, rfl⟩
abbrev main_v134 : Ref sig .tc := ⟨.hbm, 332, rfl⟩
abbrev main_v135 : Ref sig .tc := ⟨.hbm, 333, rfl⟩
abbrev main_v136 : Ref sig .tc := ⟨.hbm, 334, rfl⟩
abbrev main_v137 : Ref sig .tc := ⟨.hbm, 335, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S8x1024 : Shape := ⟨2, ![8, 1024]⟩
abbrev S1x1024x3072 : Shape := ⟨3, ![1, 1024, 3072]⟩
abbrev S1x3072 : Shape := ⟨2, ![1, 3072]⟩
abbrev S1024x3072 : Shape := ⟨2, ![1024, 3072]⟩
abbrev S3072 : Shape := ⟨1, ![3072]⟩
abbrev S8x3072 : Shape := ⟨2, ![8, 3072]⟩
abbrev S1024x1024 : Shape := ⟨2, ![1024, 1024]⟩
abbrev S1x1024 : Shape := ⟨2, ![1, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1x1024x3072, .f32⟩
  | .hbm, ⟨2, _⟩ => ⟨S1x3072, .f32⟩
  | .hbm, ⟨3, _⟩ => ⟨S1024x3072, .f32⟩
  | .hbm, ⟨4, _⟩ => ⟨S3072, .f32⟩
  | .hbm, ⟨5, _⟩ => ⟨S1x3072, .f32⟩
  | .hbm, ⟨6, _⟩ => ⟨S8x3072, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S8x1024 : Shape := ⟨2, ![8, 1024]⟩
abbrev S1x1024x3072 : Shape := ⟨3, ![1, 1024, 3072]⟩
abbrev S1x3072 : Shape := ⟨2, ![1, 3072]⟩
abbrev S_ : Shape := ⟨0, ![]⟩
abbrev S1024x3072 : Shape := ⟨2, ![1024, 3072]⟩
abbrev S8x3072 : Shape := ⟨2, ![8, 3072]⟩
abbrev S3072 : Shape := ⟨1, ![3072]⟩

abbrev nBuf : Space → Nat
  | .hbm => 18
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1x1024x3072, .f32⟩
  | .hbm, ⟨2, _⟩ => ⟨S1x3072, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1024x3072, .f32⟩
  | .hbm, ⟨13, _⟩ => ⟨S8x3072, .f32⟩
  | .hbm, ⟨14, _⟩ => ⟨S3072, .f32⟩
  | .hbm, ⟨15, _⟩ => ⟨S1x3072, .f32⟩
  | .hbm, ⟨16, _⟩ => ⟨S8x3072, .f32⟩
  | .hbm, ⟨17, _⟩ => ⟨S8x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Kernel3.lean ====
abbrev S8x4096x1024 : Shape := ⟨3, ![8, 4096, 1024]⟩
abbrev S8x3072 : Shape := ⟨2, ![8, 3072]⟩
abbrev S1x1024 : Shape := ⟨2, ![1, 1024]⟩
abbrev S1x1024x4744 : Shape := ⟨3, ![1, 1024, 4744]⟩
abbrev S1x1664 : Shape := ⟨2, ![1, 1664]⟩
abbrev S1x64x512 : Shape := ⟨3, ![1, 64, 512]⟩
abbrev S1x512 : Shape := ⟨2, ![1, 512]⟩
abbrev S1024x4744 : Shape := ⟨2, ![1024, 4744]⟩
abbrev S_ : Shape := ⟨0, ![]⟩
abbrev S1024x120 : Shape := ⟨2, ![1024, 120]⟩
abbrev S1024x512 : Shape := ⟨2, ![1024, 512]⟩
abbrev S1024x8 : Shape := ⟨2, ![1024, 8]⟩
abbrev S1024x640 : Shape := ⟨2, ![1024, 640]⟩
abbrev S1664 : Shape := ⟨1, ![1664]⟩
abbrev S64x512 : Shape := ⟨2, ![64, 512]⟩
abbrev S512 : Shape := ⟨1, ![512]⟩
abbrev S1024 : Shape := ⟨1, ![1024]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S128x512 : Shape := ⟨2, ![128, 512]⟩
abbrev S1x128x512 : Shape := ⟨3, ![1, 128, 512]⟩
abbrev S2x128x512 : Shape := ⟨3, ![2, 128, 512]⟩
abbrev S8x1x3072 : Shape := ⟨3, ![8, 1, 3072]⟩
abbrev S8x4096x512 : Shape := ⟨3, ![8, 4096, 512]⟩
abbrev S1x256x1024 : Shape := ⟨3, ![1, 256, 1024]⟩
abbrev S1x1x1024 : Shape := ⟨3, ![1, 1, 1024]⟩
abbrev S1024x2176 : Shape := ⟨2, ![1024, 2176]⟩
abbrev S1x256x512 : Shape := ⟨3, ![1, 256, 512]⟩
abbrev S256x2176 : Shape := ⟨2, ![256, 2176]⟩
abbrev S4x128x128 : Shape := ⟨3, ![4, 128, 128]⟩
abbrev S256x512 : Shape := ⟨2, ![256, 512]⟩
abbrev S256x1024 : Shape := ⟨2, ![256, 1024]⟩
abbrev S256x128 : Shape := ⟨2, ![256, 128]⟩
abbrev S1x128 : Shape := ⟨2, ![1, 128]⟩
abbrev S1024x256 : Shape := ⟨2, ![1024, 256]⟩
abbrev S64x128 : Shape := ⟨2, ![64, 128]⟩
abbrev S1024x128 : Shape := ⟨2, ![1024, 128]⟩
abbrev S128x128 : Shape := ⟨2, ![128, 128]⟩
abbrev S128x256 : Shape := ⟨2, ![128, 256]⟩
abbrev S64x256 : Shape := ⟨2, ![64, 256]⟩
abbrev S192x128 : Shape := ⟨2, ![192, 128]⟩
abbrev S128 : Shape := ⟨1, ![128]⟩
abbrev S128x1 : Shape := ⟨2, ![128, 1]⟩
abbrev S1x128x128 : Shape := ⟨3, ![1, 128, 128]⟩
abbrev S1x256x256 : Shape := ⟨3, ![1, 256, 256]⟩

abbrev nBuf : Space → Nat
  | .hbm => 148
  | .vmem => 37
  | .smem => 0
  | _ => 0

abbrev hbmTy0_0 (i : Nat) : BufTy := match i % 128 with
  | 0 => ⟨S8x4096x1024, .f32⟩
  | 1 => ⟨S8x3072, .f32⟩
  | 2 => ⟨S1x1024, .f32⟩
  | 3 => ⟨S1x1024x4744, .f32⟩
  | 4 => ⟨S1x1664, .f32⟩
  | 5 => ⟨S1x64x512, .f32⟩
  | 6 => ⟨S1x512, .f32⟩
  | 7 => ⟨S1x64x512, .f32⟩
  | 8 => ⟨S1x512, .f32⟩
  | 9 => ⟨S1x512, .f32⟩
  | 10 => ⟨S1x512, .f32⟩
  | 11 => ⟨S1x512, .f32⟩
  | 12 => ⟨S1x512, .f32⟩
  | 13 => ⟨S1x512, .f32⟩
  | 14 => ⟨S1024x4744, .f32⟩
  | 15 => ⟨S_, .f32⟩
  | 16 => ⟨S1024x120, .f32⟩
  | 17 => ⟨S1024x512, .f32⟩
  | 18 => ⟨S1024x8, .f32⟩
  | 19 => ⟨S1024x640, .f32⟩
  | 20 => ⟨S1024x4744, .bf16⟩
  | 21 => ⟨S1024x640, .bf16⟩
  | 22 => ⟨S1664, .f32⟩
  | 23 => ⟨S64x512, .f32⟩
  | 24 => ⟨S512, .f32⟩
  | 25 => ⟨S64x512, .f32⟩
  | 26 => ⟨S512, .f32⟩
  | 27 => ⟨S512, .f32⟩
  | 28 => ⟨S512, .f32⟩
  | 29 => ⟨S512, .f32⟩
  | 30 => ⟨S512, .f32⟩
  | 31 => ⟨S512, .f32⟩
  | 32 => ⟨S1024, .f32⟩
  | 33 => ⟨S256, .i32⟩
  | 34 => ⟨S256x1, .i32⟩
  | 35 => ⟨S_, .i32⟩
  | 36 => ⟨S_, .i32⟩
  | 37 => ⟨S256x1, .i32⟩
  | 38 => ⟨S256x1, .i32⟩
  | 39 => ⟨S256x1, .i32⟩
  | 40 => ⟨S_, .i32⟩
  | 41 => ⟨S256x1, .i32⟩
  | 42 => ⟨S256x1, .i1⟩
  | 43 => ⟨S256x1, .i32⟩
  | 44 => ⟨S256x1, .i32⟩
  | 45 => ⟨S_, .i32⟩
  | 46 => ⟨S256x1, .i32⟩
  | 47 => ⟨S256x1, .i1⟩
  | 48 => ⟨S256x1, .i1⟩
  | 49 => ⟨S_, .i32⟩
  | 50 => ⟨S256x1, .i32⟩
  | 51 => ⟨S256x1, .i32⟩
  | 52 => ⟨S256x1, .i32⟩
  | 53 => ⟨S256, .i32⟩
  | 54 => ⟨S1x256, .i32⟩
  | 55 => ⟨S_, .i32⟩
  | 56 => ⟨S_, .i32⟩
  | 57 => ⟨S1x256, .i32⟩
  | 58 => ⟨S1x256, .i32⟩
  | 59 => ⟨S1x256, .i32⟩
  | 60 => ⟨S_, .i32⟩
  | 61 => ⟨S1x256, .i32⟩
  | 62 => ⟨S1x256, .i1⟩
  | 63 => ⟨S1x256, .i32⟩
  | 64 => ⟨S1x256, .i32⟩
  | 65 => ⟨S_, .i32⟩
  | 66 => ⟨S1x256, .i32⟩
  | 67 => ⟨S1x256, .i1⟩
  | 68 => ⟨S1x256, .i1⟩
  | 69 => ⟨S_, .i32⟩
  | 70 => ⟨S1x256, .i32⟩
  | 71 => ⟨S1x256, .i32⟩
  | 72 => ⟨S1x256, .i32⟩
  | 73 => ⟨S256x256, .i32⟩
  | 74 => ⟨S256x256, .i32⟩
  | 75 => ⟨S256x256, .i1⟩
  | 76 => ⟨S256x256, .bf16⟩
  | 77 => ⟨S_, .f32⟩
  | 78 => ⟨S64x512, .f32⟩
  | 79 => ⟨S128x512, .f32⟩
  | 80 => ⟨S_, .f32⟩
  | 81 => ⟨S64x512, .f32⟩
  | 82 => ⟨S128x512, .f32⟩
  | 83 => ⟨S1x128x512, .f32⟩
  | 84 => ⟨S1x128x512, .f32⟩
  | 85 => ⟨S2x128x512, .f32⟩
  | 86 => ⟨S2x128x512, .bf16⟩
  | 87 => ⟨S8x1x3072, .f32⟩
  | 88 => ⟨S8x1x3072, .f32⟩
  | 89 => ⟨S1x1024, .f32⟩
  | 90 => ⟨S1x1664, .f32⟩
  | 91 => ⟨S1x512, .f32⟩
  | 92 => ⟨S1x512, .f32⟩
  | 93 => ⟨S1x512, .f32⟩
  | 94 => ⟨S1x512, .f32⟩
  | 95 => ⟨S1x512, .f32⟩
  | 96 => ⟨S1x512, .f32⟩
  | 97 => ⟨S1x512, .f32⟩
  | 98 => ⟨S256, .i32⟩
  | 99 => ⟨S256x1, .i32⟩
  | 100 => ⟨S256, .i32⟩
  | 101 => ⟨S1x256, .i32⟩
  | 102 => ⟨S_, .i32⟩
  | 103 => ⟨S_, .i32⟩
  | 104 => ⟨S256x1, .i32⟩
  | 105 => ⟨S256x1, .i32⟩
  | 106 => ⟨S256x1, .i32⟩
  | 107 => ⟨S_, .i32⟩
  | 108 => ⟨S256x1, .i32⟩
  | 109 => ⟨S256x1, .i1⟩
  | 110 => ⟨S256x1, .i32⟩
  | 111 => ⟨S256x1, .i32⟩
  | 112 => ⟨S_, .i32⟩
  | 113 => ⟨S256x1, .i32⟩
  | 114 => ⟨S256x1, .i1⟩
  | 115 => ⟨S256x1, .i1⟩
  | 116 => ⟨S_, .i32⟩
  | 117 => ⟨S256x1, .i32⟩
  | 118 => ⟨S256x1, .i32⟩
  | 119 => ⟨S256x1, .i32⟩
  | 120 => ⟨S_, .i32⟩
  | 121 => ⟨S_, .i32⟩
  | 122 => ⟨S1x256, .i32⟩
  | 123 => ⟨S1x256, .i32⟩
  | 124 => ⟨S1x256, .i32⟩
  | 125 => ⟨S_, .i32⟩
  | 126 => ⟨S1x256, .i32⟩
  | 127 => ⟨S1x256, .i1⟩
  | _ => ⟨S8x4096x1024, .f32⟩

abbrev hbmTy0_1 (i : Nat) : BufTy := match i % 128 with
  | 0 => ⟨S1x256, .i32⟩
  | 1 => ⟨S1x256, .i32⟩
  | 2 => ⟨S_, .i32⟩
  | 3 => ⟨S1x256, .i32⟩
  | 4 => ⟨S1x256, .i1⟩
  | 5 => ⟨S1x256, .i1⟩
  | 6 => ⟨S_, .i32⟩
  | 7 => ⟨S1x256, .i32⟩
  | 8 => ⟨S1x256, .i32⟩
  | 9 => ⟨S1x256, .i32⟩
  | 10 => ⟨S256x256, .i32⟩
  | 11 => ⟨S256x256, .i32⟩
  | 12 => ⟨S256x256, .i1⟩
  | 13 => ⟨S256x256, .i32⟩
  | 14 => ⟨S256x256, .i32⟩
  | 15 => ⟨S256x256, .i1⟩
  | 16 => ⟨S256x256, .i1⟩
  | 17 => ⟨S256x256, .bf16⟩
  | 18 => ⟨S8x4096x512, .bf16⟩
  | 19 => ⟨S8x4096x1024, .bf16⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | .local _ .vmem, ⟨0, _⟩ => ⟨S1x256x1024, .f32⟩
  | .local _ .vmem, ⟨1, _⟩ => ⟨S1x256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2176, .bf16⟩
  | .local _ .vmem, ⟨8, _⟩ => ⟨S1x1664, .f32⟩
  | .local _ .vmem, ⟨9, _⟩ => ⟨S2x128x512, .bf16⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S256x256, .bf16⟩
  | .local _ .vmem, ⟨18, _⟩ => ⟨S256x256, .bf16⟩
  | .local _ .vmem, ⟨19, _⟩ => ⟨S1x256x512, .bf16⟩
  | .local _ .vmem, ⟨20, _⟩ => ⟨S1x256x512, .bf16⟩
  | .local _ .vmem, ⟨21, _⟩ => ⟨S1x256x1024, .bf16⟩
  | .local _ .vmem, ⟨22, _⟩ => ⟨S1x256x1024, .bf16⟩
  | .local _ .vmem, ⟨23, _⟩ => ⟨S256x2176, .f32⟩
  | .local _ .vmem, ⟨24, _⟩ => ⟨S256x2176, .f32⟩
  | .local _ .vmem, ⟨25, _⟩ => ⟨S1x1664, .f32⟩
  | .local _ .vmem, ⟨26, _⟩ => ⟨S4x128x128, .f32⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .f32⟩
  | .local _ .vmem, ⟨35, _⟩ => ⟨S256x512, .f32⟩
  | .local _ .vmem, ⟨36, _⟩ => ⟨S256x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_v8 : Ref sig .tc := ⟨.hbm, 44, rfl⟩
abbrev main_call0_c : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_c_0 : Ref sig .tc := ⟨.hbm, 49, rfl⟩
abbrev main_call0_v12 : Ref sig .tc := ⟨.hbm, 50, rfl⟩
abbrev main_call0_v13 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_c_0 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_c : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_c_0 : Ref sig .tc := ⟨.hbm, 69, rfl⟩
abbrev main_call1_v12 : Ref sig .tc := ⟨.hbm, 70, rfl⟩
abbrev main_call1_v13 : Ref sig .tc := ⟨.hbm, 71, rfl⟩
abbrev main_v23 : Ref sig .tc := ⟨.hbm, 72, rfl⟩
abbrev main_v24 : Ref sig .tc := ⟨.hbm, 73, rfl⟩
abbrev main_v25 : Ref sig .tc := ⟨.hbm, 74, rfl⟩
abbrev main_v26 : Ref sig .tc := ⟨.hbm, 75, rfl⟩
abbrev main_v27 : Ref sig .tc := ⟨.hbm, 76, rfl⟩
abbrev main_cst_1 : Ref sig .tc := ⟨.hbm, 77, rfl⟩
abbrev main_v28 : Ref sig .tc := ⟨.hbm, 78, rfl⟩
abbrev main_v29 : Ref sig .tc := ⟨.hbm, 79, rfl⟩
abbrev main_cst_2 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_c_3 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_v7 : Ref sig .tc := ⟨.hbm, 110, rfl⟩
abbrev main_call2_v8 : Ref sig .tc := ⟨.hbm, 111, rfl⟩
abbrev main_call2_c : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_0 : Ref sig .tc := ⟨.hbm, 116, rfl⟩
abbrev main_call2_v12 : Ref sig .tc := ⟨.hbm, 117, rfl⟩
abbrev main_call2_v13 : Ref sig .tc := ⟨.hbm, 118, rfl⟩
abbrev main_v51 : Ref sig .tc := ⟨.hbm, 119, rfl⟩
abbrev main_c_4 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_c : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_c_0 : Ref sig .tc := ⟨.hbm, 134, rfl⟩
abbrev main_call3_v12 : Ref sig .tc := ⟨.hbm, 135, rfl⟩
abbrev main_call3_v13 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_v57 : Ref sig .tc := ⟨.hbm, 142, rfl⟩
abbrev main_v58 : Ref sig .tc := ⟨.hbm, 143, rfl⟩
abbrev main_v59 : Ref sig .tc := ⟨.hbm, 144, rfl⟩
abbrev main_v60 : Ref sig .tc := ⟨.hbm, 145, rfl⟩
abbrev main_v61_0 : Ref sig .tc := ⟨.hbm, 146, rfl⟩
abbrev main_v61_1 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc0_scratch9 : Ref sig .tc := ⟨.vmem, 32, rfl⟩
abbrev cc0_scratch10 : Ref sig .tc := ⟨.vmem, 33, rfl⟩
abbrev cc0_scratch11 : Ref sig .tc := ⟨.vmem, 34, rfl⟩
abbrev cc0_scratch12 : Ref sig .tc := ⟨.vmem, 35, rfl⟩
abbrev cc0_scratch13 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![129], ![false]⟩

def k0_cond3 (i : grid0.Coords) : BitVec 1 :=
  let arg0 : BitVec 32 := BitVec.ofNat 32 (i 0).val
  let c2_i32 : BitVec 32 := 2#32
  let c0_i32_5 : BitVec 32 := 0#32
  let v11 : BitVec 1 := Scalar.cmpi .eq c2_i32 c0_i32_5
  let c1_i32_6 : BitVec 32 := 1#32
  let v12 : BitVec 32 := Scalar.select v11 c1_i32_6 c2_i32
  let v13 : BitVec 32 := Scalar.remsi arg0 v12
  let c0_i32_8 : BitVec 32 := 0#32
  let v15 : BitVec 1 := Scalar.cmpi .slt v13 c0_i32_8
  let c0_i32_9 : BitVec 32 := 0#32
  let v16 : BitVec 1 := Scalar.cmpi .slt v12 c0_i32_9
  let v17 : BitVec 1 := Scalar.xori v15 v16
  let c0_i32_7 : BitVec 32 := 0#32
  let v14 : BitVec 1 := Scalar.cmpi .ne v13 c0_i32_7
  let v18 : BitVec 1 := Scalar.andi v17 v14
  let v19 : BitVec 32 := Scalar.addi v13 v12
  let v20 : BitVec 32 := Scalar.select v18 v19 v13
  let c0_i32_10 : BitVec 32 := 0#32
  let v21 : BitVec 1 := Scalar.cmpi .eq v20 c0_i32_10
  let v22 : BitVec 32 := Scalar.extui v21
  let c0_i32_11 : BitVec 32 := 0#32
  let v23 : BitVec 1 := Scalar.cmpi .ne v22 c0_i32_11
  v23

def k0_cond4 (i : grid0.Coords) : BitVec 1 :=
  let arg0 : BitVec 32 := BitVec.ofNat 32 (i 0).val
  let c2_i32_12 : BitVec 32 := 2#32
  let c0_i32_13 : BitVec 32 := 0#32
  let v24 : BitVec 1 := Scalar.cmpi .eq c2_i32_12 c0_i32_13
  let c1_i32_14 : BitVec 32 := 1#32
  let v25 : BitVec 32 := Scalar.select v24 c1_i32_14 c2_i32_12
  let v26 : BitVec 32 := Scalar.remsi arg0 v25
  let c0_i32_16 : BitVec 32 := 0#32
  let v28 : BitVec 1 := Scalar.cmpi .slt v26 c0_i32_16
  let c0_i32_17 : BitVec 32 := 0#32
  let v29 : BitVec 1 := Scalar.cmpi .slt v25 c0_i32_17
  let v30 : BitVec 1 := Scalar.xori v28 v29
  let c0_i32_15 : BitVec 32 := 0#32
  let v27 : BitVec 1 := Scalar.cmpi .ne v26 c0_i32_15
  let v31 : BitVec 1 := Scalar.andi v30 v27
  let v32 : BitVec 32 := Scalar.addi v26 v25
  let v33 : BitVec 32 := Scalar.select v31 v32 v26
  let c1_i32_18 : BitVec 32 := 1#32
  let v34 : BitVec 1 := Scalar.cmpi .eq v33 c1_i32_18
  let v35 : BitVec 32 := Scalar.extui v34
  let c0_i32_19 : BitVec 32 := 0#32
  let v36 : BitVec 1 := Scalar.cmpi .ne v35 c0_i32_19
  v36

def cc0_transform_0 (i : grid0.Coords) : Fin 3 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

def cc0_transform_1 (i : grid0.Coords) : Fin 3 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c1_i32_5 : BitVec 32 := 1#32
  let c0_i32_6 : BitVec 32 := 0#32
  ![v17.toNat, c0_i32_4.toNat, c1_i32_5.toNat]

def cc0_transform_2 (i : grid0.Coords) : Fin 3 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let v2 : BitVec 32 := Scalar.divsi v1 c16_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c16_i32 c0_i32_2
  let v9 : BitVec 32 := Scalar.extui v8
  let c0_i32_3 : BitVec 32 := 0#32
  let v10 : BitVec 1 := Scalar.cmpi .slt c16_i32 c0_i32_3
  let v11 : BitVec 32 := Scalar.extui v10
  let v12 : BitVec 32 := Scalar.subi v9 v11
  let v13 : BitVec 1 := Scalar.cmpi .ne v7 v12
  let v14 : BitVec 32 := Scalar.remsi v1 c16_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c16_i32_8 : BitVec 32 := 16#32
  let c0_i32_9 : BitVec 32 := 0#32
  let v21 : BitVec 1 := Scalar.cmpi .eq c16_i32_8 c0_i32_9
  let c1_i32_10 : BitVec 32 := 1#32
  let v22 : BitVec 32 := Scalar.select v21 c1_i32_10 c16_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![v18.toNat, v30.toNat, c0_i32_14.toNat]

def cc0_transform_17 (i : grid0.Coords) : Fin 3 → Nat :=
  let arg0 : BitVec 32 := BitVec.ofNat 32 (i 0).val
  let c127_i32 : BitVec 32 := 127#32
  let v0 : BitVec 32 := Scalar.minsi arg0 c127_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c127_i32_4 : BitVec 32 := 127#32
  let v18 : BitVec 32 := Scalar.minsi arg0 c127_i32_4
  let c16_i32_5 : BitVec 32 := 16#32
  let c0_i32_6 : BitVec 32 := 0#32
  let v19 : BitVec 1 := Scalar.cmpi .eq c16_i32_5 c0_i32_6
  let c1_i32_7 : BitVec 32 := 1#32
  let v20 : BitVec 32 := Scalar.select v19 c1_i32_7 c16_i32_5
  let v21 : BitVec 32 := Scalar.remsi v18 v20
  let c0_i32_8 : BitVec 32 := 0#32
  let v22 : BitVec 1 := Scalar.cmpi .ne v21 c0_i32_8
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let v26 : BitVec 1 := Scalar.andi v25 v22
  let v27 : BitVec 32 := Scalar.addi v21 v20
  let v28 : BitVec 32 := Scalar.select v26 v27 v21
  let c0_i32_11 : BitVec 32 := 0#32
  let c0_i32_12 : BitVec 32 := 0#32
  ![v17.toNat, v28.toNat, c0_i32_11.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2176 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1664 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x256 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S1x256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x256x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S8x4096x1024 : Shape := ⟨3, ![8, 4096, 1024]⟩
abbrev S8x3072 : Shape := ⟨2, ![8, 3072]⟩
abbrev S1x1024 : Shape := ⟨2, ![1, 1024]⟩
abbrev S1x1024x4744 : Shape := ⟨3, ![1, 1024, 4744]⟩
abbrev S1x1664 : Shape := ⟨2, ![1, 1664]⟩
abbrev S1x64x512 : Shape := ⟨3, ![1, 64, 512]⟩
abbrev S1x512 : Shape := ⟨2, ![1, 512]⟩
abbrev S8x1024 : Shape := ⟨2, ![8, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x3072, .f32⟩
  | .hbm, ⟨2, _⟩ => ⟨S1x1024, .f32⟩
  | .hbm, ⟨3, _⟩ => ⟨S1x1024x4744, .f32⟩
  | .hbm, ⟨4, _⟩ => ⟨S1x1664, .f32⟩
  | .hbm, ⟨5, _⟩ => ⟨S1x64x512, .f32⟩
  | .hbm, ⟨6, _⟩ => ⟨S1x512, .f32⟩
  | .hbm, ⟨7, _⟩ => ⟨S1x64x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S8x1024, .f32⟩
  | .hbm, ⟨15, _⟩ => ⟨S8x1024, .f32⟩
  | .hbm, ⟨16, _⟩ => ⟨S8x1024, .f32⟩
  | .hbm, ⟨17, _⟩ => ⟨S1024, .f32⟩
  | .hbm, ⟨18, _⟩ => ⟨S8x4096x1024, .f32⟩
  | .hbm, ⟨19, _⟩ => ⟨S_, .f32⟩
  | .hbm, ⟨20, _⟩ => ⟨S8x4096, .f32⟩
  | .hbm, ⟨21, _⟩ => ⟨S8x4096x1, .f32⟩
  | .hbm, ⟨22, _⟩ => ⟨S_, .f32⟩
  | .hbm, ⟨23, _⟩ => ⟨S8x4096x1, .f32⟩
  | .hbm, ⟨24, _⟩ => ⟨S8x4096x1, .f32⟩
  | .hbm, ⟨25, _⟩ => ⟨S_, .f32⟩
  | .hbm, ⟨26, _⟩ => ⟨S8x4096x1, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S1x1x1024, .f32⟩
  | .hbm, ⟨32, _⟩ => ⟨S8x4096x1024, .f32⟩
  | .hbm, ⟨33, _⟩ => ⟨S8x4096x1024, .f32⟩
  | .hbm, ⟨34, _⟩ => ⟨S8x1x1024, .f32⟩
  | .hbm, ⟨35, _⟩ => ⟨S_, .f32⟩
  | .hbm, ⟨36, _⟩ => ⟨S8x1x1024, .f32⟩
  | .hbm, ⟨37, _⟩ => ⟨S8x1x1024, .f32⟩
  | .hbm, ⟨38, _⟩ => ⟨S8x4096x1024, .f32⟩
  | .hbm, ⟨39, _⟩ => ⟨S8x4096x1024, .f32⟩
  | .hbm, ⟨40, _⟩ => ⟨S8x1x1024, .f32⟩
  | .hbm, ⟨41, _⟩ => ⟨S8x4096x1024, .f32⟩
  | .hbm, ⟨42, _⟩ => ⟨S8x4096x1024, .f32⟩
  | .hbm, ⟨43, _⟩ => ⟨S8x4096x1024, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_cst_1 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_2 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩

abbrev nD : Nat := 1
abbrev τ : Topo := Topo.v7x

variable {F : FTy → Type} [FloatOps F]
-- ==== Proof.Lift.lean ====
/- Arrays of real numbers among the arrays of extended reals: `Lf f` is the array whose entry at an index is the real
   `f` of the index's coordinates (natural numbers). Every operation the two programs use, applied to such arrays, gives
   such an array; each lemma says which. -/
module

public import Idealize.ShloMosaic.PureOps.Ideal.Laws
public import Idealize.ShloMosaic.Lib.ValueLayout
public import Idealize.ShloMosaic.Lib.ValueIdx
public import Idealize.ShloMosaic.Lib.Pointwise.SelectCore

@[expose] public section

noncomputable section

namespace Cert.Lift

open Idealize.ShloMosaic
open Idealize.ShloMosaic.ValueIdx (contrEquiv1 contrEquiv1_symm_val transpose_ix2_apply)
open scoped BigOperators

/-- The coordinates of an index as a function of the axis number, `0` past the last axis. -/
def cr {S : Shape} (i : S.Idx) (n : ℕ) : ℕ := if h : n < S.rank then (i ⟨n, h⟩).val else 0

/-- Coordinate lists of length one to five. -/
def p1 (a : ℕ) : ℕ → ℕ | 0 => a | _ => 0
@[inherit_doc p1] def p2 (a b : ℕ) : ℕ → ℕ | 0 => a | 1 => b | _ => 0
@[inherit_doc p1] def p3 (a b c : ℕ) : ℕ → ℕ | 0 => a | 1 => b | 2 => c | _ => 0
@[inherit_doc p1] def p4 (a b c d : ℕ) : ℕ → ℕ | 0 => a | 1 => b | 2 => c | 3 => d | _ => 0
@[inherit_doc p1] def p5 (a b c d e : ℕ) : ℕ → ℕ | 0 => a | 1 => b | 2 => c | 3 => d | 4 => e | _ => 0

@[simp] theorem p1_0 (a : ℕ) : p1 a 0 = a := rfl
@[simp] theorem p2_0 (a b : ℕ) : p2 a b 0 = a := rfl
@[simp] theorem p2_1 (a b : ℕ) : p2 a b 1 = b := rfl
@[simp] theorem p3_0 (a b c : ℕ) : p3 a b c 0 = a := rfl
@[simp] theorem p3_1 (a b c : ℕ) : p3 a b c 1 = b := rfl
@[simp] theorem p3_2 (a b c : ℕ) : p3 a b c 2 = c := rfl
@[simp] theorem p4_0 (a b c d : ℕ) : p4 a b c d 0 = a := rfl
@[simp] theorem p4_1 (a b c d : ℕ) : p4 a b c d 1 = b := rfl
@[simp] theorem p4_2 (a b c d : ℕ) : p4 a b c d 2 = c := rfl
@[simp] theorem p4_3 (a b c d : ℕ) : p4 a b c d 3 = d := rfl
@[simp] theorem p5_0 (a b c d e : ℕ) : p5 a b c d e 0 = a := rfl
@[simp] theorem p5_1 (a b c d e : ℕ) : p5 a b c d e 1 = b := rfl
@[simp] theorem p5_2 (a b c d e : ℕ) : p5 a b c d e 2 = c := rfl
@[simp] theorem p5_3 (a b c d e : ℕ) : p5 a b c d e 3 = d := rfl
@[simp] theorem p5_4 (a b c d e : ℕ) : p5 a b c d e 4 = e := rfl

/-- The coordinates of an index of a given rank. -/
theorem cr1 {a : ℕ} (i : (⟨1, ![a]⟩ : Shape).Idx) : cr i = p1 (i 0).val := by
  funext n; match n with | 0 => rfl | n + 1 => exact dif_neg (by show ¬ n + 1 < 1; omega)
@[inherit_doc cr1] theorem cr2 {a b : ℕ} (i : (⟨2, ![a, b]⟩ : Shape).Idx) : cr i = p2 (i 0).val (i 1).val := by
  funext n; match n with | 0 => rfl | 1 => rfl | n + 2 => exact dif_neg (by show ¬ n + 2 < 2; omega)
@[inherit_doc cr1] theorem cr3 {a b c : ℕ} (i : (⟨3, ![a, b, c]⟩ : Shape).Idx) : cr i = p3 (i 0).val (i 1).val (i 2).val := by
  funext n; match n with | 0 => rfl | 1 => rfl | 2 => rfl | n + 3 => exact dif_neg (by show ¬ n + 3 < 3; omega)
@[inherit_doc cr1] theorem cr4 {a b c d : ℕ} (i : (⟨4, ![a, b, c, d]⟩ : Shape).Idx) :
    cr i = p4 (i 0).val (i 1).val (i 2).val (i 3).val := by
  funext n; match n with | 0 => rfl | 1 => rfl | 2 => rfl | 3 => rfl | n + 4 => exact dif_neg (by show ¬ n + 4 < 4; omega)
@[inherit_doc cr1] theorem cr5 {a b c d e : ℕ} (i : (⟨5, ![a, b, c, d, e]⟩ : Shape).Idx) :
    cr i = p5 (i 0).val (i 1).val (i 2).val (i 3).val (i 4).val := by
  funext n; match n with
  | 0 => rfl | 1 => rfl | 2 => rfl | 3 => rfl | 4 => rfl | n + 5 => exact dif_neg (by show ¬ n + 5 < 5; omega)

/-- The array of the reals `f` at the coordinates. -/
def Lf {S : Shape} (f : (ℕ → ℕ) → ℝ) : S.Idx → EReal := fun i => ((f (cr i) : ℝ) : EReal)
/-- The array of bits `1` where `P` holds of the coordinates. -/
def Lm {S : Shape} (P : (ℕ → ℕ) → Prop) [∀ c, Decidable (P c)] : S.Idx → BitVec 1 := fun i => if P (cr i) then 1#1 else 0#1
/-- The array of 32-bit words `f` at the coordinates. -/
def Li {S : Shape} (f : (ℕ → ℕ) → ℕ) : S.Idx → BitVec 32 := fun i => BitVec.ofNat 32 (f (cr i))

theorem Lf_apply {S : Shape} (f : (ℕ → ℕ) → ℝ) (i : S.Idx) : Lf f i = ((f (cr i) : ℝ) : EReal) := rfl

/-- Two arrays of reals are equal when the reals are at every index of the shape. -/
theorem Lf_ext {S : Shape} {f g : (ℕ → ℕ) → ℝ} (h : ∀ i : S.Idx, f (cr i) = g (cr i)) : (Lf f : S.Idx → EReal) = Lf g :=
  funext fun i => congrArg _ (h i)
@[inherit_doc Lf_ext] theorem Lf_ext1 {a : ℕ} {f g : (ℕ → ℕ) → ℝ} (h : ∀ r < a, f (p1 r) = g (p1 r)) :
    (Lf f : (⟨1, ![a]⟩ : Shape).Idx → EReal) = Lf g := Lf_ext fun i => by rw [cr1]; exact h _ (i 0).isLt
@[inherit_doc Lf_ext] theorem Lf_ext2 {a b : ℕ} {f g : (ℕ → ℕ) → ℝ} (h : ∀ r < a, ∀ s < b, f (p2 r s) = g (p2 r s)) :
    (Lf f : (⟨2, ![a, b]⟩ : Shape).Idx → EReal) = Lf g := Lf_ext fun i => by rw [cr2]; exact h _ (i 0).isLt _ (i 1).isLt
@[inherit_doc Lf_ext] theorem Lf_ext3 {a b c : ℕ} {f g : (ℕ → ℕ) → ℝ} (h : ∀ r < a, ∀ s < b, ∀ t < c, f (p3 r s t) = g (p3 r s t)) :
    (Lf f : (⟨3, ![a, b, c]⟩ : Shape).Idx → EReal) = Lf g :=
  Lf_ext fun i => by rw [cr3]; exact h _ (i 0).isLt _ (i 1).isLt _ (i 2).isLt
@[inherit_doc Lf_ext] theorem Lf_ext4 {a b c d : ℕ} {f g : (ℕ → ℕ) → ℝ}
    (h : ∀ r < a, ∀ s < b, ∀ t < c, ∀ u < d, f (p4 r s t u) = g (p4 r s t u)) :
    (Lf f : (⟨4, ![a, b, c, d]⟩ : Shape).Idx → EReal) = Lf g :=
  Lf_ext fun i => by rw [cr4]; exact h _ (i 0).isLt _ (i 1).isLt _ (i 2).isLt _ (i 3).isLt

/-- An array with no infinite entry is an array of reals. -/
theorem exists_Lf {S : Shape} (x : S.Idx → EReal) (h : ∀ i, x i ≠ ⊤ ∧ x i ≠ ⊥) : ∃ f, x = Lf f := by
  classical
  refine ⟨fun c => if hc : ∀ a : Fin S.rank, c a < S.size a then (x fun a => ⟨c a, hc a⟩).toReal else 0, funext fun i => ?_⟩
  have hi : ∀ a : Fin S.rank, cr i a = (i a).val := fun a => dif_pos a.isLt
  have hc : ∀ a : Fin S.rank, cr i a < S.size a := fun a => by rw [hi]; exact (i a).isLt
  show x i = (((if hc : ∀ a : Fin S.rank, cr i a < S.size a then (x fun a => ⟨cr i a, hc a⟩).toReal else 0 : ℝ)) : EReal)
  rw [dif_pos hc]
  have : (fun a => (⟨cr i a, hc a⟩ : Fin (S.size a))) = i := funext fun a => Fin.ext (hi a)
  rw [this, EReal.coe_toReal (h i).1 (h i).2]

variable {S : Shape} {φ ψ : FTy}

/-! ## Elementwise operations -/

theorem addf_Lf (f g : (ℕ → ℕ) → ℝ) : addf (F := Ideal) (φ := φ) (Lf f : S.Idx → EReal) (Lf g) = Lf (fun c => f c + g c) :=
  funext fun i => (EReal.coe_add _ _).symm
theorem subf_Lf (f g : (ℕ → ℕ) → ℝ) : subf (F := Ideal) (φ := φ) (Lf f : S.Idx → EReal) (Lf g) = Lf (fun c => f c - g c) :=
  funext fun i => (EReal.coe_sub _ _).symm
theorem mulf_Lf (f g : (ℕ → ℕ) → ℝ) : mulf (F := Ideal) (φ := φ) (Lf f : S.Idx → EReal) (Lf g) = Lf (fun c => f c * g c) :=
  funext fun i => (EReal.coe_mul _ _).symm
theorem maximumf_Lf (f g : (ℕ → ℕ) → ℝ) : maximumf (F := Ideal) (φ := φ) (Lf f : S.Idx → EReal) (Lf g) = Lf (fun c => max (f c) (g c)) :=
  funext fun i => (EReal.coe_strictMono.monotone.map_max).symm
theorem minimumf_Lf (f g : (ℕ → ℕ) → ℝ) : minimumf (F := Ideal) (φ := φ) (Lf f : S.Idx → EReal) (Lf g) = Lf (fun c => min (f c) (g c)) :=
  funext fun i => (EReal.coe_strictMono.monotone.map_min).symm
theorem absf_Lf (f : (ℕ → ℕ) → ℝ) : absf (F := Ideal) (φ := φ) (Lf f : S.Idx → EReal) = Lf (fun c => |f c|) :=
  funext fun i => (EReal.coe_strictMono.monotone.map_max).symm
theorem exp_Lf (f : (ℕ → ℕ) → ℝ) : exp (F := Ideal) (φ := φ) (Lf f : S.Idx → EReal) = Lf (fun c => Real.exp (f c)) :=
  funext fun i => Ideal.exp_coe _
theorem hexp_Lf (f : (ℕ → ℕ) → ℝ) : Host.exp (F := Ideal) (φ := φ) (Lf f : S.Idx → EReal) = Lf (fun c => Real.exp (f c)) :=
  funext fun i => Ideal.exp_coe _
theorem hnegf_Lf (f : (ℕ → ℕ) → ℝ) : Host.negf (F := Ideal) (φ := φ) (Lf f : S.Idx → EReal) = Lf (fun c => - f c) :=
  funext fun i => (EReal.coe_neg _).symm
theorem habsf_Lf (f : (ℕ → ℕ) → ℝ) : Host.absf (F := Ideal) (φ := φ) (Lf f : S.Idx → EReal) = Lf (fun c => |f c|) :=
  funext fun i => (EReal.coe_strictMono.monotone.map_max).symm
theorem log_Lf (f : (ℕ → ℕ) → ℝ) (h : ∀ i : S.Idx, 0 < f (cr i)) :
    log (F := Ideal) (φ := φ) (Lf f : S.Idx → EReal) = Lf (fun c => Real.log (f c)) :=
  funext fun i => (Ideal.log_coe _).trans (if_neg (not_le.mpr (h i)))
theorem hlog1p_Lf (f : (ℕ → ℕ) → ℝ) (h : ∀ i : S.Idx, 0 < 1 + f (cr i)) :
    Host.log1p (F := Ideal) (φ := φ) (Lf f : S.Idx → EReal) = Lf (fun c => Real.log (1 + f c)) :=
  funext fun i => by
    show Ideal.log (1 + ((f (cr i) : ℝ) : EReal)) = _
    rw [← EReal.coe_one, ← EReal.coe_add]
    exact (Ideal.log_coe _).trans (if_neg (not_le.mpr (h i)))
theorem div_Lf (f g : (ℕ → ℕ) → ℝ) (i : S.Idx) (h : g (cr i) ≠ 0) :
    Ideal.div ((f (cr i) : ℝ) : EReal) ((g (cr i) : ℝ) : EReal) = ((f (cr i) / g (cr i) : ℝ) : EReal) := by
  rw [Ideal.div_coe h, ← EReal.coe_mul, mul_one_div]
theorem divf_Lf (f g : (ℕ → ℕ) → ℝ) (h : ∀ i : S.Idx, g (cr i) ≠ 0) :
    divf (F := Ideal) (φ := φ) (Lf f : S.Idx → EReal) (Lf g) = Lf (fun c => f c / g c) :=
  funext fun i => div_Lf f g i (h i)
theorem hdivf_Lf (f g : (ℕ → ℕ) → ℝ) (h : ∀ i : S.Idx, g (cr i) ≠ 0) :
    Host.divf (F := Ideal) (φ := φ) (Lf f : S.Idx → EReal) (Lf g) = Lf (fun c => f c / g c) :=
  funext fun i => div_Lf f g i (h i)
theorem rsqrt_Lf (f : (ℕ → ℕ) → ℝ) (h : ∀ i : S.Idx, 0 < f (cr i)) :
    rsqrt (F := Ideal) (φ := φ) (Lf f : S.Idx → EReal) = Lf (fun c => (Real.sqrt (f c))⁻¹) :=
  funext fun i => (Ideal.rsqrt_coe _).trans ((if_neg (not_lt.mpr (h i).le)).trans (if_neg (h i).ne'))
theorem hrsqrt_Lf (f : (ℕ → ℕ) → ℝ) (h : ∀ i : S.Idx, 0 < f (cr i)) :
    Host.rsqrt (F := Ideal) (φ := φ) (Lf f : S.Idx → EReal) = Lf (fun c => (Real.sqrt (f c))⁻¹) :=
  funext fun i => (Ideal.rsqrt_coe _).trans ((if_neg (not_lt.mpr (h i).le)).trans (if_neg (h i).ne'))
theorem extf_Lf (f : (ℕ → ℕ) → ℝ) (h) : extf (F := Ideal) (φ := φ) ψ (Lf f : S.Idx → EReal) h = (Lf f : S.Idx → EReal) := rfl
theorem truncf_Lf (f : (ℕ → ℕ) → ℝ) (h) : truncf (F := Ideal) (φ := φ) ψ (Lf f : S.Idx → EReal) h = (Lf f : S.Idx → EReal) := rfl

/-- A splat of bits that denote a real. -/
theorem constant_Lf (b : BitVec φ.bits) (r : ℝ) (h : Ideal.ofBits φ b = (r : EReal)) : constant (F := Ideal) S φ b = Lf (fun _ => r) :=
  funext fun _ => h
theorem broadcast_Lf (x : EReal) (r : ℝ) (h : x = (r : EReal)) : broadcast S x = Lf (fun _ => r) := funext fun _ => h

/-- A choice by a mask. -/
theorem select_Lf (P : (ℕ → ℕ) → Prop) [∀ c, Decidable (P c)] (f g : (ℕ → ℕ) → ℝ) :
    select (Lm P : S.Idx → BitVec 1) (Lf f : S.Idx → EReal) (Lf g) = Lf (fun c => if P c then f c else g c) :=
  funext fun i => by
    show Scalar.select (if P (cr i) then 1#1 else 0#1) _ _ = _
    by_cases h : P (cr i) <;> simp [h, Scalar.select, Lf]

/-! ## Layout -/

theorem slice2_Lf {a b a' b' : ℕ} (o0 o1 : ℕ) (f : (ℕ → ℕ) → ℝ) (h) :
    extractStridedSlice (⟨2, ![a', b']⟩ : Shape) ![o0, o1] (Lf f : (⟨2, ![a, b]⟩ : Shape).Idx → EReal) h
      = Lf (fun c => f (p2 (o0 + c 0) (o1 + c 1))) :=
  funext fun i => by
    show ((f (cr (S := ⟨2, ![a, b]⟩) _) : ℝ) : EReal) = ((f _ : ℝ) : EReal)
    rw [cr2, cr2 i]; rfl
theorem slice3_Lf {a b d a' b' d' : ℕ} (o0 o1 o2 : ℕ) (f : (ℕ → ℕ) → ℝ) (h) :
    extractStridedSlice (⟨3, ![a', b', d']⟩ : Shape) ![o0, o1, o2] (Lf f : (⟨3, ![a, b, d]⟩ : Shape).Idx → EReal) h
      = Lf (fun c => f (p3 (o0 + c 0) (o1 + c 1) (o2 + c 2))) :=
  funext fun i => by
    show ((f (cr (S := ⟨3, ![a, b, d]⟩) _) : ℝ) : EReal) = ((f _ : ℝ) : EReal)
    rw [cr3, cr3 i]; rfl

theorem transpose2_Lf {a b : ℕ} (f : (ℕ → ℕ) → ℝ) (h) :
    transpose (⟨2, ![b, a]⟩ : Shape) [1, 0] (Lf f : (⟨2, ![a, b]⟩ : Shape).Idx → EReal) h = Lf (fun c => f (p2 (c 1) (c 0))) :=
  funext fun i => by
    have e : (Lf f : (⟨2, ![a, b]⟩ : Shape).Idx → EReal) (h.src i) = Lf f (ValueIdx.ix2 (i 1) (i 0)) := by
      have := transpose_ix2_apply (Lf f : (⟨2, ![a, b]⟩ : Shape).Idx → EReal) h (i 0) (i 1)
      rw [ValueIdx.eq_ix2 i]; exact this
    show (Lf f : (⟨2, ![a, b]⟩ : Shape).Idx → EReal) (h.src i) = _
    rw [e, Lf_apply, Lf_apply, cr2, cr2 i]; rfl

/-- A broadcast of a matrix along its unit axes. -/
theorem broadcastTo2_Lf {a b a' b' : ℕ} (f : (ℕ → ℕ) → ℝ) (h) :
    broadcastTo (⟨2, ![a', b']⟩ : Shape) (Lf f : (⟨2, ![a, b]⟩ : Shape).Idx → EReal) h
      = Lf (fun c => f (p2 (if a = 1 then 0 else c 0) (if b = 1 then 0 else c 1))) :=
  funext fun i => by
    unfold broadcastTo
    rw [Lf_apply, Lf_apply, cr2, cr2 i]
    congr 3
    · by_cases h1 : a = 1
      · exact (congrArg Fin.val (dif_pos (c := a = 1) h1)).trans (if_pos h1).symm
      · exact (congrArg Fin.val (dif_neg (c := a = 1) h1)).trans (if_neg h1).symm
    · by_cases h1 : b = 1
      · exact (congrArg Fin.val (dif_pos (c := b = 1) h1)).trans (if_pos h1).symm
      · exact (congrArg Fin.val (dif_neg (c := b = 1) h1)).trans (if_neg h1).symm

/-- A shape cast whose row-major positions agree, given where each coordinate list comes from. -/
theorem shapeCast_Lf {s t : Shape} (f g : (ℕ → ℕ) → ℝ) (h : s.ShapeCasts t) (k : t.Idx → s.Idx)
    (hk : ∀ j, (s.rowMajor (k j)).val = (t.rowMajor j).val) (hf : ∀ j : t.Idx, f (cr (k j)) = g (cr j)) :
    shapeCast t (Lf f : s.Idx → EReal) h = Lf g :=
  funext fun j => (shapeCast_apply _ h j (k j) (hk j)).trans (congrArg _ (hf j))

theorem cast_self_Lf {s : Shape} (f : (ℕ → ℕ) → ℝ) (h : s.ShapeCasts s) : shapeCast s (Lf f : s.Idx → EReal) h = Lf f :=
  shapeCast_Lf f f h id (fun _ => rfl) fun _ => rfl
theorem cast_a_a1 {a : ℕ} (f : (ℕ → ℕ) → ℝ) (h) :
    shapeCast (⟨2, ![a, 1]⟩ : Shape) (Lf f : (⟨1, ![a]⟩ : Shape).Idx → EReal) h = Lf (fun c => f (p1 (c 0))) :=
  shapeCast_Lf _ _ h (fun j => ValueIdx.ix1 (j 0))
    (fun j => by
      rw [Shape.rowMajor_val_one, Shape.rowMajor_val_two]
      have : (j 1).val < 1 := (j 1).isLt
      show (j 0).val = (j 0).val * 1 + (j 1).val
      omega)
    fun j => by rw [cr1, cr2]; rfl
theorem cast_a_1a {a : ℕ} (f : (ℕ → ℕ) → ℝ) (h) :
    shapeCast (⟨2, ![1, a]⟩ : Shape) (Lf f : (⟨1, ![a]⟩ : Shape).Idx → EReal) h = Lf (fun c => f (p1 (c 1))) :=
  shapeCast_Lf _ _ h (fun j => ValueIdx.ix1 (j 1))
    (fun j => by
      rw [Shape.rowMajor_val_one, Shape.rowMajor_val_two]
      have : (j 0).val < 1 := (j 0).isLt
      have e : (j 0).val = 0 := by omega
      show (j 1).val = (j 0).val * a + (j 1).val
      rw [e]; omega)
    fun j => by rw [cr1, cr2]; rfl
theorem cast_1a_a {a : ℕ} (f : (ℕ → ℕ) → ℝ) (h) :
    shapeCast (⟨1, ![a]⟩ : Shape) (Lf f : (⟨2, ![1, a]⟩ : Shape).Idx → EReal) h = Lf (fun c => f (p2 0 (c 0))) :=
  shapeCast_Lf _ _ h (fun j => ValueIdx.ix2 0 (j 0))
    (fun j => by
      rw [Shape.rowMajor_val_one, Shape.rowMajor_val_two]
      show 0 * a + (j 0).val = (j 0).val
      omega)
    fun j => by rw [cr1, cr2]; rfl
theorem cast_1ab_ab {a b : ℕ} (f : (ℕ → ℕ) → ℝ) (h) :
    shapeCast (⟨2, ![a, b]⟩ : Shape) (Lf f : (⟨3, ![1, a, b]⟩ : Shape).Idx → EReal) h = Lf (fun c => f (p3 0 (c 0) (c 1))) :=
  shapeCast_Lf _ _ h (fun j => ValueIdx.ix3 0 (j 0) (j 1))
    (fun j => by
      rw [Shape.rowMajor_val_three, Shape.rowMajor_val_two]
      show (0 * a + (j 0).val) * b + (j 1).val = (j 0).val * b + (j 1).val
      rw [Nat.zero_mul, Nat.zero_add])
    fun j => by rw [cr3, cr2]; rfl
theorem cast_ab_1ab {a b : ℕ} (f : (ℕ → ℕ) → ℝ) (h) :
    shapeCast (⟨3, ![1, a, b]⟩ : Shape) (Lf f : (⟨2, ![a, b]⟩ : Shape).Idx → EReal) h = Lf (fun c => f (p2 (c 1) (c 2))) :=
  shapeCast_Lf _ _ h (fun j => ValueIdx.ix2 (j 1) (j 2))
    (fun j => by
      rw [Shape.rowMajor_val_three, Shape.rowMajor_val_two]
      have e : (j 0).val = 0 := by have : (j 0).val < 1 := (j 0).isLt; omega
      show (j 1).val * b + (j 2).val = ((j 0).val * a + (j 1).val) * b + (j 2).val
      rw [e, Nat.zero_mul, Nat.zero_add])
    fun j => by rw [cr3, cr2]; rfl
theorem cast_ab_a1b {a b : ℕ} (f : (ℕ → ℕ) → ℝ) (h) :
    shapeCast (⟨3, ![a, 1, b]⟩ : Shape) (Lf f : (⟨2, ![a, b]⟩ : Shape).Idx → EReal) h = Lf (fun c => f (p2 (c 0) (c 2))) :=
  shapeCast_Lf _ _ h (fun j => ValueIdx.ix2 (j 0) (j 2))
    (fun j => by
      rw [Shape.rowMajor_val_three, Shape.rowMajor_val_two]
      have e : (j 1).val = 0 := by have : (j 1).val < 1 := (j 1).isLt; omega
      show (j 0).val * b + (j 2).val = ((j 0).val * 1 + (j 1).val) * b + (j 2).val
      rw [e, Nat.mul_one, Nat.add_zero])
    fun j => by rw [cr3, cr2]; rfl
theorem cast_ab1_ab {a b : ℕ} (f : (ℕ → ℕ) → ℝ) (h) :
    shapeCast (⟨2, ![a, b]⟩ : Shape) (Lf f : (⟨3, ![a, b, 1]⟩ : Shape).Idx → EReal) h = Lf (fun c => f (p3 (c 0) (c 1) 0)) :=
  shapeCast_Lf _ _ h (fun j => ValueIdx.ix3 (j 0) (j 1) 0)
    (fun j => by
      rw [Shape.rowMajor_val_three, Shape.rowMajor_val_two]
      show ((j 0).val * b + (j 1).val) * 1 + 0 = (j 0).val * b + (j 1).val
      rw [Nat.mul_one, Nat.add_zero])
    fun j => by rw [cr3, cr2]; rfl
theorem cast_1abc_abc {a b d : ℕ} (f : (ℕ → ℕ) → ℝ) (h) :
    shapeCast (⟨3, ![a, b, d]⟩ : Shape) (Lf f : (⟨4, ![1, a, b, d]⟩ : Shape).Idx → EReal) h = Lf (fun c => f (p4 0 (c 0) (c 1) (c 2))) :=
  shapeCast_Lf _ _ h (fun j => ValueIdx.ix4 0 (j 0) (j 1) (j 2))
    (fun j => by
      rw [Shape.rowMajor_val_three, Shape.rowMajor_val_four]
      show ((0 * a + (j 0).val) * b + (j 1).val) * d + (j 2).val = ((j 0).val * b + (j 1).val) * d + (j 2).val
      rw [Nat.zero_mul, Nat.zero_add])
    fun j => by rw [cr3, cr4]; rfl
theorem cast_1abcd_abcd {a b d e : ℕ} (f : (ℕ → ℕ) → ℝ) (h) :
    shapeCast (⟨4, ![a, b, d, e]⟩ : Shape) (Lf f : (⟨5, ![1, a, b, d, e]⟩ : Shape).Idx → EReal) h
      = Lf (fun c => f (p5 0 (c 0) (c 1) (c 2) (c 3))) :=
  shapeCast_Lf _ _ h (fun j => ValueIdx.ix5 0 (j 0) (j 1) (j 2) (j 3))
    (fun j => by
      rw [Shape.rowMajor_val_five, Shape.rowMajor_val_four]
      show (((0 * a + (j 0).val) * b + (j 1).val) * d + (j 2).val) * e + (j 3).val = (((j 0).val * b + (j 1).val) * d + (j 2).val) * e + (j 3).val
      rw [Nat.zero_mul, Nat.zero_add])
    fun j => by rw [cr4, cr5]; rfl

/-- Two matrices side by side. -/
theorem concat2_1 {a b b' n : ℕ} (f g : (ℕ → ℕ) → ℝ) (h) :
    concatenate (⟨2, ![a, n]⟩ : Shape) 1 [⟨(⟨2, ![a, b]⟩ : Shape), (Lf f : (⟨2, ![a, b]⟩ : Shape).Idx → EReal)⟩,
        ⟨(⟨2, ![a, b']⟩ : Shape), (Lf g : (⟨2, ![a, b']⟩ : Shape).Idx → EReal)⟩] h
      = Lf (fun c => if c 1 < b then f c else g (p2 (c 0) (c 1 - b))) :=
  funext fun i => by
    refine (concatenate_pair_apply (t := ⟨2, ![a, n]⟩) 1 _ _ h i).trans ?_
    by_cases hb : (i 1).val < b
    · refine (dif_pos hb).trans ?_
      rw [Lf_apply, Lf_apply, cr2, cr2 i]
      exact congrArg _ (if_pos hb).symm
    · refine (dif_neg hb).trans ?_
      rw [Lf_apply, Lf_apply, cr2, cr2 i]
      exact congrArg _ (if_neg hb).symm

/-- Two matrices one above the other. -/
theorem concat2_0 {a a' b n : ℕ} (f g : (ℕ → ℕ) → ℝ) (h) :
    concatenate (⟨2, ![n, b]⟩ : Shape) 0 [⟨(⟨2, ![a, b]⟩ : Shape), (Lf f : (⟨2, ![a, b]⟩ : Shape).Idx → EReal)⟩,
        ⟨(⟨2, ![a', b]⟩ : Shape), (Lf g : (⟨2, ![a', b]⟩ : Shape).Idx → EReal)⟩] h
      = Lf (fun c => if c 0 < a then f c else g (p2 (c 0 - a) (c 1))) :=
  funext fun i => by
    refine (concatenate_pair_apply (t := ⟨2, ![n, b]⟩) 0 _ _ h i).trans ?_
    by_cases hb : (i 0).val < a
    · refine (dif_pos hb).trans ?_
      rw [Lf_apply, Lf_apply, cr2, cr2 i]
      exact congrArg _ (if_pos hb).symm
    · refine (dif_neg hb).trans ?_
      rw [Lf_apply, Lf_apply, cr2, cr2 i]
      exact congrArg _ (if_neg hb).symm

/-- Two stacks of matrices side by side along the last axis. -/
theorem concat3_2 {a b d d' n : ℕ} (f g : (ℕ → ℕ) → ℝ) (h) :
    concatenate (⟨3, ![a, b, n]⟩ : Shape) 2 [⟨(⟨3, ![a, b, d]⟩ : Shape), (Lf f : (⟨3, ![a, b, d]⟩ : Shape).Idx → EReal)⟩,
        ⟨(⟨3, ![a, b, d']⟩ : Shape), (Lf g : (⟨3, ![a, b, d']⟩ : Shape).Idx → EReal)⟩] h
      = Lf (fun c => if c 2 < d then f c else g (p3 (c 0) (c 1) (c 2 - d))) :=
  funext fun i => by
    refine (concatenate_pair_apply (t := ⟨3, ![a, b, n]⟩) 2 _ _ h i).trans ?_
    by_cases hb : (i 2).val < d
    · refine (dif_pos hb).trans ?_
      rw [Lf_apply, Lf_apply, cr3, cr3 i]
      exact congrArg _ (if_pos hb).symm
    · refine (dif_neg hb).trans ?_
      rw [Lf_apply, Lf_apply, cr3, cr3 i]
      exact congrArg _ (if_neg hb).symm

/-- Four matrices side by side. -/
theorem concat4_1 {a b n : ℕ} (f0 f1 f2 f3 : (ℕ → ℕ) → ℝ) (h) :
    concatenate (⟨2, ![a, n]⟩ : Shape) 1 [⟨(⟨2, ![a, b]⟩ : Shape), (Lf f0 : (⟨2, ![a, b]⟩ : Shape).Idx → EReal)⟩,
        ⟨(⟨2, ![a, b]⟩ : Shape), (Lf f1 : (⟨2, ![a, b]⟩ : Shape).Idx → EReal)⟩,
        ⟨(⟨2, ![a, b]⟩ : Shape), (Lf f2 : (⟨2, ![a, b]⟩ : Shape).Idx → EReal)⟩,
        ⟨(⟨2, ![a, b]⟩ : Shape), (Lf f3 : (⟨2, ![a, b]⟩ : Shape).Idx → EReal)⟩] h
      = Lf (fun c => if c 1 < b then f0 c else if c 1 - b < b then f1 (p2 (c 0) (c 1 - b))
          else if c 1 - b - b < b then f2 (p2 (c 0) (c 1 - b - b)) else f3 (p2 (c 0) (c 1 - b - b - b))) :=
  funext fun i => by
    rw [concatenate_cons_apply, concatenateAt_cons]
    by_cases h0 : (i 1).val < b
    · refine (dif_pos h0).trans ?_
      rw [Lf_apply, Lf_apply, cr2, cr2 i]
      exact congrArg _ (if_pos h0).symm
    refine (dif_neg h0).trans ?_
    rw [concatenateAt_cons]
    by_cases h1 : (i 1).val - b < b
    · refine (dif_pos h1).trans ?_
      rw [Lf_apply, Lf_apply, cr2, cr2 i]
      exact congrArg _ ((if_neg h0).trans (if_pos h1)).symm
    refine (dif_neg h1).trans ?_
    rw [concatenateAt_cons]
    by_cases h2 : (i 1).val - b - b < b
    · refine (dif_pos h2).trans ?_
      rw [Lf_apply, Lf_apply, cr2, cr2 i]
      exact congrArg _ ((if_neg h0).trans ((if_neg h1).trans (if_pos h2))).symm
    refine (dif_neg h2).trans ?_
    rw [concatenateAt_singleton, Lf_apply, Lf_apply, cr2, cr2 i]
    exact congrArg _ ((if_neg h0).trans ((if_neg h1).trans (if_neg h2))).symm

/-- A rotation of the rows of a matrix. -/
theorem rotate2_Lf {a b : ℕ} (n : BitVec 32) (f : (ℕ → ℕ) → ℝ) (h) :
    dynamicRotate (s := (⟨2, ![a, b]⟩ : Shape)) 0 n none (Lf f : (⟨2, ![a, b]⟩ : Shape).Idx → EReal) h
      = Lf (fun c => f (p2 ((c 0 + a - n.toNat % a) % a) (c 1))) :=
  funext fun i => by
    unfold dynamicRotate
    rw [Lf_apply, Lf_apply, cr2, cr2 i]; rfl

/-! ## Contractions and reductions -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A contraction over one axis, given each operand's coordinates from the result's and the contracted one. -/
theorem dot_Lf {sl sr so : Shape} (d : DotDims sl sr so) (K : ℕ) (hr : d.contr.rank = 1)
    (hs : d.contr.size ⟨0, by rw [hr]; exact Nat.one_pos⟩ = K) (f g : (ℕ → ℕ) → ℝ) (pl pr : (ℕ → ℕ) → ℕ → ℕ → ℕ)
    (hl : ∀ j k, cr (d.lhsIdx j k) = pl (cr j) (k ⟨0, by rw [hr]; exact Nat.one_pos⟩).val)
    (hrr : ∀ j k, cr (d.rhsIdx j k) = pr (cr j) (k ⟨0, by rw [hr]; exact Nat.one_pos⟩).val) (j : so.Idx) :
    (∑ k : d.contr.Idx, (Lf f : sl.Idx → EReal) (d.lhsIdx j k) * (Lf g : sr.Idx → EReal) (d.rhsIdx j k))
      = ((∑ k ∈ Finset.range K, f (pl (cr j) k) * g (pr (cr j) k) : ℝ) : EReal) := by
  rw [← Equiv.sum_comp (contrEquiv1 d K hr hs).symm, Finset.sum_range, coe_sum]
  refine Finset.sum_congr rfl fun k _ => ?_
  rw [Lf_apply, Lf_apply, hl, hrr, contrEquiv1_symm_val, EReal.coe_mul]

end Cert.Lift

end
-- ==== Proof.Stage.lean ====
/- The kernel's computations on one tile of 512 tokens, written once as functions of the blocks they read: the causal
   convolution with its silu, the gates and their running sums, and one unit of the recurrence (128 tokens of one head). -/
module

public import proofs.«01_k».proof.Proof.Gen.KernelIdeal.Frame
public import Idealize.ShloMosaic.PureOps.Ideal

@[expose] public section

noncomputable section

namespace Cert.Stage

open Idealize.ShloMosaic
open Cert.KernelIdeal Cert.KernelIdeal.Gen

abbrev V (s : Shape) : Type := s.Idx → EReal

/-- A block at an offset inside a matrix is a slice of it. -/
theorem slc {a b a' b' o0 o1 : ℕ} (h0 : o0 + a' ≤ a) (h1 : o1 + b' ≤ b) :
    (⟨2, ![a, b]⟩ : Shape).Slices ![o0, o1] ⟨2, ![a', b']⟩ :=
  ⟨rfl, fun i => by
    match i with
    | ⟨0, _⟩ => exact h0
    | ⟨1, _⟩ => exact h1⟩

/-- A block at an offset inside a stack of matrices is a slice of it. -/
theorem slc3 {a b d a' b' d' o0 o1 o2 : ℕ} (h0 : o0 + a' ≤ a) (h1 : o1 + b' ≤ b) (h2 : o2 + d' ≤ d) :
    (⟨3, ![a, b, d]⟩ : Shape).Slices ![o0, o1, o2] ⟨3, ![a', b', d']⟩ :=
  ⟨rfl, fun i => by
    match i with
    | ⟨0, _⟩ => exact h0
    | ⟨1, _⟩ => exact h1
    | ⟨2, _⟩ => exact h2⟩

/-- A block inside a matrix. -/
theorem inb2 (a b a' b' : ℕ) {o0 o1 : ℕ} (h0 : o0 + a' ≤ a) (h1 : o1 + b' ≤ b) (i : Fin 2) :
    (![o0, o1] : Fin 2 → ℕ) i + (![a', b'] : Fin 2 → ℕ) i ≤ (![a, b] : Fin 2 → ℕ) i := by
  match i with
  | ⟨0, _⟩ => exact h0
  | ⟨1, _⟩ => exact h1

/-- A block inside a stack of matrices. -/
theorem inb3 (a b d a' b' d' : ℕ) {o0 o1 o2 : ℕ} (h0 : o0 + a' ≤ a) (h1 : o1 + b' ≤ b) (h2 : o2 + d' ≤ d) (i : Fin 3) :
    (![o0, o1, o2] : Fin 3 → ℕ) i + (![a', b', d'] : Fin 3 → ℕ) i ≤ (![a, b, d] : Fin 3 → ℕ) i := by
  match i with
  | ⟨0, _⟩ => exact h0
  | ⟨1, _⟩ => exact h1
  | ⟨2, _⟩ => exact h2

/-- The convolution of a block of 256 columns (rows 8 to 519 are the tile, the rows before it its past), then silu. -/
def conv (x : V S520x256) (b w3 w0 w1 w2 : V S1x256) : V S512x256 :=
  let bb := broadcastTo S512x256 (shapeCast S1x256 b shapeCasts_S1x256_S1x256) broadcasts_S1x256_S512x256
  let m (w : V S1x256) (y : V S520x256) : FVec Ideal S512x256 .f32 :=
    mulf (F := Ideal) (φ := .f32) (broadcastTo S512x256 (shapeCast S1x256 w shapeCasts_S1x256_S1x256) broadcasts_S1x256_S512x256)
      (extractStridedSlice S512x256 ![8, 0] y slices_S520x256_o8_0_S512x256)
  let t : FVec Ideal S512x256 .f32 := addf (F := Ideal) (φ := .f32) (addf (F := Ideal) (φ := .f32) (addf (F := Ideal) (φ := .f32)
    (addf (F := Ideal) (φ := .f32) bb (m w3 x))
    (m w0 (dynamicRotate 0 3#32 none x rotates_S520x256_d0)))
    (m w1 (dynamicRotate 0 2#32 none x rotates_S520x256_d0)))
    (m w2 (dynamicRotate 0 1#32 none x rotates_S520x256_d0))
  mulf (F := Ideal) (φ := .f32) t (divf (F := Ideal) (φ := .f32) (broadcast S512x256 (Scalar.ofBits (F := Ideal) .f32 0x3F800000#32))
    (addf (F := Ideal) (φ := .f32) (broadcast S512x256 (Scalar.ofBits (F := Ideal) .f32 0x3F800000#32)) (exp (F := Ideal) (φ := .f32)
      (subf (F := Ideal) (φ := .f32) (broadcast S512x256 (Scalar.ofBits (F := Ideal) .f32 0x00000000#32)) t))))

/-- The four convolved blocks side by side. -/
def qk4 (c0 c1 c2 c3 : V S512x256) : V S512x1024 :=
  concatenate S512x1024 1 [⟨S512x256, c0⟩, ⟨S512x256, c1⟩, ⟨S512x256, c2⟩, ⟨S512x256, c3⟩]
    concatenates_S512x256_S512x256_S512x256_S512x256_S512x1024_d1

/-- The queries. -/
def qOf (a : V S512x1024) : V S512x512 := extractStridedSlice S512x512 ![0, 0] a slices_S512x1024_o0_0_S512x512
/-- The scaled keys. -/
def kOf (a : V S512x1024) : V S512x512 :=
  mulf (F := Ideal) (φ := .f32) (extractStridedSlice S512x512 ![0, 512] a slices_S512x1024_o0_512_S512x512)
    (broadcast S512x512 (Scalar.ofBits (F := Ideal) .f32 0x3DB504F3#32))

/-- The gates: lanes 0 to 3 the input gates, lanes 4 to 7 the log-sigmoids of the forget gates. -/
def gates (s : V S512x128) (b : V S1x128) : V S512x128 :=
  let g : FVec Ideal S512x128 .f32 := addf (F := Ideal) (φ := .f32) s (broadcastTo S512x128 (shapeCast S1x128 b shapeCasts_S1x128_S1x128) broadcasts_S1x128_S512x128)
  let l := iota .tc S512x128 32 [1] iota_S512x128_d1_w32
  select (andi (cmpi .sge l (broadcast S512x128 4#32)) (cmpi .slt l (broadcast S512x128 8#32)))
    (subf (F := Ideal) (φ := .f32) (minimumf (F := Ideal) (φ := .f32) g (broadcast S512x128 (Scalar.ofBits (F := Ideal) .f32 0x00000000#32)))
      (log (F := Ideal) (φ := .f32) (addf (F := Ideal) (φ := .f32) (broadcast S512x128 (Scalar.ofBits (F := Ideal) .f32 0x3F800000#32))
        (exp (F := Ideal) (φ := .f32) (subf (F := Ideal) (φ := .f32) (broadcast S512x128 (Scalar.ofBits (F := Ideal) .f32 0x00000000#32)) (absf (F := Ideal) (φ := .f32) g))))))
    g

/-- The running sums of the gates, by the triangular matrix, in two parts. -/
def sums (g : V S512x128) (t : V S512x512) : V S512x128 :=
  let a : FVec Ideal S512x512 .bf16 := shapeCast S512x512 t shapeCasts_S512x512_S512x512
  let g1 : FVec Ideal S512x128 .bf16 := truncf (F := Ideal) (φ := .f32) .bf16 g bitsLt_bf16_f32
  addf (F := Ideal) (φ := .f32)
    (matmul (F := Ideal) (φ₁ := .bf16) (φ₂ := .bf16) dot_S512x512_S512x128_S512x128_1_0_0_1_n_n none a g1 (constant S512x128 .f32 0x00000000#32))
    (matmul (F := Ideal) (φ₁ := .bf16) (φ₂ := .bf16) dot_S512x512_S512x128_S512x128_1_0_0_1_n_n none a
      (truncf (F := Ideal) (φ := .f32) .bf16 (subf (F := Ideal) (φ := .f32) g (extf (F := Ideal) .f32 g1 bitsLt_bf16_f32)) bitsLt_bf16_f32)
      (constant S512x128 .f32 0x00000000#32))

section Unit

variable (c h : Fin 4) (g B : V S512x128)

/-- Column `o` of a unit's 128 rows. -/
def colAt (o : ℕ) (ho : o < 128) : V S128x1 := extractStridedSlice S128x1 ![128 * c.val, o] B (slc (by omega) (by omega))

/-- The input gate less the running sum, as a row. -/
def row : V S1x128 :=
  subf (F := Ideal) (φ := .f32)
    (extractStridedSlice S1x128 ![h.val, 0] (transpose S128x128 [1, 0]
      (extractStridedSlice S128x128 ![128 * c.val, 0] g (slc (by omega) (by omega)) : V S128x128) transposes_S128x128_p1_0_S128x128) (slc (by omega) (by omega)))
    (extractStridedSlice S1x128 ![4 + h.val, 0] (transpose S128x128 [1, 0]
      (extractStridedSlice S128x128 ![128 * c.val, 0] B (slc (by omega) (by omega)) : V S128x128) transposes_S128x128_p1_0_S128x128) (slc (by omega) (by omega)))

/-- The masked log-decays. -/
def dlog : V S128x128 :=
  select (cmpi .sle (iota .tc S128x128 32 [1] iota_S128x128_d1_w32) (iota .tc S128x128 32 [0] iota_S128x128_d0_w32))
    (addf (F := Ideal) (φ := .f32) (broadcastTo S128x128 (colAt c B (4 + h.val) (by omega)) broadcasts_S128x1_S128x128)
      (broadcastTo S128x128 (row c h g B) broadcasts_S1x128_S128x128))
    (broadcast S128x128 (Scalar.ofBits (F := Ideal) .f32 0xFF800000#32))

/-- Their largest entry along each row. -/
def amax : V S128x1 :=
  shapeCast S128x1 (multiReduction (F := Ideal) (φ := .f32) .maximumf [1] S128 (dlog c h g B) 0xFF800000#32 reduces_S128x128_S128 (.inl rfl) rfl)
    shapeCasts_S128_S128x1

/-- The carried log-decays. -/
def inter (mp : V S1x1) : V S128x1 := addf (F := Ideal) (φ := .f32) (colAt c B (4 + h.val) (by omega)) (broadcastTo S128x1 mp broadcasts_S1x1_S128x1)

/-- The stabilisers of a unit's rows. -/
def mrow (mp : V S1x1) : V S128x1 := maximumf (F := Ideal) (φ := .f32) (inter c h B mp) (amax c h g B)

/-- The last row of a column. -/
def last (x : V S128x1) : V S1x1 := extractStridedSlice S1x1 ![127, 0] x slices_S128x1_o127_0_S1x1

/-- The stabiliser a unit leaves. -/
def mnext (mp : V S1x1) : V S1x1 := last (mrow c h g B mp)

/-- The values, beside columns of ones. -/
def vaug (v : V S128x128) : V S128x256 :=
  concatenate S128x256 1 [⟨S128x128, (truncf (F := Ideal) (φ := .f32) .bf16 v bitsLt_bf16_f32 : V S128x128)⟩,
    ⟨S128x128, broadcast S128x128 (Scalar.ofBits (F := Ideal) .bf16 16256#16)⟩] concatenates_S128x128_S128x128_S128x256_d1

/-- A unit's block of a tile's 512 columns. -/
def blk (x : V S512x512) : V S128x128 := extractStridedSlice S128x128 ![128 * c.val, 128 * h.val] x (slc (by omega) (by omega))

/-- What a unit adds to the state, before its scale. -/
def upd (k : V S512x512) (v : V S128x128) : V S128x256 :=
  matmul (F := Ideal) (φ₁ := .bf16) (φ₂ := .bf16) dot_S128x128_S128x256_S128x256_0_0_1_1_n_n none
    (truncf (F := Ideal) (φ := .f32) .bf16 (mulf (F := Ideal) (φ := .f32) (blk c h k) (broadcastTo S128x128 (exp (F := Ideal) (φ := .f32)
      (subf (F := Ideal) (φ := .f32) (addf (F := Ideal) (φ := .f32) (subf (F := Ideal) (φ := .f32)
        (broadcastTo S128x1 (last (colAt c B (4 + h.val) (by omega))) broadcasts_S1x1_S128x1) (colAt c B (4 + h.val) (by omega)))
        (colAt c g h.val (by omega))) (broadcastTo S128x1 (last (amax c h g B)) broadcasts_S1x1_S128x1)))
      broadcasts_S128x1_S128x128)) bitsLt_bf16_f32)
    (vaug v : FVec Ideal S128x256 .bf16) (constant S128x256 .f32 0x00000000#32)

/-- The state a unit leaves. -/
def snext (k : V S512x512) (v : V S128x128) (mp : V S1x1) (st : V S128x256) : V S128x256 :=
  addf (F := Ideal) (φ := .f32)
    (mulf (F := Ideal) (φ := .f32) (broadcastTo S128x256 (exp (F := Ideal) (φ := .f32) (subf (F := Ideal) (φ := .f32) (addf (F := Ideal) (φ := .f32)
      (last (colAt c B (4 + h.val) (by omega))) mp) (mnext c h g B mp))) broadcasts_S1x1_S128x256) st)
    (mulf (F := Ideal) (φ := .f32) (broadcastTo S128x256 (exp (F := Ideal) (φ := .f32) (subf (F := Ideal) (φ := .f32)
      (last (amax c h g B)) (mnext c h g B mp))) broadcasts_S1x1_S128x256) (upd c h g B k v))

/-- The decayed scores. -/
def scores (q k : V S512x512) : V S128x128 :=
  mulf (F := Ideal) (φ := .f32)
    (matmul (F := Ideal) (φ₁ := .bf16) (φ₂ := .bf16) dot_S128x128_S128x128_S128x128_1_1_0_0_n_n none
      (truncf (F := Ideal) (φ := .f32) .bf16 (blk c h q) bitsLt_bf16_f32)
      (truncf (F := Ideal) (φ := .f32) .bf16 (blk c h k) bitsLt_bf16_f32) (constant S128x128 .f32 0x00000000#32))
    (exp (F := Ideal) (φ := .f32) (subf (F := Ideal) (φ := .f32) (dlog c h g B) (broadcastTo S128x128 (amax c h g B) broadcasts_S128x1_S128x128)))

/-- Numerator and denominator together. -/
def numden (q k : V S512x512) (v : V S128x128) (mp : V S1x1) (st : V S128x256) : V S128x256 :=
  matmul (F := Ideal) (φ₁ := .bf16) (φ₂ := .bf16) dot_S128x256_S256x256_S128x256_1_0_0_1_n_n none
    (concatenate S128x256 1 [⟨S128x128, (truncf (F := Ideal) (φ := .f32) .bf16 (mulf (F := Ideal) (φ := .f32)
        (broadcastTo S128x128 (exp (F := Ideal) (φ := .f32) (subf (F := Ideal) (φ := .f32) (amax c h g B) (mrow c h g B mp))) broadcasts_S128x1_S128x128)
        (scores c h g B q k)) bitsLt_bf16_f32 : V S128x128)⟩,
      ⟨S128x128, (truncf (F := Ideal) (φ := .f32) .bf16 (mulf (F := Ideal) (φ := .f32)
        (broadcastTo S128x128 (exp (F := Ideal) (φ := .f32) (subf (F := Ideal) (φ := .f32) (inter c h B mp) (mrow c h g B mp))) broadcasts_S128x1_S128x128)
        (blk c h q)) bitsLt_bf16_f32 : V S128x128)⟩] concatenates_S128x128_S128x128_S128x256_d1 : FVec Ideal S128x256 .bf16)
    (concatenate S256x256 0 [⟨S128x256, vaug v⟩, ⟨S128x256, (truncf (F := Ideal) (φ := .f32) .bf16 st bitsLt_bf16_f32 : V S128x256)⟩]
      concatenates_S128x256_S128x256_S256x256_d0 : FVec Ideal S256x256 .bf16)
    (constant S128x256 .f32 0x00000000#32)

/-- The attention output of a unit. -/
def hout (q k : V S512x512) (v : V S128x128) (mp : V S1x1) (st : V S128x256) : V S128x128 :=
  divf (F := Ideal) (φ := .f32)
    (extractStridedSlice S128x128 ![0, 0] (numden c h g B q k v mp st) slices_S128x256_o0_0_S128x128)
    (maximumf (F := Ideal) (φ := .f32)
      (absf (F := Ideal) (φ := .f32) (extractStridedSlice S128x128 ![0, 128] (numden c h g B q k v mp st) slices_S128x256_o0_128_S128x128))
      (broadcastTo S128x128 (exp (F := Ideal) (φ := .f32) (subf (F := Ideal) (φ := .f32) (broadcast S128x1 (Scalar.ofBits (F := Ideal) .f32 0x00000000#32))
        (mrow c h g B mp))) broadcasts_S128x1_S128x128))

/-- The mean of each row. -/
def mean (x : V S128x128) : V S128x1 :=
  divf (F := Ideal) (φ := .f32) (shapeCast S128x1 (multiReduction (F := Ideal) (φ := .f32) .add [1] S128 x 0x00000000#32 reduces_S128x128_S128 (.inl rfl) rfl)
    shapeCasts_S128_S128x1) (broadcast S128x1 (Scalar.ofBits (F := Ideal) .f32 0x43000000#32))

/-- The rows less their means. -/
def centred (x : V S128x128) : V S128x128 :=
  subf (F := Ideal) (φ := .f32) x (broadcastTo S128x128 (mean x) broadcasts_S128x1_S128x128)

/-- The normalised rows times a weight row. -/
def lnorm (x : V S128x128) (w : V S1x128) : V S128x128 :=
  mulf (F := Ideal) (φ := .f32) (mulf (F := Ideal) (φ := .f32) (centred x) (broadcastTo S128x128 (rsqrt (F := Ideal) (φ := .f32)
    (addf (F := Ideal) (φ := .f32) (mean (mulf (F := Ideal) (φ := .f32) (centred x) (centred x)))
      (broadcast S128x1 (Scalar.ofBits (F := Ideal) .f32 0x358637BD#32)))) broadcasts_S128x1_S128x128))
    (broadcastTo S128x128 (shapeCast S1x128 w shapeCasts_S1x128_S1x128) broadcasts_S1x128_S128x128)

/-- The logistic function. -/
def sigm (x : V S128x128) : V S128x128 :=
  divf (F := Ideal) (φ := .f32) (broadcast S128x128 (Scalar.ofBits (F := Ideal) .f32 0x3F800000#32))
    (addf (F := Ideal) (φ := .f32) (broadcast S128x128 (Scalar.ofBits (F := Ideal) .f32 0x3F800000#32)) (exp (F := Ideal) (φ := .f32)
      (subf (F := Ideal) (φ := .f32) (broadcast S128x128 (Scalar.ofBits (F := Ideal) .f32 0x00000000#32)) x)))

/-- What a unit hands to the output projection. -/
def unit (q k : V S512x512) (v : V S128x128) (mp : V S1x1) (st : V S128x256) (lw : V S1x128) (o : V S128x128) (sk : V S1x128)
    (z : V S128x128) : V S128x128 :=
  truncf (F := Ideal) (φ := .f32) .bf16 (mulf (F := Ideal) (φ := .f32)
    (addf (F := Ideal) (φ := .f32) (mulf (F := Ideal) (φ := .f32) (sigm o) (lnorm (hout c h g B q k v mp st) lw))
      (mulf (F := Ideal) (φ := .f32) (broadcastTo S128x128 (shapeCast S1x128 sk shapeCasts_S1x128_S1x128) broadcasts_S1x128_S128x128) (blk c h q)))
    (mulf (F := Ideal) (φ := .f32) z (sigm z))) bitsLt_bf16_f32

end Unit

/-- What the sixteen units of a tile read: queries, keys, gates and their running sums, each unit's values, output gates and
    silu gates, each head's weights, and the stabiliser and the state each head starts from. -/
structure Blocks where
  q : V S512x512
  k : V S512x512
  g : V S512x128
  B : V S512x128
  v : Fin 4 → Fin 4 → V S128x128
  o : Fin 4 → Fin 4 → V S128x128
  z : Fin 4 → Fin 4 → V S128x128
  lw : Fin 4 → V S1x128
  sk : Fin 4 → V S1x128
  m0 : Fin 4 → V S1x1
  s0 : Fin 4 → V S128x256

namespace Blocks

variable (E : Blocks) (h : Fin 4)

/-- The stabiliser of head `h` after `n` units. -/
def m : ℕ → V S1x1
  | 0 => E.m0 h
  | n + 1 => mnext ⟨n % 4, Nat.mod_lt _ (by decide)⟩ h E.g E.B (m n)

/-- The state of head `h` after `n` units. -/
def s : ℕ → V S128x256
  | 0 => E.s0 h
  | n + 1 => snext ⟨n % 4, Nat.mod_lt _ (by decide)⟩ h E.g E.B E.k (E.v ⟨n % 4, Nat.mod_lt _ (by decide)⟩ h) (E.m h n) (s n)

/-- What unit `(c, h)` hands on. -/
def y (c : Fin 4) : V S128x128 :=
  unit c h E.g E.B E.q E.k (E.v c h) (E.m h c) (E.s h c) (E.lw h) (E.o c h) (E.sk h) (E.z c h)

/-- Unit `(c, h)`'s piece of the tile. -/
def piece (c : Fin 4) : View.Piece (Elt Ideal) S512x512 .bf16 :=
  ⟨Rect.unit (s := S512x512) ![128 * c.val, 128 * h.val] S128x128.size (inb2 512 512 128 128 (by omega) (by omega)), shapeCast S128x128 (E.y h c) shapeCasts_S128x128_S128x128⟩

/-- The sixteen pieces, last first. -/
def pieces : List (View.Piece (Elt Ideal) S512x512 .bf16) :=
  [E.piece 3 3, E.piece 2 3, E.piece 1 3, E.piece 0 3, E.piece 3 2, E.piece 2 2, E.piece 1 2, E.piece 0 2,
    E.piece 3 1, E.piece 2 1, E.piece 1 1, E.piece 0 1, E.piece 3 0, E.piece 2 0, E.piece 1 0, E.piece 0 0]

end Blocks

/-- The load of a block of a matrix held whole. -/
abbrev ld2 {a b : ℕ} {e : EltTy} (A : Memref sig .tc .vmem ⟨2, ![a, b]⟩ e) (hA : A.IsWhole) (x : Vec Ideal ⟨2, ![a, b]⟩ e) (a' b' o0 o1 : ℕ)
    (h0 : o0 + a' ≤ a) (h1 : o1 + b' ≤ b) : (⟨2, ![a', b']⟩ : Shape).Idx → Elt Ideal e :=
  View.readAt (Elt Ideal) A.view (Rect.unit (s := ⟨2, ![a, b]⟩) ![o0, o1] ![a', b'] (inb2 a b a' b' h0 h1)).toLoadRect (hA.unread x)

/-- The load of a block of a stack of matrices held whole. -/
abbrev ld3 {a b d : ℕ} {e : EltTy} (A : Memref sig .tc .vmem ⟨3, ![a, b, d]⟩ e) (hA : A.IsWhole) (x : Vec Ideal ⟨3, ![a, b, d]⟩ e)
    (a' b' d' o0 o1 o2 : ℕ) (h0 : o0 + a' ≤ a) (h1 : o1 + b' ≤ b) (h2 : o2 + d' ≤ d) : (⟨3, ![a', b', d']⟩ : Shape).Idx → Elt Ideal e :=
  View.readAt (Elt Ideal) A.view (Rect.unit (s := ⟨3, ![a, b, d]⟩) ![o0, o1, o2] ![a', b', d'] (inb3 a b d a' b' d' h0 h1 h2)).toLoadRect (hA.unread x)

section Mem

variable (P : Memref sig .tc .vmem S512x2688 .f32) (hP : P.IsWhole) (x : Vec Ideal S512x2688 .f32)
  (arg9 : Memref sig .tc .vmem S4x1024 .f32) (harg9 : arg9.IsWhole) (x8 : Vec Ideal S4x1024 .f32)
  (arg10 : Memref sig .tc .vmem S1x1024 .f32) (harg10 : arg10.IsWhole) (x9 : Vec Ideal S1x1024 .f32)
  (arg11 : Memref sig .tc .vmem S1x128 .f32) (harg11 : arg11.IsWhole) (x10 : Vec Ideal S1x128 .f32)
  (arg12 : Memref sig .tc .vmem S1x512 .f32) (harg12 : arg12.IsWhole) (x11 : Vec Ideal S1x512 .f32)
  (arg13 : Memref sig .tc .vmem S1x512 .f32) (harg13 : arg13.IsWhole) (x12 : Vec Ideal S1x512 .f32)
  (arg14 : Memref sig .tc .vmem S512x512 .bf16) (harg14 : arg14.IsWhole) (x13 : Vec Ideal S512x512 .bf16)
  (X : Fin 4 → V S520x256) (m0 : Fin 4 → V S1x1) (s0 : Fin 4 → V S128x256)

/-- Convolved block `j` of a tile. -/
def convAt (j : Fin 4) : V S512x256 :=
  conv (X j) (ld2 arg10 harg10 x9 1 256 0 (256 * j.val) (by omega) (by omega)) (ld2 arg9 harg9 x8 1 256 3 (256 * j.val) (by omega) (by omega))
    (ld2 arg9 harg9 x8 1 256 0 (256 * j.val) (by omega) (by omega)) (ld2 arg9 harg9 x8 1 256 1 (256 * j.val) (by omega) (by omega))
    (ld2 arg9 harg9 x8 1 256 2 (256 * j.val) (by omega) (by omega))

/-- The convolved tile. -/
def convAll : V S512x1024 :=
  qk4 (convAt arg9 harg9 x8 arg10 harg10 x9 X 0) (convAt arg9 harg9 x8 arg10 harg10 x9 X 1) (convAt arg9 harg9 x8 arg10 harg10 x9 X 2)
    (convAt arg9 harg9 x8 arg10 harg10 x9 X 3)

/-- The gates of a tile. -/
def gatesOf : V S512x128 := gates (ld2 P hP x 512 128 0 2560 (by omega) (by omega)) (ld2 arg11 harg11 x10 1 128 0 0 (by omega) (by omega))

/-- What a tile's units read, out of the projection `P`, the convolution's windows `X`, the weights, and the carried
    stabilisers and states. -/
def blocks : Blocks where
  q := qOf (convAll arg9 harg9 x8 arg10 harg10 x9 X)
  k := kOf (convAll arg9 harg9 x8 arg10 harg10 x9 X)
  g := gatesOf P hP x arg11 harg11 x10
  B := sums (gatesOf P hP x arg11 harg11 x10) (ld2 arg14 harg14 x13 512 512 0 0 (by omega) (by omega))
  v c h := ld2 P hP x 128 128 (128 * c.val) (1024 + 128 * h.val) (by omega) (by omega)
  o c h := ld2 P hP x 128 128 (128 * c.val) (1536 + 128 * h.val) (by omega) (by omega)
  z c h := ld2 P hP x 128 128 (128 * c.val) (2048 + 128 * h.val) (by omega) (by omega)
  lw h := ld2 arg12 harg12 x11 1 128 0 (128 * h.val) (by omega) (by omega)
  sk h := ld2 arg13 harg13 x12 1 128 0 (128 * h.val) (by omega) (by omega)
  m0 := m0
  s0 := s0

end Mem

namespace Blocks

variable (E : Blocks) (h : Fin 4)

/-- The state's piece of head `h`. -/
def spiece : View.Piece (Elt Ideal) S4x128x256 .f32 :=
  ⟨Rect.unit (s := S4x128x256) ![h.val, 0, 0] S1x128x256.size (inb3 4 128 256 1 128 256 (by omega) (by omega) (by omega)),
    shapeCast S1x128x256 (E.s h 4) shapeCasts_S128x256_S1x128x256⟩

/-- The stabilisers' piece of head `h`. -/
def mpiece : View.Piece (Elt Ideal) S8x128 .f32 :=
  ⟨Rect.unit (s := S8x128) ![h.val, 0] S1x128.size (inb2 8 128 1 128 (by omega) (by omega)),
    shapeCast S1x128 (broadcastTo S1x128 (shapeCast S1x1 (E.m h 4) shapeCasts_S1x1_S1x1) broadcasts_S1x1_S1x128) shapeCasts_S1x128_S1x128⟩

end Blocks

/-- The window's two writes of a block of 256 columns: its 512 rows, and then the last eight rows again above them. -/
def xnew (j : Fin 4) (p : V S512x256) : View.Piece (Elt Ideal) S520x1024 .f32 :=
  ⟨Rect.unit (s := S520x1024) ![8, 256 * j.val] S512x256.size (inb2 520 1024 512 256 (by omega) (by omega)), shapeCast S512x256 p shapeCasts_S512x256_S512x256⟩
@[inherit_doc xnew] def xtail (j : Fin 4) (w : V S520x256) : View.Piece (Elt Ideal) S520x1024 .f32 :=
  ⟨Rect.unit (s := S520x1024) ![0, 256 * j.val] S8x256.size (inb2 520 1024 8 256 (by omega) (by omega)),
    shapeCast S8x256 (extractStridedSlice S8x256 ![512, 0] w slices_S520x256_o512_0_S8x256) shapeCasts_S8x256_S8x256⟩

/-- What the first tile of a sequence finds in the window, the state and the stabilisers. -/
def xzero : View.Piece (Elt Ideal) S520x1024 .f32 :=
  ⟨Rect.unit (s := S520x1024) ![0, 0] S8x1024.size (inb2 520 1024 8 1024 (by omega) (by omega)),
    shapeCast S8x1024 (broadcast S8x1024 (Scalar.ofBits (F := Ideal) .f32 0x00000000#32)) shapeCasts_S8x1024_S8x1024⟩
@[inherit_doc xzero] def szero : View.Piece (Elt Ideal) S4x128x256 .f32 :=
  ⟨Rect.unit (s := S4x128x256) ![0, 0, 0] S4x128x256.size (inb3 4 128 256 4 128 256 (by omega) (by omega) (by omega)),
    shapeCast S4x128x256 (broadcast S4x128x256 (Scalar.ofBits (F := Ideal) .f32 0x00000000#32)) shapeCasts_S4x128x256_S4x128x256⟩
@[inherit_doc xzero] def mzero : View.Piece (Elt Ideal) S8x128 .f32 :=
  ⟨Rect.unit (s := S8x128) ![0, 0] S8x128.size (inb2 8 128 8 128 (by omega) (by omega)),
    shapeCast S8x128 (broadcast S8x128 (Scalar.ofBits (F := Ideal) .f32 0x00000000#32)) shapeCasts_S8x128_S8x128⟩

/-- 256 columns of the projection. -/
def pr256 (a : V S1x512x1024) (w : V S1024x256) : V S512x256 :=
  shapeCast S512x256 (matmul (F := Ideal) (φ₁ := .bf16) (φ₂ := .bf16) dot_S512x1024_S1024x256_S512x256_1_0_0_1_n_n none
    (shapeCast S512x1024 a shapeCasts_S1x512x1024_S512x1024) (shapeCast S1024x256 w shapeCasts_S1024x256_S1024x256)
    (constant S512x256 .f32 0x00000000#32)) shapeCasts_S512x256_S512x256
/-- The last 128 columns of the projection. -/
def pr128 (a : V S1x512x1024) (w : V S1024x128) : V S512x128 :=
  shapeCast S512x128 (matmul (F := Ideal) (φ₁ := .bf16) (φ₂ := .bf16) dot_S512x1024_S1024x128_S512x128_1_0_0_1_n_n none
    (shapeCast S512x1024 a shapeCasts_S1x512x1024_S512x1024) (shapeCast S1024x128 w shapeCasts_S1024x128_S1024x128)
    (constant S512x128 .f32 0x00000000#32)) shapeCasts_S512x128_S512x128

section Proj

variable (arg1 : Memref sig .tc .vmem S1x512x1024 .bf16) (harg1 : arg1.IsWhole) (x0 : Vec Ideal S1x512x1024 .bf16)
  (arg2 : Memref sig .tc .vmem S1024x2048 .bf16) (harg2 : arg2.IsWhole) (x1 : Vec Ideal S1024x2048 .bf16)
  (arg3 : Memref sig .tc .vmem S1024x640 .bf16) (harg3 : arg3.IsWhole) (x2 : Vec Ideal S1024x640 .bf16)

/-- The pieces of the projection read out of the first weight matrix, -/
def ppiece (j : Fin 8) : View.Piece (Elt Ideal) S512x2688 .f32 :=
  ⟨Rect.unit (s := S512x2688) ![0, 256 * j.val] S512x256.size (inb2 512 2688 512 256 (by omega) (by omega)),
    pr256 (ld3 arg1 harg1 x0 1 512 1024 0 0 0 (by omega) (by omega) (by omega)) (ld2 arg2 harg2 x1 1024 256 0 (256 * j.val) (by omega) (by omega))⟩
/-- out of the second, -/
def ppiece' (j : Fin 2) : View.Piece (Elt Ideal) S512x2688 .f32 :=
  ⟨Rect.unit (s := S512x2688) ![0, 2048 + 256 * j.val] S512x256.size (inb2 512 2688 512 256 (by omega) (by omega)),
    pr256 (ld3 arg1 harg1 x0 1 512 1024 0 0 0 (by omega) (by omega) (by omega)) (ld2 arg3 harg3 x2 1024 256 0 (256 * j.val) (by omega) (by omega))⟩
/-- and the last one. -/
def ppieceL : View.Piece (Elt Ideal) S512x2688 .f32 :=
  ⟨Rect.unit (s := S512x2688) ![0, 2560] S512x128.size (inb2 512 2688 512 128 (by omega) (by omega)),
    pr128 (ld3 arg1 harg1 x0 1 512 1024 0 0 0 (by omega) (by omega) (by omega)) (ld2 arg3 harg3 x2 1024 128 0 512 (by omega) (by omega))⟩

/-- All of them, last first. -/
def ppieces : List (View.Piece (Elt Ideal) S512x2688 .f32) :=
  let p := ppiece arg1 harg1 x0 arg2 harg2 x1
  let p' := ppiece' arg1 harg1 x0 arg3 harg3 x2
  [ppieceL arg1 harg1 x0 arg3 harg3 x2, p' 1, p' 0, p 7, p 6, p 5, p 4, p 3, p 2, p 1, p 0]

end Proj

section Out

variable (arg4 : Memref sig .tc .vmem S1x512x1024 .f32) (harg4 : arg4.IsWhole) (x3 : Vec Ideal S1x512x1024 .f32)
  (arg5 : Memref sig .tc .vmem S1x1x1024 .f32) (harg5 : arg5.IsWhole) (x4 : Vec Ideal S1x1x1024 .f32)
  (arg6 : Memref sig .tc .vmem S1x512x512 .bf16) (harg6 : arg6.IsWhole) (x5 : Vec Ideal S1x512x512 .bf16)
  (arg7 : Memref sig .tc .vmem S1024x1024 .bf16) (harg7 : arg7.IsWhole) (x6 : Vec Ideal S1024x1024 .bf16)
  (arg8 : Memref sig .tc .vmem S1x1024 .f32) (harg8 : arg8.IsWhole) (x7 : Vec Ideal S1x1024 .f32)
  (Y : Memref sig .tc .vmem S512x512 .bf16) (hY : Y.IsWhole) (y : Vec Ideal S512x512 .bf16)
  (arg20 : Memref sig .tc .vmem S512x1024 .f32)

/-- The residual added to 256 columns of the gated output projection. -/
def res (yr : V S1x512x512) (ym : V S512x512) (w : V S1024x256) (r : V S1x512x256) (g : V S1x1x256) : V S512x256 :=
  shapeCast S512x256 (addf (F := Ideal) (φ := .f32) (shapeCast S512x256 r shapeCasts_S1x512x256_S512x256)
    (mulf (F := Ideal) (φ := .f32) (broadcastTo S512x256 (shapeCast S1x256 g shapeCasts_S1x1x256_S1x256) broadcasts_S1x256_S512x256)
      (matmul (F := Ideal) (φ₁ := .bf16) (φ₂ := .bf16) dot_S512x1024_S1024x256_S512x256_1_0_0_1_n_n none
        (concatenate S512x1024 1 [⟨S512x512, shapeCast S512x512 yr shapeCasts_S1x512x512_S512x512⟩, ⟨S512x512, ym⟩] concatenates_S512x512_S512x512_S512x1024_d1)
        (shapeCast S1024x256 w shapeCasts_S1024x256_S1024x256) (constant S512x256 .f32 0x00000000#32)))) shapeCasts_S512x256_S512x256

/-- Column block `j` of it. -/
def rpiece (j : Fin 4) : View.Piece (Elt Ideal) S512x1024 .f32 :=
  ⟨Rect.unit (s := S512x1024) ![0, 256 * j.val] S512x256.size (inb2 512 1024 512 256 (by omega) (by omega)),
    res (ld3 arg6 harg6 x5 1 512 512 0 0 0 (by omega) (by omega) (by omega)) (ld2 Y hY y 512 512 0 0 (by omega) (by omega))
      (ld2 arg7 harg7 x6 1024 256 0 (256 * j.val) (by omega) (by omega)) (ld3 arg4 harg4 x3 1 512 256 0 0 (256 * j.val) (by omega) (by omega) (by omega))
      (ld3 arg5 harg5 x4 1 1 256 0 0 (256 * j.val) (by omega) (by omega) (by omega))⟩

/-- The four blocks, last first. -/
def rpieces : List (View.Piece (Elt Ideal) S512x1024 .f32) :=
  let p := rpiece arg4 harg4 x3 arg5 harg5 x4 arg6 harg6 x5 arg7 harg7 x6 Y hY y
  [p 3, p 2, p 1, p 0]

/-- The root mean square normalisation of a tile. -/
def rms (a : V S512x1024) (w : V S1x1024) : V S1x512x1024 :=
  shapeCast S1x512x1024 (mulf (F := Ideal) (φ := .f32) (mulf (F := Ideal) (φ := .f32) a (broadcastTo S512x1024 (rsqrt (F := Ideal) (φ := .f32)
    (addf (F := Ideal) (φ := .f32) (divf (F := Ideal) (φ := .f32) (shapeCast S512x1 (multiReduction (F := Ideal) (φ := .f32) .add [1] S512
      (mulf (F := Ideal) (φ := .f32) a a) 0x00000000#32 reduces_S512x1024_S512 (.inl rfl) rfl) shapeCasts_S512_S512x1)
      (broadcast S512x1 (Scalar.ofBits (F := Ideal) .f32 0x44800000#32))) (broadcast S512x1 (Scalar.ofBits (F := Ideal) .f32 0x358637BD#32))))
    broadcasts_S512x1_S512x1024)) (broadcastTo S512x1024 (shapeCast S1x1024 w shapeCasts_S1x1024_S1x1024) broadcasts_S1x1024_S512x1024))
    shapeCasts_S512x1024_S1x512x1024

/-- A tile of the output. -/
def outTile : V S1x512x1024 :=
  rms (arg20.view.readCov (rpieces arg4 harg4 x3 arg5 harg5 x4 arg6 harg6 x5 arg7 harg7 x6 Y hY y)
    (Rect.unit (s := S512x1024) ![0, 0] S512x1024.size (inb2 512 1024 512 1024 (by omega) (by omega))).toLoadRect)
    (ld2 arg8 harg8 x7 1 1024 0 0 (by omega) (by omega))

end Out

end Cert.Stage

end
-- ==== Proof.LiftK.lean ====
/- What the kernel's operations make of arrays of reals, beyond `Lift`: masks, masked arrays and their largest entries,
   sums along a row, products of matrices, loads. -/
module

public import proofs.«01_k».proof.Proof.Lift
public import proofs.«01_k».proof.Proof.Stage
public import Idealize.ShloMosaic.Lib.WholeRead

@[expose] public section

set_option maxRecDepth 16384

noncomputable section

namespace Cert.Lift

open Idealize.ShloMosaic
open Cert.KernelIdeal (S1x1 S1x128 S128x1 S128x128 S128x256 S256x256 S512x128 S512x512 S512x256 S512x1024 S1024x256 S1024x128 S128)
open scoped BigOperators
open Finset (range)

variable {S : Shape} {φ : FTy}

/-! ## Constants -/

theorem c_zero : Scalar.ofBits (F := Ideal) .f32 0x00000000#32 = ((0 : ℝ) : EReal) := by
  show Ideal.ofBits .f32 0x00000000#32 = _
  simp [Ideal.ofBits, Ideal.ieee]
theorem c_one : Scalar.ofBits (F := Ideal) .f32 0x3F800000#32 = ((1 : ℝ) : EReal) := by
  show Ideal.ofBits .f32 0x3F800000#32 = _
  simp [Ideal.ofBits, Ideal.ieee, -EReal.coe_mul]
  norm_num
theorem c_one16 : Scalar.ofBits (F := Ideal) .bf16 16256#16 = ((1 : ℝ) : EReal) := by
  show Ideal.ofBits .bf16 16256#16 = _
  simp [Ideal.ofBits, Ideal.ieee, -EReal.coe_mul]
  norm_num
theorem c_128 : Scalar.ofBits (F := Ideal) .f32 0x43000000#32 = ((128 : ℝ) : EReal) := by
  show Ideal.ofBits .f32 0x43000000#32 = _
  simp [Ideal.ofBits, Ideal.ieee, -EReal.coe_mul]
  norm_num
theorem c_1024 : Scalar.ofBits (F := Ideal) .f32 0x44800000#32 = ((1024 : ℝ) : EReal) := by
  show Ideal.ofBits .f32 0x44800000#32 = _
  simp [Ideal.ofBits, Ideal.ieee, -EReal.coe_mul]
  norm_num
theorem c_bot : Scalar.ofBits (F := Ideal) .f32 0xFF800000#32 = (⊥ : EReal) := by
  show Ideal.ofBits .f32 0xFF800000#32 = _
  simp [Ideal.ofBits, Ideal.ieee]
/-- The small constant of the norms, and the keys' scale. -/
def eps : ℝ := (Ideal.ofBits .f32 0x358637BD#32).toReal
@[inherit_doc eps] def ksc : ℝ := (Ideal.ofBits .f32 0x3DB504F3#32).toReal
theorem c_eps : Scalar.ofBits (F := Ideal) .f32 0x358637BD#32 = (eps : EReal) := by
  show Ideal.ofBits .f32 0x358637BD#32 = ((Ideal.ofBits .f32 0x358637BD#32).toReal : EReal)
  simp [Ideal.ofBits, Ideal.ieee, -EReal.coe_mul]
theorem eps_pos : 0 < eps := by
  show 0 < (Ideal.ofBits .f32 0x358637BD#32).toReal
  simp [Ideal.ofBits, Ideal.ieee, -EReal.coe_mul]
theorem c_ksc : Scalar.ofBits (F := Ideal) .f32 0x3DB504F3#32 = (ksc : EReal) := by
  show Ideal.ofBits .f32 0x3DB504F3#32 = ((Ideal.ofBits .f32 0x3DB504F3#32).toReal : EReal)
  simp [Ideal.ofBits, Ideal.ieee, -EReal.coe_mul]

theorem bc_zero : broadcast S (Scalar.ofBits (F := Ideal) .f32 0x00000000#32) = Lf (fun _ => 0) := broadcast_Lf _ _ c_zero
theorem bc_one : broadcast S (Scalar.ofBits (F := Ideal) .f32 0x3F800000#32) = Lf (fun _ => 1) := broadcast_Lf _ _ c_one
theorem bc_one16 : broadcast S (Scalar.ofBits (F := Ideal) .bf16 16256#16) = Lf (fun _ => 1) := broadcast_Lf _ _ c_one16
theorem bc_128 : broadcast S (Scalar.ofBits (F := Ideal) .f32 0x43000000#32) = Lf (fun _ => 128) := broadcast_Lf _ _ c_128
theorem bc_1024 : broadcast S (Scalar.ofBits (F := Ideal) .f32 0x44800000#32) = Lf (fun _ => 1024) := broadcast_Lf _ _ c_1024
theorem bc_eps : broadcast S (Scalar.ofBits (F := Ideal) .f32 0x358637BD#32) = Lf (fun _ => eps) := broadcast_Lf _ _ c_eps
theorem bc_ksc : broadcast S (Scalar.ofBits (F := Ideal) .f32 0x3DB504F3#32) = Lf (fun _ => ksc) := broadcast_Lf _ _ c_ksc

/-! ## Masked arrays -/

/-- The array of the reals `f` where `P` holds, and of minus infinity elsewhere. -/
def Lb {S : Shape} (P : (ℕ → ℕ) → Prop) [∀ c, Decidable (P c)] (f : (ℕ → ℕ) → ℝ) : S.Idx → EReal :=
  fun i => if P (cr i) then ((f (cr i) : ℝ) : EReal) else ⊥

section Mask

variable (P : (ℕ → ℕ) → Prop) [∀ c, Decidable (P c)]

theorem select_Lb (f : (ℕ → ℕ) → ℝ) :
    select (Lm P : S.Idx → BitVec 1) (Lf f : S.Idx → EReal) (broadcast S (Scalar.ofBits (F := Ideal) .f32 0xFF800000#32)) = Lb P f :=
  funext fun i => by
    show Scalar.select (if P (cr i) then 1#1 else 0#1) _ _ = if P (cr i) then _ else _
    by_cases h : P (cr i)
    · simp [h, Scalar.select, Lf]
    · simp only [h, if_false, Scalar.select]
      exact (if_neg (by decide)).trans c_bot
theorem subf_Lb (f g : (ℕ → ℕ) → ℝ) : subf (F := Ideal) (φ := φ) (Lb P f : S.Idx → EReal) (Lf g) = Lb P (fun c => f c - g c) :=
  funext fun i => by
    show (if P (cr i) then ((f (cr i) : ℝ) : EReal) else ⊥) - _ = if P (cr i) then _ else _
    by_cases h : P (cr i)
    · rw [if_pos h, if_pos h]; exact (EReal.coe_sub _ _).symm
    · rw [if_neg h, if_neg h]; rfl
theorem exp_Lb (f : (ℕ → ℕ) → ℝ) :
    exp (F := Ideal) (φ := φ) (Lb P f : S.Idx → EReal) = Lf (fun c => if P c then Real.exp (f c) else 0) :=
  funext fun i => by
    show Ideal.exp (if P (cr i) then ((f (cr i) : ℝ) : EReal) else ⊥) = ((if P (cr i) then _ else _ : ℝ) : EReal)
    by_cases h : P (cr i)
    · rw [if_pos h, if_pos h]; exact Ideal.exp_coe _
    · rw [if_neg h, if_neg h]; exact Ideal.exp_bot

theorem fold_max_ne_top {ι : Type*} (s : Finset ι) (x : ι → EReal) (h : ∀ k ∈ s, x k ≠ ⊤) : s.fold max ⊥ x ≠ ⊤ := by
  classical
  induction s using Finset.induction_on with
  | empty => simp
  | insert a s ha ih =>
    rw [Finset.fold_insert ha]
    rcases max_choice (x a) (s.fold max ⊥ x) with e | e <;> rw [e]
    · exact h a (Finset.mem_insert_self a s)
    · exact ih fun k hk => h k (Finset.mem_insert_of_mem hk)
theorem le_fold_max {ι : Type*} (s : Finset ι) (x : ι → EReal) (k : ι) (h : k ∈ s) : x k ≤ s.fold max ⊥ x :=
  (Finset.le_fold_max (x k)).mpr (Or.inr ⟨k, h, le_rfl⟩)

/-- The largest entries of the rows of a masked array are reals when every row has an unmasked entry. -/
theorem exists_max (hP : ∀ r < 128, ∃ s < 128, P (p2 r s)) (f : (ℕ → ℕ) → ℝ) (h hφ hacc) :
    ∃ A : (ℕ → ℕ) → ℝ, multiReduction (F := Ideal) (φ := .f32) .maximumf [1] S128 (Lb P f : S128x128.Idx → EReal) 0xFF800000#32 h hφ hacc
      = Lf A := by
  refine exists_Lf _ fun j => ?_
  have e := Ideal.multiReduction_maximumf_single (Lb P f : FVec Ideal S128x128 .f32) 0xFF800000#32 h hφ hacc j
  rw [e]
  have hb : (FloatOps.ofBits (F := Ideal) FTy.f32 0xFF800000#32 : EReal) = ⊥ := c_bot
  rw [hb]
  have hc : ∀ k : Fin 128, cr (h.lift j k) = p2 (j 0).val k.val := fun k => by rw [cr2]; rfl
  refine ⟨fold_max_ne_top _ _ fun k _ => ?_, fun hbot => ?_⟩
  · show (if P (cr (h.lift j k)) then _ else _) ≠ ⊤
    split
    · exact EReal.coe_ne_top _
    · exact bot_ne_top
  · obtain ⟨s, hs, hp⟩ := hP (j 0).val (j 0).isLt
    have := le_fold_max Finset.univ ((Lb P f : S128x128.Idx → EReal) ∘ h.lift j) (⟨s, hs⟩ : Fin 128) (Finset.mem_univ _)
    have hle := le_bot_iff.mp (this.trans hbot.le)
    have : (Lb P f : S128x128.Idx → EReal) (h.lift j (⟨s, hs⟩ : Fin 128)) = ((f (cr (h.lift j (⟨s, hs⟩ : Fin 128))) : ℝ) : EReal) :=
      if_pos (by rw [hc]; exact hp)
    exact EReal.coe_ne_bot _ (this.symm.trans hle)

end Mask

theorem ofNat_toInt (n : ℕ) (h : n < 2 ^ 31) : (BitVec.ofNat 32 n).toInt = n := by
  rw [BitVec.toInt_ofNat']
  norm_num [Int.bmod]
  omega

theorem sle_Lm (h1 h0) : (cmpi .sle (iota .tc S128x128 32 [1] h1) (iota .tc S128x128 32 [0] h0))
    = Lm (fun c => c 1 ≤ c 0) := by
  funext i
  show IntOp.cmpi .sle (BitVec.ofNat 32 (0 * 128 + (i 1).val)) (BitVec.ofNat 32 (0 * 128 + (i 0).val)) = if cr i 1 ≤ cr i 0 then 1#1 else 0#1
  have h1 : (i 1).val < 128 := (i 1).isLt
  have h0 : (i 0).val < 128 := (i 0).isLt
  rw [cr2]
  simp only [IntOp.cmpi, BitVec.sle, ofNat_toInt _ (show 0 * 128 + (i 1).val < 2 ^ 31 by omega), ofNat_toInt _ (show 0 * 128 + (i 0).val < 2 ^ 31 by omega), p2_0, p2_1]
  by_cases h : (i 1).val ≤ (i 0).val <;> simp [h]

/-- A row's sum. -/
theorem rowsum_Lf (f : (ℕ → ℕ) → ℝ) (b : ℕ) (t : ℕ) (h : Shape.Reduces ⟨2, ![t, b]⟩ [1] ⟨1, ![t]⟩) (hφ hacc) :
    multiReduction (F := Ideal) (φ := .f32) .add [1] (⟨1, ![t]⟩ : Shape) (Lf f : (⟨2, ![t, b]⟩ : Shape).Idx → EReal) 0x00000000#32 h hφ hacc
      = Lf (fun c => ∑ k ∈ range b, f (p2 (c 0) k)) :=
  funext fun j => by
    refine (Ideal.multiReduction_add_single (Lf f : FVec Ideal ⟨2, ![t, b]⟩ .f32) _ h hφ hacc j).trans ?_
    rw [Lf_apply, cr1, Finset.sum_range, coe_sum]
    refine Finset.sum_congr rfl fun k _ => ?_
    rw [Lf_apply, cr2]; rfl

/-! ## Products of matrices -/

/-- A product of two matrices. -/
theorem mm0 (f g : (ℕ → ℕ) → ℝ) :
    matmul (F := Ideal) (φ₁ := .bf16) (φ₂ := .bf16) Cert.KernelIdeal.dot_S512x1024_S1024x256_S512x256_1_0_0_1_n_n none (Lf f : S512x1024.Idx → EReal) (Lf g : S1024x256.Idx → EReal)
      (constant S512x256 .f32 0x00000000#32) = Lf (fun c => ∑ k ∈ range 1024, f (p2 (c 0) k) * g (p2 k (c 1))) :=
  funext fun j => (Ideal.matmul_constant_zero_apply (φ₁ := .bf16) (φ₂ := .bf16) _ none (Lf f : FVec Ideal S512x1024 .bf16) (Lf g : FVec Ideal S1024x256 .bf16) j).trans
    (dot_Lf _ 1024 rfl rfl f g (fun c k => p2 (c 0) k) (fun c k => p2 k (c 1)) (fun j k => by rw [cr2, cr2]; rfl) (fun j k => by rw [cr2, cr2]; rfl) j)
@[inherit_doc mm0] theorem mm1 (f g : (ℕ → ℕ) → ℝ) :
    matmul (F := Ideal) (φ₁ := .bf16) (φ₂ := .bf16) Cert.KernelIdeal.dot_S512x1024_S1024x128_S512x128_1_0_0_1_n_n none (Lf f : S512x1024.Idx → EReal) (Lf g : S1024x128.Idx → EReal)
      (constant S512x128 .f32 0x00000000#32) = Lf (fun c => ∑ k ∈ range 1024, f (p2 (c 0) k) * g (p2 k (c 1))) :=
  funext fun j => (Ideal.matmul_constant_zero_apply (φ₁ := .bf16) (φ₂ := .bf16) _ none (Lf f : FVec Ideal S512x1024 .bf16) (Lf g : FVec Ideal S1024x128 .bf16) j).trans
    (dot_Lf _ 1024 rfl rfl f g (fun c k => p2 (c 0) k) (fun c k => p2 k (c 1)) (fun j k => by rw [cr2, cr2]; rfl) (fun j k => by rw [cr2, cr2]; rfl) j)
@[inherit_doc mm0] theorem mm2 (f g : (ℕ → ℕ) → ℝ) :
    matmul (F := Ideal) (φ₁ := .bf16) (φ₂ := .bf16) Cert.KernelIdeal.dot_S512x512_S512x128_S512x128_1_0_0_1_n_n none (Lf f : S512x512.Idx → EReal) (Lf g : S512x128.Idx → EReal)
      (constant S512x128 .f32 0x00000000#32) = Lf (fun c => ∑ k ∈ range 512, f (p2 (c 0) k) * g (p2 k (c 1))) :=
  funext fun j => (Ideal.matmul_constant_zero_apply (φ₁ := .bf16) (φ₂ := .bf16) _ none (Lf f : FVec Ideal S512x512 .bf16) (Lf g : FVec Ideal S512x128 .bf16) j).trans
    (dot_Lf _ 512 rfl rfl f g (fun c k => p2 (c 0) k) (fun c k => p2 k (c 1)) (fun j k => by rw [cr2, cr2]; rfl) (fun j k => by rw [cr2, cr2]; rfl) j)
@[inherit_doc mm0] theorem mm3 (f g : (ℕ → ℕ) → ℝ) :
    matmul (F := Ideal) (φ₁ := .bf16) (φ₂ := .bf16) Cert.KernelIdeal.dot_S128x128_S128x128_S128x128_1_1_0_0_n_n none (Lf f : S128x128.Idx → EReal) (Lf g : S128x128.Idx → EReal)
      (constant S128x128 .f32 0x00000000#32) = Lf (fun c => ∑ k ∈ range 128, f (p2 (c 0) k) * g (p2 (c 1) k)) :=
  funext fun j => (Ideal.matmul_constant_zero_apply (φ₁ := .bf16) (φ₂ := .bf16) _ none (Lf f : FVec Ideal S128x128 .bf16) (Lf g : FVec Ideal S128x128 .bf16) j).trans
    (dot_Lf _ 128 rfl rfl f g (fun c k => p2 (c 0) k) (fun c k => p2 (c 1) k) (fun j k => by rw [cr2, cr2]; rfl) (fun j k => by rw [cr2, cr2]; rfl) j)
@[inherit_doc mm0] theorem mm4 (f g : (ℕ → ℕ) → ℝ) :
    matmul (F := Ideal) (φ₁ := .bf16) (φ₂ := .bf16) Cert.KernelIdeal.dot_S128x128_S128x256_S128x256_0_0_1_1_n_n none (Lf f : S128x128.Idx → EReal) (Lf g : S128x256.Idx → EReal)
      (constant S128x256 .f32 0x00000000#32) = Lf (fun c => ∑ k ∈ range 128, f (p2 k (c 0)) * g (p2 k (c 1))) :=
  funext fun j => (Ideal.matmul_constant_zero_apply (φ₁ := .bf16) (φ₂ := .bf16) _ none (Lf f : FVec Ideal S128x128 .bf16) (Lf g : FVec Ideal S128x256 .bf16) j).trans
    (dot_Lf _ 128 rfl rfl f g (fun c k => p2 k (c 0)) (fun c k => p2 k (c 1)) (fun j k => by rw [cr2, cr2]; rfl) (fun j k => by rw [cr2, cr2]; rfl) j)
@[inherit_doc mm0] theorem mm5 (f g : (ℕ → ℕ) → ℝ) :
    matmul (F := Ideal) (φ₁ := .bf16) (φ₂ := .bf16) Cert.KernelIdeal.dot_S128x256_S256x256_S128x256_1_0_0_1_n_n none (Lf f : S128x256.Idx → EReal) (Lf g : S256x256.Idx → EReal)
      (constant S128x256 .f32 0x00000000#32) = Lf (fun c => ∑ k ∈ range 256, f (p2 (c 0) k) * g (p2 k (c 1))) :=
  funext fun j => (Ideal.matmul_constant_zero_apply (φ₁ := .bf16) (φ₂ := .bf16) _ none (Lf f : FVec Ideal S128x256 .bf16) (Lf g : FVec Ideal S256x256 .bf16) j).trans
    (dot_Lf _ 256 rfl rfl f g (fun c k => p2 (c 0) k) (fun c k => p2 k (c 1)) (fun j k => by rw [cr2, cr2]; rfl) (fun j k => by rw [cr2, cr2]; rfl) j)

/-! ## Loads -/

open Cert.Stage (ld2 ld3)

theorem ld2_Lf {a b : ℕ} (A : Memref Cert.KernelIdeal.sig .tc .vmem ⟨2, ![a, b]⟩ .f32) (hA : A.IsWhole) (f : (ℕ → ℕ) → ℝ)
    (a' b' o0 o1 : ℕ) (h0 : o0 + a' ≤ a) (h1 : o1 + b' ≤ b) :
    (ld2 A hA (Lf f : (⟨2, ![a, b]⟩ : Shape).Idx → EReal) a' b' o0 o1 h0 h1 : (⟨2, ![a', b']⟩ : Shape).Idx → EReal)
      = Lf (fun c => f (p2 (o0 + c 0) (o1 + c 1))) :=
  funext fun i => by
    refine (Memref.IsWhole.readAt_unread (Val := Elt Ideal) hA (Lf f) (Rect.unit (s := ⟨2, ![a, b]⟩) ![o0, o1] ![a', b'] (Stage.inb2 a b a' b' h0 h1)).toLoadRect i).trans ?_
    refine (Lf_apply f _).trans (Eq.trans ?_ (Lf_apply _ i).symm)
    rw [cr2, cr2 i]
    congr 3
    · show o0 + 1 * (i 0).val = _
      rw [Nat.one_mul]; rfl
    · show o1 + 1 * (i 1).val = _
      rw [Nat.one_mul]; rfl
theorem ld2_Lf16 {a b : ℕ} (A : Memref Cert.KernelIdeal.sig .tc .vmem ⟨2, ![a, b]⟩ .bf16) (hA : A.IsWhole) (f : (ℕ → ℕ) → ℝ)
    (a' b' o0 o1 : ℕ) (h0 : o0 + a' ≤ a) (h1 : o1 + b' ≤ b) :
    (ld2 A hA (Lf f : (⟨2, ![a, b]⟩ : Shape).Idx → EReal) a' b' o0 o1 h0 h1 : (⟨2, ![a', b']⟩ : Shape).Idx → EReal)
      = Lf (fun c => f (p2 (o0 + c 0) (o1 + c 1))) :=
  funext fun i => by
    refine (Memref.IsWhole.readAt_unread (Val := Elt Ideal) hA (Lf f) (Rect.unit (s := ⟨2, ![a, b]⟩) ![o0, o1] ![a', b'] (Stage.inb2 a b a' b' h0 h1)).toLoadRect i).trans ?_
    refine (Lf_apply f _).trans (Eq.trans ?_ (Lf_apply _ i).symm)
    rw [cr2, cr2 i]
    congr 3
    · show o0 + 1 * (i 0).val = _
      rw [Nat.one_mul]; rfl
    · show o1 + 1 * (i 1).val = _
      rw [Nat.one_mul]; rfl
theorem ld3_Lf {a b d : ℕ} (A : Memref Cert.KernelIdeal.sig .tc .vmem ⟨3, ![a, b, d]⟩ .f32) (hA : A.IsWhole) (f : (ℕ → ℕ) → ℝ)
    (a' b' d' o0 o1 o2 : ℕ) (h0 : o0 + a' ≤ a) (h1 : o1 + b' ≤ b) (h2 : o2 + d' ≤ d) :
    (ld3 A hA (Lf f : (⟨3, ![a, b, d]⟩ : Shape).Idx → EReal) a' b' d' o0 o1 o2 h0 h1 h2 : (⟨3, ![a', b', d']⟩ : Shape).Idx → EReal)
      = Lf (fun c => f (p3 (o0 + c 0) (o1 + c 1) (o2 + c 2))) :=
  funext fun i => by
    refine (Memref.IsWhole.readAt_unread (Val := Elt Ideal) hA (Lf f) (Rect.unit (s := ⟨3, ![a, b, d]⟩) ![o0, o1, o2] ![a', b', d'] (Stage.inb3 a b d a' b' d' h0 h1 h2)).toLoadRect i).trans ?_
    refine (Lf_apply f _).trans (Eq.trans ?_ (Lf_apply _ i).symm)
    rw [cr3, cr3 i]
    congr 3
    · show o0 + 1 * (i 0).val = _
      rw [Nat.one_mul]; rfl
    · show o1 + 1 * (i 1).val = _
      rw [Nat.one_mul]; rfl
    · show o2 + 1 * (i 2).val = _
      rw [Nat.one_mul]; rfl
theorem ld3_Lf16 {a b d : ℕ} (A : Memref Cert.KernelIdeal.sig .tc .vmem ⟨3, ![a, b, d]⟩ .bf16) (hA : A.IsWhole) (f : (ℕ → ℕ) → ℝ)
    (a' b' d' o0 o1 o2 : ℕ) (h0 : o0 + a' ≤ a) (h1 : o1 + b' ≤ b) (h2 : o2 + d' ≤ d) :
    (ld3 A hA (Lf f : (⟨3, ![a, b, d]⟩ : Shape).Idx → EReal) a' b' d' o0 o1 o2 h0 h1 h2 : (⟨3, ![a', b', d']⟩ : Shape).Idx → EReal)
      = Lf (fun c => f (p3 (o0 + c 0) (o1 + c 1) (o2 + c 2))) :=
  funext fun i => by
    refine (Memref.IsWhole.readAt_unread (Val := Elt Ideal) hA (Lf f) (Rect.unit (s := ⟨3, ![a, b, d]⟩) ![o0, o1, o2] ![a', b', d'] (Stage.inb3 a b d a' b' d' h0 h1 h2)).toLoadRect i).trans ?_
    refine (Lf_apply f _).trans (Eq.trans ?_ (Lf_apply _ i).symm)
    rw [cr3, cr3 i]
    congr 3
    · show o0 + 1 * (i 0).val = _
      rw [Nat.one_mul]; rfl
    · show o1 + 1 * (i 1).val = _
      rw [Nat.one_mul]; rfl
    · show o2 + 1 * (i 2).val = _
      rw [Nat.one_mul]; rfl

/-- The mask of the forget gates' lanes. -/
theorem lanes_Lm (h) : (andi (cmpi .sge (iota .tc S512x128 32 [1] h) (broadcast S512x128 4#32)) (cmpi .slt (iota .tc S512x128 32 [1] h) (broadcast S512x128 8#32)))
    = Lm (fun c => 4 ≤ c 1 ∧ c 1 < 8) := by
  funext i
  show IntOp.andi (IntOp.cmpi .sge (BitVec.ofNat 32 (0 * 128 + (i 1).val)) 4#32) (IntOp.cmpi .slt (BitVec.ofNat 32 (0 * 128 + (i 1).val)) 8#32)
    = if 4 ≤ cr i 1 ∧ cr i 1 < 8 then 1#1 else 0#1
  have h1 : (i 1).val < 128 := (i 1).isLt
  rw [cr2]
  have e4 : (4#32 : BitVec 32).toInt = 4 := by decide
  have e8 : (8#32 : BitVec 32).toInt = 8 := by decide
  simp only [IntOp.andi, IntOp.cmpi, BitVec.sle, BitVec.slt, e4, e8, ofNat_toInt _ (show 0 * 128 + (i 1).val < 2 ^ 31 by omega), p2_1]
  by_cases a : 4 ≤ (i 1).val <;> by_cases b : (i 1).val < 8 <;> simp [a, b]

end Cert.Lift

end
-- ==== Proof.Math.lean ====
/- The recurrence of the matrix memory, over the reals: the state after `T` steps, what a chunk of steps adds to it, and
   that a chunk's stabilised numerator and denominator are the state's read-out times one common factor. -/
module

public import Mathlib.Analysis.SpecialFunctions.Exp
public import Mathlib.Algebra.BigOperators.Intervals

@[expose] public section

noncomputable section

namespace Cert.Mem

open scoped BigOperators
open Finset (range)

section Seq

variable (lf ig : ℕ → ℝ) (k v : ℕ → ℕ → ℝ)

/-- The sum of the first `T` log forget gates. -/
def Fs (T : ℕ) : ℝ := ∑ s ∈ range T, lf s

/-- The state after `T` steps, not stabilised. -/
def St (T d j : ℕ) : ℝ := ∑ s ∈ range T, Real.exp (Fs lf T - Fs lf (s + 1) + ig s) * (k s d * v s j)

/-- `n` more steps. -/
theorem St_add (T n d j : ℕ) :
    St lf ig k v (T + n) d j = Real.exp (Fs lf (T + n) - Fs lf T) * St lf ig k v T d j
      + ∑ s ∈ range n, Real.exp (Fs lf (T + n) - Fs lf (T + s + 1) + ig (T + s)) * (k (T + s) d * v (T + s) j) := by
  unfold St
  rw [Finset.sum_range_add, Finset.mul_sum]
  congr 1
  refine Finset.sum_congr rfl fun s _ => ?_
  rw [← mul_assoc (Real.exp (Fs lf (T + n) - Fs lf T)), ← Real.exp_add]
  congr 2
  ring_nf

/-- The partial sums of a chunk. -/
theorem Fs_add (T n : ℕ) : Fs lf (T + n) = Fs lf T + ∑ s ∈ range n, lf (T + s) := Finset.sum_range_add _ _ _

/-- A sum over a chunk's rows up to row `r`. -/
theorem sum_le (L r : ℕ) (hr : r < L) (f : ℕ → ℝ) : (∑ s ∈ range L, if s ≤ r then f s else 0) = ∑ s ∈ range (r + 1), f s := by
  rw [← Finset.sum_filter]
  refine Finset.sum_congr (Finset.ext fun s => ?_) fun _ _ => rfl
  simp only [Finset.mem_filter, Finset.mem_range]
  omega

/-- Scores on a chunk plus the carried state's read-out are the read-out of the state after the row. -/
theorem num (T L r j : ℕ) (hr : r < L) (q : ℕ → ℝ) :
    (∑ s ∈ range L, (if s ≤ r then Real.exp (Fs lf (T + (r + 1)) - Fs lf (T + s + 1) + ig (T + s)) *
        ((∑ d ∈ range 128, q d * k (T + s) d) * v (T + s) j) else 0))
      + Real.exp (Fs lf (T + (r + 1)) - Fs lf T) * ∑ d ∈ range 128, q d * St lf ig k v T d j
      = ∑ d ∈ range 128, q d * St lf ig k v (T + (r + 1)) d j := by
  rw [sum_le L r hr]
  have e : ∀ d, q d * St lf ig k v (T + (r + 1)) d j = Real.exp (Fs lf (T + (r + 1)) - Fs lf T) * (q d * St lf ig k v T d j)
      + ∑ s ∈ range (r + 1), Real.exp (Fs lf (T + (r + 1)) - Fs lf (T + s + 1) + ig (T + s)) * (q d * k (T + s) d * v (T + s) j) := by
    intro d
    rw [St_add, mul_add, Finset.mul_sum]
    congr 1
    · ring
    · exact Finset.sum_congr rfl fun s _ => by ring
  rw [Finset.sum_congr rfl fun d _ => e d, Finset.sum_add_distrib, ← Finset.mul_sum, Finset.sum_comm, add_comm]
  congr 1
  refine Finset.sum_congr rfl fun s _ => ?_
  rw [← Finset.mul_sum, Finset.sum_mul]

variable (B : ℕ → ℝ) (T : ℕ) (hB : ∀ s, B s = Fs lf (T + s + 1) - Fs lf T)

include hB

/-- The first program's stabilised row: scores by the row's own largest log-decay `a`, then both parts by `m`. -/
theorem row_a (L r j : ℕ) (hr : r < L) (q : ℕ → ℝ) (a mp m : ℝ) :
    (∑ s ∈ range L, Real.exp (a - m) * ((∑ d ∈ range 128, q d * k (T + s) d) *
        (if s ≤ r then Real.exp (B r + (ig (T + s) - B s) - a) else 0)) * v (T + s) j)
      + (∑ d ∈ range 128, Real.exp (B r + mp - m) * q d * (Real.exp (-mp) * St lf ig k v T d j))
      = Real.exp (-m) * ∑ d ∈ range 128, q d * St lf ig k v (T + (r + 1)) d j := by
  rw [← num lf ig k v T L r j hr q, mul_add, Finset.mul_sum, Finset.mul_sum, Finset.mul_sum]
  congr 1
  · refine Finset.sum_congr rfl fun s _ => ?_
    by_cases h : s ≤ r
    · rw [if_pos h, if_pos h]
      have : Real.exp (a - m) * Real.exp (B r + (ig (T + s) - B s) - a)
          = Real.exp (-m) * Real.exp (Fs lf (T + (r + 1)) - Fs lf (T + s + 1) + ig (T + s)) := by
        rw [← Real.exp_add, ← Real.exp_add, hB r, hB s]; congr 1; rw [← add_assoc T r 1]; ring
      linear_combination (∑ d ∈ range 128, q d * k (T + s) d) * v (T + s) j * this
    · rw [if_neg h, if_neg h]; ring
  · refine Finset.sum_congr rfl fun d _ => ?_
    have : Real.exp (B r + mp - m) * Real.exp (-mp) = Real.exp (-m) * Real.exp (Fs lf (T + (r + 1)) - Fs lf T) := by
      rw [← Real.exp_add, ← Real.exp_add, hB r]; congr 1; rw [← add_assoc T r 1]; ring
    linear_combination q d * St lf ig k v T d j * this

/-- The other program's stabilised row: log-decays less `m` at once. -/
theorem row_b (L r j : ℕ) (hr : r < L) (q : ℕ → ℝ) (mp m : ℝ) :
    (∑ s ∈ range L, (∑ d ∈ range 128, q d * k (T + s) d) *
        (if s ≤ r then Real.exp (B r - B s + ig (T + s) - m) else 0) * v (T + s) j)
      + Real.exp (B r + mp - m) * (∑ d ∈ range 128, Real.exp (-mp) * St lf ig k v T d j * q d)
      = Real.exp (-m) * ∑ d ∈ range 128, q d * St lf ig k v (T + (r + 1)) d j := by
  rw [← num lf ig k v T L r j hr q, mul_add, Finset.mul_sum, Finset.mul_sum, Finset.mul_sum, Finset.mul_sum]
  congr 1
  · refine Finset.sum_congr rfl fun s _ => ?_
    by_cases h : s ≤ r
    · rw [if_pos h, if_pos h]
      have : Real.exp (B r - B s + ig (T + s) - m)
          = Real.exp (-m) * Real.exp (Fs lf (T + (r + 1)) - Fs lf (T + s + 1) + ig (T + s)) := by
        rw [← Real.exp_add, hB r, hB s]; congr 1; rw [← add_assoc T r 1]; ring
      linear_combination (∑ d ∈ range 128, q d * k (T + s) d) * v (T + s) j * this
    · rw [if_neg h, if_neg h]; ring
  · refine Finset.sum_congr rfl fun d _ => ?_
    have : Real.exp (B r + mp - m) * Real.exp (-mp) = Real.exp (-m) * Real.exp (Fs lf (T + (r + 1)) - Fs lf T) := by
      rw [← Real.exp_add, ← Real.exp_add, hB r]; congr 1; rw [← add_assoc T r 1]; ring
    linear_combination q d * St lf ig k v T d j * this

/-- The first program's new state. -/
theorem next_a (L d j : ℕ) (a mp m : ℝ) :
    Real.exp (B L + mp - m) * (Real.exp (-mp) * St lf ig k v T d j)
      + Real.exp (a - m) * (∑ s ∈ range (L + 1), k (T + s) d * Real.exp (B L - B s + ig (T + s) - a) * v (T + s) j)
      = Real.exp (-m) * St lf ig k v (T + (L + 1)) d j := by
  rw [St_add, mul_add, Finset.mul_sum, Finset.mul_sum]
  congr 1
  · have : Real.exp (B L + mp - m) * Real.exp (-mp) = Real.exp (-m) * Real.exp (Fs lf (T + (L + 1)) - Fs lf T) := by
      rw [← Real.exp_add, ← Real.exp_add, hB L]; congr 1; rw [← add_assoc T L 1]; ring
    linear_combination St lf ig k v T d j * this
  · refine Finset.sum_congr rfl fun s _ => ?_
    have : Real.exp (a - m) * Real.exp (B L - B s + ig (T + s) - a)
        = Real.exp (-m) * Real.exp (Fs lf (T + (L + 1)) - Fs lf (T + s + 1) + ig (T + s)) := by
      rw [← Real.exp_add, ← Real.exp_add, hB L, hB s]; congr 1; rw [← add_assoc T L 1]; ring
    linear_combination k (T + s) d * v (T + s) j * this

/-- The other program's new state. -/
theorem next_b (L d j : ℕ) (mp m : ℝ) :
    Real.exp (B L + mp - m) * (Real.exp (-mp) * St lf ig k v T d j)
      + (∑ s ∈ range (L + 1), Real.exp (B L - B s + ig (T + s) - m) * v (T + s) j * k (T + s) d)
      = Real.exp (-m) * St lf ig k v (T + (L + 1)) d j := by
  rw [St_add, mul_add, Finset.mul_sum]
  congr 1
  · have : Real.exp (B L + mp - m) * Real.exp (-mp) = Real.exp (-m) * Real.exp (Fs lf (T + (L + 1)) - Fs lf T) := by
      rw [← Real.exp_add, ← Real.exp_add, hB L]; congr 1; rw [← add_assoc T L 1]; ring
    linear_combination St lf ig k v T d j * this
  · refine Finset.sum_congr rfl fun s _ => ?_
    have : Real.exp (B L - B s + ig (T + s) - m)
        = Real.exp (-m) * Real.exp (Fs lf (T + (L + 1)) - Fs lf (T + s + 1) + ig (T + s)) := by
      rw [← Real.exp_add, hB L, hB s]; congr 1; rw [← add_assoc T L 1]; ring
    linear_combination k (T + s) d * v (T + s) j * this

end Seq

/-- The common factor leaves the quotient. -/
theorem quot (m N D : ℝ) : Real.exp (-m) * N / max |Real.exp (-m) * D| (Real.exp (-m)) = N / max |D| 1 := by
  have h : max |Real.exp (-m) * D| (Real.exp (-m)) = Real.exp (-m) * max |D| 1 := by
    rw [abs_mul, abs_of_pos (Real.exp_pos _), mul_max_of_nonneg _ _ (Real.exp_pos _).le, mul_one]
  rw [h, mul_div_mul_left _ _ (Real.exp_pos _).ne']

end Cert.Mem

end
-- ==== Proof.UnitLf.lean ====
/- One unit of the kernel's recurrence on arrays of reals: what it leaves in the state and the stabiliser, and its
   attention output, in terms of the recurrence of `Math`. -/
module

public import proofs.«01_k».proof.Proof.LiftK
public import proofs.«01_k».proof.Proof.Math

@[expose] public section

set_option maxRecDepth 16384

noncomputable section

namespace Cert.Stage

open Idealize.ShloMosaic
open Cert.KernelIdeal Cert.KernelIdeal.Gen
open Cert.Lift Cert.Mem
open scoped BigOperators
open Finset (range)

variable (c h : Fin 4) (g B q k v st : (ℕ → ℕ) → ℝ)

theorem colAt_Lf (o : ℕ) (ho : o < 128) : colAt c (Lf B) o ho = Lf (fun x => B (p2 (128 * c.val + x 0) (o + x 1))) := slice2_Lf _ _ _ _

theorem row_Lf : row c h (Lf g) (Lf B)
    = Lf (fun x => g (p2 (128 * c.val + x 1) (h.val + x 0)) - B (p2 (128 * c.val + x 1) (4 + h.val + x 0))) := by
  unfold row
  rw [slice2_Lf, slice2_Lf, transpose2_Lf, transpose2_Lf, slice2_Lf, slice2_Lf, subf_Lf]
  simp only [p2_0, p2_1, Nat.zero_add]

/-- A row's log-decay at a column, before the mask. -/
def dl (x : ℕ → ℕ) : ℝ :=
  B (p2 (128 * c.val + x 0) (4 + h.val)) + (g (p2 (128 * c.val + x 1) h.val) - B (p2 (128 * c.val + x 1) (4 + h.val)))

theorem dlog_Lf : dlog c h (Lf g) (Lf B) = Lb (fun x => x 1 ≤ x 0) (dl c h g B) := by
  unfold dlog
  rw [sle_Lm, colAt_Lf, row_Lf, broadcastTo2_Lf, broadcastTo2_Lf, addf_Lf, select_Lb]
  rfl

theorem exists_amax : ∃ A : ℕ → ℝ, amax c h (Lf g) (Lf B) = Lf (fun x => A (x 0)) := by
  unfold amax
  rw [dlog_Lf]
  obtain ⟨A, hA⟩ := exists_max (fun x => x 1 ≤ x 0) (fun r _ => ⟨0, by decide, Nat.zero_le r⟩) (dl c h g B) reduces_S128x128_S128 (.inl rfl) rfl
  exact ⟨fun r => A (p1 r), by rw [hA, cast_a_a1]⟩

theorem inter_Lf (mp : ℝ) : inter c h (Lf B) (Lf (fun _ => mp)) = Lf (fun x => B (p2 (128 * c.val + x 0) (4 + h.val + x 1)) + mp) := by
  unfold inter
  rw [colAt_Lf, broadcastTo2_Lf, addf_Lf]

theorem vaug_Lf : vaug (Lf v) = Lf (fun x => if x 1 < 128 then v x else 1) := by
  unfold vaug
  rw [truncf_Lf, bc_one16, concat2_1]

theorem blk_Lf (f : (ℕ → ℕ) → ℝ) : blk c h (Lf f) = Lf (fun x => f (p2 (128 * c.val + x 0) (128 * h.val + x 1))) := slice2_Lf _ _ _ _

/-- The stabiliser of a unit's row. -/
def mr (A : ℕ → ℝ) (mp : ℝ) (r : ℕ) : ℝ := max (B (p2 (128 * c.val + r) (4 + h.val)) + mp) (A r)

/-- An entry of the state a unit leaves. -/
def snv (A : ℕ → ℝ) (mp : ℝ) (d j : ℕ) : ℝ :=
  Real.exp (B (p2 (128 * c.val + 127) (4 + h.val)) + mp - mr c h B A mp 127) * st (p2 d j)
    + Real.exp (A 127 - mr c h B A mp 127) * ∑ s ∈ range 128, k (p2 (128 * c.val + s) (128 * h.val + d))
      * Real.exp (B (p2 (128 * c.val + 127) (4 + h.val)) - B (p2 (128 * c.val + s) (4 + h.val)) + g (p2 (128 * c.val + s) h.val) - A 127)
      * (if j < 128 then v (p2 s j) else 1)

/-- An entry of numerator and denominator. -/
def ndv (A : ℕ → ℝ) (mp : ℝ) (r j : ℕ) : ℝ :=
  (∑ s ∈ range 128, Real.exp (A r - mr c h B A mp r) *
      ((∑ d ∈ range 128, q (p2 (128 * c.val + r) (128 * h.val + d)) * k (p2 (128 * c.val + s) (128 * h.val + d)))
        * (if s ≤ r then Real.exp (dl c h g B (p2 r s) - A r) else 0)) * (if j < 128 then v (p2 s j) else 1))
    + ∑ d ∈ range 128, Real.exp (B (p2 (128 * c.val + r) (4 + h.val)) + mp - mr c h B A mp r)
      * q (p2 (128 * c.val + r) (128 * h.val + d)) * st (p2 d j)

section

variable {c h g B} {A : ℕ → ℝ} (hA : amax c h (Lf g) (Lf B) = Lf (fun x => A (x 0))) (mp : ℝ)

include hA

theorem mrow_Lf : mrow c h (Lf g) (Lf B) (Lf (fun _ => mp)) = Lf (fun x => mr c h B A mp (x 0)) := by
  unfold mrow
  rw [hA, inter_Lf, maximumf_Lf]
  exact Lf_ext2 fun r _ s hs => by
    have : s = 0 := by omega
    subst this; rfl

theorem mnext_Lf : mnext c h (Lf g) (Lf B) (Lf (fun _ => mp)) = Lf (fun _ => mr c h B A mp 127) := by
  unfold mnext last
  rw [mrow_Lf hA, slice2_Lf]
  exact Lf_ext2 fun r hr s hs => by
    have : r = 0 := by omega
    subst this; rfl

theorem snext_Lf : snext c h (Lf g) (Lf B) (Lf k) (Lf v) (Lf (fun _ => mp)) (Lf st)
    = Lf (fun x => snv c h g B k v st A mp (x 0) (x 1)) := by
  unfold snext upd last
  rw [mnext_Lf hA, hA, vaug_Lf]
  simp only [colAt_Lf, blk_Lf, slice2_Lf, addf_Lf, subf_Lf, mulf_Lf, exp_Lf, broadcastTo2_Lf, truncf_Lf, mm4, p2_0, p2_1]
  exact Lf_ext2 fun d hd j hj => rfl

theorem scores_Lf : scores c h (Lf g) (Lf B) (Lf q) (Lf k)
    = Lf (fun x => (∑ d ∈ range 128, q (p2 (128 * c.val + x 0) (128 * h.val + d)) * k (p2 (128 * c.val + x 1) (128 * h.val + d)))
        * (if x 1 ≤ x 0 then Real.exp (dl c h g B x - A (x 0)) else 0)) := by
  unfold scores
  rw [dlog_Lf, hA]
  simp only [blk_Lf, broadcastTo2_Lf, subf_Lb, exp_Lb, mulf_Lf, truncf_Lf, mm3, p2_0, p2_1]
  rfl

theorem numden_Lf : numden c h (Lf g) (Lf B) (Lf q) (Lf k) (Lf v) (Lf (fun _ => mp)) (Lf st)
    = Lf (fun x => ndv c h g B q k v st A mp (x 0) (x 1)) := by
  unfold numden
  rw [scores_Lf q k hA, mrow_Lf hA, hA, vaug_Lf, inter_Lf, subf_Lf, exp_Lf, broadcastTo2_Lf, mulf_Lf, truncf_Lf, subf_Lf, exp_Lf, broadcastTo2_Lf,
    blk_Lf, mulf_Lf, truncf_Lf, concat2_1, truncf_Lf, concat2_0, mm5]
  refine Lf_ext2 fun r hr j hj => ?_
  simp only [p2_0, p2_1]
  unfold ndv
  rw [show (256 : ℕ) = 128 + 128 from rfl, Finset.sum_range_add]
  congr 1

end

/-! ## In terms of the recurrence -/

section Rec

variable (lf ig : ℕ → ℝ) (kk vv : ℕ → ℕ → ℝ) (T : ℕ)

/-- A unit's blocks hold a chunk of the sequences `ig`, `lf`, `kk`, `vv` from time `T` on. -/
structure Chunk : Prop where
  hg : ∀ r < 128, g (p2 (128 * c.val + r) h.val) = ig (T + r)
  hB : ∀ r < 128, B (p2 (128 * c.val + r) (4 + h.val)) = Fs lf (T + r + 1) - Fs lf T
  hk : ∀ r < 128, ∀ d < 128, k (p2 (128 * c.val + r) (128 * h.val + d)) = kk (T + r) d
  hv : ∀ r < 128, ∀ j < 128, v (p2 r j) = vv (T + r) j
  hv1 : ∀ s j, 128 ≤ j → vv s j = 1

variable {c h g B k v lf ig kk vv T}

theorem Chunk.hvv (H : Chunk c h g B k v lf ig kk vv T) {r j : ℕ} (hr : r < 128) : (if j < 128 then v (p2 r j) else 1) = vv (T + r) j := by
  by_cases hj : j < 128
  · rw [if_pos hj, H.hv r hr j hj]
  · rw [if_neg hj, H.hv1 _ _ (by omega)]

/-- The state and the stabiliser a unit leaves. -/
theorem Chunk.next (H : Chunk c h g B k v lf ig kk vv T) (mp : ℝ)
    (hst : ∀ d < 128, ∀ j < 256, st (p2 d j) = Real.exp (-mp) * St lf ig kk vv T d j) :
    ∃ mn : ℝ, mnext c h (Lf g) (Lf B) (Lf (fun _ => mp)) = Lf (fun _ => mn)
      ∧ snext c h (Lf g) (Lf B) (Lf k) (Lf v) (Lf (fun _ => mp)) (Lf st) = Lf (fun x => Real.exp (-mn) * St lf ig kk vv (T + 128) (x 0) (x 1)) := by
  obtain ⟨A, hA⟩ := exists_amax c h g B
  refine ⟨_, mnext_Lf hA mp, ?_⟩
  rw [snext_Lf k v st hA]
  refine Lf_ext2 fun d hd j hj => ?_
  change snv c h g B k v st A mp d j = Real.exp (-(mr c h B A mp 127)) * St lf ig kk vv (T + (127 + 1)) d j
  unfold snv
  rw [show mr c h B A mp 127 = max (Fs lf (T + 127 + 1) - Fs lf T + mp) (A 127) from by rw [mr, H.hB 127 (by decide)]]
  rw [← next_a lf ig kk vv (fun s => Fs lf (T + s + 1) - Fs lf T) T (fun _ => rfl) 127 d j (A 127) mp]
  simp only [hst d hd j hj, H.hB 127 (by decide)]
  congr 2
  refine Finset.sum_congr rfl fun s hs => ?_
  have hs' := Finset.mem_range.mp hs
  rw [H.hk s hs' d hd, H.hB s hs', H.hg s hs', H.hvv hs']

theorem St_col (hv1 : ∀ s j, 128 ≤ j → vv s j = 1) (j : ℕ) (hj : 128 ≤ j) (T d : ℕ) :
    St lf ig kk vv T d j = St lf ig kk (fun _ _ => 1) T d 0 := by
  unfold St
  exact Finset.sum_congr rfl fun s _ => by rw [hv1 s j hj]

/-- Numerator (`j < 128`) and denominator (`j ≥ 128`) of the attention output: the read-out of the state after each row,
    times one factor. -/
theorem Chunk.hout (H : Chunk c h g B k v lf ig kk vv T) (qq : ℕ → ℕ → ℝ)
    (hq : ∀ r < 128, ∀ d < 128, q (p2 (128 * c.val + r) (128 * h.val + d)) = qq (T + r) d) (mp : ℝ)
    (hst : ∀ d < 128, ∀ j < 256, st (p2 d j) = Real.exp (-mp) * St lf ig kk vv T d j) :
    hout c h (Lf g) (Lf B) (Lf q) (Lf k) (Lf v) (Lf (fun _ => mp)) (Lf st)
      = Lf (fun x => (∑ d ∈ range 128, qq (T + x 0) d * St lf ig kk vv (T + (x 0 + 1)) d (x 1))
          / max |∑ d ∈ range 128, qq (T + x 0) d * St lf ig kk vv (T + (x 0 + 1)) d 128| 1) := by
  obtain ⟨A, hA⟩ := exists_amax c h g B
  have e : numden c h (Lf g) (Lf B) (Lf q) (Lf k) (Lf v) (Lf (fun _ => mp)) (Lf st)
      = Lf (fun x => Real.exp (-(mr c h B A mp (x 0))) * ∑ d ∈ range 128, qq (T + x 0) d * St lf ig kk vv (T + (x 0 + 1)) d (x 1)) := by
    rw [numden_Lf q k v st hA]
    refine Lf_ext2 fun r hr j hj => ?_
    change ndv c h g B q k v st A mp r j = Real.exp (-(mr c h B A mp r)) * ∑ d ∈ range 128, qq (T + r) d * St lf ig kk vv (T + (r + 1)) d j
    unfold ndv
    rw [← row_a lf ig kk vv (fun s => Fs lf (T + s + 1) - Fs lf T) T (fun _ => rfl) 128 r j hr (qq (T + r)) (A r) mp]
    congr 1
    · refine Finset.sum_congr rfl fun s hs => ?_
      have hs' := Finset.mem_range.mp hs
      rw [H.hvv hs']
      have e1 : (∑ d ∈ range 128, q (p2 (128 * c.val + r) (128 * h.val + d)) * k (p2 (128 * c.val + s) (128 * h.val + d)))
          = ∑ d ∈ range 128, qq (T + r) d * kk (T + s) d := Finset.sum_congr rfl fun d hd => by
        rw [hq r hr d (Finset.mem_range.mp hd), H.hk s hs' d (Finset.mem_range.mp hd)]
      rw [e1]
      simp only [dl, p2_0, p2_1, H.hB r hr, H.hB s hs', H.hg s hs']
    · refine Finset.sum_congr rfl fun d hd => ?_
      have hd' := Finset.mem_range.mp hd
      rw [hq r hr d hd', hst d hd' j hj, H.hB r hr]
  unfold Stage.hout
  rw [e, mrow_Lf hA]
  simp only [slice2_Lf, bc_zero, subf_Lf, exp_Lf, broadcastTo2_Lf, absf_Lf, maximumf_Lf, p2_0, p2_1]
  rw [divf_Lf _ _ fun i => ne_of_gt (lt_max_of_lt_right (Real.exp_pos _))]
  refine Lf_ext2 fun r hr j hj => ?_
  simp only [p2_0, p2_1, Nat.zero_add, zero_sub, Nat.reduceEqDiff, reduceIte]
  rw [← quot (mr c h B A mp r)]
  congr 3
  refine congrArg _ (Finset.sum_congr rfl fun d _ => ?_)
  rw [St_col H.hv1 (128 + j) (Nat.le_add_right _ _), St_col H.hv1 128 le_rfl]

end Rec

end Cert.Stage

end
-- ==== Proof.Spec.lean ====
/- The layer's output as reals: what both programs compute, entry by entry, of the reals their arguments hold. -/
module

public import proofs.«01_k».proof.Proof.LiftK
public import proofs.«01_k».proof.Proof.Math

@[expose] public section

noncomputable section

namespace Cert.Spec

open Cert.Lift Cert.Mem
open scoped BigOperators
open Finset (range)

/-- The reals the thirteen arguments hold, by coordinates. -/
structure Args where
  hn : (ℕ → ℕ) → ℝ
  win : (ℕ → ℕ) → ℝ
  x : (ℕ → ℕ) → ℝ
  ada : (ℕ → ℕ) → ℝ
  yr : (ℕ → ℕ) → ℝ
  wout : (ℕ → ℕ) → ℝ
  fg : (ℕ → ℕ) → ℝ
  cw : (ℕ → ℕ) → ℝ
  cb : (ℕ → ℕ) → ℝ
  bi : (ℕ → ℕ) → ℝ
  bf : (ℕ → ℕ) → ℝ
  lw : (ℕ → ℕ) → ℝ
  sk : (ℕ → ℕ) → ℝ

/-- The logistic function, silu, and the logarithm of the logistic function. -/
def sig (y : ℝ) : ℝ := 1 / (1 + Real.exp (-y))
@[inherit_doc sig] def silu (y : ℝ) : ℝ := y * sig y
@[inherit_doc sig] def lsg (y : ℝ) : ℝ := min y 0 - Real.log (1 + Real.exp (-|y|))

/-- The mean of 128 numbers, one of them less the mean, and normalised. -/
def mu (f : ℕ → ℝ) : ℝ := (∑ k ∈ range 128, f k) / 128
@[inherit_doc mu] def cen (f : ℕ → ℝ) (d : ℕ) : ℝ := f d - mu f
@[inherit_doc mu] def nrm (f : ℕ → ℝ) (d : ℕ) : ℝ := cen f d * (Real.sqrt (mu (fun k => cen f k * cen f k) + eps))⁻¹

/-- A number of 1024, by their root mean square. -/
def rmsn (f : ℕ → ℝ) (j : ℕ) : ℝ := f j * (Real.sqrt ((∑ k ∈ range 1024, f k * f k) / 1024 + eps))⁻¹

variable (A : Args) (b : ℕ)

/-- The input projection. -/
def P (t c : ℕ) : ℝ := ∑ d ∈ range 1024, A.hn (p3 b t d) * A.win (p3 0 d c)
/-- Its query and key columns `n` tokens back, nought before the sequence starts. -/
def up (n t c : ℕ) : ℝ := if t < n then 0 else P A b (t - n) (2176 + c)
/-- The causal convolution, then silu. -/
def qk (t c : ℕ) : ℝ := silu (A.cb (p2 0 c) + A.cw (p3 0 0 c) * up A b 3 t c + A.cw (p3 0 1 c) * up A b 2 t c + A.cw (p3 0 2 c) * up A b 1 t c
  + A.cw (p3 0 3 c) * up A b 0 t c)
/-- Head `h`'s queries, scaled keys, values (with ones after the last), input gates and forget gates' logarithms. -/
def q (h t d : ℕ) : ℝ := qk A b t (128 * h + d)
@[inherit_doc q] def k (h t d : ℕ) : ℝ := qk A b t (512 + (128 * h + d)) * ksc
@[inherit_doc q] def v (h t d : ℕ) : ℝ := if d < 128 then P A b t (3200 + (128 * h + d)) else 1
@[inherit_doc q] def ig (h t : ℕ) : ℝ := P A b t (4224 + h) + A.bi (p2 0 h)
@[inherit_doc q] def lf (h t : ℕ) : ℝ := lsg (P A b t (4228 + h) + A.bf (p2 0 h))
/-- The state after `t` tokens, and its read-out. -/
def S (h t d j : ℕ) : ℝ := St (lf A b h) (ig A b h) (k A b h) (v A b h) t d j
@[inherit_doc S] def rd (h t j : ℕ) : ℝ := ∑ d ∈ range 128, q A b h t d * S A b h (t + 1) d j
/-- The attention output. -/
def att (h t j : ℕ) : ℝ := rd A b h t j / max |rd A b h t 128| 1
/-- The branch's output. -/
def ym (h t d : ℕ) : ℝ :=
  (sig (P A b t (3712 + (128 * h + d))) * (nrm (att A b h t) d * A.lw (p2 0 (128 * h + d))) + A.sk (p2 0 (128 * h + d)) * q A b h t d)
    * silu (P A b t (4232 + (128 * h + d)))
/-- Both branches side by side. -/
def cat (t i : ℕ) : ℝ := if i < 512 then A.yr (p3 b t i) else ym A b ((i - 512) / 128) t ((i - 512) % 128)
/-- The residual plus the gated output projection. -/
def res (t j : ℕ) : ℝ := A.x (p3 b t j) + A.ada (p2 b (2048 + j)) * ∑ i ∈ range 1024, cat A b t i * A.wout (p3 0 i j)
/-- The layer's output. -/
def out (t j : ℕ) : ℝ := rmsn (res A b t) j * A.fg (p1 j)

end Cert.Spec

end
-- ==== Proof.TileLf.lean ====
/- The kernel's stages on a tile of reals. -/
module

public import proofs.«01_k».proof.Proof.UnitLf
public import proofs.«01_k».proof.Proof.Spec

@[expose] public section

set_option maxRecDepth 16384

noncomputable section

namespace Cert.Stage

open Idealize.ShloMosaic
open Cert.KernelIdeal Cert.KernelIdeal.Gen
open Cert.Lift Cert.Mem
open Cert.Spec (sig silu lsg mu cen nrm rmsn)
open scoped BigOperators
open Finset (range)

theorem one_add_exp_ne (y : ℝ) : 1 + Real.exp y ≠ 0 := (add_pos one_pos (Real.exp_pos y)).ne'

theorem sig_Lf {S : Shape} (f : (ℕ → ℕ) → ℝ) :
    divf (F := Ideal) (φ := .f32) (broadcast S (Scalar.ofBits (F := Ideal) .f32 0x3F800000#32))
      (addf (F := Ideal) (φ := .f32) (broadcast S (Scalar.ofBits (F := Ideal) .f32 0x3F800000#32)) (exp (F := Ideal) (φ := .f32)
        (subf (F := Ideal) (φ := .f32) (broadcast S (Scalar.ofBits (F := Ideal) .f32 0x00000000#32)) (Lf f)))) = Lf (fun c => sig (f c)) := by
  rw [bc_zero, bc_one, subf_Lf, exp_Lf, addf_Lf, divf_Lf _ _ fun i => one_add_exp_ne _]
  simp only [zero_sub]
  rfl

/-- The convolution at one entry. -/
def cv (x : (ℕ → ℕ) → ℝ) (b w3 w0 w1 w2 : ℝ) (r c : ℕ) : ℝ :=
  silu (b + w3 * x (p2 (8 + r) c) + w0 * x (p2 (5 + r) c) + w1 * x (p2 (6 + r) c) + w2 * x (p2 (7 + r) c))

theorem rot_Lf (n : BitVec 32) (f : (ℕ → ℕ) → ℝ) : dynamicRotate 0 n none (Lf f : S520x256.Idx → EReal) rotates_S520x256_d0
    = Lf (fun c => f (p2 ((c 0 + 520 - n.toNat % 520) % 520) (c 1))) := rotate2_Lf n f _

theorem sum128_Lf (f : (ℕ → ℕ) → ℝ) (hφ hacc) :
    multiReduction (F := Ideal) (φ := .f32) .add [1] S128 (Lf f : S128x128.Idx → EReal) 0x00000000#32 reduces_S128x128_S128 hφ hacc
      = Lf (fun c => ∑ k ∈ range 128, f (p2 (c 0) k)) := rowsum_Lf f 128 128 _ _ _

theorem conv_Lf (x b w3 w0 w1 w2 : (ℕ → ℕ) → ℝ) : conv (Lf x) (Lf b) (Lf w3) (Lf w0) (Lf w1) (Lf w2)
    = Lf (fun c => cv x (b (p2 0 (c 1))) (w3 (p2 0 (c 1))) (w0 (p2 0 (c 1))) (w1 (p2 0 (c 1))) (w2 (p2 0 (c 1))) (c 0) (c 1)) := by
  unfold conv
  erw [rot_Lf, rot_Lf, rot_Lf]
  simp only [cast_self_Lf, broadcastTo2_Lf, rot_Lf, slice2_Lf, mulf_Lf, addf_Lf]
  rw [sig_Lf, mulf_Lf]
  refine Lf_ext2 fun r hr s hs => ?_
  simp only [p2_0, p2_1, Nat.zero_add]
  have e1 : (8 + r + 520 - BitVec.toNat 3#32 % 520) % 520 = 5 + r := by
    show (8 + r + 520 - 3) % 520 = _; omega
  have e2 : (8 + r + 520 - BitVec.toNat 2#32 % 520) % 520 = 6 + r := by
    show (8 + r + 520 - 2) % 520 = _; omega
  have e3 : (8 + r + 520 - BitVec.toNat 1#32 % 520) % 520 = 7 + r := by
    show (8 + r + 520 - 1) % 520 = _; omega
  rw [e1, e2, e3]
  rfl

theorem gates_Lf (s b : (ℕ → ℕ) → ℝ) : gates (Lf s) (Lf b)
    = Lf (fun c => if 4 ≤ c 1 ∧ c 1 < 8 then lsg (s c + b (p2 0 (c 1))) else s c + b (p2 0 (c 1))) := by
  unfold gates
  simp only [cast_self_Lf, broadcastTo2_Lf, addf_Lf, bc_zero, bc_one, absf_Lf, subf_Lf, exp_Lf, minimumf_Lf]
  rw [log_Lf _ fun i => add_pos one_pos (Real.exp_pos _), subf_Lf, lanes_Lm, select_Lf]
  refine Lf_ext2 fun r hr s hs => ?_
  simp only [p2_1, zero_sub]
  rfl

theorem sums_Lf (g t : (ℕ → ℕ) → ℝ) : sums (Lf g) (Lf t) = Lf (fun c => ∑ s ∈ range 512, t (p2 (c 0) s) * g (p2 s (c 1))) := by
  unfold sums
  simp only [cast_self_Lf, truncf_Lf, extf_Lf, subf_Lf, mm2, addf_Lf, sub_self, mul_zero, Finset.sum_const_zero, add_zero]

theorem mean_Lf (f : (ℕ → ℕ) → ℝ) : mean (Lf f) = Lf (fun c => mu (fun k => f (p2 (c 0) k))) := by
  unfold mean
  erw [sum128_Lf]
  rw [cast_a_a1, bc_128, divf_Lf _ _ fun i => by norm_num]
  rfl

theorem centred_Lf (f : (ℕ → ℕ) → ℝ) : centred (Lf f) = Lf (fun c => cen (fun k => f (p2 (c 0) k)) (c 1)) := by
  unfold centred
  rw [mean_Lf, broadcastTo2_Lf, subf_Lf]
  exact Lf_ext2 fun r hr s hs => rfl

theorem mu_nonneg (f : ℕ → ℝ) : 0 ≤ mu (fun k => f k * f k) :=
  div_nonneg (Finset.sum_nonneg fun k _ => mul_self_nonneg _) (by norm_num)

theorem lnorm_Lf (f w : (ℕ → ℕ) → ℝ) : lnorm (Lf f) (Lf w) = Lf (fun c => nrm (fun k => f (p2 (c 0) k)) (c 1) * w (p2 0 (c 1))) := by
  unfold lnorm
  rw [centred_Lf, mulf_Lf, mean_Lf, bc_eps, addf_Lf, rsqrt_Lf _ fun i => add_pos_of_nonneg_of_pos (mu_nonneg _) eps_pos, broadcastTo2_Lf, mulf_Lf,
    cast_self_Lf, broadcastTo2_Lf, mulf_Lf]
  exact Lf_ext2 fun r hr s hs => rfl

theorem unit_Lf {c h : Fin 4} {g B : V S512x128} {k' : V S512x512} {q o z lw sk : (ℕ → ℕ) → ℝ} {v : V S128x128} {mp : V S1x1} {st : V S128x256}
    {H : (ℕ → ℕ) → ℝ} (hH : hout c h g B (Lf q) k' v mp st = Lf H) :
    unit c h g B (Lf q) k' v mp st (Lf lw) (Lf o) (Lf sk) (Lf z)
      = Lf (fun x => (sig (o x) * (nrm (fun d => H (p2 (x 0) d)) (x 1) * lw (p2 0 (x 1)))
          + sk (p2 0 (x 1)) * q (p2 (128 * c.val + x 0) (128 * h.val + x 1))) * silu (z x)) := by
  unfold unit sigm
  rw [hH, sig_Lf, sig_Lf, lnorm_Lf, mulf_Lf, cast_self_Lf, broadcastTo2_Lf, blk_Lf, mulf_Lf, addf_Lf, mulf_Lf, mulf_Lf, truncf_Lf]
  exact Lf_ext2 fun r hr s hs => rfl

/-- The triangular matrix, block by block. -/
def tri (c : ℕ → ℕ) : ℝ := if c 0 / 128 = c 1 / 128 ∧ c 1 ≤ c 0 then 1 else 0

/-- Summing a row of the triangular matrix leaves the running sum inside the row's block. -/
theorem tri_sum (c r : ℕ) (hc : c < 4) (hr : r < 128) (f : ℕ → ℝ) :
    ∑ s ∈ range 512, tri (p2 (128 * c + r) s) * f s = ∑ s ∈ range (r + 1), f (128 * c + s) := by
  have e : ∀ s, tri (p2 (128 * c + r) s) * f s = if 128 * c ≤ s ∧ s ≤ 128 * c + r then f s else 0 := fun s => by
    have : ((128 * c + r) / 128 = s / 128 ∧ s ≤ 128 * c + r) ↔ (128 * c ≤ s ∧ s ≤ 128 * c + r) := by omega
    simp only [tri, p2_0, p2_1, this]
    split_ifs <;> simp
  simp only [e]
  rw [← Finset.sum_filter]
  refine (Finset.sum_bij (fun s _ => 128 * c + s) (fun s hs => ?_) (fun _ _ _ _ h => by omega) (fun s hs => ?_) (fun _ _ => rfl)).symm
  · have := Finset.mem_range.mp hs
    simp only [Finset.mem_filter, Finset.mem_range]; omega
  · simp only [Finset.mem_filter, Finset.mem_range] at hs
    exact ⟨s - 128 * c, Finset.mem_range.mpr (by omega), by omega⟩

end Cert.Stage

end
-- ==== Proof.TileSpec.lean ====
/- The kernel's tile of 512 tokens of one sequence: its projection, its convolution window, its gates and its units are the
   entries of the layer's mathematics at those tokens. -/
module

public import proofs.«01_k».proof.Proof.TileLf

@[expose] public section

set_option maxRecDepth 16384

noncomputable section

namespace Cert.Stage

open Idealize.ShloMosaic
open Cert.KernelIdeal Cert.KernelIdeal.Gen
open Cert.Lift Cert.Mem
open Cert.Spec (sig silu lsg mu cen nrm rmsn)
open scoped BigOperators
open Finset (range)

variable (A : Spec.Args) (b τ : ℕ)

/-- The weights of the tile's projection, column by column: queries, keys, values and output gates, then the silu gates,
    then the two gates. -/
def wc (d c : ℕ) : ℝ :=
  if c < 2048 then A.win (p3 0 d (2176 + c)) else if c < 2560 then A.win (p3 0 d (4232 + (c - 2048)))
  else if c < 2568 then A.win (p3 0 d (4224 + (c - 2560))) else 0

/-- The tile's projection. -/
def PJ (c : ℕ → ℕ) : ℝ := ∑ d ∈ range 1024, A.hn (p3 b (512 * τ + c 0) d) * wc A d (c 1)

theorem PJ_a (r c : ℕ) (h : c < 2048) : PJ A b τ (p2 r c) = Spec.P A b (512 * τ + r) (2176 + c) :=
  Finset.sum_congr rfl fun d _ => by
    show _ * wc A d c = _
    rw [wc, if_pos h]; rfl
theorem PJ_z (r c : ℕ) (h : c < 512) : PJ A b τ (p2 r (2048 + c)) = Spec.P A b (512 * τ + r) (4232 + c) :=
  Finset.sum_congr rfl fun d _ => by
    show _ * wc A d (2048 + c) = _
    rw [wc, if_neg (by omega), if_pos (by omega), Nat.add_sub_cancel_left]; rfl
theorem PJ_g (r c : ℕ) (h : c < 8) : PJ A b τ (p2 r (2560 + c)) = Spec.P A b (512 * τ + r) (4224 + c) :=
  Finset.sum_congr rfl fun d _ => by
    show _ * wc A d (2560 + c) = _
    rw [wc, if_neg (by omega), if_neg (by omega), if_pos (by omega), Nat.add_sub_cancel_left]; rfl

/-- The convolution's window: the tile's query and key columns below the eight tokens before it. -/
def xw (r c : ℕ) : ℝ := if 512 * τ + r < 8 then 0 else Spec.P A b (512 * τ + r - 8) (2176 + c)
@[inherit_doc xw] def XW (c : ℕ → ℕ) : ℝ := xw A b τ (c 0) (c 1)

theorem XW_up (n r c : ℕ) (hn : n ≤ 8) : XW A b τ (p2 (8 - n + r) c) = Spec.up A b n (512 * τ + r) c := by
  show xw A b τ (8 - n + r) c = _
  unfold xw Spec.up
  by_cases h : 512 * τ + r < n
  · rw [if_pos h, if_pos (by omega)]
  · rw [if_neg h, if_neg (by omega)]
    congr 1; omega

/-- The gates' bias row. -/
def gbv (c : ℕ) : ℝ := if c < 4 then A.bi (p2 0 c) else if c < 8 then A.bf (p2 0 (c - 4)) else 0
@[inherit_doc gbv] def gb (c : ℕ → ℕ) : ℝ := gbv A (c 1)

/-- The tile's gates. -/
def gv (r c : ℕ) : ℝ := if 4 ≤ c ∧ c < 8 then lsg (PJ A b τ (p2 r (2560 + c)) + gbv A c) else PJ A b τ (p2 r (2560 + c)) + gbv A c
@[inherit_doc gv] def GT (c : ℕ → ℕ) : ℝ := gv A b τ (c 0) (c 1)

theorem GT_i (r h : ℕ) (hh : h < 4) : GT A b τ (p2 r h) = Spec.ig A b h (512 * τ + r) := by
  show gv A b τ r h = _
  unfold gv gbv
  rw [if_neg (by omega), if_pos hh, PJ_g A b τ r h (by omega)]
  rfl
theorem GT_f (r h : ℕ) (hh : h < 4) : GT A b τ (p2 r (4 + h)) = Spec.lf A b h (512 * τ + r) := by
  show gv A b τ r (4 + h) = _
  unfold gv gbv
  rw [if_pos (by omega), if_neg (by omega), if_pos (by omega), PJ_g A b τ r (4 + h) (by omega), Nat.add_sub_cancel_left, ← Nat.add_assoc]
  rfl

/-- The running sums of the gates. -/
def BT (c : ℕ → ℕ) : ℝ := ∑ s ∈ range 512, tri (p2 (c 0) s) * GT A b τ (p2 s (c 1))

theorem BT_f (c r h : ℕ) (hc : c < 4) (hr : r < 128) (hh : h < 4) :
    BT A b τ (p2 (128 * c + r) (4 + h)) = Fs (Spec.lf A b h) (512 * τ + 128 * c + r + 1) - Fs (Spec.lf A b h) (512 * τ + 128 * c) := by
  unfold BT
  simp only [p2_0, p2_1, GT_f A b τ _ h hh]
  rw [tri_sum c r hc hr (fun s => Spec.lf A b h (512 * τ + s)), show 512 * τ + 128 * c + r + 1 = 512 * τ + 128 * c + (r + 1) from rfl, Fs_add]
  simp only [← Nat.add_assoc, add_sub_cancel_left]

section Mem

variable (P : Memref sig .tc .vmem S512x2688 .f32) (hP : P.IsWhole)
  (arg9 : Memref sig .tc .vmem S4x1024 .f32) (harg9 : arg9.IsWhole)
  (arg10 : Memref sig .tc .vmem S1x1024 .f32) (harg10 : arg10.IsWhole)
  (arg11 : Memref sig .tc .vmem S1x128 .f32) (harg11 : arg11.IsWhole)
  (arg12 : Memref sig .tc .vmem S1x512 .f32) (harg12 : arg12.IsWhole)
  (arg13 : Memref sig .tc .vmem S1x512 .f32) (harg13 : arg13.IsWhole)
  (arg14 : Memref sig .tc .vmem S512x512 .bf16) (harg14 : arg14.IsWhole)
  (m0 : Fin 4 → V S1x1) (s0 : Fin 4 → V S128x256)

/-- The convolution's weights and bias, and the window's four column blocks. -/
abbrev cwF : Vec Ideal S4x1024 .f32 := (Lf (fun c => A.cw (p3 0 (c 0) (c 1))) : S4x1024.Idx → EReal)
@[inherit_doc cwF] abbrev cbF : Vec Ideal S1x1024 .f32 := (Lf (fun c => A.cb (p2 0 (c 1))) : S1x1024.Idx → EReal)
@[inherit_doc cwF] abbrev xwF (j : Fin 4) : V S520x256 := Lf (fun c => XW A b τ (p2 (c 0) (256 * j.val + c 1)))

theorem convAt_Lf (j : Fin 4) : convAt arg9 harg9 (cwF A) arg10 harg10 (cbF A) (xwF A b τ) j
    = Lf (fun c => Spec.qk A b (512 * τ + c 0) (256 * j.val + c 1)) := by
  unfold convAt cwF cbF xwF
  rw [ld2_Lf, ld2_Lf, ld2_Lf, ld2_Lf, ld2_Lf, conv_Lf]
  refine Lf_ext2 fun r hr c hc => ?_
  unfold cv Spec.qk
  simp only [p2_0, p2_1, p3_0, p3_1, p3_2, Nat.add_zero]
  rw [← XW_up A b τ 3 _ _ (by decide), ← XW_up A b τ 2 _ _ (by decide), ← XW_up A b τ 1 _ _ (by decide), ← XW_up A b τ 0 _ _ (by decide)]
  congr 1
  ring

theorem convAll_Lf : convAll arg9 harg9 (cwF A) arg10 harg10 (cbF A) (xwF A b τ) = Lf (fun c => Spec.qk A b (512 * τ + c 0) (c 1)) := by
  unfold convAll qk4
  rw [convAt_Lf, convAt_Lf, convAt_Lf, convAt_Lf, concat4_1]
  refine Lf_ext2 fun r hr c hc => ?_
  show (if c < 256 then Spec.qk A b (512 * τ + r) (256 * 0 + c) else if c - 256 < 256 then Spec.qk A b (512 * τ + r) (256 * 1 + (c - 256))
    else if c - 256 - 256 < 256 then Spec.qk A b (512 * τ + r) (256 * 2 + (c - 256 - 256))
    else Spec.qk A b (512 * τ + r) (256 * 3 + (c - 256 - 256 - 256))) = Spec.qk A b (512 * τ + r) c
  split_ifs <;> exact congrArg _ (by omega)

/-- A tile's blocks. -/
abbrev tb : Blocks := blocks P hP (Lf (PJ A b τ) : S512x2688.Idx → EReal) arg9 harg9 (cwF A) arg10 harg10 (cbF A)
  arg11 harg11 (Lf (gb A) : S1x128.Idx → EReal) arg12 harg12 (Lf (fun c => A.lw (p2 0 (c 1))) : S1x512.Idx → EReal)
  arg13 harg13 (Lf (fun c => A.sk (p2 0 (c 1))) : S1x512.Idx → EReal) arg14 harg14 (Lf tri : S512x512.Idx → EReal) (xwF A b τ) m0 s0

/-- The tile's queries and keys. -/
def QT (c : ℕ → ℕ) : ℝ := Spec.qk A b (512 * τ + c 0) (c 1)
@[inherit_doc QT] def KT (c : ℕ → ℕ) : ℝ := Spec.qk A b (512 * τ + c 0) (512 + c 1) * ksc
/-- A unit's values. -/
def VT (c h : Fin 4) (x : ℕ → ℕ) : ℝ := PJ A b τ (p2 (128 * c.val + x 0) (1024 + 128 * h.val + x 1))

theorem tb_q : (tb A b τ P hP arg9 harg9 arg10 harg10 arg11 harg11 arg12 harg12 arg13 harg13 arg14 harg14 m0 s0).q = Lf (QT A b τ) := by
  show qOf (convAll arg9 harg9 (cwF A) arg10 harg10 (cbF A) (xwF A b τ)) = _
  rw [convAll_Lf]; unfold qOf; rw [slice2_Lf]
  refine Lf_ext2 fun r hr c hc => ?_
  simp only [p2_0, p2_1, Nat.zero_add]
  rfl
theorem tb_k : (tb A b τ P hP arg9 harg9 arg10 harg10 arg11 harg11 arg12 harg12 arg13 harg13 arg14 harg14 m0 s0).k = Lf (KT A b τ) := by
  show kOf (convAll arg9 harg9 (cwF A) arg10 harg10 (cbF A) (xwF A b τ)) = _
  rw [convAll_Lf]; unfold kOf; rw [slice2_Lf, bc_ksc, mulf_Lf]
  refine Lf_ext2 fun r hr c hc => ?_
  simp only [p2_0, p2_1, Nat.zero_add]
  rfl
theorem gatesOf_Lf : gatesOf P hP (Lf (PJ A b τ) : S512x2688.Idx → EReal) arg11 harg11 (Lf (gb A) : S1x128.Idx → EReal) = Lf (GT A b τ) := by
  unfold gatesOf
  rw [ld2_Lf, ld2_Lf, gates_Lf]
  refine Lf_ext2 fun r hr c hc => ?_
  simp only [p2_0, p2_1, Nat.zero_add]
  rfl
theorem tb_g : (tb A b τ P hP arg9 harg9 arg10 harg10 arg11 harg11 arg12 harg12 arg13 harg13 arg14 harg14 m0 s0).g = Lf (GT A b τ) := gatesOf_Lf ..
theorem tb_B : (tb A b τ P hP arg9 harg9 arg10 harg10 arg11 harg11 arg12 harg12 arg13 harg13 arg14 harg14 m0 s0).B = Lf (BT A b τ) := by
  show sums (gatesOf P hP (Lf (PJ A b τ) : S512x2688.Idx → EReal) arg11 harg11 (Lf (gb A) : S1x128.Idx → EReal)) _ = _
  rw [gatesOf_Lf, ld2_Lf16, sums_Lf]
  refine Lf_ext2 fun r hr c hc => ?_
  simp only [p2_0, p2_1, Nat.zero_add]
  rfl
theorem tb_v (c h : Fin 4) : (tb A b τ P hP arg9 harg9 arg10 harg10 arg11 harg11 arg12 harg12 arg13 harg13 arg14 harg14 m0 s0).v c h = Lf (VT A b τ c h) := ld2_Lf P hP (PJ A b τ) 128 128 (128 * c.val) (1024 + 128 * h.val) (by omega) (by omega)

/-- A unit reads the chunk of the sequences at its tokens. -/
theorem tchunk (c h : Fin 4) : Chunk c h (GT A b τ) (BT A b τ) (KT A b τ) (VT A b τ c h) (Spec.lf A b h) (Spec.ig A b h) (Spec.k A b h) (Spec.v A b h)
    (512 * τ + 128 * c.val) where
  hg r hr := by rw [GT_i A b τ _ _ h.isLt, ← Nat.add_assoc]
  hB r hr := BT_f A b τ _ _ _ c.isLt hr h.isLt
  hk r hr d hd := by simp only [KT, Spec.k, p2_0, p2_1, ← Nat.add_assoc]
  hv r hr j hj := by
    simp only [VT, p2_0, p2_1, Spec.v, if_pos hj]
    rw [PJ_a A b τ _ _ (by omega)]
    congr 1 <;> omega
  hv1 s j hj := if_neg (by omega)

/-- What a head carries, `n` units into the tile. -/
theorem tb_ms (h : Fin 4) (m : ℝ) (hm : m0 h = Lf (fun _ => m))
    (hs : s0 h = Lf (fun x => Real.exp (-m) * Spec.S A b h (512 * τ) (x 0) (x 1))) (n : ℕ) (hn : n ≤ 4) :
    ∃ m' : ℝ, (tb A b τ P hP arg9 harg9 arg10 harg10 arg11 harg11 arg12 harg12 arg13 harg13 arg14 harg14 m0 s0).m h n = Lf (fun _ => m') ∧ (tb A b τ P hP arg9 harg9 arg10 harg10 arg11 harg11 arg12 harg12 arg13 harg13 arg14 harg14 m0 s0).s h n = Lf (fun x => Real.exp (-m') * Spec.S A b h (512 * τ + 128 * n) (x 0) (x 1)) := by
  induction n with
  | zero => exact ⟨m, hm, hs⟩
  | succ n ih =>
    obtain ⟨m', h1, h2⟩ := ih (by omega)
    have hn4 : n % 4 = n := Nat.mod_eq_of_lt (by omega)
    have H := tchunk A b τ ⟨n % 4, Nat.mod_lt _ (by decide)⟩ h
    obtain ⟨mn, e1, e2⟩ := H.next (fun x => Real.exp (-m') * Spec.S A b h (512 * τ + 128 * n) (x 0) (x 1)) m' (fun d _ j _ => by
      simp only [p2_0, p2_1, hn4]; rfl)
    refine ⟨mn, ?_, ?_⟩
    · show mnext ⟨n % 4, _⟩ h (tb A b τ P hP arg9 harg9 arg10 harg10 arg11 harg11 arg12 harg12 arg13 harg13 arg14 harg14 m0 s0).g (tb A b τ P hP arg9 harg9 arg10 harg10 arg11 harg11 arg12 harg12 arg13 harg13 arg14 harg14 m0 s0).B ((tb A b τ P hP arg9 harg9 arg10 harg10 arg11 harg11 arg12 harg12 arg13 harg13 arg14 harg14 m0 s0).m h n) = _
      rw [tb_g, tb_B, h1, e1]
    · show snext ⟨n % 4, _⟩ h (tb A b τ P hP arg9 harg9 arg10 harg10 arg11 harg11 arg12 harg12 arg13 harg13 arg14 harg14 m0 s0).g (tb A b τ P hP arg9 harg9 arg10 harg10 arg11 harg11 arg12 harg12 arg13 harg13 arg14 harg14 m0 s0).B (tb A b τ P hP arg9 harg9 arg10 harg10 arg11 harg11 arg12 harg12 arg13 harg13 arg14 harg14 m0 s0).k ((tb A b τ P hP arg9 harg9 arg10 harg10 arg11 harg11 arg12 harg12 arg13 harg13 arg14 harg14 m0 s0).v ⟨n % 4, _⟩ h) ((tb A b τ P hP arg9 harg9 arg10 harg10 arg11 harg11 arg12 harg12 arg13 harg13 arg14 harg14 m0 s0).m h n) ((tb A b τ P hP arg9 harg9 arg10 harg10 arg11 harg11 arg12 harg12 arg13 harg13 arg14 harg14 m0 s0).s h n) = _
      rw [tb_g, tb_B, tb_k, tb_v, h1, h2, e2]
      refine Lf_ext2 fun d _ j _ => ?_
      simp only [hn4]
      rw [Nat.add_assoc, ← Nat.mul_succ]; rfl

/-- What a unit hands on. -/
theorem tb_y (h : Fin 4) (m : ℝ) (hm : m0 h = Lf (fun _ => m))
    (hs : s0 h = Lf (fun x => Real.exp (-m) * Spec.S A b h (512 * τ) (x 0) (x 1))) (c : Fin 4) :
    (tb A b τ P hP arg9 harg9 arg10 harg10 arg11 harg11 arg12 harg12 arg13 harg13 arg14 harg14 m0 s0).y h c = Lf (fun x => Spec.ym A b h (512 * τ + 128 * c.val + x 0) (x 1)) := by
  obtain ⟨m', h1, h2⟩ := tb_ms A b τ P hP arg9 harg9 arg10 harg10 arg11 harg11 arg12 harg12 arg13 harg13 arg14 harg14 m0 s0 h m hm hs c.val (by omega)
  have e := (tchunk A b τ c h).hout (QT A b τ) (fun x => Real.exp (-m') * Spec.S A b h (512 * τ + 128 * c.val) (x 0) (x 1)) (Spec.q A b h)
    (fun r _ d _ => by simp only [QT, Spec.q, p2_0, p2_1, ← Nat.add_assoc]) m' (fun d _ j _ => rfl)
  show unit c h (tb A b τ P hP arg9 harg9 arg10 harg10 arg11 harg11 arg12 harg12 arg13 harg13 arg14 harg14 m0 s0).g (tb A b τ P hP arg9 harg9 arg10 harg10 arg11 harg11 arg12 harg12 arg13 harg13 arg14 harg14 m0 s0).B (tb A b τ P hP arg9 harg9 arg10 harg10 arg11 harg11 arg12 harg12 arg13 harg13 arg14 harg14 m0 s0).q (tb A b τ P hP arg9 harg9 arg10 harg10 arg11 harg11 arg12 harg12 arg13 harg13 arg14 harg14 m0 s0).k ((tb A b τ P hP arg9 harg9 arg10 harg10 arg11 harg11 arg12 harg12 arg13 harg13 arg14 harg14 m0 s0).v c h) ((tb A b τ P hP arg9 harg9 arg10 harg10 arg11 harg11 arg12 harg12 arg13 harg13 arg14 harg14 m0 s0).m h c) ((tb A b τ P hP arg9 harg9 arg10 harg10 arg11 harg11 arg12 harg12 arg13 harg13 arg14 harg14 m0 s0).s h c) (ld2 arg12 harg12 _ 1 128 0 (128 * h.val) (by omega) (by omega))
    (ld2 P hP _ 128 128 (128 * c.val) (1536 + 128 * h.val) (by omega) (by omega)) (ld2 arg13 harg13 _ 1 128 0 (128 * h.val) (by omega) (by omega))
    (ld2 P hP _ 128 128 (128 * c.val) (2048 + 128 * h.val) (by omega) (by omega)) = _
  rw [tb_g, tb_B, tb_q, tb_k, tb_v, h1, h2, ld2_Lf, ld2_Lf, ld2_Lf, ld2_Lf, unit_Lf e]
  refine Lf_ext2 fun r hr d hd => ?_
  simp only [p2_0, p2_1]
  unfold Spec.ym
  rw [PJ_a A b τ _ _ (by omega), show 2048 + 128 * h.val + d = 2048 + (128 * h.val + d) from by omega, PJ_z A b τ _ _ (by omega)]
  rw [show 512 * τ + (128 * c.val + r) = 512 * τ + 128 * c.val + r from by omega,
    show 2176 + (1536 + 128 * h.val + d) = 3712 + (128 * h.val + d) from by omega]
  simp only [QT, p2_0, p2_1, ← Nat.add_assoc, Spec.q]
  rfl

end Mem

end Cert.Stage

end
-- ==== Proof.Win.lean ====
/- The convolution's window: what the writes of a tile's columns, block by block, leave in it, and what is read out of it
   between them. -/
module

public import proofs.«01_k».proof.Proof.Stage

@[expose] public section

set_option maxRecDepth 16384

noncomputable section

namespace Cert.Stage

open Idealize.ShloMosaic
open Cert.KernelIdeal Cert.KernelIdeal.Gen

/-- The window read at block `j` after writes. -/
def winAt (v : View sig .tc .vmem S520x1024 .f32) (f : v.ty.Contents (Elt Ideal)) (j : Fin 4) (L : List (View.Piece (Elt Ideal) S520x1024 .f32)) : V S520x256 :=
  v.readAt (Elt Ideal) (Rect.unit (s := S520x1024) ![0, 256 * j.val] S520x256.size (inb2 520 1024 520 256 (by omega) (by omega))).toLoadRect
    (v.writes (Elt Ideal) f L)
/-- The window's writes, block by block, last first: `n` blocks' rows and then their last eight rows above them. -/
def XL (v : View sig .tc .vmem S520x1024 .f32) (f : v.ty.Contents (Elt Ideal)) (p : Fin 4 → V S512x256) : ℕ → List (View.Piece (Elt Ideal) S520x1024 .f32)
  | 0 => []
  | n + 1 =>
    let j : Fin 4 := ⟨n % 4, Nat.mod_lt _ (by decide)⟩
    xtail j (winAt v f j (xnew j (p j) :: XL v f p n)) :: xnew j (p j) :: XL v f p n
/-- The window of block `j`. -/
def XWin (v : View sig .tc .vmem S520x1024 .f32) (f : v.ty.Contents (Elt Ideal)) (p : Fin 4 → V S512x256) (j : Fin 4) : V S520x256 :=
  winAt v f j (xnew j (p j) :: XL v f p j.val)

end Cert.Stage

end
-- ==== Proof.TileMem.lean ====
/- What a tile's point leaves in the scratch memories and in the output block, as the layer's mathematics: the projection,
   the branch's output, the convolution window, the states and the stabilisers, and the normalised output. -/
module

public import proofs.«01_k».proof.Proof.TileSpec
public import proofs.«01_k».proof.Proof.Win

@[expose] public section

set_option maxRecDepth 16384

noncomputable section

namespace Cert.Stage

open Idealize.ShloMosaic
open Cert.KernelIdeal Cert.KernelIdeal.Gen
open Cert.Lift Cert.Mem
open Cert.Spec (sig silu lsg mu cen nrm rmsn)
open scoped BigOperators
open Finset (range)

/-! ## Pieces that agree with one function -/

/-- A piece whose payload is the function `G` at the piece's place. -/
def Ok {s : Shape} {e : EltTy} (G : s.Idx → Elt Ideal e) (p : View.Piece (Elt Ideal) s e) : Prop :=
  ∀ x : p.1.shape.Idx, p.2 x = G (p.1.emb x)

/-- A read after writes that all agree with `G` gives `G`, if the entry was `G`'s before or some piece covers it. -/
theorem read_ok {sp : Space} {s : Shape} {e : EltTy} {κ : Kind} (v : View sig κ sp s e) (f : v.ty.Contents (Elt Ideal)) (L : List (View.Piece (Elt Ideal) s e))
    (G : s.Idx → Elt Ideal e) (hL : ∀ p ∈ L, Ok G p) (y : s.Idx) (hy : (∀ p ∈ L, y ∉ p.1.set) → v.read (Elt Ideal) f y = G y) :
    v.read (Elt Ideal) (v.writes (Elt Ideal) f L) y = G y := by
  by_cases h : ∃ p ∈ L, y ∈ p.1.set
  · exact View.read_writes_apply_of_pieces v f G L hL y h
  · have h' : ∀ p ∈ L, y ∉ p.1.set := fun p hp hm => h ⟨p, hp, hm⟩
    rw [View.read_writes_apply_of_forall_not_mem v f y L h', hy h']

/-- A block of an array of reals. -/
theorem unit2 {a b a' b' o0 o1 : ℕ} (inb) (f G : (ℕ → ℕ) → ℝ) (h : ∀ r < a', ∀ c < b', f (p2 r c) = G (p2 (o0 + r) (o1 + c)))
    (x : (Rect.unit (s := ⟨2, ![a, b]⟩) ![o0, o1] ![a', b'] inb).shape.Idx) :
    (Lf f : (Rect.unit (s := ⟨2, ![a, b]⟩) ![o0, o1] ![a', b'] inb).shape.Idx → EReal) x
      = (Lf G : (⟨2, ![a, b]⟩ : Shape).Idx → EReal) ((Rect.unit (s := ⟨2, ![a, b]⟩) ![o0, o1] ![a', b'] inb).emb x) := by
  refine (Lf_apply f x).trans (Eq.trans ?_ (Lf_apply G _).symm)
  have e : (cr ((Rect.unit (s := ⟨2, ![a, b]⟩) ![o0, o1] ![a', b'] inb).emb x)) = p2 (o0 + (x 0).val) (o1 + (x 1).val) := by
    rw [cr2]
    congr 1
    · show o0 + 1 * (x 0).val = _
      rw [Nat.one_mul]
    · show o1 + 1 * (x 1).val = _
      rw [Nat.one_mul]
  rw [e, ← h _ (x 0).isLt _ (x 1).isLt]
  exact congrArg (fun c => ((f c : ℝ) : EReal)) (cr2 (a := a') (b := b') x)
@[inherit_doc unit2] theorem unit3 {a b d a' b' d' o0 o1 o2 : ℕ} (inb) (f G : (ℕ → ℕ) → ℝ)
    (h : ∀ r < a', ∀ c < b', ∀ k < d', f (p3 r c k) = G (p3 (o0 + r) (o1 + c) (o2 + k)))
    (x : (Rect.unit (s := ⟨3, ![a, b, d]⟩) ![o0, o1, o2] ![a', b', d'] inb).shape.Idx) :
    (Lf f : (Rect.unit (s := ⟨3, ![a, b, d]⟩) ![o0, o1, o2] ![a', b', d'] inb).shape.Idx → EReal) x
      = (Lf G : (⟨3, ![a, b, d]⟩ : Shape).Idx → EReal) ((Rect.unit (s := ⟨3, ![a, b, d]⟩) ![o0, o1, o2] ![a', b', d'] inb).emb x) := by
  refine (Lf_apply f x).trans (Eq.trans ?_ (Lf_apply G _).symm)
  have e : (cr ((Rect.unit (s := ⟨3, ![a, b, d]⟩) ![o0, o1, o2] ![a', b', d'] inb).emb x)) = p3 (o0 + (x 0).val) (o1 + (x 1).val) (o2 + (x 2).val) := by
    rw [cr3]
    congr 1
    · show o0 + 1 * (x 0).val = _
      rw [Nat.one_mul]
    · show o1 + 1 * (x 1).val = _
      rw [Nat.one_mul]
    · show o2 + 1 * (x 2).val = _
      rw [Nat.one_mul]
  rw [e, ← h _ (x 0).isLt _ (x 1).isLt _ (x 2).isLt]
  exact congrArg (fun c => ((f c : ℝ) : EReal)) (cr3 (a := a') (b := b') (c := d') x)

variable (A : Spec.Args) (b τ : ℕ)

/-! ## The projection -/

section Proj

variable (arg1 : Memref sig .tc .vmem S1x512x1024 .bf16) (harg1 : arg1.IsWhole)
  (arg2 : Memref sig .tc .vmem S1024x2048 .bf16) (harg2 : arg2.IsWhole)
  (arg3 : Memref sig .tc .vmem S1024x640 .bf16) (harg3 : arg3.IsWhole)

/-- A tile of the normed activations, the first weights, and the rest of them. -/
abbrev hnF : Vec Ideal S1x512x1024 .bf16 := (Lf (fun c => A.hn (p3 b (512 * τ + c 1) (c 2))) : S1x512x1024.Idx → EReal)
@[inherit_doc hnF] abbrev waF : Vec Ideal S1024x2048 .bf16 := (Lf (fun c => wc A (c 0) (c 1)) : S1024x2048.Idx → EReal)
@[inherit_doc hnF] abbrev wbF : Vec Ideal S1024x640 .bf16 := (Lf (fun c => wc A (c 0) (2048 + c 1)) : S1024x640.Idx → EReal)

theorem pr256_Lf (f g : (ℕ → ℕ) → ℝ) : pr256 (Lf f : S1x512x1024.Idx → EReal) (Lf g : S1024x256.Idx → EReal)
    = Lf (fun c => ∑ k ∈ range 1024, f (p3 0 (c 0) k) * g (p2 k (c 1))) := by
  unfold pr256
  rw [cast_1ab_ab, cast_self_Lf, mm0, cast_self_Lf]
  rfl
theorem pr128_Lf (f g : (ℕ → ℕ) → ℝ) : pr128 (Lf f : S1x512x1024.Idx → EReal) (Lf g : S1024x128.Idx → EReal)
    = Lf (fun c => ∑ k ∈ range 1024, f (p3 0 (c 0) k) * g (p2 k (c 1))) := by
  unfold pr128
  rw [cast_1ab_ab, cast_self_Lf, mm1, cast_self_Lf]
  rfl

theorem ppiece_ok (j : Fin 8) : Ok (e := .f32) (Lf (PJ A b τ) : S512x2688.Idx → EReal) (ppiece arg1 harg1 (hnF A b τ) arg2 harg2 (waF A) j) := fun x => by
  unfold ppiece
  dsimp only
  rw [ld3_Lf16, ld2_Lf16, pr256_Lf]
  refine unit2 _ _ _ (fun r hr c hc => ?_) x
  simp only [p3_1, p3_2, p2_0, p2_1, Nat.zero_add, PJ]
theorem ppiece'_ok (j : Fin 2) : Ok (e := .f32) (Lf (PJ A b τ) : S512x2688.Idx → EReal) (ppiece' arg1 harg1 (hnF A b τ) arg3 harg3 (wbF A) j) := fun x => by
  unfold ppiece'
  dsimp only
  rw [ld3_Lf16, ld2_Lf16, pr256_Lf]
  refine unit2 _ _ _ (fun r hr c hc => ?_) x
  simp only [p3_1, p3_2, p2_0, p2_1, Nat.zero_add, PJ, Nat.add_assoc]
theorem ppieceL_ok : Ok (e := .f32) (Lf (PJ A b τ) : S512x2688.Idx → EReal) (ppieceL arg1 harg1 (hnF A b τ) arg3 harg3 (wbF A)) := fun x => by
  unfold ppieceL
  dsimp only
  rw [ld3_Lf16, ld2_Lf16, pr128_Lf]
  refine unit2 _ _ _ (fun r hr c hc => ?_) x
  simp only [p3_1, p3_2, p2_0, p2_1, Nat.zero_add, PJ]
  refine Finset.sum_congr rfl fun d _ => ?_
  rw [show 2048 + (512 + c) = 2560 + c by omega]

theorem ppieces_ok : ∀ p ∈ ppieces arg1 harg1 (hnF A b τ) arg2 harg2 (waF A) arg3 harg3 (wbF A), Ok (e := .f32) (Lf (PJ A b τ) : S512x2688.Idx → EReal) p := by
  have a := ppiece_ok A b τ arg1 harg1 arg2 harg2
  have a' := ppiece'_ok A b τ arg1 harg1 arg3 harg3
  unfold ppieces
  refine List.forall_mem_cons.2 ⟨ppieceL_ok A b τ arg1 harg1 arg3 harg3, List.forall_mem_cons.2 ⟨a' 1, List.forall_mem_cons.2 ⟨a' 0, ?_⟩⟩⟩
  refine List.forall_mem_cons.2 ⟨a 7, List.forall_mem_cons.2 ⟨a 6, List.forall_mem_cons.2 ⟨a 5, List.forall_mem_cons.2 ⟨a 4, ?_⟩⟩⟩⟩
  exact List.forall_mem_cons.2 ⟨a 3, List.forall_mem_cons.2 ⟨a 2, List.forall_mem_cons.2 ⟨a 1, List.forall_mem_cons.2 ⟨a 0, fun _ h => nomatch h⟩⟩⟩⟩

theorem proj_read {sp : Space} {κ : Kind} (v : View sig κ sp S512x2688 .f32) (f) : v.read (Elt Ideal) (v.writes (Elt Ideal) f (ppieces arg1 harg1 (hnF A b τ) arg2 harg2 (waF A) arg3 harg3 (wbF A)))
    = (Lf (PJ A b τ) : S512x2688.Idx → EReal) :=
  funext fun y => View.read_writes_apply_of_pieces v f _ _ (ppieces_ok A b τ arg1 harg1 arg2 harg2 arg3 harg3) y
    (View.cover_of_tiledBy _ ![512, 128] (by sl_kernel_rfl) y)

end Proj

/-! ## The window -/

section Win

/-- The window after a tile: the tile's rows, with the next tile's eight rows above them. -/
def xa (c0 c1 : ℕ) : ℝ := if c0 < 8 then xw A b (τ + 1) c0 c1 else xw A b τ c0 c1
@[inherit_doc xa] def XA (c : ℕ → ℕ) : ℝ := xa A b τ (c 0) (c 1)

/-- A tile's block of queries' and keys' columns. -/
abbrev srcF (j : Fin 4) : V S512x256 := Lf (fun c => PJ A b τ (p2 (c 0) (256 * j.val + c 1)))

theorem xnew_ok (j : Fin 4) : Ok (e := .f32) (Lf (XA A b τ) : S520x1024.Idx → EReal) (xnew j (srcF A b τ j)) := fun x => by
  unfold xnew
  dsimp only
  rw [cast_self_Lf]
  refine unit2 _ _ _ (fun r hr c hc => ?_) x
  show PJ A b τ (p2 r (256 * j.val + c)) = xa A b τ (8 + r) (256 * j.val + c)
  unfold xa xw
  rw [if_neg (by omega), if_neg (by omega), PJ_a A b τ _ _ (by omega)]
  congr 1; omega

theorem xtail_ok (j : Fin 4) : Ok (e := .f32) (Lf (XA A b τ) : S520x1024.Idx → EReal) (xtail j (xwF A b τ j)) := fun x => by
  unfold xtail xwF
  dsimp only
  rw [slice2_Lf, cast_self_Lf]
  refine unit2 _ _ _ (fun r hr c hc => ?_) x
  show xw A b τ (512 + r) (256 * j.val + (0 + c)) = xa A b τ (0 + r) (256 * j.val + c)
  unfold xa xw
  rw [if_neg (by omega), if_pos (by omega), if_neg (by omega)]
  congr 1 <;> omega

variable (v : View sig .tc .vmem S520x1024 .f32) (f : v.ty.Contents (Elt Ideal))
  (hf : ∀ y : S520x1024.Idx, (y 0).val < 8 → v.read (Elt Ideal) f y = (Lf (XW A b τ) : S520x1024.Idx → EReal) y)

theorem XL_low (p : Fin 4 → V S512x256) (n : ℕ) (hn : n ≤ 4) (y : S520x1024.Idx) (h0 : (y 0).val < 8) (h1 : 256 * n ≤ (y 1).val) :
    ∀ q ∈ XL v f p n, y ∉ q.1.set := by
  induction n with
  | zero => intro q hq; simp [XL] at hq
  | succ n ih =>
    intro q hq
    simp only [XL, List.mem_cons] at hq
    have hn' : n % 4 = n := Nat.mod_eq_of_lt (by omega)
    rcases hq with h | h | h
    · subst h
      unfold xtail
      rw [Rect.mem_set_unit]
      intro h
      have := (h 1).2
      have e : (y 1).val < 256 * (n % 4) + 256 := this
      omega
    · subst h
      unfold xnew
      rw [Rect.mem_set_unit]
      intro h
      have := (h 0).1
      have e : 8 ≤ (y 0).val := this
      omega
    · exact ih (by omega) (by omega) q h

include hf in
theorem XL_ok (n : ℕ) (hn : n ≤ 4) : (∀ q ∈ XL v f (srcF A b τ) n, Ok (e := .f32) (Lf (XA A b τ) : S520x1024.Idx → EReal) q)
    ∧ ∀ h : n < 4, XWin v f (srcF A b τ) ⟨n, h⟩ = xwF A b τ ⟨n, h⟩ := by
  induction n with
  | zero =>
    refine (fun h => ⟨h, fun hn => ?_⟩) (fun q hq => by simp [XL] at hq)
    exact XWin_eq 0 hn h
  | succ n ih =>
    obtain ⟨i1, i2⟩ := ih (by omega)
    refine (fun h => ⟨h, fun hn => XWin_eq (n + 1) hn h⟩) (fun q hq => ?_)
    simp only [XL, List.mem_cons] at hq
    have hn' : n % 4 = n := Nat.mod_eq_of_lt (by omega)
    have hj : (⟨n % 4, Nat.mod_lt _ (by decide)⟩ : Fin 4) = ⟨n, by omega⟩ := Fin.ext hn'
    rw [hj] at hq
    rcases hq with h | h | h
    · subst h
      have := i2 (by omega)
      unfold XWin at this
      rw [this]
      exact xtail_ok A b τ _
    · subst h; exact xnew_ok A b τ _
    · exact i1 q h
where
  XWin_eq (n : ℕ) (hn : n < 4) (h : ∀ q ∈ XL v f (srcF A b τ) n, Ok (e := .f32) (Lf (XA A b τ) : S520x1024.Idx → EReal) q) :
      XWin v f (srcF A b τ) ⟨n, hn⟩ = xwF A b τ ⟨n, hn⟩ := by
    funext x
    set R := Rect.unit (s := S520x1024) ![0, 256 * n] S520x256.size (inb2 520 1024 520 256 (by omega) (by omega)) with hR
    show v.read (Elt Ideal) _ (R.emb x) = _
    have e0 : (R.emb x 0).val = (x 0).val := by show 0 + 1 * (x 0).val = _; omega
    have e1 : (R.emb x 1).val = 256 * n + (x 1).val := by show 256 * n + 1 * (x 1).val = _; omega
    have hx0 : (x 0).val < 520 := (x 0).isLt
    have hx1 : (x 1).val < 256 := (x 1).isLt
    have key : (Lf (XW A b τ) : S520x1024.Idx → EReal) (R.emb x) = xwF A b τ ⟨n, hn⟩ x := by
      refine (unit2 (o0 := 0) (o1 := 256 * n) _ _ (XW A b τ) (fun r hr c hc => ?_) x).symm
      show XW A b τ (p2 r (256 * n + c)) = _
      rw [Nat.zero_add]
    rw [← key]
    by_cases h8 : (x 0).val < 8
    · rw [View.read_writes_apply_of_forall_not_mem]
      · exact hf _ (by rw [e0]; exact h8)
      · intro q hq
        simp only [List.mem_cons] at hq
        rcases hq with h' | h'
        · subst h'
          unfold xnew
          rw [Rect.mem_set_unit]
          intro h
          have e : 8 ≤ (R.emb x 0).val := (h 0).1
          omega
        · exact XL_low v f _ n (by omega) _ (by omega) (by omega) q h'
    · refine (read_ok v f _ (Lf (XA A b τ)) (fun q hq => ?_) _ (fun hno => ?_)).trans ?_
      · simp only [List.mem_cons] at hq
        rcases hq with h' | h'
        · subst h'; exact xnew_ok A b τ _
        · exact h q h'
      · refine absurd ?_ (hno _ (List.mem_cons_self ..))
        unfold xnew
        rw [Rect.mem_set_unit]
        intro a
        match a with
        | 0 => exact ⟨by show 8 ≤ _; omega, by show _ < 8 + 512; omega⟩
        | 1 => exact ⟨by show 256 * n ≤ _; omega, by show _ < 256 * n + 256; omega⟩
      · show ((XA A b τ (cr (R.emb x)) : ℝ) : EReal) = ((XW A b τ (cr (R.emb x)) : ℝ) : EReal)
        rw [cr2]
        show ((xa A b τ (R.emb x 0).val (R.emb x 1).val : ℝ) : EReal) = ((xw A b τ _ _ : ℝ) : EReal)
        unfold xa
        rw [if_neg (by omega)]; rfl

include hf in
theorem XWin_Lf : XWin v f (srcF A b τ) = xwF A b τ := funext fun j => (XL_ok A b τ v f hf j.val (by omega)).2 j.isLt

include hf in
theorem x_read {sp : Space} {κ : Kind} (v' : View sig κ sp S520x1024 .f32) (f') (y : S520x1024.Idx) (h : (y 0).val < 8) :
    v'.read (Elt Ideal) (v'.writes (Elt Ideal) f' (XL v f (srcF A b τ) 4)) y = (Lf (XW A b (τ + 1)) : S520x1024.Idx → EReal) y := by
  refine (View.read_writes_apply_of_pieces v' f' (Lf (XA A b τ)) _ (XL_ok A b τ v f hf 4 le_rfl).1 y (View.cover_of_tiledBy _ ![8, 256] (by sl_kernel_rfl) y)).trans ?_
  show ((XA A b τ (cr y) : ℝ) : EReal) = ((XW A b (τ + 1) (cr y) : ℝ) : EReal)
  rw [cr2]
  show ((xa A b τ (y 0).val (y 1).val : ℝ) : EReal) = ((xw A b _ _ _ : ℝ) : EReal)
  unfold xa
  rw [if_pos h]; rfl

end Win

end Cert.Stage

end
-- ==== Proof.TileOut.lean ====
/- What a tile's point leaves: the branch's output, the states, the stabilisers and the normalised output, as the layer's
   mathematics. -/
module

public import proofs.«01_k».proof.Proof.TileMem

@[expose] public section

set_option maxRecDepth 16384

noncomputable section

namespace Cert.Stage

open Idealize.ShloMosaic
open Cert.KernelIdeal Cert.KernelIdeal.Gen
open Cert.Lift Cert.Mem
open Cert.Spec (sig silu lsg mu cen nrm rmsn)
open scoped BigOperators
open Finset (range)

variable (A : Spec.Args) (b τ : ℕ)

/-! ## The units' pieces -/

/-- The branch's output on a tile. -/
def yt (r c : ℕ) : ℝ := Spec.ym A b (c / 128) (512 * τ + r) (c % 128)
@[inherit_doc yt] def YT (c : ℕ → ℕ) : ℝ := yt A b τ (c 0) (c 1)
/-- The states after `T` tokens, stabilised by `μ`, and the stabilisers. -/
def ST (T : ℕ) (μ : ℕ → ℝ) (c : ℕ → ℕ) : ℝ := Real.exp (-μ (c 0)) * Spec.S A b (c 0) T (c 1) (c 2)
@[inherit_doc ST] def MT (μ : ℕ → ℝ) (c : ℕ → ℕ) : ℝ := μ (c 0)

section Pieces

variable (E : Blocks)

theorem piece_ok (h c : Fin 4) (hy : E.y h c = Lf (fun x => Spec.ym A b h (512 * τ + 128 * c.val + x 0) (x 1))) :
    Ok (e := .bf16) (Lf (YT A b τ) : S512x512.Idx → EReal) (E.piece h c) := fun x => by
  unfold Blocks.piece
  dsimp only
  rw [hy, cast_self_Lf]
  refine unit2 _ _ _ (fun r hr d hd => ?_) x
  show Spec.ym A b h (512 * τ + 128 * c.val + r) d = yt A b τ (128 * c.val + r) (128 * h.val + d)
  unfold yt
  rw [show (128 * h.val + d) / 128 = h.val by omega, show (128 * h.val + d) % 128 = d by omega, Nat.add_assoc]

theorem y_read (hy : ∀ h c : Fin 4, E.y h c = Lf (fun x => Spec.ym A b h (512 * τ + 128 * c.val + x 0) (x 1)))
    {sp : Space} {κ : Kind} (v : View sig κ sp S512x512 .bf16) (f) :
    v.read (Elt Ideal) (v.writes (Elt Ideal) f E.pieces) = (Lf (YT A b τ) : S512x512.Idx → EReal) := by
  have a := fun c h => piece_ok A b τ E h c (hy h c)
  refine funext fun y => View.read_writes_apply_of_pieces v f _ _ ?_ y (View.cover_of_tiledL E.pieces ![128, 128] (by sl_kernel_rfl) y)
  unfold Blocks.pieces
  refine List.forall_mem_cons.2 ⟨a 3 3, List.forall_mem_cons.2 ⟨a 3 2, List.forall_mem_cons.2 ⟨a 3 1, List.forall_mem_cons.2 ⟨a 3 0, ?_⟩⟩⟩⟩
  refine List.forall_mem_cons.2 ⟨a 2 3, List.forall_mem_cons.2 ⟨a 2 2, List.forall_mem_cons.2 ⟨a 2 1, List.forall_mem_cons.2 ⟨a 2 0, ?_⟩⟩⟩⟩
  refine List.forall_mem_cons.2 ⟨a 1 3, List.forall_mem_cons.2 ⟨a 1 2, List.forall_mem_cons.2 ⟨a 1 1, List.forall_mem_cons.2 ⟨a 1 0, ?_⟩⟩⟩⟩
  exact List.forall_mem_cons.2 ⟨a 0 3, List.forall_mem_cons.2 ⟨a 0 2, List.forall_mem_cons.2 ⟨a 0 1, List.forall_mem_cons.2 ⟨a 0 0, fun _ h => nomatch h⟩⟩⟩⟩

variable (T : ℕ) (μ : ℕ → ℝ)

theorem spiece_ok (h : Fin 4) (hs : E.s h 4 = Lf (fun x => Real.exp (-μ h) * Spec.S A b h T (x 0) (x 1))) :
    Ok (e := .f32) (Lf (ST A b T μ) : S4x128x256.Idx → EReal) (E.spiece h) := fun x => by
  unfold Blocks.spiece
  dsimp only
  rw [hs, cast_ab_1ab]
  refine unit3 _ _ _ (fun r hr d hd j hj => ?_) x
  have : r = 0 := by omega
  subst this
  simp only [ST, p3_0, p3_1, p3_2, p2_0, p2_1, Nat.zero_add, Nat.add_zero]

theorem s_read (hs : ∀ h : Fin 4, E.s h 4 = Lf (fun x => Real.exp (-μ h) * Spec.S A b h T (x 0) (x 1)))
    {sp : Space} {κ : Kind} (v : View sig κ sp S4x128x256 .f32) (f) :
    v.read (Elt Ideal) (v.writes (Elt Ideal) f [E.spiece 3, E.spiece 2, E.spiece 1, E.spiece 0]) = (Lf (ST A b T μ) : S4x128x256.Idx → EReal) := by
  have a := fun h => spiece_ok A b E T μ h (hs h)
  refine funext fun y => View.read_writes_apply_of_pieces v f _ _ ?_ y (View.cover_of_tiledL [E.spiece 3, E.spiece 2, E.spiece 1, E.spiece 0] ![1, 128, 256] (by sl_kernel_rfl) y)
  exact List.forall_mem_cons.2 ⟨a 3, List.forall_mem_cons.2 ⟨a 2, List.forall_mem_cons.2 ⟨a 1, List.forall_mem_cons.2 ⟨a 0, fun _ h => nomatch h⟩⟩⟩⟩

theorem mpiece_ok (h : Fin 4) (hm : E.m h 4 = Lf (fun _ => μ h)) :
    Ok (e := .f32) (Lf (MT μ) : S8x128.Idx → EReal) (E.mpiece h) := fun x => by
  unfold Blocks.mpiece
  dsimp only
  rw [hm, cast_self_Lf, broadcastTo2_Lf, cast_self_Lf]
  refine unit2 _ _ _ (fun r hr d hd => ?_) x
  have : r = 0 := by omega
  subst this
  simp only [MT, p2_0, Nat.add_zero]

theorem m_read (hm : ∀ h : Fin 4, E.m h 4 = Lf (fun _ => μ h)) {sp : Space} {κ : Kind} (v : View sig κ sp S8x128 .f32) (f) (y : S8x128.Idx) (hy : (y 0).val < 4) :
    v.read (Elt Ideal) (v.writes (Elt Ideal) f [E.mpiece 3, E.mpiece 2, E.mpiece 1, E.mpiece 0]) y = (Lf (MT μ) : S8x128.Idx → EReal) y := by
  have a := fun h => mpiece_ok E μ h (hm h)
  refine View.read_writes_apply_of_pieces v f (Lf (MT μ)) _ ?_ y ?_
  · exact List.forall_mem_cons.2 ⟨a 3, List.forall_mem_cons.2 ⟨a 2, List.forall_mem_cons.2 ⟨a 1, List.forall_mem_cons.2 ⟨a 0, fun _ h => nomatch h⟩⟩⟩⟩
  · have h1 : (y 1).val < 128 := (y 1).isLt
    have key : ∀ h : Fin 4, h.val = (y 0).val → y ∈ (E.mpiece h).1.set := fun h e => by
      unfold Blocks.mpiece
      rw [Rect.mem_set_unit]
      intro k
      match k with
      | 0 => exact ⟨by show h.val ≤ _; omega, by show _ < h.val + 1; omega⟩
      | 1 => exact ⟨by show 0 ≤ _; omega, by show _ < 0 + 128; omega⟩
    obtain h | h | h | h : (y 0).val = 0 ∨ (y 0).val = 1 ∨ (y 0).val = 2 ∨ (y 0).val = 3 := by omega
    · exact ⟨_, by simp, key 0 (by rw [h]; rfl)⟩
    · exact ⟨_, by simp, key 1 (by rw [h]; rfl)⟩
    · exact ⟨_, by simp, key 2 (by rw [h]; rfl)⟩
    · exact ⟨_, by simp, key 3 (by rw [h]; rfl)⟩

end Pieces

/-! ## The loads of states and stabilisers -/

/-- A load of a stabiliser. -/
theorem m_load {κ : Kind} {sp : Space} (v : View sig κ sp S8x128 .f32) (f : v.ty.Contents (Elt Ideal)) (μ : ℕ → ℝ)
    (hx : ∀ y : S8x128.Idx, (y 0).val < 4 → v.read (Elt Ideal) f y = (Lf (MT μ) : S8x128.Idx → EReal) y) (h : Fin 4) :
    v.readAt (Elt Ideal) (Rect.unit (s := S8x128) ![h.val, 0] S1x1.size (inb2 8 128 1 1 (by omega) (by omega))).toLoadRect f = (Lf (fun _ => μ h) : S1x1.Idx → EReal) := by
  funext x
  have hx0 : (x 0).val < 1 := (x 0).isLt
  have e0 : (((Rect.unit (s := S8x128) ![h.val, 0] S1x1.size (inb2 8 128 1 1 (by omega) (by omega))).emb x) 0).val = h.val := by
    show h.val + 1 * (x 0).val = _; omega
  refine (hx _ (by rw [show ((Rect.unit (s := S8x128) ![h.val, 0] S1x1.size (inb2 8 128 1 1 (by omega) (by omega))).toLoadRect.idx x 0).val = h.val from e0]; exact h.isLt)).trans ?_
  show ((MT μ (cr ((Rect.unit (s := S8x128) ![h.val, 0] S1x1.size (inb2 8 128 1 1 (by omega) (by omega))).emb x)) : ℝ) : EReal) = _
  rw [cr2, MT, p2_0, e0]; rfl

/-- A load of a state. -/
theorem s_load {κ : Kind} {sp : Space} (v : View sig κ sp S4x128x256 .f32) (f : v.ty.Contents (Elt Ideal)) (G : (ℕ → ℕ) → ℝ)
    (hx : v.read (Elt Ideal) f = (Lf G : S4x128x256.Idx → EReal)) (h : Fin 4) :
    shapeCast S128x256 (v.readAt (Elt Ideal) (Rect.unit (s := S4x128x256) ![h.val, 0, 0] S1x128x256.size (inb3 4 128 256 1 128 256 (by omega) (by omega) (by omega))).toLoadRect f)
      shapeCasts_S1x128x256_S128x256 = (Lf (fun x => G (p3 h.val (x 0) (x 1))) : S128x256.Idx → EReal) := by
  have e : v.readAt (Elt Ideal) (Rect.unit (s := S4x128x256) ![h.val, 0, 0] S1x128x256.size (inb3 4 128 256 1 128 256 (by omega) (by omega) (by omega))).toLoadRect f
      = (Lf (fun x => G (p3 h.val (x 1) (x 2))) : S1x128x256.Idx → EReal) := by
    funext x
    refine (congrFun hx _).trans ?_
    refine (unit3 (o0 := h.val) (o1 := 0) (o2 := 0) _ _ G (fun r hr c hc k hk => ?_) x).symm
    have : r = 0 := by omega
    subst this
    simp only [p3_1, p3_2, Nat.add_zero, Nat.zero_add]
  rw [e, cast_1ab_ab]
  exact Lf_ext2 fun r hr c hc => rfl

/-! ## The output -/

section Out

variable (arg4 : Memref sig .tc .vmem S1x512x1024 .f32) (harg4 : arg4.IsWhole)
  (arg5 : Memref sig .tc .vmem S1x1x1024 .f32) (harg5 : arg5.IsWhole)
  (arg6 : Memref sig .tc .vmem S1x512x512 .bf16) (harg6 : arg6.IsWhole)
  (arg7 : Memref sig .tc .vmem S1024x1024 .bf16) (harg7 : arg7.IsWhole)
  (arg8 : Memref sig .tc .vmem S1x1024 .f32) (harg8 : arg8.IsWhole)
  (Y : Memref sig .tc .vmem S512x512 .bf16) (hY : Y.IsWhole)
  (arg20 : Memref sig .tc .vmem S512x1024 .f32)

/-- The blocks the output is made of: residual, gate, the other branch, the output weights, the final gain. -/
abbrev xF : Vec Ideal S1x512x1024 .f32 := (Lf (fun c => A.x (p3 b (512 * τ + c 1) (c 2))) : S1x512x1024.Idx → EReal)
@[inherit_doc xF] abbrev adaF : Vec Ideal S1x1x1024 .f32 := (Lf (fun c => A.ada (p2 b (2048 + c 2))) : S1x1x1024.Idx → EReal)
@[inherit_doc xF] abbrev yrF : Vec Ideal S1x512x512 .bf16 := (Lf (fun c => A.yr (p3 b (512 * τ + c 1) (c 2))) : S1x512x512.Idx → EReal)
@[inherit_doc xF] abbrev woF : Vec Ideal S1024x1024 .bf16 := (Lf (fun c => A.wout (p3 0 (c 0) (c 1))) : S1024x1024.Idx → EReal)
@[inherit_doc xF] abbrev fgF : Vec Ideal S1x1024 .f32 := (Lf (fun c => A.fg (p1 (c 1))) : S1x1024.Idx → EReal)
@[inherit_doc xF] abbrev ytF : Vec Ideal S512x512 .bf16 := (Lf (YT A b τ) : S512x512.Idx → EReal)

theorem res_Lf (yr ym w r g : (ℕ → ℕ) → ℝ) : res (Lf yr) (Lf ym) (Lf w) (Lf r) (Lf g)
    = Lf (fun c => r (p3 0 (c 0) (c 1)) + g (p3 0 0 (c 1)) * ∑ k ∈ range 1024, (if k < 512 then yr (p3 0 (c 0) k) else ym (p2 (c 0) (k - 512))) * w (p2 k (c 1))) := by
  unfold res
  rw [cast_1ab_ab, cast_1ab_ab, cast_1ab_ab, broadcastTo2_Lf, concat2_1, cast_self_Lf, mm0, mulf_Lf, addf_Lf, cast_self_Lf]
  rfl

/-- The residual stream on a tile. -/
def RT (c : ℕ → ℕ) : ℝ := Spec.res A b (512 * τ + c 0) (c 1)

theorem rpiece_ok (j : Fin 4) : Ok (e := .f32) (Lf (RT A b τ) : S512x1024.Idx → EReal)
    (rpiece arg4 harg4 (xF A b τ) arg5 harg5 (adaF A b) arg6 harg6 (yrF A b τ) arg7 harg7 (woF A) Y hY (ytF A b τ) j) := fun x => by
  unfold rpiece
  dsimp only
  rw [ld3_Lf16, ld2_Lf16, ld2_Lf16, ld3_Lf, ld3_Lf, res_Lf]
  refine unit2 _ _ _ (fun r hr c hc => ?_) x
  simp only [RT, Spec.res, p3_1, p3_2, p2_0, p2_1, Nat.zero_add]
  congr 2
theorem rms_Lf (f w : (ℕ → ℕ) → ℝ) : rms (Lf f) (Lf w) = Lf (fun c => rmsn (fun k => f (p2 (c 1) k)) (c 2) * w (p2 0 (c 2))) := by
  unfold rms
  rw [mulf_Lf]
  erw [rowsum_Lf (fun c => f c * f c) 1024 512]
  rw [cast_a_a1, bc_1024, divf_Lf _ _ fun i => by norm_num]
  rw [bc_eps, addf_Lf, rsqrt_Lf _ fun i => add_pos_of_nonneg_of_pos (div_nonneg (Finset.sum_nonneg fun k _ => mul_self_nonneg _) (by norm_num)) eps_pos]
  rw [broadcastTo2_Lf, mulf_Lf, cast_self_Lf, broadcastTo2_Lf, mulf_Lf, cast_ab_1ab]
  exact Lf_ext3 fun q hq r hr s hs => rfl

theorem outTile_Lf : outTile arg4 harg4 (xF A b τ) arg5 harg5 (adaF A b) arg6 harg6 (yrF A b τ) arg7 harg7 (woF A) arg8 harg8 (fgF A) Y hY (ytF A b τ) arg20
    = Lf (fun c => Spec.out A b (512 * τ + c 1) (c 2)) := by
  unfold outTile
  have e : (arg20.view.readCov (rpieces arg4 harg4 (xF A b τ) arg5 harg5 (adaF A b) arg6 harg6 (yrF A b τ) arg7 harg7 (woF A) Y hY (ytF A b τ))
    (Rect.unit (s := S512x1024) ![0, 0] S512x1024.size (inb2 512 1024 512 1024 (by omega) (by omega))).toLoadRect) = (Lf (RT A b τ) : S512x1024.Idx → EReal) := by
    have a := rpiece_ok A b τ arg4 harg4 arg5 harg5 arg6 harg6 arg7 harg7 Y hY
    funext x
    refine (View.read_writes_apply_of_pieces arg20.view _ (Lf (RT A b τ)) _ ?_ _ (View.cover_of_tiledL (rpieces arg4 harg4 (xF A b τ) arg5 harg5 (adaF A b) arg6 harg6 (yrF A b τ) arg7 harg7 (woF A) Y hY (ytF A b τ)) ![512, 256] (by sl_kernel_rfl) _)).trans ?_
    · unfold rpieces
      exact List.forall_mem_cons.2 ⟨a 3, List.forall_mem_cons.2 ⟨a 2, List.forall_mem_cons.2 ⟨a 1, List.forall_mem_cons.2 ⟨a 0, fun _ h => nomatch h⟩⟩⟩⟩
    · refine (unit2 (o0 := 0) (o1 := 0) _ _ (RT A b τ) (fun r hr c hc => ?_) x).symm
      rw [Nat.zero_add, Nat.zero_add]
  rw [e, ld2_Lf, rms_Lf]
  refine Lf_ext3 fun q hq r hr s hs => ?_
  simp only [p3_1, p3_2, p2_0, p2_1, Nat.zero_add]
  rfl

end Out

end Cert.Stage

end
-- ==== Proof.TileStep.lean ====
/- A tile's units, out of a carried window, state and stabilisers. -/
module

public import proofs.«01_k».proof.Proof.TileOut

@[expose] public section

set_option maxRecDepth 16384

noncomputable section

namespace Cert.Stage

open Idealize.ShloMosaic
open Cert.KernelIdeal Cert.KernelIdeal.Gen
open Cert.Lift Cert.Mem
open scoped BigOperators
open Finset (range)

variable (A : Spec.Args) (b τ : ℕ)

/-- The remaining weights: the gates' biases, the norm's gain, the skip gain, the triangular matrix. -/
abbrev gbF : Vec Ideal S1x128 .f32 := (Lf (gb A) : S1x128.Idx → EReal)
@[inherit_doc gbF] abbrev lwF : Vec Ideal S1x512 .f32 := (Lf (fun c => A.lw (p2 0 (c 1))) : S1x512.Idx → EReal)
@[inherit_doc gbF] abbrev skF : Vec Ideal S1x512 .f32 := (Lf (fun c => A.sk (p2 0 (c 1))) : S1x512.Idx → EReal)
@[inherit_doc gbF] abbrev triF : Vec Ideal S512x512 .bf16 := (Lf tri : S512x512.Idx → EReal)
@[inherit_doc gbF] abbrev pjF : Vec Ideal S512x2688 .f32 := (Lf (PJ A b τ) : S512x2688.Idx → EReal)

/-- What a tile's units leave: the branch's output, and the next tile's states and stabilisers. -/
structure Leaves (E : Blocks) : Prop where
  y : ∀ {sp : Space} {κ : Kind} (v : View sig κ sp S512x512 .bf16) (f), v.read (Elt Ideal) (v.writes (Elt Ideal) f E.pieces) = (Lf (YT A b τ) : S512x512.Idx → EReal)
  sm : ∃ μ : ℕ → ℝ, (∀ {sp : Space} {κ : Kind} (v : View sig κ sp S4x128x256 .f32) (f), v.read (Elt Ideal) (v.writes (Elt Ideal) f [E.spiece 3, E.spiece 2, E.spiece 1, E.spiece 0])
      = (Lf (ST A b (512 * (τ + 1)) μ) : S4x128x256.Idx → EReal))
    ∧ ∀ {sp : Space} {κ : Kind} (v : View sig κ sp S8x128 .f32) (f) (y : S8x128.Idx), (y 0).val < 4 →
      v.read (Elt Ideal) (v.writes (Elt Ideal) f [E.mpiece 3, E.mpiece 2, E.mpiece 1, E.mpiece 0]) y = (Lf (MT μ) : S8x128.Idx → EReal) y

section

variable (P : Memref sig .tc .vmem S512x2688 .f32) (hP : P.IsWhole)
  (arg9 : Memref sig .tc .vmem S4x1024 .f32) (harg9 : arg9.IsWhole)
  (arg10 : Memref sig .tc .vmem S1x1024 .f32) (harg10 : arg10.IsWhole)
  (arg11 : Memref sig .tc .vmem S1x128 .f32) (harg11 : arg11.IsWhole)
  (arg12 : Memref sig .tc .vmem S1x512 .f32) (harg12 : arg12.IsWhole)
  (arg13 : Memref sig .tc .vmem S1x512 .f32) (harg13 : arg13.IsWhole)
  (arg14 : Memref sig .tc .vmem S512x512 .bf16) (harg14 : arg14.IsWhole)
  (v5 : View sig .tc .vmem S520x1024 .f32) (f5 : v5.ty.Contents (Elt Ideal))
  (v6 : View sig .tc .vmem S4x128x256 .f32) (f6 : v6.ty.Contents (Elt Ideal))
  (v7 : View sig .tc .vmem S8x128 .f32) (f7 : v7.ty.Contents (Elt Ideal))

/-- The columns the window takes of the projection. -/
abbrev src (xs : Vec Ideal S512x2688 .f32) (j : Fin 4) : V S512x256 := ld2 P hP xs 512 256 0 (256 * j.val) (by omega) (by omega)

theorem src_Lf : src P hP (pjF A b τ) = srcF A b τ := funext fun j => by
  unfold src
  rw [ld2_Lf]
  exact Lf_ext2 fun r hr c hc => by simp only [p2_0, p2_1, Nat.zero_add]

/-- The tile's blocks, read out of the carried memories. -/
abbrev tE (xs : Vec Ideal S512x2688 .f32) : Blocks := blocks P hP xs arg9 harg9 (cwF A) arg10 harg10 (cbF A) arg11 harg11 (gbF A) arg12 harg12 (lwF A) arg13 harg13 (skF A)
  arg14 harg14 triF (XWin v5 f5 (src P hP xs))
  (fun h => v7.readAt (Elt Ideal) (Rect.unit (s := S8x128) ![h.val, 0] S1x1.size (inb2 8 128 1 1 (by omega) (by omega))).toLoadRect f7)
  (fun h => shapeCast S128x256 (v6.readAt (Elt Ideal) (Rect.unit (s := S4x128x256) ![h.val, 0, 0] S1x128x256.size (inb3 4 128 256 1 128 256 (by omega) (by omega) (by omega))).toLoadRect f6) shapeCasts_S1x128x256_S128x256)

theorem leaves (h5 : ∀ y : S520x1024.Idx, (y 0).val < 8 → v5.read (Elt Ideal) f5 y = (Lf (XW A b τ) : S520x1024.Idx → EReal) y)
    (μ : ℕ → ℝ) (h6 : v6.read (Elt Ideal) f6 = (Lf (ST A b (512 * τ) μ) : S4x128x256.Idx → EReal))
    (h7 : ∀ y : S8x128.Idx, (y 0).val < 4 → v7.read (Elt Ideal) f7 y = (Lf (MT μ) : S8x128.Idx → EReal) y) :
    Leaves A b τ (tE A P hP arg9 harg9 arg10 harg10 arg11 harg11 arg12 harg12 arg13 harg13 arg14 harg14 v5 f5 v6 f6 v7 f7 (pjF A b τ)) := by
  have e : tE A P hP arg9 harg9 arg10 harg10 arg11 harg11 arg12 harg12 arg13 harg13 arg14 harg14 v5 f5 v6 f6 v7 f7 (pjF A b τ)
      = tb A b τ P hP arg9 harg9 arg10 harg10 arg11 harg11 arg12 harg12 arg13 harg13 arg14 harg14 (fun h => Lf (fun _ => μ h.val))
        (fun h => Lf (fun x => Real.exp (-μ h.val) * Spec.S A b h.val (512 * τ) (x 0) (x 1))) := by
    unfold tE tb
    rw [src_Lf, XWin_Lf A b τ v5 f5 h5, funext (m_load v7 f7 μ h7), funext (s_load v6 f6 _ h6)]
    rfl
  rw [e]
  constructor
  · intro sp κ v f
    exact y_read A b τ _ (fun h c => tb_y A b τ P hP arg9 harg9 arg10 harg10 arg11 harg11 arg12 harg12 arg13 harg13 arg14 harg14 _ _ h (μ h) rfl rfl c) v f
  · have k := fun h : Fin 4 => tb_ms A b τ P hP arg9 harg9 arg10 harg10 arg11 harg11 arg12 harg12 arg13 harg13 arg14 harg14 (fun h => Lf (fun _ => μ h.val))
      (fun h => Lf (fun x => Real.exp (-μ h.val) * Spec.S A b h.val (512 * τ) (x 0) (x 1))) h (μ h) rfl rfl 4 le_rfl
    choose ν hν using k
    have en : ∀ h : Fin 4, (fun n : ℕ => ν ⟨n % 4, Nat.mod_lt _ (by decide)⟩) h.val = ν h := fun h =>
      congrArg ν (Fin.ext (Nat.mod_eq_of_lt h.isLt))
    refine ⟨fun n => ν ⟨n % 4, Nat.mod_lt _ (by decide)⟩, fun v f => s_read A b _ _ _ (fun h => ?_) v f, fun v f y hy => m_read _ _ (fun h => ?_) v f y hy⟩
    · rw [(hν h).2]
      rw [show 512 * τ + 128 * 4 = 512 * (τ + 1) by omega]
      exact congrArg (fun m => (Lf (fun x => Real.exp (-m) * Spec.S A b h.val (512 * (τ + 1)) (x 0) (x 1)) : S128x256.Idx → EReal)) (en h).symm
    · rw [(hν h).1]
      exact congrArg (fun m => (Lf (fun _ => m) : S1x1.Idx → EReal)) (en h).symm

end

/-! ## The first tile of a sequence -/

theorem xzero_low (v : View sig .tc .vmem S520x1024 .f32) (f) (y : S520x1024.Idx) (hy : (y 0).val < 8) :
    v.read (Elt Ideal) (v.writes (Elt Ideal) f [xzero]) y = (Lf (XW A b 0) : S520x1024.Idx → EReal) y := by
  have hy1 : (y 1).val < 1024 := (y 1).isLt
  refine (View.read_writes_apply_of_pieces v f (Lf (fun _ => 0)) _ (List.forall_mem_cons.2 ⟨fun x => ?_, fun _ h => absurd h List.not_mem_nil⟩) y ⟨_, List.mem_cons_self .., ?_⟩).trans ?_
  · unfold xzero
    dsimp only
    rw [bc_zero, cast_self_Lf]; rfl
  · unfold xzero
    rw [Rect.mem_set_unit]
    intro k
    match k with
    | 0 => exact ⟨by show 0 ≤ _; omega, by show _ < 0 + 8; omega⟩
    | 1 => exact ⟨by show 0 ≤ _; omega, by show _ < 0 + 1024; omega⟩
  · show ((0 : ℝ) : EReal) = ((XW A b 0 (cr y) : ℝ) : EReal)
    rw [cr2]
    show _ = ((xw A b 0 (y 0).val (y 1).val : ℝ) : EReal)
    unfold xw
    rw [if_pos (by omega)]

theorem szero_read {sp : Space} {κ : Kind} (v : View sig κ sp S4x128x256 .f32) (f) :
    v.read (Elt Ideal) (v.writes (Elt Ideal) f [szero]) = (Lf (ST A b (512 * 0) (fun _ => 0)) : S4x128x256.Idx → EReal) := by
  funext y
  refine (View.read_writes_apply_of_pieces v f (Lf (fun _ => 0)) _ (List.forall_mem_cons.2 ⟨fun x => ?_, fun _ h => absurd h List.not_mem_nil⟩) y (View.cover_of_tiledL [szero] ![4, 128, 256] (by sl_kernel_rfl) y)).trans ?_
  · unfold szero
    dsimp only
    rw [bc_zero, cast_self_Lf]; rfl
  · show ((0 : ℝ) : EReal) = ((ST A b (512 * 0) (fun _ => 0) (cr y) : ℝ) : EReal)
    simp [ST, Spec.S, St]

theorem mzero_read {sp : Space} {κ : Kind} (v : View sig κ sp S8x128 .f32) (f) (y : S8x128.Idx) :
    v.read (Elt Ideal) (v.writes (Elt Ideal) f [mzero]) y = (Lf (MT (fun _ => 0)) : S8x128.Idx → EReal) y := by
  refine (View.read_writes_apply_of_pieces v f (Lf (fun _ => 0)) _ (List.forall_mem_cons.2 ⟨fun x => ?_, fun _ h => absurd h List.not_mem_nil⟩) y (View.cover_of_tiledL [mzero] ![8, 128] (by sl_kernel_rfl) y)).trans ?_
  · unfold mzero
    dsimp only
    rw [bc_zero, cast_self_Lf]; rfl
  · rfl

/-- The whole output block, written at once. -/
theorem out_read {sp : Space} {κ : Kind} (v : View sig κ sp S1x512x1024 .f32) (f) (inb) (G : (ℕ → ℕ) → ℝ) :
    v.read (Elt Ideal) (v.writes (Elt Ideal) f [⟨Rect.unit (s := S1x512x1024) ![0, 0, 0] ![1, 512, 1024] inb, (Lf G : S1x512x1024.Idx → EReal)⟩]) = (Lf G : S1x512x1024.Idx → EReal) := by
  funext y
  refine View.read_writes_apply_of_pieces v f (Lf G) _ (List.forall_mem_cons.2 ⟨fun x => ?_, fun _ h => absurd h List.not_mem_nil⟩) y ⟨_, List.mem_cons_self .., ?_⟩
  · exact unit3 (o0 := 0) (o1 := 0) (o2 := 0) inb G G (fun r _ c _ k _ => by rw [Nat.zero_add, Nat.zero_add, Nat.zero_add]) x
  · have h0 : (y 0).val < 1 := (y 0).isLt
    have h1 : (y 1).val < 512 := (y 1).isLt
    have h2 : (y 2).val < 1024 := (y 2).isLt
    rw [Rect.mem_set_unit]
    intro k
    match k with
    | 0 => exact ⟨by show 0 ≤ _; omega, by show _ < 0 + 1; omega⟩
    | 1 => exact ⟨by show 0 ≤ _; omega, by show _ < 0 + 512; omega⟩
    | 2 => exact ⟨by show 0 ≤ _; omega, by show _ < 0 + 1024; omega⟩

/-- What a point leaves in the memories: the projection of tile `(b', τ')` and what the units of tile `(b, τ)` make. -/
structure After (b' τ' : ℕ) (pj : Vec Ideal S512x2688 .f32) (ym : Vec Ideal S512x512 .bf16) (w5 : Vec Ideal S520x1024 .f32) (w6 : Vec Ideal S4x128x256 .f32)
    (w7 : Vec Ideal S8x128 .f32) : Prop where
  pj : pj = pjF A b' τ'
  ym : ym = ytF A b τ
  x : ∀ y : S520x1024.Idx, (y 0).val < 8 → w5 y = (Lf (XW A b (τ + 1)) : S520x1024.Idx → EReal) y
  sm : ∃ μ : ℕ → ℝ, w6 = (Lf (ST A b (512 * (τ + 1)) μ) : S4x128x256.Idx → EReal) ∧ ∀ y : S8x128.Idx, (y 0).val < 4 → w7 y = (Lf (MT μ) : S8x128.Idx → EReal) y

end Cert.Stage

end
-- ==== Proof.StepA.lean ====
/- What a point of case A leaves. -/
module

public import proofs.«01_k».proof.Proof.TileStep
public import proofs.«01_k».proof.Proof.Win

@[expose] public section

set_option maxRecDepth 16384

noncomputable section

namespace Cert.Stage

open Idealize.ShloMosaic
open Cert.KernelIdeal Cert.KernelIdeal.Gen
open Cert.Lift

section
variable (c : Dev nD) (i : grid0.Coords) (arg1 : Memref sig .tc .vmem S1x512x1024 .bf16) (harg1 : arg1.IsWhole) (arg2 : Memref sig .tc .vmem S1024x2048 .bf16) (harg2 : arg2.IsWhole) (arg3 : Memref sig .tc .vmem S1024x640 .bf16) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x512x512 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S1x512x1024 .f32) (harg15 : arg15.IsWhole) (arg16 : Memref sig .tc .vmem S512x2688 .f32) (harg16 : arg16.IsWhole) (arg17 : Memref sig .tc .vmem S512x2688 .f32) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x1024 .f32) (harg20 : arg20.IsWhole) (arg21 : Memref sig .tc .vmem S520x1024 .f32) (harg21 : arg21.IsWhole) (arg22 : Memref sig .tc .vmem S4x128x256 .f32) (harg22 : arg22.IsWhole) (arg23 : Memref sig .tc .vmem S8x128 .f32) (harg23 : arg23.IsWhole) (hc0 : cond0_0 i) (hc1 : cond0_1 i) (hc2 : cond0_2 i) (hc3 : ¬cond0_3 i)
  (x0 : Vec Ideal S1x512x1024 .bf16) (x1 : Vec Ideal S1024x2048 .bf16) (x2 : Vec Ideal S1024x640 .bf16) (x3 : Vec Ideal S1x512x1024 .f32) (x4 : Vec Ideal S1x1x1024 .f32) (x5 : Vec Ideal S1x512x512 .bf16) (x6 : Vec Ideal S1024x1024 .bf16) (x7 : Vec Ideal S1x1024 .f32) (x8 : Vec Ideal S4x1024 .f32) (x9 : Vec Ideal S1x1024 .f32) (x10 : Vec Ideal S1x128 .f32) (x11 : Vec Ideal S1x512 .f32) (x12 : Vec Ideal S1x512 .f32) (x13 : Vec Ideal S512x512 .bf16)

/-- The projection's pieces. -/
theorem projA : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13).2.1 = ppieces arg1 harg1 x0 arg2 harg2 x1 arg3 harg3 x2 := by
  sl_kernel_rfl

variable (A : Spec.Args) (b' τ' : ℕ)

/-- The first point leaves the first tile's projection. -/
theorem stepA : sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 x8 x9 x10 x11 x12 x13 = pjF A b' τ' := by
  unfold sout0_A_0
  rw [projA]
  exact proj_read A b' τ' arg1 harg1 arg2 harg2 arg3 harg3 VS0_0 _

end
end Cert.Stage
end
-- ==== Proof.KBlk.lean ====
/- The blocks the windows hold at each point. -/
module

public import Idealize.ShloMosaic.Lib.Pipeline.ValueKit.Geometry
public import proofs.«01_k».proof.Proof.StepA
public import proofs.«01_k».proof.Proof.Gen.KernelIdeal.Value

@[expose] public section

set_option maxRecDepth 16384

noncomputable section

namespace Cert.KVal

open Idealize.ShloMosaic
open Cert.KernelIdeal Cert.KernelIdeal.Gen
open Cert.Lift Cert.Stage

/-- Where each moving window's block lies at a point. -/
theorem idx_0 : ∀ t : Fin cfg0.N, win0_0.index t = ![min t.val 63 / 8, min t.val 63 % 8, 0] := (by decide +kernel : ∀ t : Fin grid0.N, _)
@[inherit_doc idx_0] theorem idx_3 : ∀ t : Fin cfg0.N, win0_3.index t = ![(t.val - 2) / 8, (t.val - 2) % 8, 0] := (by decide +kernel : ∀ t : Fin grid0.N, _)
@[inherit_doc idx_0] theorem idx_4 : ∀ t : Fin cfg0.N, win0_4.index t = ![(t.val - 2) / 8, 0, 2] := (by decide +kernel : ∀ t : Fin grid0.N, _)
@[inherit_doc idx_0] theorem idx_5 : ∀ t : Fin cfg0.N, win0_5.index t = ![(t.val - 2) / 8, (t.val - 2) % 8, 0] := (by decide +kernel : ∀ t : Fin grid0.N, _)
@[inherit_doc idx_0] theorem idx_14 : ∀ t : Fin cfg0.N, win0_14.index t = ![(t.val - 2) / 8, (t.val - 2) % 8, 0] := (by decide +kernel : ∀ t : Fin grid0.N, _)
@[inherit_doc idx_0] theorem idx_1 : ∀ t : Fin cfg0.N, win0_1.index t = ![0, 2176] := (by decide +kernel : ∀ t : Fin grid0.N, _)
@[inherit_doc idx_0] theorem idx_2 : ∀ t : Fin cfg0.N, win0_2.index t = ![0, 0] := (by decide +kernel : ∀ t : Fin grid0.N, _)
@[inherit_doc idx_0] theorem idx_6 : ∀ t : Fin cfg0.N, win0_6.index t = ![0, 0] := (by decide +kernel : ∀ t : Fin grid0.N, _)
@[inherit_doc idx_0] theorem idx_7 : ∀ t : Fin cfg0.N, win0_7.index t = ![0, 0] := (by decide +kernel : ∀ t : Fin grid0.N, _)
@[inherit_doc idx_0] theorem idx_8 : ∀ t : Fin cfg0.N, win0_8.index t = ![0, 0] := (by decide +kernel : ∀ t : Fin grid0.N, _)
@[inherit_doc idx_0] theorem idx_9 : ∀ t : Fin cfg0.N, win0_9.index t = ![0, 0] := (by decide +kernel : ∀ t : Fin grid0.N, _)
@[inherit_doc idx_0] theorem idx_10 : ∀ t : Fin cfg0.N, win0_10.index t = ![0, 0] := (by decide +kernel : ∀ t : Fin grid0.N, _)
@[inherit_doc idx_0] theorem idx_11 : ∀ t : Fin cfg0.N, win0_11.index t = ![0, 0] := (by decide +kernel : ∀ t : Fin grid0.N, _)
@[inherit_doc idx_0] theorem idx_12 : ∀ t : Fin cfg0.N, win0_12.index t = ![0, 0] := (by decide +kernel : ∀ t : Fin grid0.N, _)
@[inherit_doc idx_0] theorem idx_13 : ∀ t : Fin cfg0.N, win0_13.index t = ![0, 0] := (by decide +kernel : ∀ t : Fin grid0.N, _)

variable (A : Spec.Args) (m : (ℓ : Loc nD τ sig) → Buf (Elt Ideal) ℓ) (c : Dev nD)

/-- What the arrays the windows read hold as the pipeline starts. -/
structure Entry : Prop where
  e0 : Cert.KernelIdeal.Gen.V m c main_arg0 = (Lf A.hn : S8x4096x1024.Idx → EReal)
  e1 : Cert.KernelIdeal.Gen.V m c main_v5 = (Lf (fun i => A.win (p3 0 (i 0) (i 1))) : S1024x4744.Idx → EReal)
  e2 : Cert.KernelIdeal.Gen.V m c main_v6 = wbF A
  e3 : Cert.KernelIdeal.Gen.V m c main_arg2 = (Lf A.x : S8x4096x1024.Idx → EReal)
  e4 : Cert.KernelIdeal.Gen.V m c main_v18 = (Lf (fun i => A.ada (p2 (i 0) (i 2))) : S8x1x3072.Idx → EReal)
  e5 : Cert.KernelIdeal.Gen.V m c main_arg4 = (Lf A.yr : S8x4096x512.Idx → EReal)
  e6 : Cert.KernelIdeal.Gen.V m c main_v14 = woF A
  e7 : Cert.KernelIdeal.Gen.V m c main_v19 = fgF A
  e8 : Cert.KernelIdeal.Gen.V m c main_v7 = cwF A
  e9 : Cert.KernelIdeal.Gen.V m c main_v20 = cbF A
  e10 : Cert.KernelIdeal.Gen.V m c main_v17 = gbF A
  e11 : Cert.KernelIdeal.Gen.V m c main_v21 = lwF A
  e12 : Cert.KernelIdeal.Gen.V m c main_v22 = skF A
  e13 : Cert.KernelIdeal.Gen.V m c main_v36 = triF

variable {A m c} (E : Entry A m c) (t : Fin cfg0.N)

include E in
/-- What each window holds at a point, in the arguments' reals. -/
theorem blk0 : iblk m c 0 t = hnF A (min t.val 63 / 8) (min t.val 63 % 8) := by
  funext y
  unfold iblk
  show Cert.KernelIdeal.Gen.V m c main_arg0 (((cfg0.win 0).blk t).view.emb y) = _
  rw [E.e0]
  show ((A.hn (cr (((cfg0.win 0).blk t).view.emb y)) : ℝ) : EReal) = ((_ : ℝ) : EReal)
  congr 2
  rw [cr3]
  blk_simp [idx_0]
  rw [Nat.mul_comm _ 512]
  rfl
include E in
@[inherit_doc blk0]
theorem blk3 : iblk m c 3 t = xF A ((t.val - 2) / 8) ((t.val - 2) % 8) := by
  funext y
  unfold iblk
  show Cert.KernelIdeal.Gen.V m c main_arg2 (((cfg0.win 3).blk t).view.emb y) = _
  rw [E.e3]
  show ((A.x (cr (((cfg0.win 3).blk t).view.emb y)) : ℝ) : EReal) = ((_ : ℝ) : EReal)
  congr 2
  rw [cr3]
  blk_simp [idx_3]
  rw [Nat.mul_comm _ 512]
  rfl
include E in
@[inherit_doc blk0]
theorem blk5 : iblk m c 5 t = yrF A ((t.val - 2) / 8) ((t.val - 2) % 8) := by
  funext y
  unfold iblk
  show Cert.KernelIdeal.Gen.V m c main_arg4 (((cfg0.win 5).blk t).view.emb y) = _
  rw [E.e5]
  show ((A.yr (cr (((cfg0.win 5).blk t).view.emb y)) : ℝ) : EReal) = ((_ : ℝ) : EReal)
  congr 2
  rw [cr3]
  blk_simp [idx_5]
  rw [Nat.mul_comm _ 512]
  rfl

include E in
@[inherit_doc blk0] theorem blk4 : iblk m c 4 t = adaF A ((t.val - 2) / 8) := by
  funext y
  unfold iblk
  show Cert.KernelIdeal.Gen.V m c main_v18 (((cfg0.win 4).blk t).view.emb y) = _
  rw [E.e4]
  show ((A.ada (p2 (cr (((cfg0.win 4).blk t).view.emb y) 0) (cr (((cfg0.win 4).blk t).view.emb y) 2)) : ℝ) : EReal) = ((_ : ℝ) : EReal)
  congr 2
  have h0 : (y 0).val < 1 := (y 0).isLt
  rw [cr3]
  simp only [p3_0, p3_2]
  blk_simp [idx_4]
  rfl

include E in
@[inherit_doc blk0] theorem blk1 : iblk m c 1 t = waF A := by
  funext y
  unfold iblk
  show Cert.KernelIdeal.Gen.V m c main_v5 (((cfg0.win 1).blk t).view.emb y) = _
  rw [E.e1]
  show ((A.win (p3 0 (cr (((cfg0.win 1).blk t).view.emb y) 0) (cr (((cfg0.win 1).blk t).view.emb y) 1)) : ℝ) : EReal) = ((wc A (cr y 0) (cr y 1) : ℝ) : EReal)
  have h : cr y 1 < 2048 := (y 1).isLt
  rw [wc, if_pos h]
  congr 2
  rw [cr2]
  have e0 : ((((cfg0.win 1).blk t).view.emb y) 0).val = win0_1.index t 0 + 1 * (y 0).val := rfl
  have e1 : ((((cfg0.win 1).blk t).view.emb y) 1).val = win0_1.index t 1 + 1 * (y 1).val := rfl
  rw [idx_1] at e0 e1
  have f0 : ((((cfg0.win 1).blk t).view.emb y) 0).val = (y 0).val := e0.trans (by show 0 + 1 * (y 0).val = _; omega)
  have f1 : ((((cfg0.win 1).blk t).view.emb y) 1).val = 2176 + (y 1).val := e1.trans (by show 2176 + 1 * (y 1).val = _; omega)
  rw [p2_0, p2_1, f0, f1]
  rfl

include E in
@[inherit_doc blk0] theorem blk2 : iblk m c 2 t = wbF A := by
  refine Eq.trans (funext fun y => ?_) E.e2
  unfold iblk
  show Cert.KernelIdeal.Gen.V m c main_v6 (((cfg0.win 2).blk t).view.emb y) = _
  congr 1
  blk_ext [idx_2]

include E in
@[inherit_doc blk0] theorem blk6 : iblk m c 6 t = woF A := by
  refine Eq.trans (funext fun y => ?_) E.e6
  unfold iblk
  show Cert.KernelIdeal.Gen.V m c main_v14 (((cfg0.win 6).blk t).view.emb y) = _
  congr 1
  blk_ext [idx_6]

include E in
@[inherit_doc blk0] theorem blk7 : iblk m c 7 t = fgF A := by
  refine Eq.trans (funext fun y => ?_) E.e7
  unfold iblk
  show Cert.KernelIdeal.Gen.V m c main_v19 (((cfg0.win 7).blk t).view.emb y) = _
  congr 1
  blk_ext [idx_7]

include E in
@[inherit_doc blk0] theorem blk8 : iblk m c 8 t = cwF A := by
  refine Eq.trans (funext fun y => ?_) E.e8
  unfold iblk
  show Cert.KernelIdeal.Gen.V m c main_v7 (((cfg0.win 8).blk t).view.emb y) = _
  congr 1
  blk_ext [idx_8]

include E in
@[inherit_doc blk0] theorem blk9 : iblk m c 9 t = cbF A := by
  refine Eq.trans (funext fun y => ?_) E.e9
  unfold iblk
  show Cert.KernelIdeal.Gen.V m c main_v20 (((cfg0.win 9).blk t).view.emb y) = _
  congr 1
  blk_ext [idx_9]

include E in
@[inherit_doc blk0] theorem blk10 : iblk m c 10 t = gbF A := by
  refine Eq.trans (funext fun y => ?_) E.e10
  unfold iblk
  show Cert.KernelIdeal.Gen.V m c main_v17 (((cfg0.win 10).blk t).view.emb y) = _
  congr 1
  blk_ext [idx_10]

include E in
@[inherit_doc blk0] theorem blk11 : iblk m c 11 t = lwF A := by
  refine Eq.trans (funext fun y => ?_) E.e11
  unfold iblk
  show Cert.KernelIdeal.Gen.V m c main_v21 (((cfg0.win 11).blk t).view.emb y) = _
  congr 1
  blk_ext [idx_11]

include E in
@[inherit_doc blk0] theorem blk12 : iblk m c 12 t = skF A := by
  refine Eq.trans (funext fun y => ?_) E.e12
  unfold iblk
  show Cert.KernelIdeal.Gen.V m c main_v22 (((cfg0.win 12).blk t).view.emb y) = _
  congr 1
  blk_ext [idx_12]

include E in
@[inherit_doc blk0] theorem blk13 : iblk m c 13 t = triF := by
  refine Eq.trans (funext fun y => ?_) E.e13
  unfold iblk
  show Cert.KernelIdeal.Gen.V m c main_v36 (((cfg0.win 13).blk t).view.emb y) = _
  congr 1
  blk_ext [idx_13]

end Cert.KVal
end
-- ==== Proof.BridgeB.lean ====
/- The pieces the kernel's body leaves in case B, as the functions of the blocks it reads. -/
module

public import proofs.«01_k».proof.Proof.Win

@[expose] public section

set_option maxRecDepth 16384

noncomputable section

namespace Cert.Stage

open Idealize.ShloMosaic
open Cert.KernelIdeal Cert.KernelIdeal.Gen

section
variable (c : Dev nD) (i : grid0.Coords) (arg1 : Memref sig .tc .vmem S1x512x1024 .bf16) (harg1 : arg1.IsWhole) (arg2 : Memref sig .tc .vmem S1024x2048 .bf16) (harg2 : arg2.IsWhole) (arg3 : Memref sig .tc .vmem S1024x640 .bf16) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x512x512 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S1x512x1024 .f32) (harg15 : arg15.IsWhole) (arg16 : Memref sig .tc .vmem S512x2688 .f32) (harg16 : arg16.IsWhole) (arg17 : Memref sig .tc .vmem S512x2688 .f32) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x1024 .f32) (harg20 : arg20.IsWhole) (arg21 : Memref sig .tc .vmem S520x1024 .f32) (harg21 : arg21.IsWhole) (arg22 : Memref sig .tc .vmem S4x128x256 .f32) (harg22 : arg22.IsWhole) (arg23 : Memref sig .tc .vmem S8x128 .f32) (harg23 : arg23.IsWhole) (hc0 : ¬cond0_0 i) (hc1 : cond0_1 i) (hc2 : ¬cond0_2 i) (hc3 : cond0_3 i)
  (x0 : Vec Ideal S1x512x1024 .bf16) (x1 : Vec Ideal S1024x2048 .bf16) (x2 : Vec Ideal S1024x640 .bf16) (x3 : Vec Ideal S1x512x1024 .f32) (x4 : Vec Ideal S1x1x1024 .f32) (x5 : Vec Ideal S1x512x512 .bf16) (x6 : Vec Ideal S1024x1024 .bf16) (x7 : Vec Ideal S1x1024 .f32) (x8 : Vec Ideal S4x1024 .f32) (x9 : Vec Ideal S1x1024 .f32) (x10 : Vec Ideal S1x128 .f32) (x11 : Vec Ideal S1x512 .f32) (x12 : Vec Ideal S1x512 .f32) (x13 : Vec Ideal S512x512 .bf16) (xs0 : Vec Ideal S512x2688 .f32) (xs3 : Vec Ideal S512x512 .bf16)

/-- The projection's pieces. -/
theorem projB : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3).2.2.1 = ppieces arg1 harg1 x0 arg2 harg2 x1 arg3 harg3 x2 := by sl_kernel_rfl
/-- The units' pieces. -/
theorem yB : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3).2.2.2.1 =
    (blocks arg16 harg16 xs0 arg9 harg9 x8 arg10 harg10 x9 arg11 harg11 x10 arg12 harg12 x11 arg13 harg13 x12 arg14 harg14 x13 (XWin arg21.view (arg21.view.writes (Elt Ideal) arg21.view.junk [xzero]) (fun j => ld2 arg16 harg16 xs0 512 256 0 (256 * j.val) (by omega) (by omega)))
      (fun h => arg23.view.readCov [mzero] (Rect.unit (s := S8x128) ![h.val, 0] S1x1.size (inb2 8 128 1 1 (by omega) (by omega))).toLoadRect)
      (fun h => shapeCast S128x256 (arg22.view.readCov [szero] (Rect.unit (s := S4x128x256) ![h.val, 0, 0] S1x128x256.size (inb3 4 128 256 1 128 256 (by omega) (by omega) (by omega))).toLoadRect) shapeCasts_S1x128x256_S128x256)).pieces := by sl_kernel_rfl
/-- The states' pieces. -/
theorem sB : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3).2.2.2.2.2.2.1 =
    (fun E : Blocks => [E.spiece 3, E.spiece 2, E.spiece 1, E.spiece 0] ++ [szero])
    (blocks arg16 harg16 xs0 arg9 harg9 x8 arg10 harg10 x9 arg11 harg11 x10 arg12 harg12 x11 arg13 harg13 x12 arg14 harg14 x13 (XWin arg21.view (arg21.view.writes (Elt Ideal) arg21.view.junk [xzero]) (fun j => ld2 arg16 harg16 xs0 512 256 0 (256 * j.val) (by omega) (by omega)))
      (fun h => arg23.view.readCov [mzero] (Rect.unit (s := S8x128) ![h.val, 0] S1x1.size (inb2 8 128 1 1 (by omega) (by omega))).toLoadRect)
      (fun h => shapeCast S128x256 (arg22.view.readCov [szero] (Rect.unit (s := S4x128x256) ![h.val, 0, 0] S1x128x256.size (inb3 4 128 256 1 128 256 (by omega) (by omega) (by omega))).toLoadRect) shapeCasts_S1x128x256_S128x256)) := by sl_kernel_rfl
/-- The stabilisers' pieces. -/
theorem mB : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3).2.2.2.2.2.2.2.1 =
    (fun E : Blocks => [E.mpiece 3, E.mpiece 2, E.mpiece 1, E.mpiece 0] ++ [mzero])
    (blocks arg16 harg16 xs0 arg9 harg9 x8 arg10 harg10 x9 arg11 harg11 x10 arg12 harg12 x11 arg13 harg13 x12 arg14 harg14 x13 (XWin arg21.view (arg21.view.writes (Elt Ideal) arg21.view.junk [xzero]) (fun j => ld2 arg16 harg16 xs0 512 256 0 (256 * j.val) (by omega) (by omega)))
      (fun h => arg23.view.readCov [mzero] (Rect.unit (s := S8x128) ![h.val, 0] S1x1.size (inb2 8 128 1 1 (by omega) (by omega))).toLoadRect)
      (fun h => shapeCast S128x256 (arg22.view.readCov [szero] (Rect.unit (s := S4x128x256) ![h.val, 0, 0] S1x128x256.size (inb3 4 128 256 1 128 256 (by omega) (by omega) (by omega))).toLoadRect) shapeCasts_S1x128x256_S128x256)) := by sl_kernel_rfl
/-- The window's pieces. -/
theorem xB : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3).2.2.2.2.2.1 =
    XL arg21.view (arg21.view.writes (Elt Ideal) arg21.view.junk [xzero]) (fun j => ld2 arg16 harg16 xs0 512 256 0 (256 * j.val) (by omega) (by omega)) 4 ++ [xzero] := by sl_kernel_rfl
/-- The output's piece. -/
theorem outB : (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3).1 =
    [⟨Rect.unit (s := S1x512x1024) ![0, 0, 0] S1x512x1024.size (inb3 1 512 1024 1 512 1024 (by omega) (by omega) (by omega)),
      outTile arg4 harg4 x3 arg5 harg5 x4 arg6 harg6 x5 arg7 harg7 x6 arg8 harg8 x7 arg19 harg19 xs3 arg20⟩] := by sl_kernel_rfl
end
end Cert.Stage
end
-- ==== Proof.StepB.lean ====
/- What a point of case B leaves. -/
module

public import proofs.«01_k».proof.Proof.TileStep
public import proofs.«01_k».proof.Proof.BridgeB

@[expose] public section

set_option maxRecDepth 16384

noncomputable section

namespace Cert.Stage

open Idealize.ShloMosaic
open Cert.KernelIdeal Cert.KernelIdeal.Gen
open Cert.Lift

section
variable (c : Dev nD) (i : grid0.Coords) (arg1 : Memref sig .tc .vmem S1x512x1024 .bf16) (harg1 : arg1.IsWhole) (arg2 : Memref sig .tc .vmem S1024x2048 .bf16) (harg2 : arg2.IsWhole) (arg3 : Memref sig .tc .vmem S1024x640 .bf16) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x512x512 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S1x512x1024 .f32) (harg15 : arg15.IsWhole) (arg16 : Memref sig .tc .vmem S512x2688 .f32) (harg16 : arg16.IsWhole) (arg17 : Memref sig .tc .vmem S512x2688 .f32) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x1024 .f32) (harg20 : arg20.IsWhole) (arg21 : Memref sig .tc .vmem S520x1024 .f32) (harg21 : arg21.IsWhole) (arg22 : Memref sig .tc .vmem S4x128x256 .f32) (harg22 : arg22.IsWhole) (arg23 : Memref sig .tc .vmem S8x128 .f32) (harg23 : arg23.IsWhole) (hc0 : ¬cond0_0 i) (hc1 : cond0_1 i) (hc2 : ¬cond0_2 i) (hc3 : cond0_3 i)
  (x0 : Vec Ideal S1x512x1024 .bf16) (x1 : Vec Ideal S1024x2048 .bf16) (x2 : Vec Ideal S1024x640 .bf16) (x3 : Vec Ideal S1x512x1024 .f32) (x4 : Vec Ideal S1x1x1024 .f32) (x5 : Vec Ideal S1x512x512 .bf16) (x6 : Vec Ideal S1024x1024 .bf16) (x7 : Vec Ideal S1x1024 .f32) (x8 : Vec Ideal S4x1024 .f32) (x9 : Vec Ideal S1x1024 .f32) (x10 : Vec Ideal S1x128 .f32) (x11 : Vec Ideal S1x512 .f32) (x12 : Vec Ideal S1x512 .f32) (x13 : Vec Ideal S512x512 .bf16) (xs0 : Vec Ideal S512x2688 .f32) (xs3 : Vec Ideal S512x512 .bf16)

variable (A : Spec.Args) (b b' τ' : ℕ)

/-- What the point leaves in the memories. -/
theorem stepB : After A b 0 b' τ' (sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b 0) xs3)
    (sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b 0) xs3)
    (sout0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b 0) xs3)
    (sout0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b 0) xs3)
    (sout0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b 0) xs3) := by
  have h5 := xzero_low A b arg21.view arg21.view.junk
  have H := leaves A b 0 arg16 harg16 arg9 harg9 arg10 harg10 arg11 harg11 arg12 harg12 arg13 harg13 arg14 harg14 arg21.view (arg21.view.writes (Elt Ideal) arg21.view.junk [xzero]) arg22.view (arg22.view.writes (Elt Ideal) arg22.view.junk [szero]) arg23.view (arg23.view.writes (Elt Ideal) arg23.view.junk [mzero])
    h5 (fun _ => 0) (szero_read A b arg22.view arg22.view.junk) (fun y _ => mzero_read arg23.view arg23.view.junk y)
  obtain ⟨μ', e6, e7⟩ := H.sm
  have es := src_Lf A b 0 arg16 harg16
  refine ⟨?_, ?_, fun y hy => ?_, μ', ?_, fun y hy => ?_⟩
  · exact (congrArg (fun L => VS0_1.read (Elt Ideal) (VS0_1.writes (Elt Ideal) VS0_1.junk L)) (projB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b 0) xs3)).trans (proj_read A b' τ' arg1 harg1 arg2 harg2 arg3 harg3 VS0_1 _)
  · exact (congrArg (fun L => VS0_2.read (Elt Ideal) (VS0_2.writes (Elt Ideal) VS0_2.junk L)) (yB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b 0) xs3)).trans (H.y VS0_2 _)
  · refine (congrFun ((congrArg (fun L => VS0_5.read (Elt Ideal) (VS0_5.writes (Elt Ideal) VS0_5.junk L)) (xB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b 0) xs3)).trans (congrArg (VS0_5.read (Elt Ideal)) (View.writes_append (Val := Elt Ideal) VS0_5 VS0_5.junk _ [xzero]))) y).trans ?_
    have k := x_read A b 0 arg21.view _ h5 VS0_5 (VS0_5.writes (Elt Ideal) VS0_5.junk [xzero]) y hy
    rw [← es] at k
    exact k
  · exact ((congrArg (fun L => VS0_6.read (Elt Ideal) (VS0_6.writes (Elt Ideal) VS0_6.junk L)) (sB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b 0) xs3)).trans (congrArg (VS0_6.read (Elt Ideal)) (View.writes_append (Val := Elt Ideal) VS0_6 VS0_6.junk _ [szero]))).trans (e6 VS0_6 _)
  · exact (congrFun ((congrArg (fun L => VS0_7.read (Elt Ideal) (VS0_7.writes (Elt Ideal) VS0_7.junk L)) (mB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b 0) xs3)).trans (congrArg (VS0_7.read (Elt Ideal)) (View.writes_append (Val := Elt Ideal) VS0_7 VS0_7.junk _ [mzero]))) y).trans (e7 VS0_7 _ y hy)

/-- What the point leaves in the output block. -/
theorem outStepB (τ : ℕ) : (out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 (xF A b τ) (adaF A b) (yrF A b τ) (woF A) (fgF A) x8 x9 x10 x11 x12 x13 xs0 (ytF A b τ)) = Lf (fun c => Spec.out A b (512 * τ + c 1) (c 2)) := by
  refine (congrArg (fun L => VO0_14.read (Elt Ideal) (VO0_14.writes (Elt Ideal) VO0_14.junk L)) (outB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 (xF A b τ) (adaF A b) (yrF A b τ) (woF A) (fgF A) x8 x9 x10 x11 x12 x13 xs0 (ytF A b τ))).trans ?_
  rw [outTile_Lf]
  exact out_read VO0_14 _ _ _

/-- The same of inputs equal to those. -/
theorem stepB_of (e0 : x0 = hnF A b' τ') (e1 : x1 = waF A) (e2 : x2 = wbF A) (e8 : x8 = cwF A) (e9 : x9 = cbF A) (e10 : x10 = gbF A) (e11 : x11 = lwF A)
    (e12 : x12 = skF A) (e13 : x13 = triF) (es : xs0 = pjF A b 0) :
    After A b 0 b' τ' (sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3)
    (sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3)
    (sout0_B_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3)
    (sout0_B_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3)
    (sout0_B_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3) := by
  subst e0 e1 e2 e8 e9 e10 e11 e12 e13 es
  exact stepB (A := A) (b := b) ..

@[inherit_doc stepB_of] theorem outStepB_of (τ : ℕ) (e3 : x3 = xF A b τ) (e4 : x4 = adaF A b) (e5 : x5 = yrF A b τ) (e6 : x6 = woF A) (e7 : x7 = fgF A)
    (es : xs3 = ytF A b τ) : (out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3) = Lf (fun c => Spec.out A b (512 * τ + c 1) (c 2)) := by
  subst e3 e4 e5 e6 e7 es
  exact outStepB (A := A) (b := b) ..

end
end Cert.Stage
end
-- ==== Proof.BridgeC.lean ====
/- The pieces the kernel's body leaves in case C, as the functions of the blocks it reads. -/
module

public import proofs.«01_k».proof.Proof.Win

@[expose] public section

set_option maxRecDepth 16384

noncomputable section

namespace Cert.Stage

open Idealize.ShloMosaic
open Cert.KernelIdeal Cert.KernelIdeal.Gen

section
variable (c : Dev nD) (i : grid0.Coords) (arg1 : Memref sig .tc .vmem S1x512x1024 .bf16) (harg1 : arg1.IsWhole) (arg2 : Memref sig .tc .vmem S1024x2048 .bf16) (harg2 : arg2.IsWhole) (arg3 : Memref sig .tc .vmem S1024x640 .bf16) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x512x512 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S1x512x1024 .f32) (harg15 : arg15.IsWhole) (arg16 : Memref sig .tc .vmem S512x2688 .f32) (harg16 : arg16.IsWhole) (arg17 : Memref sig .tc .vmem S512x2688 .f32) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x1024 .f32) (harg20 : arg20.IsWhole) (arg21 : Memref sig .tc .vmem S520x1024 .f32) (harg21 : arg21.IsWhole) (arg22 : Memref sig .tc .vmem S4x128x256 .f32) (harg22 : arg22.IsWhole) (arg23 : Memref sig .tc .vmem S8x128 .f32) (harg23 : arg23.IsWhole) (hc0 : ¬cond0_0 i) (hc1 : ¬cond0_1 i) (hc2 : cond0_2 i) (hc3 : ¬cond0_3 i)
  (x0 : Vec Ideal S1x512x1024 .bf16) (x1 : Vec Ideal S1024x2048 .bf16) (x2 : Vec Ideal S1024x640 .bf16) (x3 : Vec Ideal S1x512x1024 .f32) (x4 : Vec Ideal S1x1x1024 .f32) (x5 : Vec Ideal S1x512x512 .bf16) (x6 : Vec Ideal S1024x1024 .bf16) (x7 : Vec Ideal S1x1024 .f32) (x8 : Vec Ideal S4x1024 .f32) (x9 : Vec Ideal S1x1024 .f32) (x10 : Vec Ideal S1x128 .f32) (x11 : Vec Ideal S1x512 .f32) (x12 : Vec Ideal S1x512 .f32) (x13 : Vec Ideal S512x512 .bf16) (xs1 : Vec Ideal S512x2688 .f32) (xs2 : Vec Ideal S512x512 .bf16) (xs5 : Vec Ideal S520x1024 .f32) (xs6 : Vec Ideal S4x128x256 .f32) (xs7 : Vec Ideal S8x128 .f32)

/-- The projection's pieces. -/
theorem projC : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs1 xs2 xs5 xs6 xs7).2.1 = ppieces arg1 harg1 x0 arg2 harg2 x1 arg3 harg3 x2 := by sl_kernel_rfl
/-- The units' pieces. -/
theorem yC : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs1 xs2 xs5 xs6 xs7).2.2.2.2.1 =
    (blocks arg17 harg17 xs1 arg9 harg9 x8 arg10 harg10 x9 arg11 harg11 x10 arg12 harg12 x11 arg13 harg13 x12 arg14 harg14 x13 (XWin arg21.view (harg21.unread xs5) (fun j => ld2 arg17 harg17 xs1 512 256 0 (256 * j.val) (by omega) (by omega)))
      (fun h => ld2 arg23 harg23 xs7 1 1 h.val 0 (by omega) (by omega))
      (fun h => shapeCast S128x256 (ld3 arg22 harg22 xs6 1 128 256 h.val 0 0 (by omega) (by omega) (by omega)) shapeCasts_S1x128x256_S128x256)).pieces := by sl_kernel_rfl
/-- The states' pieces. -/
theorem sC : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs1 xs2 xs5 xs6 xs7).2.2.2.2.2.2.1 =
    (fun E : Blocks => [E.spiece 3, E.spiece 2, E.spiece 1, E.spiece 0])
    (blocks arg17 harg17 xs1 arg9 harg9 x8 arg10 harg10 x9 arg11 harg11 x10 arg12 harg12 x11 arg13 harg13 x12 arg14 harg14 x13 (XWin arg21.view (harg21.unread xs5) (fun j => ld2 arg17 harg17 xs1 512 256 0 (256 * j.val) (by omega) (by omega)))
      (fun h => ld2 arg23 harg23 xs7 1 1 h.val 0 (by omega) (by omega))
      (fun h => shapeCast S128x256 (ld3 arg22 harg22 xs6 1 128 256 h.val 0 0 (by omega) (by omega) (by omega)) shapeCasts_S1x128x256_S128x256)) := by sl_kernel_rfl
/-- The stabilisers' pieces. -/
theorem mC : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs1 xs2 xs5 xs6 xs7).2.2.2.2.2.2.2.1 =
    (fun E : Blocks => [E.mpiece 3, E.mpiece 2, E.mpiece 1, E.mpiece 0])
    (blocks arg17 harg17 xs1 arg9 harg9 x8 arg10 harg10 x9 arg11 harg11 x10 arg12 harg12 x11 arg13 harg13 x12 arg14 harg14 x13 (XWin arg21.view (harg21.unread xs5) (fun j => ld2 arg17 harg17 xs1 512 256 0 (256 * j.val) (by omega) (by omega)))
      (fun h => ld2 arg23 harg23 xs7 1 1 h.val 0 (by omega) (by omega))
      (fun h => shapeCast S128x256 (ld3 arg22 harg22 xs6 1 128 256 h.val 0 0 (by omega) (by omega) (by omega)) shapeCasts_S1x128x256_S128x256)) := by sl_kernel_rfl
/-- The window's pieces. -/
theorem xC : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs1 xs2 xs5 xs6 xs7).2.2.2.2.2.1 =
    XL arg21.view (harg21.unread xs5) (fun j => ld2 arg17 harg17 xs1 512 256 0 (256 * j.val) (by omega) (by omega)) 4 := by sl_kernel_rfl
/-- The output's piece. -/
theorem outC : (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs1 xs2 xs5 xs6 xs7).1 =
    [⟨Rect.unit (s := S1x512x1024) ![0, 0, 0] S1x512x1024.size (inb3 1 512 1024 1 512 1024 (by omega) (by omega) (by omega)),
      outTile arg4 harg4 x3 arg5 harg5 x4 arg6 harg6 x5 arg7 harg7 x6 arg8 harg8 x7 arg18 harg18 xs2 arg20⟩] := by sl_kernel_rfl
end
end Cert.Stage
end
-- ==== Proof.StepC.lean ====
/- What a point of case C leaves. -/
module

public import proofs.«01_k».proof.Proof.TileStep
public import proofs.«01_k».proof.Proof.BridgeC

@[expose] public section

set_option maxRecDepth 16384

noncomputable section

namespace Cert.Stage

open Idealize.ShloMosaic
open Cert.KernelIdeal Cert.KernelIdeal.Gen
open Cert.Lift

section
variable (c : Dev nD) (i : grid0.Coords) (arg1 : Memref sig .tc .vmem S1x512x1024 .bf16) (harg1 : arg1.IsWhole) (arg2 : Memref sig .tc .vmem S1024x2048 .bf16) (harg2 : arg2.IsWhole) (arg3 : Memref sig .tc .vmem S1024x640 .bf16) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x512x512 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S1x512x1024 .f32) (harg15 : arg15.IsWhole) (arg16 : Memref sig .tc .vmem S512x2688 .f32) (harg16 : arg16.IsWhole) (arg17 : Memref sig .tc .vmem S512x2688 .f32) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x1024 .f32) (harg20 : arg20.IsWhole) (arg21 : Memref sig .tc .vmem S520x1024 .f32) (harg21 : arg21.IsWhole) (arg22 : Memref sig .tc .vmem S4x128x256 .f32) (harg22 : arg22.IsWhole) (arg23 : Memref sig .tc .vmem S8x128 .f32) (harg23 : arg23.IsWhole) (hc0 : ¬cond0_0 i) (hc1 : ¬cond0_1 i) (hc2 : cond0_2 i) (hc3 : ¬cond0_3 i)
  (x0 : Vec Ideal S1x512x1024 .bf16) (x1 : Vec Ideal S1024x2048 .bf16) (x2 : Vec Ideal S1024x640 .bf16) (x3 : Vec Ideal S1x512x1024 .f32) (x4 : Vec Ideal S1x1x1024 .f32) (x5 : Vec Ideal S1x512x512 .bf16) (x6 : Vec Ideal S1024x1024 .bf16) (x7 : Vec Ideal S1x1024 .f32) (x8 : Vec Ideal S4x1024 .f32) (x9 : Vec Ideal S1x1024 .f32) (x10 : Vec Ideal S1x128 .f32) (x11 : Vec Ideal S1x512 .f32) (x12 : Vec Ideal S1x512 .f32) (x13 : Vec Ideal S512x512 .bf16) (xs1 : Vec Ideal S512x2688 .f32) (xs2 : Vec Ideal S512x512 .bf16) (xs5 : Vec Ideal S520x1024 .f32) (xs6 : Vec Ideal S4x128x256 .f32) (xs7 : Vec Ideal S8x128 .f32)

variable (A : Spec.Args) (b τ b' τ' : ℕ)

/-- What the point leaves in the memories. -/
theorem stepC
    (h5 : ∀ y : S520x1024.Idx, (y 0).val < 8 → xs5 y = (Lf (XW A b τ) : S520x1024.Idx → EReal) y)
    (μ : ℕ → ℝ) (h6 : xs6 = (Lf (ST A b (512 * τ) μ) : S4x128x256.Idx → EReal))
    (h7 : ∀ y : S8x128.Idx, (y 0).val < 4 → xs7 y = (Lf (MT μ) : S8x128.Idx → EReal) y) : After A b τ b' τ' (sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs2 xs5 xs6 xs7)
    (sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs2 xs5 xs6 xs7)
    (sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs2 xs5 xs6 xs7)
    (sout0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs2 xs5 xs6 xs7)
    (sout0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs2 xs5 xs6 xs7) := by
  have h5' : ∀ y : S520x1024.Idx, (y 0).val < 8 → arg21.view.read (Elt Ideal) (harg21.unread xs5) y = (Lf (XW A b τ) : S520x1024.Idx → EReal) y := fun y hy => by
    rw [harg21.read_unread]; exact h5 y hy
  have H := leaves A b τ arg17 harg17 arg9 harg9 arg10 harg10 arg11 harg11 arg12 harg12 arg13 harg13 arg14 harg14 arg21.view (harg21.unread xs5) arg22.view (harg22.unread xs6) arg23.view (harg23.unread xs7)
    h5' μ ((harg22.read_unread xs6).trans h6) (fun y hy => (congrFun (harg23.read_unread xs7) y).trans (h7 y hy))
  obtain ⟨μ', e6, e7⟩ := H.sm
  have es := src_Lf A b τ arg17 harg17
  refine ⟨?_, ?_, fun y hy => ?_, μ', ?_, fun y hy => ?_⟩
  · exact (congrArg (fun L => VS0_0.read (Elt Ideal) (VS0_0.writes (Elt Ideal) VS0_0.junk L)) (projC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs2 xs5 xs6 xs7)).trans (proj_read A b' τ' arg1 harg1 arg2 harg2 arg3 harg3 VS0_0 _)
  · exact (congrArg (fun L => VS0_3.read (Elt Ideal) (VS0_3.writes (Elt Ideal) VS0_3.junk L)) (yC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs2 xs5 xs6 xs7)).trans (H.y VS0_3 _)
  · refine (congrFun ((congrArg (fun L => VS0_5.read (Elt Ideal) (VS0_5.writes (Elt Ideal) VS0_5.junk L)) (xC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs2 xs5 xs6 xs7))) y).trans ?_
    have k := x_read A b τ arg21.view _ h5' VS0_5 VS0_5.junk y hy
    rw [← es] at k
    exact k
  · exact ((congrArg (fun L => VS0_6.read (Elt Ideal) (VS0_6.writes (Elt Ideal) VS0_6.junk L)) (sC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs2 xs5 xs6 xs7))).trans (e6 VS0_6 _)
  · exact (congrFun ((congrArg (fun L => arg23.view.read (Elt Ideal) (arg23.view.writes (Elt Ideal) (harg23.unread xs7) L)) (mC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs2 xs5 xs6 xs7))) y).trans (e7 arg23.view _ y hy)

/-- What the point leaves in the output block. -/
theorem outStepC : (out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 (xF A b τ) (adaF A b) (yrF A b τ) (woF A) (fgF A) x8 x9 x10 x11 x12 x13 xs1 (ytF A b τ) xs5 xs6 xs7) = Lf (fun c => Spec.out A b (512 * τ + c 1) (c 2)) := by
  refine (congrArg (fun L => VO0_14.read (Elt Ideal) (VO0_14.writes (Elt Ideal) VO0_14.junk L)) (outC c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 (xF A b τ) (adaF A b) (yrF A b τ) (woF A) (fgF A) x8 x9 x10 x11 x12 x13 xs1 (ytF A b τ) xs5 xs6 xs7)).trans ?_
  rw [outTile_Lf]
  exact out_read VO0_14 _ _ _

/-- The same of inputs equal to those. -/
theorem stepC_of (e0 : x0 = hnF A b' τ') (e1 : x1 = waF A) (e2 : x2 = wbF A) (e8 : x8 = cwF A) (e9 : x9 = cbF A) (e10 : x10 = gbF A) (e11 : x11 = lwF A)
    (e12 : x12 = skF A) (e13 : x13 = triF) (es : xs1 = pjF A b τ)
    (h5 : ∀ y : S520x1024.Idx, (y 0).val < 8 → xs5 y = (Lf (XW A b τ) : S520x1024.Idx → EReal) y)
    (μ : ℕ → ℝ) (h6 : xs6 = (Lf (ST A b (512 * τ) μ) : S4x128x256.Idx → EReal))
    (h7 : ∀ y : S8x128.Idx, (y 0).val < 4 → xs7 y = (Lf (MT μ) : S8x128.Idx → EReal) y) :
    After A b τ b' τ' (sout0_C_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs1 xs2 xs5 xs6 xs7)
    (sout0_C_3 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs1 xs2 xs5 xs6 xs7)
    (sout0_C_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs1 xs2 xs5 xs6 xs7)
    (sout0_C_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs1 xs2 xs5 xs6 xs7)
    (sout0_C_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs1 xs2 xs5 xs6 xs7) := by
  subst e0 e1 e2 e8 e9 e10 e11 e12 e13 es
  exact stepC (A := A) (b := b) (τ := τ) (h5 := h5) (μ := μ) (h6 := h6) (h7 := h7) ..

@[inherit_doc stepC_of] theorem outStepC_of (e3 : x3 = xF A b τ) (e4 : x4 = adaF A b) (e5 : x5 = yrF A b τ) (e6 : x6 = woF A) (e7 : x7 = fgF A)
    (es : xs2 = ytF A b τ) : (out0_C_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs1 xs2 xs5 xs6 xs7) = Lf (fun c => Spec.out A b (512 * τ + c 1) (c 2)) := by
  subst e3 e4 e5 e6 e7 es
  exact outStepC (A := A) (b := b) ..

end
end Cert.Stage
end
-- ==== Proof.BridgeD.lean ====
/- The pieces the kernel's body leaves in case D, as the functions of the blocks it reads. -/
module

public import proofs.«01_k».proof.Proof.Win

@[expose] public section

set_option maxRecDepth 16384

noncomputable section

namespace Cert.Stage

open Idealize.ShloMosaic
open Cert.KernelIdeal Cert.KernelIdeal.Gen

section
variable (c : Dev nD) (i : grid0.Coords) (arg1 : Memref sig .tc .vmem S1x512x1024 .bf16) (harg1 : arg1.IsWhole) (arg2 : Memref sig .tc .vmem S1024x2048 .bf16) (harg2 : arg2.IsWhole) (arg3 : Memref sig .tc .vmem S1024x640 .bf16) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x512x512 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S1x512x1024 .f32) (harg15 : arg15.IsWhole) (arg16 : Memref sig .tc .vmem S512x2688 .f32) (harg16 : arg16.IsWhole) (arg17 : Memref sig .tc .vmem S512x2688 .f32) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x1024 .f32) (harg20 : arg20.IsWhole) (arg21 : Memref sig .tc .vmem S520x1024 .f32) (harg21 : arg21.IsWhole) (arg22 : Memref sig .tc .vmem S4x128x256 .f32) (harg22 : arg22.IsWhole) (arg23 : Memref sig .tc .vmem S8x128 .f32) (harg23 : arg23.IsWhole) (hc0 : ¬cond0_0 i) (hc1 : ¬cond0_1 i) (hc2 : ¬cond0_2 i) (hc3 : cond0_3 i)
  (x0 : Vec Ideal S1x512x1024 .bf16) (x1 : Vec Ideal S1024x2048 .bf16) (x2 : Vec Ideal S1024x640 .bf16) (x3 : Vec Ideal S1x512x1024 .f32) (x4 : Vec Ideal S1x1x1024 .f32) (x5 : Vec Ideal S1x512x512 .bf16) (x6 : Vec Ideal S1024x1024 .bf16) (x7 : Vec Ideal S1x1024 .f32) (x8 : Vec Ideal S4x1024 .f32) (x9 : Vec Ideal S1x1024 .f32) (x10 : Vec Ideal S1x128 .f32) (x11 : Vec Ideal S1x512 .f32) (x12 : Vec Ideal S1x512 .f32) (x13 : Vec Ideal S512x512 .bf16) (xs0 : Vec Ideal S512x2688 .f32) (xs3 : Vec Ideal S512x512 .bf16) (xs5 : Vec Ideal S520x1024 .f32) (xs6 : Vec Ideal S4x128x256 .f32) (xs7 : Vec Ideal S8x128 .f32)

/-- The projection's pieces. -/
theorem projD : (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3 xs5 xs6 xs7).2.2.1 = ppieces arg1 harg1 x0 arg2 harg2 x1 arg3 harg3 x2 := by sl_kernel_rfl
/-- The units' pieces. -/
theorem yD : (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3 xs5 xs6 xs7).2.2.2.1 =
    (blocks arg16 harg16 xs0 arg9 harg9 x8 arg10 harg10 x9 arg11 harg11 x10 arg12 harg12 x11 arg13 harg13 x12 arg14 harg14 x13 (XWin arg21.view (harg21.unread xs5) (fun j => ld2 arg16 harg16 xs0 512 256 0 (256 * j.val) (by omega) (by omega)))
      (fun h => ld2 arg23 harg23 xs7 1 1 h.val 0 (by omega) (by omega))
      (fun h => shapeCast S128x256 (ld3 arg22 harg22 xs6 1 128 256 h.val 0 0 (by omega) (by omega) (by omega)) shapeCasts_S1x128x256_S128x256)).pieces := by
  sl_kernel_rfl

/-- The states' pieces. -/
theorem sD : (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3 xs5 xs6 xs7).2.2.2.2.2.2.1 =
    (fun E : Blocks => [E.spiece 3, E.spiece 2, E.spiece 1, E.spiece 0])
    (blocks arg16 harg16 xs0 arg9 harg9 x8 arg10 harg10 x9 arg11 harg11 x10 arg12 harg12 x11 arg13 harg13 x12 arg14 harg14 x13 (XWin arg21.view (harg21.unread xs5) (fun j => ld2 arg16 harg16 xs0 512 256 0 (256 * j.val) (by omega) (by omega)))
      (fun h => ld2 arg23 harg23 xs7 1 1 h.val 0 (by omega) (by omega))
      (fun h => shapeCast S128x256 (ld3 arg22 harg22 xs6 1 128 256 h.val 0 0 (by omega) (by omega) (by omega)) shapeCasts_S1x128x256_S128x256)) := by
  sl_kernel_rfl

/-- The stabilisers' pieces. -/
theorem mD : (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3 xs5 xs6 xs7).2.2.2.2.2.2.2.1 =
    (fun E : Blocks => [E.mpiece 3, E.mpiece 2, E.mpiece 1, E.mpiece 0])
    (blocks arg16 harg16 xs0 arg9 harg9 x8 arg10 harg10 x9 arg11 harg11 x10 arg12 harg12 x11 arg13 harg13 x12 arg14 harg14 x13 (XWin arg21.view (harg21.unread xs5) (fun j => ld2 arg16 harg16 xs0 512 256 0 (256 * j.val) (by omega) (by omega)))
      (fun h => ld2 arg23 harg23 xs7 1 1 h.val 0 (by omega) (by omega))
      (fun h => shapeCast S128x256 (ld3 arg22 harg22 xs6 1 128 256 h.val 0 0 (by omega) (by omega) (by omega)) shapeCasts_S1x128x256_S128x256)) := by sl_kernel_rfl
/-- The window's pieces. -/
theorem xD : (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3 xs5 xs6 xs7).2.2.2.2.2.1 =
    XL arg21.view (harg21.unread xs5) (fun j => ld2 arg16 harg16 xs0 512 256 0 (256 * j.val) (by omega) (by omega)) 4 := by sl_kernel_rfl
/-- The output's piece. -/
theorem outD : (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3 xs5 xs6 xs7).1 =
    [⟨Rect.unit (s := S1x512x1024) ![0, 0, 0] S1x512x1024.size (inb3 1 512 1024 1 512 1024 (by omega) (by omega) (by omega)),
      outTile arg4 harg4 x3 arg5 harg5 x4 arg6 harg6 x5 arg7 harg7 x6 arg8 harg8 x7 arg19 harg19 xs3 arg20⟩] := by sl_kernel_rfl
end
end Cert.Stage
end
-- ==== Proof.StepD.lean ====
/- What a point of case D leaves. -/
module

public import proofs.«01_k».proof.Proof.TileStep
public import proofs.«01_k».proof.Proof.BridgeD

@[expose] public section

set_option maxRecDepth 16384

noncomputable section

namespace Cert.Stage

open Idealize.ShloMosaic
open Cert.KernelIdeal Cert.KernelIdeal.Gen
open Cert.Lift

section
variable (c : Dev nD) (i : grid0.Coords) (arg1 : Memref sig .tc .vmem S1x512x1024 .bf16) (harg1 : arg1.IsWhole) (arg2 : Memref sig .tc .vmem S1024x2048 .bf16) (harg2 : arg2.IsWhole) (arg3 : Memref sig .tc .vmem S1024x640 .bf16) (harg3 : arg3.IsWhole) (arg4 : Memref sig .tc .vmem S1x512x1024 .f32) (harg4 : arg4.IsWhole) (arg5 : Memref sig .tc .vmem S1x1x1024 .f32) (harg5 : arg5.IsWhole) (arg6 : Memref sig .tc .vmem S1x512x512 .bf16) (harg6 : arg6.IsWhole) (arg7 : Memref sig .tc .vmem S1024x1024 .bf16) (harg7 : arg7.IsWhole) (arg8 : Memref sig .tc .vmem S1x1024 .f32) (harg8 : arg8.IsWhole) (arg9 : Memref sig .tc .vmem S4x1024 .f32) (harg9 : arg9.IsWhole) (arg10 : Memref sig .tc .vmem S1x1024 .f32) (harg10 : arg10.IsWhole) (arg11 : Memref sig .tc .vmem S1x128 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S512x512 .bf16) (harg14 : arg14.IsWhole) (arg15 : Memref sig .tc .vmem S1x512x1024 .f32) (harg15 : arg15.IsWhole) (arg16 : Memref sig .tc .vmem S512x2688 .f32) (harg16 : arg16.IsWhole) (arg17 : Memref sig .tc .vmem S512x2688 .f32) (harg17 : arg17.IsWhole) (arg18 : Memref sig .tc .vmem S512x512 .bf16) (harg18 : arg18.IsWhole) (arg19 : Memref sig .tc .vmem S512x512 .bf16) (harg19 : arg19.IsWhole) (arg20 : Memref sig .tc .vmem S512x1024 .f32) (harg20 : arg20.IsWhole) (arg21 : Memref sig .tc .vmem S520x1024 .f32) (harg21 : arg21.IsWhole) (arg22 : Memref sig .tc .vmem S4x128x256 .f32) (harg22 : arg22.IsWhole) (arg23 : Memref sig .tc .vmem S8x128 .f32) (harg23 : arg23.IsWhole) (hc0 : ¬cond0_0 i) (hc1 : ¬cond0_1 i) (hc2 : ¬cond0_2 i) (hc3 : cond0_3 i)
  (x0 : Vec Ideal S1x512x1024 .bf16) (x1 : Vec Ideal S1024x2048 .bf16) (x2 : Vec Ideal S1024x640 .bf16) (x3 : Vec Ideal S1x512x1024 .f32) (x4 : Vec Ideal S1x1x1024 .f32) (x5 : Vec Ideal S1x512x512 .bf16) (x6 : Vec Ideal S1024x1024 .bf16) (x7 : Vec Ideal S1x1024 .f32) (x8 : Vec Ideal S4x1024 .f32) (x9 : Vec Ideal S1x1024 .f32) (x10 : Vec Ideal S1x128 .f32) (x11 : Vec Ideal S1x512 .f32) (x12 : Vec Ideal S1x512 .f32) (x13 : Vec Ideal S512x512 .bf16) (xs0 : Vec Ideal S512x2688 .f32) (xs3 : Vec Ideal S512x512 .bf16) (xs5 : Vec Ideal S520x1024 .f32) (xs6 : Vec Ideal S4x128x256 .f32) (xs7 : Vec Ideal S8x128 .f32)

variable (A : Spec.Args) (b τ b' τ' : ℕ)

/-- What the point leaves in the memories. -/
theorem stepD
    (h5 : ∀ y : S520x1024.Idx, (y 0).val < 8 → xs5 y = (Lf (XW A b τ) : S520x1024.Idx → EReal) y)
    (μ : ℕ → ℝ) (h6 : xs6 = (Lf (ST A b (512 * τ) μ) : S4x128x256.Idx → EReal))
    (h7 : ∀ y : S8x128.Idx, (y 0).val < 4 → xs7 y = (Lf (MT μ) : S8x128.Idx → EReal) y) : After A b τ b' τ' (sout0_D_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs3 xs5 xs6 xs7)
    (sout0_D_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs3 xs5 xs6 xs7)
    (sout0_D_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs3 xs5 xs6 xs7)
    (sout0_D_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs3 xs5 xs6 xs7)
    (sout0_D_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs3 xs5 xs6 xs7) := by
  have h5' : ∀ y : S520x1024.Idx, (y 0).val < 8 → arg21.view.read (Elt Ideal) (harg21.unread xs5) y = (Lf (XW A b τ) : S520x1024.Idx → EReal) y := fun y hy => by
    rw [harg21.read_unread]; exact h5 y hy
  have H := leaves A b τ arg16 harg16 arg9 harg9 arg10 harg10 arg11 harg11 arg12 harg12 arg13 harg13 arg14 harg14 arg21.view (harg21.unread xs5) arg22.view (harg22.unread xs6) arg23.view (harg23.unread xs7)
    h5' μ ((harg22.read_unread xs6).trans h6) (fun y hy => (congrFun (harg23.read_unread xs7) y).trans (h7 y hy))
  obtain ⟨μ', e6, e7⟩ := H.sm
  have es := src_Lf A b τ arg16 harg16
  refine ⟨?_, ?_, fun y hy => ?_, μ', ?_, fun y hy => ?_⟩
  · exact (congrArg (fun L => VS0_1.read (Elt Ideal) (VS0_1.writes (Elt Ideal) VS0_1.junk L)) (projD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs3 xs5 xs6 xs7)).trans (proj_read A b' τ' arg1 harg1 arg2 harg2 arg3 harg3 VS0_1 _)
  · exact (congrArg (fun L => VS0_2.read (Elt Ideal) (VS0_2.writes (Elt Ideal) VS0_2.junk L)) (yD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs3 xs5 xs6 xs7)).trans (H.y VS0_2 _)
  · refine (congrFun ((congrArg (fun L => VS0_5.read (Elt Ideal) (VS0_5.writes (Elt Ideal) VS0_5.junk L)) (xD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs3 xs5 xs6 xs7))) y).trans ?_
    have k := x_read A b τ arg21.view _ h5' VS0_5 VS0_5.junk y hy
    rw [← es] at k
    exact k
  · exact ((congrArg (fun L => VS0_6.read (Elt Ideal) (VS0_6.writes (Elt Ideal) VS0_6.junk L)) (sD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs3 xs5 xs6 xs7))).trans (e6 VS0_6 _)
  · exact (congrFun ((congrArg (fun L => arg23.view.read (Elt Ideal) (arg23.view.writes (Elt Ideal) (harg23.unread xs7) L)) (mD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 (hnF A b' τ') (waF A) (wbF A) x3 x4 x5 x6 x7 (cwF A) (cbF A) (gbF A) (lwF A) (skF A) triF (pjF A b τ) xs3 xs5 xs6 xs7))) y).trans (e7 arg23.view _ y hy)

/-- What the point leaves in the output block. -/
theorem outStepD : (out0_D_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 (xF A b τ) (adaF A b) (yrF A b τ) (woF A) (fgF A) x8 x9 x10 x11 x12 x13 xs0 (ytF A b τ) xs5 xs6 xs7) = Lf (fun c => Spec.out A b (512 * τ + c 1) (c 2)) := by
  refine (congrArg (fun L => VO0_14.read (Elt Ideal) (VO0_14.writes (Elt Ideal) VO0_14.junk L)) (outD c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 (xF A b τ) (adaF A b) (yrF A b τ) (woF A) (fgF A) x8 x9 x10 x11 x12 x13 xs0 (ytF A b τ) xs5 xs6 xs7)).trans ?_
  rw [outTile_Lf]
  exact out_read VO0_14 _ _ _

/-- The same of inputs equal to those. -/
theorem stepD_of (e0 : x0 = hnF A b' τ') (e1 : x1 = waF A) (e2 : x2 = wbF A) (e8 : x8 = cwF A) (e9 : x9 = cbF A) (e10 : x10 = gbF A) (e11 : x11 = lwF A)
    (e12 : x12 = skF A) (e13 : x13 = triF) (es : xs0 = pjF A b τ)
    (h5 : ∀ y : S520x1024.Idx, (y 0).val < 8 → xs5 y = (Lf (XW A b τ) : S520x1024.Idx → EReal) y)
    (μ : ℕ → ℝ) (h6 : xs6 = (Lf (ST A b (512 * τ) μ) : S4x128x256.Idx → EReal))
    (h7 : ∀ y : S8x128.Idx, (y 0).val < 4 → xs7 y = (Lf (MT μ) : S8x128.Idx → EReal) y) :
    After A b τ b' τ' (sout0_D_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3 xs5 xs6 xs7)
    (sout0_D_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3 xs5 xs6 xs7)
    (sout0_D_5 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3 xs5 xs6 xs7)
    (sout0_D_6 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3 xs5 xs6 xs7)
    (sout0_D_7 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3 xs5 xs6 xs7) := by
  subst e0 e1 e2 e8 e9 e10 e11 e12 e13 es
  exact stepD (A := A) (b := b) (τ := τ) (h5 := h5) (μ := μ) (h6 := h6) (h7 := h7) ..

@[inherit_doc stepD_of] theorem outStepD_of (e3 : x3 = xF A b τ) (e4 : x4 = adaF A b) (e5 : x5 = yrF A b τ) (e6 : x6 = woF A) (e7 : x7 = fgF A)
    (es : xs3 = ytF A b τ) : (out0_D_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 hc2 hc3 x0 x1 x2 x3 x4 x5 x6 x7 x8 x9 x10 x11 x12 x13 xs0 xs3 xs5 xs6 xs7) = Lf (fun c => Spec.out A b (512 * τ + c 1) (c 2)) := by
  subst e3 e4 e5 e6 e7 es
  exact outStepD (A := A) (b := b) ..

end
end Cert.Stage
end
-- ==== Proof.KInv.lean ====
/- What the memories and the output block hold after each point. -/
module

public import proofs.«01_k».proof.Proof.KBlk
public import proofs.«01_k».proof.Proof.StepA
public import proofs.«01_k».proof.Proof.StepB
public import proofs.«01_k».proof.Proof.StepC
public import proofs.«01_k».proof.Proof.StepD

@[expose] public section

set_option maxRecDepth 16384

noncomputable section

namespace Cert.KVal

open Idealize.ShloMosaic
open Cert.KernelIdeal Cert.KernelIdeal.Gen
open Cert.Lift Cert.Stage

variable (A : Spec.Args) (m : (ℓ : Loc nD τ sig) → Buf (Elt Ideal) ℓ) (c : Dev nD)

/-- What the point after tile `(b, τ)` leaves, in the memories its parity names. -/
def Inv (b τ b' τ' n : ℕ) (hn : n < cfg0.N) : Prop :=
  (n % 2 = 1 → After A b τ b' τ' (outsAt0 m c n hn).2.2.1 (outsAt0 m c n hn).2.2.2.1 (outsAt0 m c n hn).2.2.2.2.2.1 (outsAt0 m c n hn).2.2.2.2.2.2.1
    (outsAt0 m c n hn).2.2.2.2.2.2.2)
  ∧ (n % 2 = 0 → After A b τ b' τ' (outsAt0 m c n hn).2.1 (outsAt0 m c n hn).2.2.2.2.1 (outsAt0 m c n hn).2.2.2.2.2.1 (outsAt0 m c n hn).2.2.2.2.2.2.1
    (outsAt0 m c n hn).2.2.2.2.2.2.2)

/-- The projection the next point reads. -/
def Src (b τ n : ℕ) (hn : n < cfg0.N) : Prop :=
  (n % 2 = 1 → (outsAt0 m c n hn).2.2.1 = pjF A b τ) ∧ (n % 2 = 0 → (outsAt0 m c n hn).2.1 = pjF A b τ)

variable {A m c} (E : Entry A m c)

/-- A point's tile is one of the sequence's first ones, or not. -/
theorem first_iff (n : ℕ) (h : n < 64) : (n + 1) % 66 = 0 ∨ (n + 1) % 66 = 1 ∨ (n + 1) % 66 = 9 ∨ (n + 1) % 66 = 17 ∨ (n + 1) % 66 = 25 ∨ (n + 1) % 66 = 33
    ∨ (n + 1) % 66 = 41 ∨ (n + 1) % 66 = 49 ∨ (n + 1) % 66 = 57 ∨ (n + 1) % 66 = 65 ↔ n % 8 = 0 := by
  rw [Nat.mod_eq_of_lt (by omega : n + 1 < 66)]
  omega

/-- What a point of an odd (an even) number leaves, read off its contents. -/
theorem after_odd {b τ b' τ' : ℕ} {O : Vec Ideal S1x512x1024 .f32 × Vec Ideal S512x2688 .f32 × Vec Ideal S512x2688 .f32 × Vec Ideal S512x512 .bf16 × Vec Ideal S512x512 .bf16 × Vec Ideal S520x1024 .f32 × Vec Ideal S4x128x256 .f32 × Vec Ideal S8x128 .f32}
    {o a0 a1 a2 a3 a5 a6 a7} (h : O = (o, a0, a1, a2, a3, a5, a6, a7)) (H : After A b τ b' τ' a1 a2 a5 a6 a7) :
    After A b τ b' τ' O.2.2.1 O.2.2.2.1 O.2.2.2.2.2.1 O.2.2.2.2.2.2.1 O.2.2.2.2.2.2.2 := by
  subst h; exact H
@[inherit_doc after_odd] theorem after_even {b τ b' τ' : ℕ} {O : Vec Ideal S1x512x1024 .f32 × Vec Ideal S512x2688 .f32 × Vec Ideal S512x2688 .f32 × Vec Ideal S512x512 .bf16 × Vec Ideal S512x512 .bf16 × Vec Ideal S520x1024 .f32 × Vec Ideal S4x128x256 .f32 × Vec Ideal S8x128 .f32}
    {o a0 a1 a2 a3 a5 a6 a7} (h : O = (o, a0, a1, a2, a3, a5, a6, a7)) (H : After A b τ b' τ' a0 a3 a5 a6 a7) :
    After A b τ b' τ' O.2.1 O.2.2.2.2.1 O.2.2.2.2.2.1 O.2.2.2.2.2.2.1 O.2.2.2.2.2.2.2 := by
  subst h; exact H

@[inherit_doc after_odd] theorem out_of {O : Vec Ideal S1x512x1024 .f32 × Vec Ideal S512x2688 .f32 × Vec Ideal S512x2688 .f32 × Vec Ideal S512x512 .bf16 × Vec Ideal S512x512 .bf16 × Vec Ideal S520x1024 .f32 × Vec Ideal S4x128x256 .f32 × Vec Ideal S8x128 .f32}
    {o y a0 a1 a2 a3 a5 a6 a7} (h : O = (o, a0, a1, a2, a3, a5, a6, a7)) (H : o = y) : O.1 = y := by
  subst h; exact H

@[inherit_doc after_odd] theorem src_of {O : Vec Ideal S1x512x1024 .f32 × Vec Ideal S512x2688 .f32 × Vec Ideal S512x2688 .f32 × Vec Ideal S512x512 .bf16 × Vec Ideal S512x512 .bf16 × Vec Ideal S520x1024 .f32 × Vec Ideal S4x128x256 .f32 × Vec Ideal S8x128 .f32}
    {o y a0 a1 a2 a3 a5 a6 a7} (h : O = (o, a0, a1, a2, a3, a5, a6, a7)) (H : a0 = y) : O.2.1 = y := by
  subst h; exact H

/-- The first point. -/
theorem src0 (t : Fin cfg0.N) (b' τ' : ℕ) (b0 : iblk m c 0 t = hnF A b' τ') (b1 : iblk m c 1 t = waF A) (b2 : iblk m c 2 t = wbF A)
    (h0 : t.val % 66 = 0) (h1 : (t.val % 66 = 0 ∨ t.val % 66 = 1 ∨ t.val % 66 = 9 ∨ t.val % 66 = 17 ∨ t.val % 66 = 25 ∨ t.val % 66 = 33 ∨ t.val % 66 = 41 ∨ t.val % 66 = 49 ∨ t.val % 66 = 57 ∨ t.val % 66 = 65)) (h2 : t.val % 2 = 0) (h3 : ¬t.val % 2 = 1) : (outsAt0 m c t.val t.isLt).2.1 = pjF A b' τ' := by
  refine src_of (outsAt0_A m c t h0 h1 h2 h3) ?_
  rw [b0, b1, b2]
  exact stepA (A := A) (b' := b') (τ' := τ') ..

include E in
@[inherit_doc src0] theorem src_zero (hn : 0 < cfg0.N) : Src A m c 0 0 0 hn :=
  ⟨fun h => absurd h (by decide), fun _ => src0 ⟨0, hn⟩ 0 0 ((blk0 E ⟨0, hn⟩).trans (congrArg₂ (hnF A) (by show min 0 63 / 8 = 0; decide) (by show min 0 63 % 8 = 0; decide))) (blk1 E _) (blk2 E _) rfl (Or.inl rfl) rfl
    (by show ¬(0 % 2 = 1); decide)⟩

section
variable (t : Fin cfg0.N)

include E in
/-- A point that starts a sequence. -/
theorem ptB (b : ℕ) (h0 : ¬t.val % 66 = 0) (h1 : (t.val % 66 = 0 ∨ t.val % 66 = 1 ∨ t.val % 66 = 9 ∨ t.val % 66 = 17 ∨ t.val % 66 = 25 ∨ t.val % 66 = 33 ∨ t.val % 66 = 41 ∨ t.val % 66 = 49 ∨ t.val % 66 = 57 ∨ t.val % 66 = 65)) (h2 : ¬t.val % 2 = 0) (h3 : t.val % 2 = 1)
    (hs : (outsAt0 m c (t.val - 1) (Nat.lt_of_le_of_lt (Nat.sub_le _ _) t.isLt)).2.1 = pjF A b 0) :
    After A b 0 (min t.val 63 / 8) (min t.val 63 % 8) (outsAt0 m c t.val t.isLt).2.2.1 (outsAt0 m c t.val t.isLt).2.2.2.1 (outsAt0 m c t.val t.isLt).2.2.2.2.2.1 (outsAt0 m c t.val t.isLt).2.2.2.2.2.2.1 (outsAt0 m c t.val t.isLt).2.2.2.2.2.2.2 :=
  after_odd (outsAt0_B m c t h0 h1 h2 h3) (stepB_of (e0 := blk0 E t) (e1 := blk1 E t) (e2 := blk2 E t) (e8 := blk8 E t) (e9 := blk9 E t) (e10 := blk10 E t) (e11 := blk11 E t) (e12 := blk12 E t) (e13 := blk13 E t) (es := hs) ..)

include E in
/-- A point of case D. -/
theorem ptD (b τ bb tt : ℕ) (h0 : ¬t.val % 66 = 0) (h1 : ¬(t.val % 66 = 0 ∨ t.val % 66 = 1 ∨ t.val % 66 = 9 ∨ t.val % 66 = 17 ∨ t.val % 66 = 25 ∨ t.val % 66 = 33 ∨ t.val % 66 = 41 ∨ t.val % 66 = 49 ∨ t.val % 66 = 57 ∨ t.val % 66 = 65)) (h2 : ¬t.val % 2 = 0) (h3 : t.val % 2 = 1)
    (H : After A b τ bb tt (outsAt0 m c (t.val - 1) (Nat.lt_of_le_of_lt (Nat.sub_le _ _) t.isLt)).2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) (hb : bb = b) (ht : tt = τ + 1) :
    After A b (τ + 1) (min t.val 63 / 8) (min t.val 63 % 8) (outsAt0 m c t.val t.isLt).2.2.1 (outsAt0 m c t.val t.isLt).2.2.2.1 (outsAt0 m c t.val t.isLt).2.2.2.2.2.1 (outsAt0 m c t.val t.isLt).2.2.2.2.2.2.1 (outsAt0 m c t.val t.isLt).2.2.2.2.2.2.2 := by
  subst hb ht
  obtain ⟨μ, h6, h7⟩ := H.sm
  exact after_odd (outsAt0_D m c t h0 h1 h2 h3) (stepD_of (e0 := blk0 E t) (e1 := blk1 E t) (e2 := blk2 E t) (e8 := blk8 E t) (e9 := blk9 E t) (e10 := blk10 E t) (e11 := blk11 E t) (e12 := blk12 E t) (e13 := blk13 E t) (es := H.pj) (h5 := H.x) (μ := μ) (h6 := h6) (h7 := h7) ..)

include E in
/-- A point of case C. -/
theorem ptC (b τ bb tt : ℕ) (h0 : ¬t.val % 66 = 0) (h1 : ¬(t.val % 66 = 0 ∨ t.val % 66 = 1 ∨ t.val % 66 = 9 ∨ t.val % 66 = 17 ∨ t.val % 66 = 25 ∨ t.val % 66 = 33 ∨ t.val % 66 = 41 ∨ t.val % 66 = 49 ∨ t.val % 66 = 57 ∨ t.val % 66 = 65)) (h2 : t.val % 2 = 0) (h3 : ¬t.val % 2 = 1)
    (H : After A b τ bb tt (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2) (hb : bb = b) (ht : tt = τ + 1) :
    After A b (τ + 1) (min t.val 63 / 8) (min t.val 63 % 8) (outsAt0 m c t.val t.isLt).2.1 (outsAt0 m c t.val t.isLt).2.2.2.2.1 (outsAt0 m c t.val t.isLt).2.2.2.2.2.1 (outsAt0 m c t.val t.isLt).2.2.2.2.2.2.1 (outsAt0 m c t.val t.isLt).2.2.2.2.2.2.2 := by
  subst hb ht
  obtain ⟨μ, h6, h7⟩ := H.sm
  exact after_even (outsAt0_C m c t h0 h1 h2 h3) (stepC_of (e0 := blk0 E t) (e1 := blk1 E t) (e2 := blk2 E t) (e8 := blk8 E t) (e9 := blk9 E t) (e10 := blk10 E t) (e11 := blk11 E t) (e12 := blk12 E t) (e13 := blk13 E t) (es := H.pj) (h5 := H.x) (μ := μ) (h6 := h6) (h7 := h7) ..)

set_option maxHeartbeats 2000000 in
include E in
/-- What a point of case B leaves in the output block. -/
theorem otB (h0 : ¬t.val % 66 = 0) (h1 : (t.val % 66 = 0 ∨ t.val % 66 = 1 ∨ t.val % 66 = 9 ∨ t.val % 66 = 17 ∨ t.val % 66 = 25 ∨ t.val % 66 = 33 ∨ t.val % 66 = 41 ∨ t.val % 66 = 49 ∨ t.val % 66 = 57 ∨ t.val % 66 = 65)) (h2 : ¬t.val % 2 = 0) (h3 : t.val % 2 = 1)
    (hy : (outsAt0 m c (t.val - 1) (Nat.lt_of_le_of_lt (Nat.sub_le _ _) t.isLt)).2.2.2.2.1 = ytF A ((t.val - 2) / 8) ((t.val - 2) % 8)) :
    (outsAt0 m c t.val t.isLt).1 = Lf (fun i => Spec.out A ((t.val - 2) / 8) (512 * ((t.val - 2) % 8) + i 1) (i 2)) :=
  out_of (outsAt0_B m c t h0 h1 h2 h3) (outStepB_of (e3 := blk3 E t) (e4 := blk4 E t) (e5 := blk5 E t) (e6 := blk6 E t) (e7 := blk7 E t) (es := hy) ..)

set_option maxHeartbeats 2000000 in
include E in
/-- What a point of case D leaves in the output block. -/
theorem otD (h0 : ¬t.val % 66 = 0) (h1 : ¬(t.val % 66 = 0 ∨ t.val % 66 = 1 ∨ t.val % 66 = 9 ∨ t.val % 66 = 17 ∨ t.val % 66 = 25 ∨ t.val % 66 = 33 ∨ t.val % 66 = 41 ∨ t.val % 66 = 49 ∨ t.val % 66 = 57 ∨ t.val % 66 = 65)) (h2 : ¬t.val % 2 = 0) (h3 : t.val % 2 = 1)
    (hy : (outsAt0 m c (t.val - 1) (Nat.lt_of_le_of_lt (Nat.sub_le _ _) t.isLt)).2.2.2.2.1 = ytF A ((t.val - 2) / 8) ((t.val - 2) % 8)) :
    (outsAt0 m c t.val t.isLt).1 = Lf (fun i => Spec.out A ((t.val - 2) / 8) (512 * ((t.val - 2) % 8) + i 1) (i 2)) :=
  out_of (outsAt0_D m c t h0 h1 h2 h3) (outStepD_of (e3 := blk3 E t) (e4 := blk4 E t) (e5 := blk5 E t) (e6 := blk6 E t) (e7 := blk7 E t) (es := hy) ..)

set_option maxHeartbeats 2000000 in
include E in
/-- What a point of case C leaves in the output block. -/
theorem otC (h0 : ¬t.val % 66 = 0) (h1 : ¬(t.val % 66 = 0 ∨ t.val % 66 = 1 ∨ t.val % 66 = 9 ∨ t.val % 66 = 17 ∨ t.val % 66 = 25 ∨ t.val % 66 = 33 ∨ t.val % 66 = 41 ∨ t.val % 66 = 49 ∨ t.val % 66 = 57 ∨ t.val % 66 = 65)) (h2 : t.val % 2 = 0) (h3 : ¬t.val % 2 = 1)
    (hy : (outsAt0 m c (t.val - 1) (Nat.lt_of_le_of_lt (Nat.sub_le _ _) t.isLt)).2.2.2.1 = ytF A ((t.val - 2) / 8) ((t.val - 2) % 8)) :
    (outsAt0 m c t.val t.isLt).1 = Lf (fun i => Spec.out A ((t.val - 2) / 8) (512 * ((t.val - 2) % 8) + i 1) (i 2)) :=
  out_of (outsAt0_C m c t h0 h1 h2 h3) (outStepC_of (e3 := blk3 E t) (e4 := blk4 E t) (e5 := blk5 E t) (e6 := blk6 E t) (e7 := blk7 E t) (es := hy) ..)

end

include E in
@[inherit_doc ptB] theorem inv_first (n : ℕ) (hn : n + 1 < cfg0.N) (h64 : n < 64) (h8 : n % 8 = 0) (hs : Src A m c (n / 8) 0 n (Nat.lt_of_succ_lt hn)) :
    Inv A m c (n / 8) 0 (min (n + 1) 63 / 8) (min (n + 1) 63 % 8) (n + 1) hn :=
  ⟨fun h => ptB E ⟨n + 1, hn⟩ (n / 8) (by show ¬(n + 1) % 66 = 0; omega) ((first_iff n h64).2 h8) (by show ¬(n + 1) % 2 = 0; omega) h (hs.2 (by omega)),
    fun h => by omega⟩

include E in
/-- Any other point of the walk. -/
theorem inv_next (b τ n : ℕ) (hn : n + 1 < cfg0.N) (h64 : n < 64) (h8 : ¬ n % 8 = 0) (hi : Inv A m c b τ b (τ + 1) n (Nat.lt_of_succ_lt hn)) :
    Inv A m c b (τ + 1) (min (n + 1) 63 / 8) (min (n + 1) 63 % 8) (n + 1) hn :=
  ⟨fun h => ptD E ⟨n + 1, hn⟩ b τ b (τ + 1) (by show ¬(n + 1) % 66 = 0; omega) (fun h => h8 ((first_iff n h64).1 h)) (by show ¬(n + 1) % 2 = 0; omega) h
      (hi.2 (by omega)) rfl rfl,
    fun h => ptC E ⟨n + 1, hn⟩ b τ b (τ + 1) (by show ¬(n + 1) % 66 = 0; omega) (fun h => h8 ((first_iff n h64).1 h)) h (by show ¬(n + 1) % 2 = 1; omega)
      (hi.1 (by omega)) rfl rfl⟩

theorem first_iff' (n : ℕ) : (n + 2) % 66 = 0 ∨ (n + 2) % 66 = 1 ∨ (n + 2) % 66 = 9 ∨ (n + 2) % 66 = 17 ∨ (n + 2) % 66 = 25 ∨ (n + 2) % 66 = 33
    ∨ (n + 2) % 66 = 41 ∨ (n + 2) % 66 = 49 ∨ (n + 2) % 66 = 57 ∨ (n + 2) % 66 = 65 ↔ (n % 2 = 1 ∧ ((n + 2) % 66 = 1 ∨ (n + 2) % 66 = 9 ∨ (n + 2) % 66 = 17 ∨ (n + 2) % 66 = 25 ∨ (n + 2) % 66 = 33
    ∨ (n + 2) % 66 = 41 ∨ (n + 2) % 66 = 49 ∨ (n + 2) % 66 = 57 ∨ (n + 2) % 66 = 65)) ∨ (n + 2) % 66 = 0 := by omega

include E in
/-- After every point of the walk: the point's tile worked, the next tile projected. -/
theorem inv (n : ℕ) (hn : n + 1 < cfg0.N) (h64 : n < 64) : Inv A m c (n / 8) (n % 8) (min (n + 1) 63 / 8) (min (n + 1) 63 % 8) (n + 1) hn := by
  induction n with
  | zero => exact inv_first E 0 hn h64 rfl (src_zero E _)
  | succ n ih =>
    have hi := ih (Nat.lt_of_succ_lt hn) (by omega)
    rw [show min (n + 1) 63 = n + 1 by omega] at hi
    by_cases h8 : (n + 1) % 8 = 0
    · have h := inv_first E (n + 1) hn h64 h8 ⟨fun h => (hi.1 h).pj.trans (by rw [h8]), fun h => (hi.2 h).pj.trans (by rw [h8])⟩
      rw [h8]; exact h
    · have e : (n + 1) / 8 = n / 8 := by omega
      have e' : (n + 1) % 8 = n % 8 + 1 := by omega
      rw [e, e'] at hi ⊢
      exact inv_next E (n / 8) (n % 8) (n + 1) hn h64 h8 hi

include E in
/-- What a point leaves in the output block: the tile two points back. -/
theorem outAt (n : ℕ) (hn : n + 2 < cfg0.N) (h64 : n < 64) :
    (outsAt0 m c (n + 2) hn).1 = Lf (fun i => Spec.out A (n / 8) (512 * (n % 8) + i 1) (i 2)) := by
  have hi := inv E n (Nat.lt_of_succ_lt hn) h64
  rcases Nat.mod_two_eq_zero_or_one n with h | h
  · exact otC E ⟨n + 2, hn⟩ (by show ¬(n + 2) % 66 = 0; omega) (fun h1 => by have := (first_iff' n).1 h1; omega) (by show (n + 2) % 2 = 0; omega)
      (by show ¬(n + 2) % 2 = 1; omega) (hi.1 (by omega)).ym
  · by_cases h1 : (n + 2) % 66 = 0 ∨ (n + 2) % 66 = 1 ∨ (n + 2) % 66 = 9 ∨ (n + 2) % 66 = 17 ∨ (n + 2) % 66 = 25 ∨ (n + 2) % 66 = 33
        ∨ (n + 2) % 66 = 41 ∨ (n + 2) % 66 = 49 ∨ (n + 2) % 66 = 57 ∨ (n + 2) % 66 = 65
    · exact otB E ⟨n + 2, hn⟩ (by show ¬(n + 2) % 66 = 0; omega) h1 (by show ¬(n + 2) % 2 = 0; omega) (by show (n + 2) % 2 = 1; omega) (hi.2 (by omega)).ym
    · exact otD E ⟨n + 2, hn⟩ (by show ¬(n + 2) % 66 = 0; omega) h1 (by show ¬(n + 2) % 2 = 0; omega) (by show (n + 2) % 2 = 1; omega) (hi.2 (by omega)).ym

include E in
/-- The kernel's result: the layer's output. -/
theorem result : (dats m 0 c).arrAt 14 cfg0.N = (Lf (fun i => Spec.out A (i 0) (i 1) (i 2)) : S8x4096x1024.Idx → EReal) := by
  refine (dats m 0 c).arrAt_eq_of_covers 14 _ (by decide +kernel) fun t hf y => ?_
  have hp : ∀ t : Fin grid0.N, (win0_14.flush t = true) → 2 ≤ t.val := by decide +kernel
  have h2 := hp t hf
  have hN : t.val < 66 := t.isLt
  have ho : (outsAt0 m c t.val t.isLt).1 = Lf (fun i => Spec.out A ((t.val - 2) / 8) (512 * ((t.val - 2) % 8) + i 1) (i 2)) := by
    clear hf y
    obtain ⟨n, hn⟩ := t
    dsimp only at h2 hN
    obtain ⟨k, rfl⟩ : ∃ k, n = k + 2 := ⟨n - 2, (Nat.sub_add_cancel h2).symm⟩
    exact outAt E k hn (by omega)
  blk_simp
  rw [after0_14, ho]
  have e0 : cr (((cfg0.win 14).blk t).view.emb y) = p3 ((t.val - 2) / 8) ((t.val - 2) % 8 * 512 + (y 1).val) (y 2).val := by
    have h0 : (y 0).val < 1 := (y 0).isLt
    rw [cr3]
    blk_simp [idx_14]
  show ((Spec.out A ((t.val - 2) / 8) (512 * ((t.val - 2) % 8) + (y 1).val) (y 2).val : ℝ) : EReal)
    = ((Spec.out A (cr (((cfg0.win 14).blk t).view.emb y) 0) (cr (((cfg0.win 14).blk t).view.emb y) 1) (cr (((cfg0.win 14).blk t).view.emb y) 2) : ℝ) : EReal)
  rw [e0, Nat.mul_comm _ 512]
  rfl

end Cert.KVal
end
-- ==== Proof.KEntry.lean ====
/- What the arrays the windows read hold as the pipeline starts: the host operations before it. -/
module

public import proofs.«01_k».proof.Proof.KBlk
public import proofs.«01_k».proof.Proof.Gen.KernelIdeal.Value
public import Idealize.ShloMosaic.Lib.StableHlo.RunRead

@[expose] public section

set_option maxRecDepth 16384

noncomputable section

namespace Cert.KVal

open Idealize.ShloMosaic Idealize.ShloMosaic.TcCoe Idealize.ShloMosaic.StableHlo
open Cert.KernelIdeal Cert.KernelIdeal.Gen
open Cert.Lift Cert.Stage

/-- A word floor-divided by 128, as the host computes it. -/
def fdw (x : BitVec 32) : BitVec 32 :=
  select (s := S_) (andi (cmpi .ne (signi (fun _ => x)) (signi (fun _ => 128#32))) (cmpi .ne (Host.remsi (fun _ => x) (fun _ => 128#32)) (fun _ => 0#32)))
    (subi (Host.divsi (fun _ => x) (fun _ => 128#32)) (fun _ => 1#32)) (Host.divsi (fun _ => x) (fun _ => 128#32)) (fun a => a.elim0)

theorem fdw_eq : ∀ n : Fin 512, fdw (BitVec.ofNat 32 n.val) = BitVec.ofNat 32 (n.val / 128) := by decide +kernel

section
variable (V0 : Valuation τ sig (Elt Ideal))

/-- The contents after the host operations. -/
abbrev aft (r : Ref sig .tc) := after (List.flatten [hostOps0, hostOps0_1, hostOps0_2, hostOps0_3, hostOps0_4]) V0 (Proc.devRef .tc r)

/-- The triangular matrix, entry by entry. -/
theorem v36_at (y : S512x512.Idx) : aft V0 main_v36 y = FloatOps.uitofp (F := Ideal) .bf16
    (IntOp.andi (IntOp.cmpi .eq (fdw (BitVec.ofNat 32 (y 0).val)) (fdw (BitVec.ofNat 32 (y 1).val)))
      (IntOp.cmpi .sle (BitVec.ofNat 32 (y 1).val) (BitVec.ofNat 32 (y 0).val))) := by
  unfold aft
  simp only [List.flatten_cons, List.flatten_nil, List.append_nil]
  after_reads_simp
  sl_kernel_rfl

theorem e36 : aft V0 main_v36 = triF := by
  funext y
  rw [v36_at]
  have h0 : (y 0).val < 512 := (y 0).isLt
  have h1 : (y 1).val < 512 := (y 1).isLt
  rw [fdw_eq ⟨_, h0⟩, fdw_eq ⟨_, h1⟩]
  show (((IntOp.andi _ _ : BitVec 1).toNat : ℝ) : EReal) = ((tri (cr y) : ℝ) : EReal)
  have a : IntOp.cmpi .eq (BitVec.ofNat 32 ((y 0).val / 128)) (BitVec.ofNat 32 ((y 1).val / 128)) = BitVec.ofBool (decide ((y 0).val / 128 = (y 1).val / 128)) := by
    refine congrArg BitVec.ofBool ?_
    rw [Bool.eq_iff_iff, beq_iff_eq, decide_eq_true_iff, ← BitVec.toNat_inj, BitVec.toNat_ofNat, BitVec.toNat_ofNat, Nat.mod_eq_of_lt (by omega), Nat.mod_eq_of_lt (by omega)]
  have b : IntOp.cmpi .sle (BitVec.ofNat 32 (y 1).val) (BitVec.ofNat 32 (y 0).val) = BitVec.ofBool (decide ((y 1).val ≤ (y 0).val)) := by
    refine congrArg BitVec.ofBool ?_
    show decide ((BitVec.ofNat 32 (y 1).val).toInt ≤ (BitVec.ofNat 32 (y 0).val).toInt) = _
    rw [ofNat_toInt _ (by omega), ofNat_toInt _ (by omega), Bool.eq_iff_iff, decide_eq_true_iff, decide_eq_true_iff]
    omega
  dsimp only
  rw [a, b, cr2]
  unfold tri
  rw [p2_0, p2_1]
  by_cases h : (y 0).val / 128 = (y 1).val / 128 <;> by_cases h' : (y 1).val ≤ (y 0).val <;> simp [h, h', IntOp.andi]

end

/-- Three vectors end to end. -/
theorem cat3_0 {a b d n : ℕ} (u : (⟨1, ![a]⟩ : Shape).Idx → EReal) (v : (⟨1, ![b]⟩ : Shape).Idx → EReal) (w : (⟨1, ![d]⟩ : Shape).Idx → EReal)
    {f g k : (ℕ → ℕ) → ℝ} (hu : u = Lf f) (hv : v = Lf g) (hw : w = Lf k) (h) :
    concatenate (⟨1, ![n]⟩ : Shape) 0 [⟨(⟨1, ![a]⟩ : Shape), u⟩, ⟨(⟨1, ![b]⟩ : Shape), v⟩, ⟨(⟨1, ![d]⟩ : Shape), w⟩] h
      = Lf (fun c => if c 0 < a then f c else if c 0 - a < b then g (p1 (c 0 - a)) else k (p1 (c 0 - a - b))) :=
  funext fun i => by
    subst hu hv hw
    rw [concatenate_cons_apply, concatenateAt_cons]
    by_cases h0 : (i 0).val < a
    · refine (dif_pos h0).trans ?_
      rw [Lf_apply, Lf_apply, cr1, cr1 i]
      exact congrArg _ (if_pos h0).symm
    refine (dif_neg h0).trans ?_
    rw [concatenateAt_cons]
    by_cases h1 : (i 0).val - a < b
    · refine (dif_pos h1).trans ?_
      rw [Lf_apply, Lf_apply, cr1, cr1 i]
      exact congrArg _ ((if_neg h0).trans (if_pos h1)).symm
    refine (dif_neg h1).trans ?_
    rw [concatenateAt_singleton, Lf_apply, Lf_apply, cr1, cr1 i]
    exact congrArg _ ((if_neg h0).trans (if_neg h1)).symm

/-- Three matrices side by side. -/
theorem cat3_1 {r a b d n : ℕ} (u : (⟨2, ![r, a]⟩ : Shape).Idx → EReal) (v : (⟨2, ![r, b]⟩ : Shape).Idx → EReal) (w : (⟨2, ![r, d]⟩ : Shape).Idx → EReal)
    {f g k : (ℕ → ℕ) → ℝ} (hu : u = Lf f) (hv : v = Lf g) (hw : w = Lf k) (h) :
    concatenate (⟨2, ![r, n]⟩ : Shape) 1 [⟨(⟨2, ![r, a]⟩ : Shape), u⟩, ⟨(⟨2, ![r, b]⟩ : Shape), v⟩, ⟨(⟨2, ![r, d]⟩ : Shape), w⟩] h
      = Lf (fun c => if c 1 < a then f c else if c 1 - a < b then g (p2 (c 0) (c 1 - a)) else k (p2 (c 0) (c 1 - a - b))) :=
  funext fun i => by
    subst hu hv hw
    rw [concatenate_cons_apply, concatenateAt_cons]
    by_cases h0 : (i 1).val < a
    · refine (dif_pos h0).trans ?_
      rw [Lf_apply, Lf_apply, cr2, cr2 i]
      exact congrArg _ (if_pos h0).symm
    refine (dif_neg h0).trans ?_
    rw [concatenateAt_cons]
    by_cases h1 : (i 1).val - a < b
    · refine (dif_pos h1).trans ?_
      rw [Lf_apply, Lf_apply, cr2, cr2 i]
      exact congrArg _ ((if_neg h0).trans (if_pos h1)).symm
    refine (dif_neg h1).trans ?_
    rw [concatenateAt_singleton, Lf_apply, Lf_apply, cr2, cr2 i]
    exact congrArg _ ((if_neg h0).trans (if_neg h1)).symm

/-- A matrix stood up as a stack of one-row matrices. -/
theorem cast_ab_a1b' {a b : ℕ} (f : (ℕ → ℕ) → ℝ) (h) :
    shapeCast (⟨3, ![a, 1, b]⟩ : Shape) (Lf f : (⟨2, ![a, b]⟩ : Shape).Idx → EReal) h = Lf (fun c => f (p2 (c 0) (c 2))) := cast_ab_a1b f h

/-- Zeros broadcast. -/
theorem zeros_Lf {t : Shape} (dims : Fin S_.rank → Fin t.rank) (h) :
    broadcastInDim t dims h (constant (F := Ideal) S_ .f32 0x00000000#32) = (Lf (fun _ => 0) : t.Idx → EReal) := funext fun _ => c_zero

section
variable (A : Spec.Args) (V0 : Valuation τ sig (Elt Ideal))

/-- What each array holds, in the arguments' reals. -/
theorem e5 (h1 : V0 (Proc.devRef .tc main_arg1) = (Lf A.win : S1x1024x4744.Idx → EReal)) :
    aft V0 main_v5 = (Lf (fun i => A.win (p3 0 (i 0) (i 1))) : S1024x4744.Idx → EReal) := by
  unfold aft
  simp only [List.flatten_cons, List.flatten_nil, List.append_nil]
  after_reads_simp
  show truncf (F := Ideal) .bf16 (shapeCast S1024x4744 (V0 (Proc.devRef .tc main_arg1)) shapeCasts_S1x1024x4744_S1024x4744) bitsLt_bf16_f32 = _
  rw [h1, cast_1ab_ab, truncf_Lf]

@[inherit_doc e5] theorem e14 (h5 : V0 (Proc.devRef .tc main_arg5) = (Lf A.wout : S1x1024x1024.Idx → EReal)) :
    aft V0 main_v14 = woF A := by
  unfold aft
  simp only [List.flatten_cons, List.flatten_nil, List.append_nil]
  after_reads_simp
  show truncf (F := Ideal) .bf16 (shapeCast S1024x1024 (V0 (Proc.devRef .tc main_arg5)) shapeCasts_S1x1024x1024_S1024x1024) bitsLt_bf16_f32 = _
  rw [h5, cast_1ab_ab, truncf_Lf]

@[inherit_doc e5] theorem e18 (h3 : V0 (Proc.devRef .tc main_arg3) = (Lf A.ada : S8x3072.Idx → EReal)) :
    aft V0 main_v18 = (Lf (fun i => A.ada (p2 (i 0) (i 2))) : S8x1x3072.Idx → EReal) := by
  unfold aft
  simp only [List.flatten_cons, List.flatten_nil, List.append_nil]
  after_reads_simp
  show shapeCast S8x1x3072 (V0 (Proc.devRef .tc main_arg3)) shapeCasts_S8x3072_S8x1x3072 = _
  rw [h3, cast_ab_a1b]

@[inherit_doc e5] theorem e19 (h6 : V0 (Proc.devRef .tc main_arg6) = (Lf A.fg : S1024.Idx → EReal)) :
    aft V0 main_v19 = fgF A := by
  unfold aft
  simp only [List.flatten_cons, List.flatten_nil, List.append_nil]
  after_reads_simp
  show shapeCast S1x1024 (V0 (Proc.devRef .tc main_arg6)) shapeCasts_S1024_S1x1024 = _
  rw [h6, cast_a_1a]

@[inherit_doc e5] theorem e7 (h7 : V0 (Proc.devRef .tc main_arg7) = (Lf A.cw : S1x4x1024.Idx → EReal)) :
    aft V0 main_v7 = cwF A := by
  unfold aft
  simp only [List.flatten_cons, List.flatten_nil, List.append_nil]
  after_reads_simp
  show shapeCast S4x1024 (V0 (Proc.devRef .tc main_arg7)) shapeCasts_S1x4x1024_S4x1024 = _
  rw [h7, cast_1ab_ab]

@[inherit_doc e5] theorem e20 (h8 : V0 (Proc.devRef .tc main_arg8) = (Lf A.cb : S1x1024.Idx → EReal)) :
    aft V0 main_v20 = cbF A := by
  unfold aft
  simp only [List.flatten_cons, List.flatten_nil, List.append_nil]
  after_reads_simp
  show shapeCast S1x1024 (shapeCast S1024 (V0 (Proc.devRef .tc main_arg8)) shapeCasts_S1x1024_S1024) shapeCasts_S1024_S1x1024 = _
  rw [h8, cast_1a_a, cast_a_1a]
  rfl

@[inherit_doc e5] theorem e21 (h11 : V0 (Proc.devRef .tc main_arg11) = (Lf A.lw : S1x512.Idx → EReal)) :
    aft V0 main_v21 = lwF A := by
  unfold aft
  simp only [List.flatten_cons, List.flatten_nil, List.append_nil]
  after_reads_simp
  show shapeCast S1x512 (shapeCast S512 (V0 (Proc.devRef .tc main_arg11)) shapeCasts_S1x512_S512) shapeCasts_S512_S1x512 = _
  rw [h11, cast_1a_a, cast_a_1a]
  rfl

@[inherit_doc e5] theorem e22 (h12 : V0 (Proc.devRef .tc main_arg12) = (Lf A.sk : S1x512.Idx → EReal)) :
    aft V0 main_v22 = skF A := by
  unfold aft
  simp only [List.flatten_cons, List.flatten_nil, List.append_nil]
  after_reads_simp
  show shapeCast S1x512 (shapeCast S512 (V0 (Proc.devRef .tc main_arg12)) shapeCasts_S1x512_S512) shapeCasts_S512_S1x512 = _
  rw [h12, cast_1a_a, cast_a_1a]
  rfl

@[inherit_doc e5] theorem e17 (h9 : V0 (Proc.devRef .tc main_arg9) = (Lf A.bi : S1x4.Idx → EReal)) (h10 : V0 (Proc.devRef .tc main_arg10) = (Lf A.bf : S1x4.Idx → EReal)) :
    aft V0 main_v17 = gbF A := by
  unfold aft
  simp only [List.flatten_cons, List.flatten_nil, List.append_nil]
  after_reads_simp
  have a : upto (hostOps0 ++ (hostOps0_1 ++ (hostOps0_2 ++ (hostOps0_3 ++ hostOps0_4)))) V0 18 (Proc.devRef .tc main_v9) = (Lf (fun c => A.bi (p2 0 (c 0))) : S4.Idx → EReal) := by
    after_reads_simp
    show shapeCast S4 (V0 (Proc.devRef .tc main_arg9)) shapeCasts_S1x4_S4 = _
    rw [h9, cast_1a_a]
  have b : upto (hostOps0 ++ (hostOps0_1 ++ (hostOps0_2 ++ (hostOps0_3 ++ hostOps0_4)))) V0 18 (Proc.devRef .tc main_v10) = (Lf (fun c => A.bf (p2 0 (c 0))) : S4.Idx → EReal) := by
    after_reads_simp
    show shapeCast S4 (V0 (Proc.devRef .tc main_arg10)) shapeCasts_S1x4_S4 = _
    rw [h10, cast_1a_a]
  have d : upto (hostOps0 ++ (hostOps0_1 ++ (hostOps0_2 ++ (hostOps0_3 ++ hostOps0_4)))) V0 18 (Proc.devRef .tc main_v15) = (Lf (fun _ => 0) : S120.Idx → EReal) := by
    after_reads_simp
    exact zeros_Lf _ _
  refine (congrArg (fun x => shapeCast S1x128 x shapeCasts_S128_S1x128) (cat3_0 (n := 128) _ _ _ a b d concatenates_S4_S4_S120_S128_d0)).trans ?_
  rw [cast_a_1a]
  refine Lf_ext2 fun r _ c _ => ?_
  show (if c < 4 then A.bi (p2 0 c) else if c - 4 < 4 then A.bf (p2 0 (c - 4)) else 0) = gbv A c
  unfold gbv
  split_ifs <;> first | rfl | omega
@[inherit_doc e5] theorem e6a (h1 : V0 (Proc.devRef .tc main_arg1) = (Lf A.win : S1x1024x4744.Idx → EReal)) :
    upto (hostOps0 ++ (hostOps0_1 ++ (hostOps0_2 ++ (hostOps0_3 ++ hostOps0_4)))) V0 5 (Proc.devRef .tc main_v2) = (Lf (fun c => A.win (p3 0 (c 0) (4232 + c 1))) : S1024x512.Idx → EReal) := by
  after_reads_simp
  show extractStridedSlice S1024x512 ![0, 4232] (shapeCast S1024x4744 (V0 (Proc.devRef .tc main_arg1)) shapeCasts_S1x1024x4744_S1024x4744) slices_S1024x4744_S1024x512_0_4232 = _
  rw [h1, cast_1ab_ab, slice2_Lf]
  exact Lf_ext2 fun r _ c _ => by simp only [p2_0, p2_1, Nat.zero_add]

@[inherit_doc e5] theorem e6b (h1 : V0 (Proc.devRef .tc main_arg1) = (Lf A.win : S1x1024x4744.Idx → EReal)) :
    upto (hostOps0 ++ (hostOps0_1 ++ (hostOps0_2 ++ (hostOps0_3 ++ hostOps0_4)))) V0 5 (Proc.devRef .tc main_v3) = (Lf (fun c => A.win (p3 0 (c 0) (4224 + c 1))) : S1024x8.Idx → EReal) := by
  after_reads_simp
  show extractStridedSlice S1024x8 ![0, 4224] (shapeCast S1024x4744 (V0 (Proc.devRef .tc main_arg1)) shapeCasts_S1x1024x4744_S1024x4744) slices_S1024x4744_S1024x8_0_4224 = _
  rw [h1, cast_1ab_ab, slice2_Lf]
  exact Lf_ext2 fun r _ c _ => by simp only [p2_0, p2_1, Nat.zero_add]

@[inherit_doc e5] theorem e6d :
    upto (hostOps0 ++ (hostOps0_1 ++ (hostOps0_2 ++ (hostOps0_3 ++ hostOps0_4)))) V0 5 (Proc.devRef .tc main_v1) = (Lf (fun _ => 0) : S1024x120.Idx → EReal) := by
  after_reads_simp
  exact zeros_Lf _ _

/-- The weights' columns past the first 2048: the output gate's, the gates', none. -/
theorem wc_b (A : Spec.Args) (r c : ℕ) : wc A r (2048 + c) = if c < 512 then A.win (p3 0 r (4232 + c)) else if c - 512 < 8 then A.win (p3 0 r (4224 + (c - 512))) else 0 := by
  unfold wc
  have h0 : 2048 + c - 2048 = c := by omega
  have h1 : 2048 + c - 2560 = c - 512 := by omega
  rw [if_neg (by omega : ¬2048 + c < 2048), h0, h1]
  by_cases a : c < 512
  · rw [if_pos (by omega), if_pos a]
  rw [if_neg (by omega), if_neg a]
  by_cases b : c - 512 < 8
  · rw [if_pos (by omega), if_pos b]
  rw [if_neg (by omega), if_neg b]

@[inherit_doc e5] theorem e6t (A : Spec.Args) : (Lf (fun c => if c 1 < 512 then A.win (p3 0 (c 0) (4232 + c 1)) else if c 1 - 512 < 8 then A.win (p3 0 (c 0) (4224 + (c 1 - 512))) else 0) :
    S1024x640.Idx → EReal) = wbF A :=
  congrArg Lf (funext fun c => (wc_b A (c 0) (c 1)).symm)

@[inherit_doc e5] theorem e6c (u : S1024x512.Idx → EReal) (v : S1024x8.Idx → EReal) (w : S1024x120.Idx → EReal)
    {f g k : (ℕ → ℕ) → ℝ} (hu : u = Lf f) (hv : v = Lf g) (hw : w = Lf k) :
    truncf (F := Ideal) .bf16 (concatenate S1024x640 1 [⟨S1024x512, u⟩, ⟨S1024x8, v⟩, ⟨S1024x120, w⟩] concatenates_S1024x512_S1024x8_S1024x120_S1024x640_d1 : Vec Ideal S1024x640 .f32) bitsLt_bf16_f32
      = (Lf (fun c => if c 1 < 512 then f c else if c 1 - 512 < 8 then g (p2 (c 0) (c 1 - 512)) else k (p2 (c 0) (c 1 - 512 - 8))) : S1024x640.Idx → EReal) := by
  rw [cat3_1 u v w hu hv hw]
  exact truncf_Lf _ _

@[inherit_doc e5] theorem e6 (h1 : V0 (Proc.devRef .tc main_arg1) = (Lf A.win : S1x1024x4744.Idx → EReal)) :
    aft V0 main_v6 = wbF A := by
  refine Eq.trans ?_ (e6t A)
  unfold aft
  simp only [List.flatten_cons, List.flatten_nil, List.append_nil]
  after_reads_simp
  refine (e6c _ _ _ (e6a A V0 h1) (e6b A V0 h1) (e6d V0)).trans (congrArg Lf (funext fun c => ?_))
  simp only [p2_0, p2_1]
end

open Cert.KernelIdeal.Gen in
/-- The arrays the windows read, of arguments that hold reals. -/
theorem entry (A : Spec.Args) (m : (ℓ : Loc nD τ sig) → Buf (Elt Ideal) ℓ) (c : Dev nD)
    (h0 : m ⟨c, Proc.devRef .tc main_arg0⟩ = (Lf A.hn : S8x4096x1024.Idx → EReal)) (h1 : m ⟨c, Proc.devRef .tc main_arg1⟩ = (Lf A.win : S1x1024x4744.Idx → EReal))
    (h2 : m ⟨c, Proc.devRef .tc main_arg2⟩ = (Lf A.x : S8x4096x1024.Idx → EReal)) (h3 : m ⟨c, Proc.devRef .tc main_arg3⟩ = (Lf A.ada : S8x3072.Idx → EReal))
    (h4 : m ⟨c, Proc.devRef .tc main_arg4⟩ = (Lf A.yr : S8x4096x512.Idx → EReal)) (h5 : m ⟨c, Proc.devRef .tc main_arg5⟩ = (Lf A.wout : S1x1024x1024.Idx → EReal))
    (h6 : m ⟨c, Proc.devRef .tc main_arg6⟩ = (Lf A.fg : S1024.Idx → EReal)) (h7 : m ⟨c, Proc.devRef .tc main_arg7⟩ = (Lf A.cw : S1x4x1024.Idx → EReal))
    (h8 : m ⟨c, Proc.devRef .tc main_arg8⟩ = (Lf A.cb : S1x1024.Idx → EReal)) (h9 : m ⟨c, Proc.devRef .tc main_arg9⟩ = (Lf A.bi : S1x4.Idx → EReal))
    (h10 : m ⟨c, Proc.devRef .tc main_arg10⟩ = (Lf A.bf : S1x4.Idx → EReal)) (h11 : m ⟨c, Proc.devRef .tc main_arg11⟩ = (Lf A.lw : S1x512.Idx → EReal))
    (h12 : m ⟨c, Proc.devRef .tc main_arg12⟩ = (Lf A.sk : S1x512.Idx → EReal)) : Entry A m c where
  e0 := (V_main_arg0 m c).trans h0
  e1 := e5 A (fun b => m (c, b)) h1
  e2 := e6 A (fun b => m (c, b)) h1
  e3 := (V_main_arg2 m c).trans h2
  e4 := e18 A (fun b => m (c, b)) h3
  e5 := (V_main_arg4 m c).trans h4
  e6 := e14 A (fun b => m (c, b)) h5
  e7 := e19 A (fun b => m (c, b)) h6
  e8 := e7 A (fun b => m (c, b)) h7
  e9 := e20 A (fun b => m (c, b)) h8
  e10 := e17 A (fun b => m (c, b)) h9 h10
  e11 := e21 A (fun b => m (c, b)) h11
  e12 := e22 A (fun b => m (c, b)) h12
  e13 := e36 (fun b => m (c, b))

end Cert.KVal
end
-- ==== Proof.LiftR.lean ====
/- What the reference's layout operations, contractions and reductions make of arrays of reals.  -/
module

public import proofs.«01_k».proof.Proof.LiftK
public import proofs.«01_k».proof.Proof.Gen.ReferenceIdeal
public import Idealize.ShloMosaic.Lib.KernelVsHost

@[expose] public section

set_option maxRecDepth 16384

noncomputable section

namespace Cert.Lift

open Idealize.ShloMosaic
open Cert.ReferenceIdeal
open scoped BigOperators
open Finset (range)

/-! ## Broadcasts -/

/-- A broadcast reads the operand at the coordinates `κ` of the result's. -/
theorem bid_Lf {s t : Shape} (dims) (h : s.BroadcastsInDim t dims) (κ : (ℕ → ℕ) → ℕ → ℕ)
    (hk : ∀ j : t.Idx, cr (fun a => if h1 : s.size a = 1 then (⟨0, by omega⟩ : Fin (s.size a)) else ⟨(j (dims a)).val, by
      rcases h.2 a with h2 | h2
      · exact absurd h2 h1
      · rw [h2]; exact (j (dims a)).isLt⟩ : s.Idx) = κ (cr j)) (f : (ℕ → ℕ) → ℝ) :
    broadcastInDim t dims h (Lf f : s.Idx → EReal) = Lf (fun c => f (κ c)) :=
  funext fun j => congrArg (fun x => ((f x : ℝ) : EReal)) (hk j)
@[inherit_doc bid_Lf] theorem bid_Lm {s t : Shape} (dims) (h : s.BroadcastsInDim t dims) (κ : (ℕ → ℕ) → ℕ → ℕ)
    (hk : ∀ j : t.Idx, cr (fun a => if h1 : s.size a = 1 then (⟨0, by omega⟩ : Fin (s.size a)) else ⟨(j (dims a)).val, by
      rcases h.2 a with h2 | h2
      · exact absurd h2 h1
      · rw [h2]; exact (j (dims a)).isLt⟩ : s.Idx) = κ (cr j)) (P : (ℕ → ℕ) → Prop) [∀ c, Decidable (P c)] :
    broadcastInDim t dims h (Lm P : s.Idx → BitVec 1) = Lm (fun c => P (κ c)) :=
  funext fun j => by
    show (if P (cr _) then 1#1 else 0#1) = if P (κ (cr j)) then 1#1 else 0#1
    rw [hk j]

/-- A constant spread over a shape. -/
theorem bcst {t : Shape} {dims} (h : S_.BroadcastsInDim t dims) (b : BitVec 32) (r : ℝ) (hr : Scalar.ofBits (F := Ideal) .f32 b = (r : EReal)) :
    broadcastInDim t dims h (constant (F := Ideal) S_ .f32 b) = Lf (fun _ => r) := funext fun _ => hr
theorem hb_zero {t : Shape} {dims} (h : S_.BroadcastsInDim t dims) : broadcastInDim t dims h (constant (F := Ideal) S_ .f32 0x00000000#32) = Lf (fun _ => 0) := bcst h _ _ c_zero
theorem hb_one {t : Shape} {dims} (h : S_.BroadcastsInDim t dims) : broadcastInDim t dims h (constant (F := Ideal) S_ .f32 0x3F800000#32) = Lf (fun _ => 1) := bcst h _ _ c_one
theorem hb_128 {t : Shape} {dims} (h : S_.BroadcastsInDim t dims) : broadcastInDim t dims h (constant (F := Ideal) S_ .f32 0x43000000#32) = Lf (fun _ => 128) := bcst h _ _ c_128
theorem hb_1024 {t : Shape} {dims} (h : S_.BroadcastsInDim t dims) : broadcastInDim t dims h (constant (F := Ideal) S_ .f32 0x44800000#32) = Lf (fun _ => 1024) := bcst h _ _ c_1024
theorem hb_eps {t : Shape} {dims} (h : S_.BroadcastsInDim t dims) : broadcastInDim t dims h (constant (F := Ideal) S_ .f32 0x358637BD#32) = Lf (fun _ => eps) := bcst h _ _ c_eps
theorem hb_ksc {t : Shape} {dims} (h : S_.BroadcastsInDim t dims) : broadcastInDim t dims h (constant (F := Ideal) S_ .f32 0x3DB504F3#32) = Lf (fun _ => ksc) := bcst h _ _ c_ksc

/-! Each broadcast between literal shapes. -/

theorem b0 (f : (ℕ → ℕ) → ℝ) (h) : broadcastInDim S1x1x1024 ![2] h (Lf f : S1024.Idx → EReal) = Lf (fun c => f (p1 (c 2))) :=
  bid_Lf _ h (fun c => p1 (c 2)) (fun j => by rw [cr1, cr3]; rfl) f
theorem b1 (f : (ℕ → ℕ) → ℝ) (h) : broadcastInDim S8x4096x1024 ![0, 1, 2] h (Lf f : S1x1x1024.Idx → EReal) = Lf (fun c => f (p3 0 0 (c 2))) :=
  bid_Lf _ h (fun c => p3 0 0 (c 2)) (fun j => by rw [cr3, cr3]; rfl) f
theorem b2 (f : (ℕ → ℕ) → ℝ) (h) : broadcastInDim S1x1x4 ![2] h (Lf f : S4.Idx → EReal) = Lf (fun c => f (p1 (c 2))) :=
  bid_Lf _ h (fun c => p1 (c 2)) (fun j => by rw [cr1, cr3]; rfl) f
theorem b3 (f : (ℕ → ℕ) → ℝ) (h) : broadcastInDim S8x4096x4 ![0, 1, 2] h (Lf f : S1x1x4.Idx → EReal) = Lf (fun c => f (p3 0 0 (c 2))) :=
  bid_Lf _ h (fun c => p3 0 0 (c 2)) (fun j => by rw [cr3, cr3]; rfl) f
theorem b4 (f : (ℕ → ℕ) → ℝ) (h) : broadcastInDim S1x1x512 ![2] h (Lf f : S512.Idx → EReal) = Lf (fun c => f (p1 (c 2))) :=
  bid_Lf _ h (fun c => p1 (c 2)) (fun j => by rw [cr1, cr3]; rfl) f
theorem b5 (f : (ℕ → ℕ) → ℝ) (h) : broadcastInDim S8x4096x512 ![0, 1, 2] h (Lf f : S1x1x512.Idx → EReal) = Lf (fun c => f (p3 0 0 (c 2))) :=
  bid_Lf _ h (fun c => p3 0 0 (c 2)) (fun j => by rw [cr3, cr3]; rfl) f
theorem b6 (f : (ℕ → ℕ) → ℝ) (h) : broadcastInDim S8x4096x4x1 ![0, 1, 2] h (Lf f : S8x4096x4.Idx → EReal) = Lf (fun c => f (p3 (c 0) (c 1) (c 2))) :=
  bid_Lf _ h (fun c => p3 (c 0) (c 1) (c 2)) (fun j => by rw [cr3, cr4]; rfl) f
theorem b7 (f : (ℕ → ℕ) → ℝ) (h) : broadcastInDim S8x4096x4x128 ![0, 1, 2, 3] h (Lf f : S8x4096x4x1.Idx → EReal) = Lf (fun c => f (p4 (c 0) (c 1) (c 2) 0)) :=
  bid_Lf _ h (fun c => p4 (c 0) (c 1) (c 2) 0) (fun j => by rw [cr4, cr4]; rfl) f
theorem b8 (f : (ℕ → ℕ) → ℝ) (h) : broadcastInDim S8x1x1024 ![0, 2] h (Lf f : S8x1024.Idx → EReal) = Lf (fun c => f (p2 (c 0) (c 2))) :=
  bid_Lf _ h (fun c => p2 (c 0) (c 2)) (fun j => by rw [cr2, cr3]; rfl) f
theorem b9 (f : (ℕ → ℕ) → ℝ) (h) : broadcastInDim S8x4096x1024 ![0, 1, 2] h (Lf f : S8x1x1024.Idx → EReal) = Lf (fun c => f (p3 (c 0) 0 (c 2))) :=
  bid_Lf _ h (fun c => p3 (c 0) 0 (c 2)) (fun j => by rw [cr3, cr3]; rfl) f
theorem b10 (f : (ℕ → ℕ) → ℝ) (h) : broadcastInDim S8x4096x1 ![0, 1] h (Lf f : S8x4096.Idx → EReal) = Lf (fun c => f (p2 (c 0) (c 1))) :=
  bid_Lf _ h (fun c => p2 (c 0) (c 1)) (fun j => by rw [cr2, cr3]; rfl) f
theorem b11 (f : (ℕ → ℕ) → ℝ) (h) : broadcastInDim S8x4096x1024 ![0, 1, 2] h (Lf f : S8x4096x1.Idx → EReal) = Lf (fun c => f (p3 (c 0) (c 1) 0)) :=
  bid_Lf _ h (fun c => p3 (c 0) (c 1) 0) (fun j => by rw [cr3, cr3]; rfl) f
theorem b12 (f : (ℕ → ℕ) → ℝ) (h) : broadcastInDim S8x4x1 ![0, 1] h (Lf f : S8x4.Idx → EReal) = Lf (fun c => f (p2 (c 0) (c 1))) :=
  bid_Lf _ h (fun c => p2 (c 0) (c 1)) (fun j => by rw [cr2, cr3]; rfl) f
theorem b13 (f : (ℕ → ℕ) → ℝ) (h) : broadcastInDim S8x4x64 ![0, 1, 2] h (Lf f : S8x4x1.Idx → EReal) = Lf (fun c => f (p3 (c 0) (c 1) 0)) :=
  bid_Lf _ h (fun c => p3 (c 0) (c 1) 0) (fun j => by rw [cr3, cr3]; rfl) f
theorem b14 (f : (ℕ → ℕ) → ℝ) (h) : broadcastInDim S8x4x128 ![0, 1, 2] h (Lf f : S8x4x1.Idx → EReal) = Lf (fun c => f (p3 (c 0) (c 1) 0)) :=
  bid_Lf _ h (fun c => p3 (c 0) (c 1) 0) (fun j => by rw [cr3, cr3]; rfl) f
theorem b15 (f : (ℕ → ℕ) → ℝ) (h) : broadcastInDim S8x4x1x1 ![0, 1] h (Lf f : S8x4.Idx → EReal) = Lf (fun c => f (p2 (c 0) (c 1))) :=
  bid_Lf _ h (fun c => p2 (c 0) (c 1)) (fun j => by rw [cr2, cr4]; rfl) f
theorem b16 (f : (ℕ → ℕ) → ℝ) (h) : broadcastInDim S8x4x128x128 ![0, 1, 2, 3] h (Lf f : S8x4x1x1.Idx → EReal) = Lf (fun c => f (p4 (c 0) (c 1) 0 0)) :=
  bid_Lf _ h (fun c => p4 (c 0) (c 1) 0 0) (fun j => by rw [cr4, cr4]; rfl) f
theorem b17 (f : (ℕ → ℕ) → ℝ) (h) : broadcastInDim S8x4x64x1 ![0, 1, 2] h (Lf f : S8x4x64.Idx → EReal) = Lf (fun c => f (p3 (c 0) (c 1) (c 2))) :=
  bid_Lf _ h (fun c => p3 (c 0) (c 1) (c 2)) (fun j => by rw [cr3, cr4]; rfl) f
theorem b18 (f : (ℕ → ℕ) → ℝ) (h) : broadcastInDim S8x4x64x64 ![0, 1, 2, 3] h (Lf f : S8x4x64x1.Idx → EReal) = Lf (fun c => f (p4 (c 0) (c 1) (c 2) 0)) :=
  bid_Lf _ h (fun c => p4 (c 0) (c 1) (c 2) 0) (fun j => by rw [cr4, cr4]; rfl) f
theorem b19 (f : (ℕ → ℕ) → ℝ) (h) : broadcastInDim S8x4x64x128 ![0, 1, 2, 3] h (Lf f : S8x4x64x1.Idx → EReal) = Lf (fun c => f (p4 (c 0) (c 1) (c 2) 0)) :=
  bid_Lf _ h (fun c => p4 (c 0) (c 1) (c 2) 0) (fun j => by rw [cr4, cr4]; rfl) f
theorem b20 (f : (ℕ → ℕ) → ℝ) (h) : broadcastInDim S8x4x1x64 ![0, 1, 3] h (Lf f : S8x4x64.Idx → EReal) = Lf (fun c => f (p3 (c 0) (c 1) (c 3))) :=
  bid_Lf _ h (fun c => p3 (c 0) (c 1) (c 3)) (fun j => by rw [cr3, cr4]; rfl) f
theorem b21 (f : (ℕ → ℕ) → ℝ) (h) : broadcastInDim S8x4x64x64 ![0, 1, 2, 3] h (Lf f : S8x4x1x64.Idx → EReal) = Lf (fun c => f (p4 (c 0) (c 1) 0 (c 3))) :=
  bid_Lf _ h (fun c => p4 (c 0) (c 1) 0 (c 3)) (fun j => by rw [cr4, cr4]; rfl) f
theorem b22 (f : (ℕ → ℕ) → ℝ) (h) : broadcastInDim S1x8x4x64x128 ![1, 2, 3, 4] h (Lf f : S8x4x64x128.Idx → EReal) = Lf (fun c => f (p4 (c 1) (c 2) (c 3) (c 4))) :=
  bid_Lf _ h (fun c => p4 (c 1) (c 2) (c 3) (c 4)) (fun j => by rw [cr4, cr5]; rfl) f
theorem b23 (P : (ℕ → ℕ) → Prop) [∀ c, Decidable (P c)] (h) : broadcastInDim S8x4x64x64 ![2, 3] h (Lm P : S64x64.Idx → BitVec 1) = Lm (fun c => P (p2 (c 2) (c 3))) :=
  bid_Lm _ h (fun c => p2 (c 2) (c 3)) (fun j => by rw [cr2, cr4]; rfl) P

/-! ## Transposes and casts -/

theorem t0 (f : (ℕ → ℕ) → ℝ) (h) : transpose S64x8x4x64x128 [1, 0, 3, 2, 4] (Lf f : S8x64x64x4x128.Idx → EReal) h = Lf (fun c => f (p5 (c 1) (c 0) (c 3) (c 2) (c 4))) :=
  funext fun j => congrArg (fun x => ((f x : ℝ) : EReal)) (show cr (S := S8x64x64x4x128) (h.src j) = (p5 (cr j 1) (cr j 0) (cr j 3) (cr j 2) (cr j 4)) by rw [cr5, cr5]; rfl)
theorem t1 (f : (ℕ → ℕ) → ℝ) (h) : transpose S64x8x4x64 [1, 0, 3, 2] (Lf f : S8x64x64x4.Idx → EReal) h = Lf (fun c => f (p4 (c 1) (c 0) (c 3) (c 2))) :=
  funext fun j => congrArg (fun x => ((f x : ℝ) : EReal)) (show cr (S := S8x64x64x4) (h.src j) = (p4 (cr j 1) (cr j 0) (cr j 3) (cr j 2)) by rw [cr4, cr4]; rfl)
theorem t2 (f : (ℕ → ℕ) → ℝ) (h) : transpose S8x64x64x4x128 [1, 0, 3, 2, 4] (Lf f : S64x8x4x64x128.Idx → EReal) h = Lf (fun c => f (p5 (c 1) (c 0) (c 3) (c 2) (c 4))) :=
  funext fun j => congrArg (fun x => ((f x : ℝ) : EReal)) (show cr (S := S64x8x4x64x128) (h.src j) = (p5 (cr j 1) (cr j 0) (cr j 3) (cr j 2) (cr j 4)) by rw [cr5, cr5]; rfl)
theorem k0 (f : (ℕ → ℕ) → ℝ) (h) : shapeCast S8x64x64x4x128 (Lf f : S8x4096x512.Idx → EReal) h = Lf (fun c => f (p3 (c 0) (64 * c 1 + c 2) (128 * c 3 + c 4))) :=
  shapeCast_Lf _ _ h (fun j => ValueIdx.ix3 (j 0) (⟨64 * (j 1).val + (j 2).val, by have h0 : (j 0).val < 8 := (j 0).isLt; have h1 : (j 1).val < 64 := (j 1).isLt; have h2 : (j 2).val < 64 := (j 2).isLt; have h3 : (j 3).val < 4 := (j 3).isLt; have h4 : (j 4).val < 128 := (j 4).isLt; omega⟩ : Fin 4096) (⟨128 * (j 3).val + (j 4).val, by have h0 : (j 0).val < 8 := (j 0).isLt; have h1 : (j 1).val < 64 := (j 1).isLt; have h2 : (j 2).val < 64 := (j 2).isLt; have h3 : (j 3).val < 4 := (j 3).isLt; have h4 : (j 4).val < 128 := (j 4).isLt; omega⟩ : Fin 512))
    (fun j => by
      rw [Shape.rowMajor_val_three, Shape.rowMajor_val_five]
      have h0 : (j 0).val < 8 := (j 0).isLt
      have h1 : (j 1).val < 64 := (j 1).isLt
      have h2 : (j 2).val < 64 := (j 2).isLt
      have h3 : (j 3).val < 4 := (j 3).isLt
      have h4 : (j 4).val < 128 := (j 4).isLt
      show (((j 0).val) * 4096 + (64 * (j 1).val + (j 2).val)) * 512 + (128 * (j 3).val + (j 4).val) = (((((j 0).val) * 64 + (j 1).val) * 64 + (j 2).val) * 4 + (j 3).val) * 128 + (j 4).val
      omega)
    fun j => by rw [cr3, cr5]; rfl
theorem k1 (f : (ℕ → ℕ) → ℝ) (h) : shapeCast S8x64x64x4 (Lf f : S8x4096x4.Idx → EReal) h = Lf (fun c => f (p3 (c 0) (64 * c 1 + c 2) (c 3))) :=
  shapeCast_Lf _ _ h (fun j => ValueIdx.ix3 (j 0) (⟨64 * (j 1).val + (j 2).val, by have h0 : (j 0).val < 8 := (j 0).isLt; have h1 : (j 1).val < 64 := (j 1).isLt; have h2 : (j 2).val < 64 := (j 2).isLt; have h3 : (j 3).val < 4 := (j 3).isLt; omega⟩ : Fin 4096) (j 3))
    (fun j => by
      rw [Shape.rowMajor_val_three, Shape.rowMajor_val_four]
      have h0 : (j 0).val < 8 := (j 0).isLt
      have h1 : (j 1).val < 64 := (j 1).isLt
      have h2 : (j 2).val < 64 := (j 2).isLt
      have h3 : (j 3).val < 4 := (j 3).isLt
      show (((j 0).val) * 4096 + (64 * (j 1).val + (j 2).val)) * 4 + (j 3).val = ((((j 0).val) * 64 + (j 1).val) * 64 + (j 2).val) * 4 + (j 3).val
      omega)
    fun j => by rw [cr3, cr4]; rfl
theorem k2 (f : (ℕ → ℕ) → ℝ) (h) : shapeCast S8x4096x4x128 (Lf f : S8x64x64x4x128.Idx → EReal) h = Lf (fun c => f (p5 (c 0) (c 1 / 64) (c 1 % 64) (c 2) (c 3))) :=
  shapeCast_Lf _ _ h (fun j => ValueIdx.ix5 (j 0) (⟨(j 1).val / 64, by have h0 : (j 0).val < 8 := (j 0).isLt; have h1 : (j 1).val < 4096 := (j 1).isLt; have h2 : (j 2).val < 4 := (j 2).isLt; have h3 : (j 3).val < 128 := (j 3).isLt; omega⟩ : Fin 64) (⟨(j 1).val % 64, by have h0 : (j 0).val < 8 := (j 0).isLt; have h1 : (j 1).val < 4096 := (j 1).isLt; have h2 : (j 2).val < 4 := (j 2).isLt; have h3 : (j 3).val < 128 := (j 3).isLt; omega⟩ : Fin 64) (j 2) (j 3))
    (fun j => by
      rw [Shape.rowMajor_val_five, Shape.rowMajor_val_four]
      have h0 : (j 0).val < 8 := (j 0).isLt
      have h1 : (j 1).val < 4096 := (j 1).isLt
      have h2 : (j 2).val < 4 := (j 2).isLt
      have h3 : (j 3).val < 128 := (j 3).isLt
      show (((((j 0).val) * 64 + (j 1).val / 64) * 64 + (j 1).val % 64) * 4 + (j 2).val) * 128 + (j 3).val = ((((j 0).val) * 4096 + (j 1).val) * 4 + (j 2).val) * 128 + (j 3).val
      omega)
    fun j => by rw [cr5, cr4]; rfl
theorem k3 (f : (ℕ → ℕ) → ℝ) (h) : shapeCast S8x4096x512 (Lf f : S8x4096x4x128.Idx → EReal) h = Lf (fun c => f (p4 (c 0) (c 1) (c 2 / 128) (c 2 % 128))) :=
  shapeCast_Lf _ _ h (fun j => ValueIdx.ix4 (j 0) (j 1) (⟨(j 2).val / 128, by have h0 : (j 0).val < 8 := (j 0).isLt; have h1 : (j 1).val < 4096 := (j 1).isLt; have h2 : (j 2).val < 512 := (j 2).isLt; omega⟩ : Fin 4) (⟨(j 2).val % 128, by have h0 : (j 0).val < 8 := (j 0).isLt; have h1 : (j 1).val < 4096 := (j 1).isLt; have h2 : (j 2).val < 512 := (j 2).isLt; omega⟩ : Fin 128))
    (fun j => by
      rw [Shape.rowMajor_val_four, Shape.rowMajor_val_three]
      have h0 : (j 0).val < 8 := (j 0).isLt
      have h1 : (j 1).val < 4096 := (j 1).isLt
      have h2 : (j 2).val < 512 := (j 2).isLt
      show ((((j 0).val) * 4096 + (j 1).val) * 4 + (j 2).val / 128) * 128 + (j 2).val % 128 = (((j 0).val) * 4096 + (j 1).val) * 512 + (j 2).val
      omega)
    fun j => by rw [cr4, cr3]; rfl
theorem k4 (f : (ℕ → ℕ) → ℝ) (h) : shapeCast S8x4 (Lf f : S8x4x1.Idx → EReal) h = Lf (fun c => f (p3 (c 0) (c 1) 0)) :=
  shapeCast_Lf _ _ h (fun j => ValueIdx.ix3 (j 0) (j 1) 0)
    (fun j => by
      rw [Shape.rowMajor_val_three, Shape.rowMajor_val_two]
      have h0 : (j 0).val < 8 := (j 0).isLt
      have h1 : (j 1).val < 4 := (j 1).isLt
      show (((j 0).val) * 4 + (j 1).val) * 1 + 0 = ((j 0).val) * 4 + (j 1).val
      omega)
    fun j => by rw [cr3, cr2]; rfl

/-! ## Contractions -/

theorem d0 (f g : (ℕ → ℕ) → ℝ) :
    Host.dotGeneral (F := Ideal) (φ₁ := .f32) (φ₂ := .f32) dot_S8x4096x1024_S1024x4744_S8x4096x4744_2_0_01_1_n_n none (Lf f : S8x4096x1024.Idx → EReal) (Lf g : S1024x4744.Idx → EReal)
      = Lf (fun c => ∑ k ∈ range 1024, f (p3 (c 0) (c 1) k) * g (p2 k (c 2))) :=
  funext fun j => (Ideal.dotGeneral_apply (φ₁ := .f32) (φ₂ := .f32) _ none _ (Lf f : FVec Ideal S8x4096x1024 .f32) (Lf g : FVec Ideal S1024x4744 .f32) j).trans
    (dot_Lf _ 1024 rfl rfl f g (fun c k => p3 (c 0) (c 1) k) (fun c k => p2 k (c 2)) (fun j k => by rw [cr3, cr3]; rfl) (fun j k => by rw [cr2, cr3]; rfl) j)
theorem d1 (f g : (ℕ → ℕ) → ℝ) :
    Host.dotGeneral (F := Ideal) (φ₁ := .f32) (φ₂ := .f32) dot_S8x4096x1024_S1024x1024_S8x4096x1024_2_0_01_1_n_n none (Lf f : S8x4096x1024.Idx → EReal) (Lf g : S1024x1024.Idx → EReal)
      = Lf (fun c => ∑ k ∈ range 1024, f (p3 (c 0) (c 1) k) * g (p2 k (c 2))) :=
  funext fun j => (Ideal.dotGeneral_apply (φ₁ := .f32) (φ₂ := .f32) _ none _ (Lf f : FVec Ideal S8x4096x1024 .f32) (Lf g : FVec Ideal S1024x1024 .f32) j).trans
    (dot_Lf _ 1024 rfl rfl f g (fun c k => p3 (c 0) (c 1) k) (fun c k => p2 k (c 2)) (fun j k => by rw [cr3, cr3]; rfl) (fun j k => by rw [cr2, cr3]; rfl) j)
theorem d2 (f g : (ℕ → ℕ) → ℝ) :
    Host.dotGeneral (F := Ideal) (φ₁ := .f32) (φ₂ := .f32) dot_S8x4x64x128_S8x4x64x128_S8x4x64x64_3_3_2_2_01_01 none (Lf f : S8x4x64x128.Idx → EReal) (Lf g : S8x4x64x128.Idx → EReal)
      = Lf (fun c => ∑ k ∈ range 128, f (p4 (c 0) (c 1) (c 2) k) * g (p4 (c 0) (c 1) (c 3) k)) :=
  funext fun j => (Ideal.dotGeneral_apply (φ₁ := .f32) (φ₂ := .f32) _ none _ (Lf f : FVec Ideal S8x4x64x128 .f32) (Lf g : FVec Ideal S8x4x64x128 .f32) j).trans
    (dot_Lf _ 128 rfl rfl f g (fun c k => p4 (c 0) (c 1) (c 2) k) (fun c k => p4 (c 0) (c 1) (c 3) k) (fun j k => by rw [cr4, cr4]; rfl) (fun j k => by rw [cr4, cr4]; rfl) j)
theorem d3 (f g : (ℕ → ℕ) → ℝ) :
    Host.dotGeneral (F := Ideal) (φ₁ := .f32) (φ₂ := .f32) dot_S8x4x64x64_S8x4x64x128_S8x4x64x128_3_2_2_3_01_01 none (Lf f : S8x4x64x64.Idx → EReal) (Lf g : S8x4x64x128.Idx → EReal)
      = Lf (fun c => ∑ k ∈ range 64, f (p4 (c 0) (c 1) (c 2) k) * g (p4 (c 0) (c 1) k (c 3))) :=
  funext fun j => (Ideal.dotGeneral_apply (φ₁ := .f32) (φ₂ := .f32) _ none _ (Lf f : FVec Ideal S8x4x64x64 .f32) (Lf g : FVec Ideal S8x4x64x128 .f32) j).trans
    (dot_Lf _ 64 rfl rfl f g (fun c k => p4 (c 0) (c 1) (c 2) k) (fun c k => p4 (c 0) (c 1) k (c 3)) (fun j k => by rw [cr4, cr4]; rfl) (fun j k => by rw [cr4, cr4]; rfl) j)
theorem d4 (f g : (ℕ → ℕ) → ℝ) :
    Host.dotGeneral (F := Ideal) (φ₁ := .f32) (φ₂ := .f32) dot_S8x4x64x128_S8x4x128x128_S8x4x64x128_3_3_2_2_01_01 none (Lf f : S8x4x64x128.Idx → EReal) (Lf g : S8x4x128x128.Idx → EReal)
      = Lf (fun c => ∑ k ∈ range 128, f (p4 (c 0) (c 1) (c 2) k) * g (p4 (c 0) (c 1) (c 3) k)) :=
  funext fun j => (Ideal.dotGeneral_apply (φ₁ := .f32) (φ₂ := .f32) _ none _ (Lf f : FVec Ideal S8x4x64x128 .f32) (Lf g : FVec Ideal S8x4x128x128 .f32) j).trans
    (dot_Lf _ 128 rfl rfl f g (fun c k => p4 (c 0) (c 1) (c 2) k) (fun c k => p4 (c 0) (c 1) (c 3) k) (fun j k => by rw [cr4, cr4]; rfl) (fun j k => by rw [cr4, cr4]; rfl) j)
theorem d5 (f g : (ℕ → ℕ) → ℝ) :
    Host.dotGeneral (F := Ideal) (φ₁ := .f32) (φ₂ := .f32) dot_S8x4x128_S8x4x64x128_S8x4x64_2_3_n_2_01_01 none (Lf f : S8x4x128.Idx → EReal) (Lf g : S8x4x64x128.Idx → EReal)
      = Lf (fun c => ∑ k ∈ range 128, f (p3 (c 0) (c 1) k) * g (p4 (c 0) (c 1) (c 2) k)) :=
  funext fun j => (Ideal.dotGeneral_apply (φ₁ := .f32) (φ₂ := .f32) _ none _ (Lf f : FVec Ideal S8x4x128 .f32) (Lf g : FVec Ideal S8x4x64x128 .f32) j).trans
    (dot_Lf _ 128 rfl rfl f g (fun c k => p3 (c 0) (c 1) k) (fun c k => p4 (c 0) (c 1) (c 2) k) (fun j k => by rw [cr3, cr3]; rfl) (fun j k => by rw [cr4, cr3]; rfl) j)
theorem d6 (f g : (ℕ → ℕ) → ℝ) :
    Host.dotGeneral (F := Ideal) (φ₁ := .f32) (φ₂ := .f32) dot_S8x4x64x128_S8x4x64x128_S8x4x128x128_2_2_3_3_01_01 none (Lf f : S8x4x64x128.Idx → EReal) (Lf g : S8x4x64x128.Idx → EReal)
      = Lf (fun c => ∑ k ∈ range 64, f (p4 (c 0) (c 1) k (c 2)) * g (p4 (c 0) (c 1) k (c 3))) :=
  funext fun j => (Ideal.dotGeneral_apply (φ₁ := .f32) (φ₂ := .f32) _ none _ (Lf f : FVec Ideal S8x4x64x128 .f32) (Lf g : FVec Ideal S8x4x64x128 .f32) j).trans
    (dot_Lf _ 64 rfl rfl f g (fun c k => p4 (c 0) (c 1) k (c 2)) (fun c k => p4 (c 0) (c 1) k (c 3)) (fun j k => by rw [cr4, cr4]; rfl) (fun j k => by rw [cr4, cr4]; rfl) j)
theorem d7 (f g : (ℕ → ℕ) → ℝ) :
    Host.dotGeneral (F := Ideal) (φ₁ := .f32) (φ₂ := .f32) dot_S8x4x64_S8x4x64x128_S8x4x128_2_2_n_3_01_01 none (Lf f : S8x4x64.Idx → EReal) (Lf g : S8x4x64x128.Idx → EReal)
      = Lf (fun c => ∑ k ∈ range 64, f (p3 (c 0) (c 1) k) * g (p4 (c 0) (c 1) k (c 2))) :=
  funext fun j => (Ideal.dotGeneral_apply (φ₁ := .f32) (φ₂ := .f32) _ none _ (Lf f : FVec Ideal S8x4x64 .f32) (Lf g : FVec Ideal S8x4x64x128 .f32) j).trans
    (dot_Lf _ 64 rfl rfl f g (fun c k => p3 (c 0) (c 1) k) (fun c k => p4 (c 0) (c 1) k (c 2)) (fun j k => by rw [cr3, cr3]; rfl) (fun j k => by rw [cr4, cr3]; rfl) j)

/-! ## Reductions -/

theorem r0 (f : (ℕ → ℕ) → ℝ) (h) (hu) :
    Host.reduceAdd (F := Ideal) (φ := .f32) (axes := [3]) (t := S8x4096x4) (Lf f : S8x4096x4x128.Idx → EReal) (constant (F := Ideal) S_ .f32 0x00000000#32) h hu
      = Lf (fun c => ∑ k ∈ range 128, f (p4 (c 0) (c 1) (c 2) k)) :=
  funext fun j => by
    refine (Ideal.hostReduceAdd_single (s := S8x4096x4x128) (a := 3) h (show S8x4096x4x128.Reduces [3] S8x4096x4 by decide) (Lf f) _ j).trans ?_
    have e0 : constant (F := Ideal) S_ .f32 0x00000000#32 (Shape.Idx.first hu) = 0 := c_zero.trans EReal.coe_zero
    rw [e0, zero_add, Lf_apply, Finset.sum_range, coe_sum]
    refine Finset.sum_congr rfl fun k _ => ?_
    rw [Lf_apply, cr4, cr3]; rfl
theorem r1 (f : (ℕ → ℕ) → ℝ) (h) (hu) :
    Host.reduceAdd (F := Ideal) (φ := .f32) (axes := [2]) (t := S8x4096) (Lf f : S8x4096x1024.Idx → EReal) (constant (F := Ideal) S_ .f32 0x00000000#32) h hu
      = Lf (fun c => ∑ k ∈ range 1024, f (p3 (c 0) (c 1) k)) :=
  funext fun j => by
    refine (Ideal.hostReduceAdd_single (s := S8x4096x1024) (a := 2) h (show S8x4096x1024.Reduces [2] S8x4096 by decide) (Lf f) _ j).trans ?_
    have e0 : constant (F := Ideal) S_ .f32 0x00000000#32 (Shape.Idx.first hu) = 0 := c_zero.trans EReal.coe_zero
    rw [e0, zero_add, Lf_apply, Finset.sum_range, coe_sum]
    refine Finset.sum_congr rfl fun k _ => ?_
    rw [Lf_apply, cr3, cr2]; rfl
theorem r2 (f : (ℕ → ℕ) → ℝ) (h) (hu) :
    Host.reduceAdd (F := Ideal) (φ := .f32) (axes := [3]) (t := S8x4x64) (Lf f : S8x4x64x64.Idx → EReal) (constant (F := Ideal) S_ .f32 0x00000000#32) h hu
      = Lf (fun c => ∑ k ∈ range 64, f (p4 (c 0) (c 1) (c 2) k)) :=
  funext fun j => by
    refine (Ideal.hostReduceAdd_single (s := S8x4x64x64) (a := 3) h (show S8x4x64x64.Reduces [3] S8x4x64 by decide) (Lf f) _ j).trans ?_
    have e0 : constant (F := Ideal) S_ .f32 0x00000000#32 (Shape.Idx.first hu) = 0 := c_zero.trans EReal.coe_zero
    rw [e0, zero_add, Lf_apply, Finset.sum_range, coe_sum]
    refine Finset.sum_congr rfl fun k _ => ?_
    rw [Lf_apply, cr4, cr3]; rfl

/-- The largest entries along an axis are reals when no entry is plus infinity and each row has a real. -/
theorem exists_hmax {s t : Shape} {a : Fin s.rank} (x : s.Idx → EReal) (h : s.ReducesTo [a] t) (hu) (h' : s.Reduces [a] t)
    (h1 : ∀ i, x i ≠ ⊤) (h2 : ∀ j : t.Idx, ∃ k : Fin (s.size a), x (h'.lift j k) ≠ ⊥) :
    ∃ A : (ℕ → ℕ) → ℝ, Host.reduce (FloatOps.maximumf (F := Ideal) (φ := .f32)) x (constant (F := Ideal) S_ .f32 0xFF800000#32) h hu = Lf A := by
  refine exists_Lf _ fun j => ?_
  have hb : (FloatOps.ofBits (F := Ideal) FTy.f32 0xFF800000#32 : EReal) = ⊥ := c_bot
  rw [hostReduce_maximumf_eq_multiReduction (F := Ideal) (φ := .f32) x 0xFF800000#32 h hu h' (by decide) (by decide),
    Ideal.multiReduction_maximumf_single, hb]
  refine ⟨fold_max_ne_top _ _ fun k _ => h1 _, fun hbot => ?_⟩
  obtain ⟨k, hk⟩ := h2 j
  exact hk (le_bot_iff.mp ((le_fold_max Finset.univ (x ∘ h'.lift j) k (Finset.mem_univ _)).trans hbot.le))

theorem exists_max3 (P : (ℕ → ℕ) → Prop) [∀ c, Decidable (P c)] (hP : ∀ a b c, P (p4 a b c c)) (f : (ℕ → ℕ) → ℝ) (h) (hu) :
    ∃ A : (ℕ → ℕ) → ℝ, Host.reduce (axes := [3]) (t := S8x4x64) (FloatOps.maximumf (F := Ideal) (φ := .f32)) (Lb P f : S8x4x64x64.Idx → EReal)
      (constant (F := Ideal) S_ .f32 0xFF800000#32) h hu = Lf A :=
  exists_hmax (s := S8x4x64x64) (a := 3) _ h hu (show S8x4x64x64.Reduces [3] S8x4x64 by decide)
    (fun i => by
      show (if P (cr i) then ((f (cr i) : ℝ) : EReal) else ⊥) ≠ ⊤
      split
      · exact EReal.coe_ne_top _
      · exact bot_ne_top)
    fun j => ⟨(j 2 : Fin 64), by
      show (if P (cr (S := S8x4x64x64) _) then ((f (cr (S := S8x4x64x64) _) : ℝ) : EReal) else ⊥) ≠ ⊥
      rw [if_pos (by rw [cr4]; exact hP _ _ _)]
      exact EReal.coe_ne_bot _⟩
theorem exists_max2 (f : (ℕ → ℕ) → ℝ) (h) (hu) :
    ∃ A : (ℕ → ℕ) → ℝ, Host.reduce (axes := [2]) (t := S8x4) (FloatOps.maximumf (F := Ideal) (φ := .f32)) (Lf f : S8x4x64.Idx → EReal)
      (constant (F := Ideal) S_ .f32 0xFF800000#32) h hu = Lf A :=
  exists_hmax (s := S8x4x64) (a := 2) _ h hu (show S8x4x64.Reduces [2] S8x4 by decide)
    (fun i => EReal.coe_ne_top _) fun j => ⟨(0 : Fin 64), EReal.coe_ne_bot _⟩

end Cert.Lift

end
-- ==== Proof.LiftW.lean ====
/- What the reference's running sum, its slices at a computed place, its padding and its masks make of arrays of reals.  -/
module

public import proofs.«01_k».proof.Proof.LiftK
public import proofs.«01_k».proof.Proof.Gen.ReferenceIdeal
public import Idealize.ShloMosaic.Lib.KernelVsHost

@[expose] public section

set_option maxRecDepth 16384

noncomputable section

namespace Cert.Lift

open Idealize.ShloMosaic
open Cert.ReferenceIdeal
open scoped BigOperators
open Finset (range)

/-- A fold of additions is the sum. -/
theorem foldl_add {ι : Type*} (l : List ι) (f : ι → EReal) (a : EReal) : l.foldl (fun r n => r + f n) a = a + (l.map f).sum := by
  induction l generalizing a with
  | nil => simp
  | cons x l ih => rw [List.foldl_cons, ih, List.map_cons, List.sum_cons, add_assoc]

/-- A window's last coordinate runs over all of it. -/
theorem window_val (n : Fin (⟨3, ![1, 1, 64]⟩ : Shape).numel) :
    (((⟨3, ![1, 1, 64]⟩ : Shape).rowMajor.symm n 0).val = 0 ∧ ((⟨3, ![1, 1, 64]⟩ : Shape).rowMajor.symm n 1).val = 0)
      ∧ ((⟨3, ![1, 1, 64]⟩ : Shape).rowMajor.symm n 2).val = n.val := by
  have e := Shape.rowMajor_val_three (d := ![1, 1, 64]) ((⟨3, ![1, 1, 64]⟩ : Shape).rowMajor.symm n)
  rw [Equiv.apply_symm_apply] at e
  have h0 : ((⟨3, ![1, 1, 64]⟩ : Shape).rowMajor.symm n 0).val < 1 := ((⟨3, ![1, 1, 64]⟩ : Shape).rowMajor.symm n 0).isLt
  have h1 : ((⟨3, ![1, 1, 64]⟩ : Shape).rowMajor.symm n 1).val < 1 := ((⟨3, ![1, 1, 64]⟩ : Shape).rowMajor.symm n 1).isLt
  refine ⟨⟨by omega, by omega⟩, ?_⟩
  have a0 : ((⟨3, ![1, 1, 64]⟩ : Shape).rowMajor.symm n 0).val = 0 := by omega
  have a1 : ((⟨3, ![1, 1, 64]⟩ : Shape).rowMajor.symm n 1).val = 0 := by omega
  rw [a0, a1] at e
  have e' : n.val = (0 * 1 + 0) * 64 + ((⟨3, ![1, 1, 64]⟩ : Shape).rowMajor.symm n 2).val := e
  omega

/-- A sum over the end of a range. -/
theorem sum_tail (F : ℕ → ℝ) (j : ℕ) (hj : j < 64) :
    (∑ n ∈ range 64, if 63 ≤ j + n then F (j + n - 63) else 0) = ∑ s ∈ range (j + 1), F s := by
  have e : 64 = (63 - j) + (j + 1) := by omega
  conv_lhs => rw [e]
  rw [Finset.sum_range_add, Finset.sum_eq_zero, zero_add]
  · refine Finset.sum_congr rfl fun s hs => ?_
    rw [if_pos (by omega)]
    congr 1
    omega
  · intro s hs
    have := Finset.mem_range.mp hs
    exact if_neg (by omega)

/-- The running sum along the last axis. -/
theorem cumsum_Lf (f : (ℕ → ℕ) → ℝ) (init : S_.Idx → EReal) (hi : ∀ i, init i = 0) (h) (hu) :
    Host.reduceWindowAdd (F := Ideal) (φ := .f32) (t := S8x4x64) ![1, 1, 64] ![1, 1, 1] ![0, 0, 63] ![0, 0, 0] (Lf f : S8x4x64.Idx → EReal) init h hu
      = Lf (fun c => ∑ s ∈ range (c 2 + 1), f (p3 (c 0) (c 1) s)) := by
  funext j
  have hj : (j 2).val < 64 := (j 2).isLt
  have h0 : (j 0).val < 8 := (j 0).isLt
  have h1 : (j 1).val < 4 := (j 1).isLt
  show Host.reduceWindow (· + ·) _ _ _ _ _ (fun _ : (⟨0, ![]⟩ : Shape).Idx => init (Shape.Idx.first hu)) h (by decide) j = _
  rw [hi]
  unfold Host.reduceWindow
  refine (foldl_add _ _ _).trans ?_
  rw [zero_add, ← Fin.sum_univ_def, Lf_apply, cr3 j]
  show _ = ((∑ s ∈ range ((j 2).val + 1), f (p3 (j 0).val (j 1).val s) : ℝ) : EReal)
  rw [← sum_tail (fun s => f (p3 (j 0).val (j 1).val s)) _ hj, Finset.sum_range, coe_sum]
  refine Finset.sum_congr rfl fun n _ => ?_
  obtain ⟨⟨w0, w1⟩, w2⟩ := window_val n
  have hn : n.val < 64 := n.isLt
  by_cases hc : 63 ≤ (j 2).val + n.val
  · rw [if_pos hc, dif_pos]
    · rw [Lf_apply, cr3]
      congr 2
      show p3 ((j 0).val * 1 + _ - 0) ((j 1).val * 1 + _ - 0) ((j 2).val * 1 + _ - 63) = _
      rw [w0, w1, w2]
      simp only [Nat.mul_one, Nat.add_zero, Nat.sub_zero]
    · intro a
      match a with
      | 0 => show 0 ≤ (j 0).val * 1 + _ ∧ (j 0).val * 1 + _ - 0 < 8; rw [w0]; omega
      | 1 => show 0 ≤ (j 1).val * 1 + _ ∧ (j 1).val * 1 + _ - 0 < 4; rw [w1]; omega
      | 2 => show 63 ≤ (j 2).val * 1 + _ ∧ (j 2).val * 1 + _ - 63 < 64; rw [w2]; omega
  · rw [if_neg hc, dif_neg]
    · exact EReal.coe_zero.symm
    · intro H
      have := (H 2).1
      have : 63 ≤ (j 2).val * 1 + ((⟨3, ![1, 1, 64]⟩ : Shape).rowMajor.symm n 2).val := this
      rw [w2] at this
      omega

/-! ## Slices at a computed place -/

/-- The first coordinate of a place, read as a number. -/
theorem start_zero (n : ℕ) (hn : n < 64) : (min (max (BitVec.ofNat 32 n).toInt 0) ((64 - 1 : ℕ) : ℤ)).toNat = n := by
  rw [ofNat_toInt n (by omega)]
  omega

/-- A block of an array of reals at a computed first coordinate. -/
theorem dslice5 (n : ℕ) (hn : n < 64) (st : Fin 5 → ℤ) (h0 : st 0 = (BitVec.ofNat 32 n).toInt) (hs : ∀ a : Fin 5, a ≠ 0 → st a = 0)
    (f : (ℕ → ℕ) → ℝ) (h) :
    Host.dynamicSlice S1x8x4x64x128 (Lf f : S64x8x4x64x128.Idx → EReal) st h = Lf (fun c => f (p5 (n + c 0) (c 1) (c 2) (c 3) (c 4))) :=
  funext fun j => by
    show (Lf f : S64x8x4x64x128.Idx → EReal) _ = _
    rw [Lf_apply, Lf_apply, cr5, cr5 j]
    congr 2
    show p5 ((min (max (st 0) 0) ((64 - 1 : ℕ) : ℤ)).toNat + (j 0).val) ((min (max (st 1) 0) ((8 - 8 : ℕ) : ℤ)).toNat + (j 1).val) ((min (max (st 2) 0) ((4 - 4 : ℕ) : ℤ)).toNat + (j 2).val) ((min (max (st 3) 0) ((64 - 64 : ℕ) : ℤ)).toNat + (j 3).val) ((min (max (st 4) 0) ((128 - 128 : ℕ) : ℤ)).toNat + (j 4).val) = _
    rw [h0, start_zero n hn, hs 1 (by decide), hs 2 (by decide), hs 3 (by decide), hs 4 (by decide)]
    simp
/-- A block of an array of reals at a computed first coordinate. -/
theorem dslice4 (n : ℕ) (hn : n < 64) (st : Fin 4 → ℤ) (h0 : st 0 = (BitVec.ofNat 32 n).toInt) (hs : ∀ a : Fin 4, a ≠ 0 → st a = 0)
    (f : (ℕ → ℕ) → ℝ) (h) :
    Host.dynamicSlice S1x8x4x64 (Lf f : S64x8x4x64.Idx → EReal) st h = Lf (fun c => f (p4 (n + c 0) (c 1) (c 2) (c 3))) :=
  funext fun j => by
    show (Lf f : S64x8x4x64.Idx → EReal) _ = _
    rw [Lf_apply, Lf_apply, cr4, cr4 j]
    congr 2
    show p4 ((min (max (st 0) 0) ((64 - 1 : ℕ) : ℤ)).toNat + (j 0).val) ((min (max (st 1) 0) ((8 - 8 : ℕ) : ℤ)).toNat + (j 1).val) ((min (max (st 2) 0) ((4 - 4 : ℕ) : ℤ)).toNat + (j 2).val) ((min (max (st 3) 0) ((64 - 64 : ℕ) : ℤ)).toNat + (j 3).val) = _
    rw [h0, start_zero n hn, hs 1 (by decide), hs 2 (by decide), hs 3 (by decide)]
    simp

/-- A block written at a computed first coordinate. -/
theorem dupdate (n : ℕ) (hn : n < 64) (st : Fin 5 → ℤ) (h0 : st 0 = (BitVec.ofNat 32 n).toInt) (hs : ∀ a : Fin 5, a ≠ 0 → st a = 0)
    (f g : (ℕ → ℕ) → ℝ) (h) :
    Host.dynamicUpdateSlice (Lf f : S64x8x4x64x128.Idx → EReal) (Lf g : S1x8x4x64x128.Idx → EReal) st h
      = Lf (fun c => if c 0 = n then g (p5 0 (c 1) (c 2) (c 3) (c 4)) else f c) :=
  funext fun j => by
    have b0 : (j 0).val < 64 := (j 0).isLt
    have b1 : (j 1).val < 8 := (j 1).isLt
    have b2 : (j 2).val < 4 := (j 2).isLt
    have b3 : (j 3).val < 64 := (j 3).isLt
    have b4 : (j 4).val < 128 := (j 4).isLt
    have e0 : (min (max (st 0) 0) ((64 - 1 : ℕ) : ℤ)).toNat = n := by rw [h0]; exact start_zero n hn
    have e1 : (min (max (st 1) 0) ((8 - 8 : ℕ) : ℤ)).toNat = 0 := by rw [hs 1 (by decide)]; rfl
    have e2 : (min (max (st 2) 0) ((4 - 4 : ℕ) : ℤ)).toNat = 0 := by rw [hs 2 (by decide)]; rfl
    have e3 : (min (max (st 3) 0) ((64 - 64 : ℕ) : ℤ)).toNat = 0 := by rw [hs 3 (by decide)]; rfl
    have e4 : (min (max (st 4) 0) ((128 - 128 : ℕ) : ℤ)).toNat = 0 := by rw [hs 4 (by decide)]; rfl
    unfold Host.dynamicUpdateSlice updateSlice
    by_cases hc : (j 0).val = n
    · refine (dif_pos ?_).trans ?_
      · intro a
        match a with
        | 0 => show (min (max (st 0) 0) ((64 - 1 : ℕ) : ℤ)).toNat ≤ (j 0).val ∧ (j 0).val < (min (max (st 0) 0) ((64 - 1 : ℕ) : ℤ)).toNat + 1; rw [e0]; omega
        | 1 => show (min (max (st 1) 0) ((8 - 8 : ℕ) : ℤ)).toNat ≤ (j 1).val ∧ (j 1).val < (min (max (st 1) 0) ((8 - 8 : ℕ) : ℤ)).toNat + 8; rw [e1]; omega
        | 2 => show (min (max (st 2) 0) ((4 - 4 : ℕ) : ℤ)).toNat ≤ (j 2).val ∧ (j 2).val < (min (max (st 2) 0) ((4 - 4 : ℕ) : ℤ)).toNat + 4; rw [e2]; omega
        | 3 => show (min (max (st 3) 0) ((64 - 64 : ℕ) : ℤ)).toNat ≤ (j 3).val ∧ (j 3).val < (min (max (st 3) 0) ((64 - 64 : ℕ) : ℤ)).toNat + 64; rw [e3]; omega
        | 4 => show (min (max (st 4) 0) ((128 - 128 : ℕ) : ℤ)).toNat ≤ (j 4).val ∧ (j 4).val < (min (max (st 4) 0) ((128 - 128 : ℕ) : ℤ)).toNat + 128; rw [e4]; omega
      · rw [Lf_apply, Lf_apply, cr5, cr5 j]
        refine congrArg _ (Eq.trans ?_ (if_pos hc).symm)
        congr 1
        show p5 ((j 0).val - (min (max (st 0) 0) ((64 - 1 : ℕ) : ℤ)).toNat) ((j 1).val - (min (max (st 1) 0) ((8 - 8 : ℕ) : ℤ)).toNat)
          ((j 2).val - (min (max (st 2) 0) ((4 - 4 : ℕ) : ℤ)).toNat) ((j 3).val - (min (max (st 3) 0) ((64 - 64 : ℕ) : ℤ)).toNat)
          ((j 4).val - (min (max (st 4) 0) ((128 - 128 : ℕ) : ℤ)).toNat) = _
        rw [e0, e1, e2, e3, e4, hc, Nat.sub_self]
        rfl
    · refine (dif_neg ?_).trans ?_
      · intro H
        have := H 0
        have : (min (max (st 0) 0) ((64 - 1 : ℕ) : ℤ)).toNat ≤ (j 0).val ∧ (j 0).val < (min (max (st 0) 0) ((64 - 1 : ℕ) : ℤ)).toNat + 1 := this
        rw [e0] at this
        omega
      · rw [Lf_apply, Lf_apply, cr5 j]
        exact congrArg _ (if_neg hc).symm

/-! ## Padding -/

/-- Three rows of zeros in front. -/
theorem pad_Lf (f : (ℕ → ℕ) → ℝ) (v : S_.Idx → EReal) (hv : ∀ i, v i = 0) (h) (hu) :
    pad S8x4099x1024 ![0, 3, 0] ![0, 0, 0] ![0, 0, 0] (Lf f : S8x4096x1024.Idx → EReal) v h hu
      = Lf (fun c => if c 1 < 3 then 0 else f (p3 (c 0) (c 1 - 3) (c 2))) :=
  funext fun j => by
    have b0 : (j 0).val < 8 := (j 0).isLt
    have b1 : (j 1).val < 4099 := (j 1).isLt
    have b2 : (j 2).val < 1024 := (j 2).isLt
    unfold pad
    by_cases hc : (j 1).val < 3
    · refine (dif_neg ?_).trans ?_
      · intro H
        have : 3 ≤ (j 1).val := (H 1).1
        omega
      · rw [hv, Lf_apply, cr3 j]
        exact EReal.coe_zero.symm.trans (congrArg _ (if_pos hc).symm)
    · refine (dif_pos ?_).trans ?_
      · intro a
        match a with
        | 0 => show 0 ≤ (j 0).val ∧ ((j 0).val - 0) % (0 + 1) = 0 ∧ ((j 0).val - 0) / (0 + 1) < 8; omega
        | 1 => show 3 ≤ (j 1).val ∧ ((j 1).val - 3) % (0 + 1) = 0 ∧ ((j 1).val - 3) / (0 + 1) < 4096; omega
        | 2 => show 0 ≤ (j 2).val ∧ ((j 2).val - 0) % (0 + 1) = 0 ∧ ((j 2).val - 0) / (0 + 1) < 1024; omega
      · rw [Lf_apply, Lf_apply, cr3, cr3 j]
        refine congrArg _ (Eq.trans ?_ (if_neg hc).symm)
        congr 1
        show p3 (((j 0).val - 0) / (0 + 1)) (((j 1).val - 3) / (0 + 1)) (((j 2).val - 0) / (0 + 1)) = p3 (j 0).val ((j 1).val - 3) (j 2).val
        simp only [Nat.sub_zero, Nat.zero_add, Nat.div_one]

/-! ## Masks and gates -/

/-- The lower triangle. -/
theorem tri_Lm (d1 d2 d3) (h1 : S_.BroadcastsInDim S64x64 d1) (h2 : S_.BroadcastsInDim S64x64 d2) (h3 : S_.BroadcastsInDim S64x64 d3) :
    select (cmpi .sge (addi (iotaInDim S64x64 32 0) (broadcastInDim S64x64 d1 h1 (constantI S_ 32 0#32))) (iotaInDim S64x64 32 1))
      (broadcastInDim S64x64 d2 h2 (constantI S_ 1 1#1)) (broadcastInDim S64x64 d3 h3 (constantI S_ 1 0#1)) = Lm (fun c => c 1 ≤ c 0) :=
  funext fun j => by
    show Scalar.select (IntOp.cmpi .sge (BitVec.ofNat 32 (j 0).val + 0#32) (BitVec.ofNat 32 (j 1).val)) 1#1 0#1 = if cr j 1 ≤ cr j 0 then 1#1 else 0#1
    have b0 : (j 0).val < 64 := (j 0).isLt
    have b1 : (j 1).val < 64 := (j 1).isLt
    rw [cr2, BitVec.add_zero]
    simp only [IntOp.cmpi, BitVec.sle, ofNat_toInt _ (show (j 0).val < 2 ^ 31 by omega), ofNat_toInt _ (show (j 1).val < 2 ^ 31 by omega), p2_0, p2_1]
    by_cases h : (j 1).val ≤ (j 0).val <;> simp [h, Scalar.select]

theorem hselect_Lb {S : Shape} {dims} (h : S_.BroadcastsInDim S dims) (P : (ℕ → ℕ) → Prop) [∀ c, Decidable (P c)] (f : (ℕ → ℕ) → ℝ) :
    select (Lm P : S.Idx → BitVec 1) (Lf f : S.Idx → EReal) (broadcastInDim S dims h (id (constant (F := Ideal) S_ .f32 0xFF800000#32))) = Lb P f :=
  select_Lb P f
theorem hexp_Lb {S : Shape} {φ : FTy} (P : (ℕ → ℕ) → Prop) [∀ c, Decidable (P c)] (f : (ℕ → ℕ) → ℝ) :
    Host.exp (F := Ideal) (φ := φ) (Lb P f : S.Idx → EReal) = Lf (fun c => if P c then Real.exp (f c) else 0) := exp_Lb (φ := φ) P f

/-- No real differs from itself. -/
theorem une_Lf {S : Shape} (f g h : (ℕ → ℕ) → ℝ) :
    select (cmpf (F := Ideal) (φ := .f32) .une (Lf f : S.Idx → EReal) (Lf f)) (Lf g : S.Idx → EReal) (Lf h) = Lf h :=
  funext fun i => by
    show Scalar.select (Ideal.cmp .une ((f (cr i) : ℝ) : EReal) ((f (cr i) : ℝ) : EReal)) _ _ = _
    simp [Ideal.cmp, Scalar.select]

end Cert.Lift

end
-- ==== Proof.RefKeep.lean ====
/- What the reference's program leaves alone: a buffer that none of its operations writes holds at the end what it held
   at the launch, and a buffer the loop does not write holds after the loop what it held before. The reference's frame. -/
module

public import proofs.«01_k».proof.Proof.Gen.ReferenceIdeal.Run
public import Idealize.ShloMosaic.PureOps.Ideal

@[expose] public section

noncomputable section

namespace Cert.Ref

open Idealize.ShloMosaic Idealize.ShloMosaic.TcCoe Idealize.SL.Sem Idealize.ShloMosaic.StableHlo Cert.ReferenceIdeal Cert.ReferenceIdeal.Gen Cert.ReferenceIdeal.Value

variable (m : (ℓ : Loc nD τ sig) → Buf (Elt Ideal) ℓ)

/-- The references `hostOps0_7` writes, in order. -/
abbrev hostOps0_7_W : List (Ref sig .tc) := [main_v80, main_v81, main_cst_5, main_v82, main_v83, main_cst_6, main_v84, main_v85, main_v86, main_v87, main_v88, main_cst_7, main_v89, main_v90, main_cst_8, main_v91, main_v92, main_v93, main_v94, main_cst_9, main_v95, main_v96, main_v97, main_v98, main_v99, main_v100, main_v101, main_v102, main_v103, main_v104, main_v105, main_cst_10, main_v106, main_v107, main_cst_11, main_v108, main_v109, main_v110, main_v111, main_v112, main_v113, main_v114]
set_option maxRecDepth 100000 in
/-- `hostOps0_7` writes those only. -/
theorem hostOps0_7_writes : (hostOps0_7 : List (HloOp τ sig (Elt Ideal))).Forall fun op => op.writes ⊆ (hostOps0_7_W.map (Proc.devRef (τ := τ) .tc)).toFinset :=
  StableHlo.forall_writes_sub_of_map rfl

/-- The references `hostOps0_8` writes, in order. -/
abbrev hostOps0_8_W : List (Ref sig .tc) := [main_call12_v0, main_call12_v1, main_call12_cst, main_call12_v2, main_call12_v3, main_call12_cst_0, main_call12_v4, main_call12_v5, main_v115]
set_option maxRecDepth 100000 in
/-- `hostOps0_8` writes those only. -/
theorem hostOps0_8_writes : (hostOps0_8 : List (HloOp τ sig (Elt Ideal))).Forall fun op => op.writes ⊆ (hostOps0_8_W.map (Proc.devRef (τ := τ) .tc)).toFinset :=
  StableHlo.forall_writes_sub_of_map rfl

/-- The references `hostOps0_9` writes, in order. -/
abbrev hostOps0_9_W : List (Ref sig .tc) := [main_v116, main_v117, main_v118, main_v119, main_v120, main_v121, main_v122, main_v123, main_v124, main_v125, main_cst_12, main_v126, main_v127, main_cst_13, main_v128, main_v129, main_cst_14, main_v130, main_v131, main_v132, main_v133, main_v134, main_v135, main_v136, main_v137]
set_option maxRecDepth 100000 in
/-- `hostOps0_9` writes those only. -/
theorem hostOps0_9_writes : (hostOps0_9 : List (HloOp τ sig (Elt Ideal))).Forall fun op => op.writes ⊆ (hostOps0_9_W.map (Proc.devRef (τ := τ) .tc)).toFinset :=
  StableHlo.forall_writes_sub_of_map rfl

/-- The references the stretches before the loop write. -/
abbrev pre_W : List (Ref sig .tc) := hostOps0_W ++ hostOps0_1_W ++ hostOps0_2_W ++ hostOps0_3_W ++ hostOps0_4_W ++ hostOps0_5_W ++ hostOps0_6_W

/-- The references the loop writes. -/
abbrev loop_W : List (Ref sig .tc) := condOps_W ++ while0Ops0_W ++ while0Ops0_1_W ++ while0Ops0_2_W ++ while0Ops0_3_W ++ while0Ops0_4_W ++ while0Ops0_5_W ++ while0Ops0_6_W ++ while0Ops0_7_W ++ while0Ops0_8_W ++ while0Ops0_9_W ++ while0Ops0_10_W ++ while0Ops0_11_W ++ while0Ops0_12_W

/-- The references the stretches after the loop write. -/
abbrev post_W : List (Ref sig .tc) := hostOps0_7_W ++ hostOps0_8_W ++ hostOps0_9_W

/-- A stretch leaves a buffer alone that is not in a list holding all it writes. -/
theorem after_keep {ops : List (HloOp τ sig (Elt Ideal))} {W : List (Ref sig .tc)} {r : Ref sig .tc}
    (hW : ops.Forall fun op => op.writes ⊆ (W.map (Proc.devRef (τ := τ) .tc)).toFinset) (hr : r ∉ W) {V : Valuation τ sig (Elt Ideal)}
    {x} (h : V (Proc.devRef .tc r) = x) : after ops V (Proc.devRef .tc r) = x :=
  (after_of_writes_sub ops V hW hr).trans h

/-- The stretches before the loop leave a buffer alone that they do not write. -/
theorem pre_keep {r : Ref sig .tc} (hr : r ∉ pre_W) (V : Valuation τ sig (Elt Ideal)) :
    afterL preI V (Proc.devRef .tc r) = V (Proc.devRef .tc r) := by
  simp only [pre_W, List.mem_append, not_or] at hr
  obtain ⟨⟨⟨⟨⟨⟨h0, h1⟩, h2⟩, h3⟩, h4⟩, h5⟩, h6⟩ := hr
  exact after_keep hostOps0_6_writes h6 (after_keep hostOps0_5_writes h5 (after_keep hostOps0_4_writes h4 (after_keep hostOps0_3_writes h3 (after_keep hostOps0_2_writes h2 (after_keep hostOps0_1_writes h1 (after_keep hostOps0_writes h0 (rfl)))))))

/-- One trip of the loop leaves a buffer alone that it does not write. -/
theorem loop_keep {r : Ref sig .tc} (hr : r ∉ loop_W) (V : Valuation τ sig (Elt Ideal)) :
    afterL bodyI (after condOps V) (Proc.devRef .tc r) = V (Proc.devRef .tc r) := by
  simp only [loop_W, List.mem_append, not_or] at hr
  obtain ⟨⟨⟨⟨⟨⟨⟨⟨⟨⟨⟨⟨⟨h0, h1⟩, h2⟩, h3⟩, h4⟩, h5⟩, h6⟩, h7⟩, h8⟩, h9⟩, h10⟩, h11⟩, h12⟩, h13⟩ := hr
  exact after_keep while0Ops0_12_writes h13 (after_keep while0Ops0_11_writes h12 (after_keep while0Ops0_10_writes h11 (after_keep while0Ops0_9_writes h10 (after_keep while0Ops0_8_writes h9 (after_keep while0Ops0_7_writes h8 (after_keep while0Ops0_6_writes h7 (after_keep while0Ops0_5_writes h6 (after_keep while0Ops0_4_writes h5 (after_keep while0Ops0_3_writes h4 (after_keep while0Ops0_2_writes h3 (after_keep while0Ops0_1_writes h2 (after_keep while0Ops0_writes h1 (after_keep condOps_writes h0 (rfl))))))))))))))

/-- The stretches after the loop leave a buffer alone that they do not write. -/
theorem post_keep {r : Ref sig .tc} (hr : r ∉ post_W) (V : Valuation τ sig (Elt Ideal)) :
    afterL postI V (Proc.devRef .tc r) = V (Proc.devRef .tc r) := by
  simp only [post_W, List.mem_append, not_or] at hr
  obtain ⟨⟨h0, h1⟩, h2⟩ := hr
  exact after_keep hostOps0_9_writes h2 (after_keep hostOps0_8_writes h1 (after_keep hostOps0_7_writes h0 (rfl)))

/-- Any number of trips leave a buffer alone that the loop does not write. -/
theorem atK_keep {r : Ref sig .tc} (hr : r ∉ loop_W) (c : Dev nD) : ∀ k, atK m k c (Proc.devRef .tc r) = entryContents preI m c (Proc.devRef .tc r)
  | 0 => rfl
  | k + 1 => (loop_keep hr _).trans (atK_keep hr c k)

/-- After the last condition, too. -/
theorem end_keep {r : Ref sig .tc} (hr : r ∉ loop_W) (c : Dev nD) :
    after condOps (atK m 64 c) (Proc.devRef .tc r) = entryContents preI m c (Proc.devRef .tc r) := by
  have h : r ∉ condOps_W := fun h => hr (by simp only [loop_W, List.mem_append]; tauto)
  exact after_keep condOps_writes h (atK_keep m hr c 64)

/-- A buffer the program never writes ends as launched. -/
theorem final_keep {r : Ref sig .tc} (h1 : r ∉ pre_W) (h2 : r ∉ loop_W) (h3 : r ∉ post_W) (c : Dev nD) :
    finalContents condOps preI bodyI postI 64 m c (Proc.devRef .tc r) = m ((c.tc : Thread nD τ).loc r) :=
  (post_keep h3 _).trans ((end_keep m h2 c).trans (pre_keep h1 _))

variable (ρ : Dev nD → PrngReg)

/-- The run: the result is the fold's, and every argument ends as launched. -/
theorem run_kept : θ_run (defs (F := Ideal)) (onTc (τ := τ) (main (F := Ideal))) ⟨m, fun _ => 0, ρ⟩ (fun r => ∀ c : Dev nD,
    r.2.mem ((c.tc : Thread nD τ).loc main_v137) = finalContents condOps preI bodyI postI 64 m c (Proc.devRef .tc main_v137)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)
    ∧ r.2.mem ((c.tc : Thread nD τ).loc main_arg12) = m ((c.tc : Thread nD τ).loc main_arg12)) :=
  (θ_run defs _ _).mono (fun r h c => ⟨h c main_v137 (by decide +kernel),
    (h c main_arg0 (by decide +kernel)).trans (final_keep m (by decide +kernel) (by decide +kernel) (by decide +kernel) c),
    (h c main_arg1 (by decide +kernel)).trans (final_keep m (by decide +kernel) (by decide +kernel) (by decide +kernel) c),
    (h c main_arg2 (by decide +kernel)).trans (final_keep m (by decide +kernel) (by decide +kernel) (by decide +kernel) c),
    (h c main_arg3 (by decide +kernel)).trans (final_keep m (by decide +kernel) (by decide +kernel) (by decide +kernel) c),
    (h c main_arg4 (by decide +kernel)).trans (final_keep m (by decide +kernel) (by decide +kernel) (by decide +kernel) c),
    (h c main_arg5 (by decide +kernel)).trans (final_keep m (by decide +kernel) (by decide +kernel) (by decide +kernel) c),
    (h c main_arg6 (by decide +kernel)).trans (final_keep m (by decide +kernel) (by decide +kernel) (by decide +kernel) c),
    (h c main_arg7 (by decide +kernel)).trans (final_keep m (by decide +kernel) (by decide +kernel) (by decide +kernel) c),
    (h c main_arg8 (by decide +kernel)).trans (final_keep m (by decide +kernel) (by decide +kernel) (by decide +kernel) c),
    (h c main_arg9 (by decide +kernel)).trans (final_keep m (by decide +kernel) (by decide +kernel) (by decide +kernel) c),
    (h c main_arg10 (by decide +kernel)).trans (final_keep m (by decide +kernel) (by decide +kernel) (by decide +kernel) c),
    (h c main_arg11 (by decide +kernel)).trans (final_keep m (by decide +kernel) (by decide +kernel) (by decide +kernel) c),
    (h c main_arg12 (by decide +kernel)).trans (final_keep m (by decide +kernel) (by decide +kernel) (by decide +kernel) c)⟩) (run_fold m ρ)

end Cert.Ref

end
-- ==== Proof.RefStep.lean ====
/- One trip of the reference's loop over chunks: from what the carried buffers hold after `n` trips to what they hold
   after `n + 1`. The stabilised state is the plain one times the exponential of minus the stabiliser, whatever it is. -/
module

public import proofs.«01_k».proof.Proof.LiftR
public import proofs.«01_k».proof.Proof.LiftW
public import proofs.«01_k».proof.Proof.Spec
public import proofs.«01_k».proof.Proof.RefKeep

@[expose] public section

set_option maxRecDepth 16384

noncomputable section

namespace Cert.RStep

open Idealize.ShloMosaic Idealize.ShloMosaic.TcCoe Idealize.ShloMosaic.StableHlo
open Cert.ReferenceIdeal Cert.ReferenceIdeal.Gen Cert.ReferenceIdeal.Value
open Cert.Lift Cert.Mem Cert.Spec
open scoped BigOperators
open Finset (range)

/-- What the carried buffers hold after `n` trips. -/
structure Inv (A : Args) (V : Valuation τ Cert.ReferenceIdeal.sig (Elt Ideal)) (n : ℕ) (μ : (ℕ → ℕ) → ℝ) : Prop where
  h0 : V (Proc.devRef .tc main_v79_0) = (Lf (fun c => q A (c 1) (c 2) (64 * c 0 + c 3) (c 4)) : S64x8x4x64x128.Idx → EReal)
  h1 : V (Proc.devRef .tc main_v79_1) = (Lf (fun c => k A (c 1) (c 2) (64 * c 0 + c 3) (c 4)) : S64x8x4x64x128.Idx → EReal)
  h2 : V (Proc.devRef .tc main_v79_2) = (Lf (fun c => v A (c 1) (c 2) (64 * c 0 + c 3) (c 4)) : S64x8x4x64x128.Idx → EReal)
  h3 : V (Proc.devRef .tc main_v79_3) = (Lf (fun c => ig A (c 1) (c 2) (64 * c 0 + c 3)) : S64x8x4x64.Idx → EReal)
  h4 : V (Proc.devRef .tc main_v79_4) = (Lf (fun c => lf A (c 1) (c 2) (64 * c 0 + c 3)) : S64x8x4x64.Idx → EReal)
  h5 : V (Proc.devRef .tc main_v79_5) = (fun _ => BitVec.ofNat 32 n : S_.Idx → BitVec 32)
  h6 : V (Proc.devRef .tc main_v79_6) = (Lf (fun c => Real.exp (- μ (p2 (c 0) (c 1))) * S A (c 0) (c 1) (64 * n) (c 3) (c 2)) : S8x4x128x128.Idx → EReal)
  h7 : V (Proc.devRef .tc main_v79_7) = (Lf (fun c => Real.exp (- μ (p2 (c 0) (c 1))) * S A (c 0) (c 1) (64 * n) (c 2) 128) : S8x4x128.Idx → EReal)
  h8 : V (Proc.devRef .tc main_v79_8) = (Lf μ : S8x4.Idx → EReal)
  h9 : V (Proc.devRef .tc main_v79_9)
    = (Lf (fun c => if c 0 < n then att A (c 1) (c 2) (64 * c 0 + c 3) (c 4) else 0) : S64x8x4x64x128.Idx → EReal)

theorem st5 (x : S_.Idx → BitVec 32) (i : S_.Idx) (a : Fin 5) (ha : a ≠ 0) :
    ((![x, constantI S_ 32 0#32, constantI S_ 32 0#32, constantI S_ 32 0#32, constantI S_ 32 0#32] : Fin 5 → S_.Idx → BitVec 32) a i).toInt = 0 :=
  match a, ha with
  | 0, h => absurd rfl h
  | 1, _ => rfl
  | 2, _ => rfl
  | 3, _ => rfl
  | 4, _ => rfl
theorem st4 (x : S_.Idx → BitVec 32) (i : S_.Idx) (a : Fin 4) (ha : a ≠ 0) :
    ((![x, constantI S_ 32 0#32, constantI S_ 32 0#32, constantI S_ 32 0#32] : Fin 4 → S_.Idx → BitVec 32) a i).toInt = 0 :=
  match a, ha with
  | 0, h => absurd rfl h
  | 1, _ => rfl
  | 2, _ => rfl
  | 3, _ => rfl

/-- The chunk's block of a carried buffer. -/
theorem sl5 {n : ℕ} (hn : n < 64) (f : (ℕ → ℕ) → ℝ) :
    shapeCast S8x4x64x128 (Host.dynamicSlice S1x8x4x64x128 (Lf f : S64x8x4x64x128.Idx → EReal)
      (fun k => ((![fun _ => BitVec.ofNat 32 n, constantI S_ 32 0#32, constantI S_ 32 0#32, constantI S_ 32 0#32, constantI S_ 32 0#32] : Fin 5 → S_.Idx → BitVec 32) k
        (Shape.Idx.first h_S_)).toInt) sliceFits_S64x8x4x64x128_S1x8x4x64x128) shapeCasts_S1x8x4x64x128_S8x4x64x128 = Lf (fun c => f (p5 n (c 0) (c 1) (c 2) (c 3))) :=
  (congrArg (fun x => shapeCast S8x4x64x128 x shapeCasts_S1x8x4x64x128_S8x4x64x128) (dslice5 n hn _ rfl (st5 (fun _ => BitVec.ofNat 32 n) (Shape.Idx.first h_S_)) f _)).trans (cast_1abcd_abcd _ _)
@[inherit_doc sl5] theorem sl4 {n : ℕ} (hn : n < 64) (f : (ℕ → ℕ) → ℝ) :
    shapeCast S8x4x64 (Host.dynamicSlice S1x8x4x64 (Lf f : S64x8x4x64.Idx → EReal)
      (fun k => ((![fun _ => BitVec.ofNat 32 n, constantI S_ 32 0#32, constantI S_ 32 0#32, constantI S_ 32 0#32] : Fin 4 → S_.Idx → BitVec 32) k
        (Shape.Idx.first h_S_)).toInt) sliceFits_S64x8x4x64_S1x8x4x64) shapeCasts_S1x8x4x64_S8x4x64 = Lf (fun c => f (p4 n (c 0) (c 1) (c 2))) :=
  (congrArg (fun x => shapeCast S8x4x64 x shapeCasts_S1x8x4x64_S8x4x64) (dslice4 n hn _ rfl (st4 (fun _ => BitVec.ofNat 32 n) (Shape.Idx.first h_S_)) f _)).trans (cast_1abc_abc _ _)

/-- The forget gates' logarithms summed from the chunk's start. -/
def B (A : Args) (n b h r : ℕ) : ℝ := ∑ s ∈ range (r + 1), lf A b h (64 * n + s)
theorem hB (A : Args) (n b h s : ℕ) : B A n b h s = Fs (lf A b h) (64 * n + s + 1) - Fs (lf A b h) (64 * n) := by
  rw [show 64 * n + s + 1 = 64 * n + (s + 1) from rfl, Fs_add]
  unfold B
  ring
theorem v128 (A : Args) (b h t : ℕ) : v A b h t 128 = 1 := if_neg (lt_irrefl _)

section Trip

variable {A : Args} {V : Valuation τ Cert.ReferenceIdeal.sig (Elt Ideal)} {n : ℕ} {μ : (ℕ → ℕ) → ℝ} (H : Inv A V n μ) (hn : n < 64)

include H hn

theorem v138 : res_main_while0b_v138 V = (Lf (fun c => q A (c 0) (c 1) (64 * n + c 2) (c 3)) : S8x4x64x128.Idx → EReal) := by
  unfold res_main_while0b_v138
  rw [H.h0, H.h5]
  exact sl5 hn _
theorem v139 : res_main_while0b_v139 V = (Lf (fun c => k A (c 0) (c 1) (64 * n + c 2) (c 3)) : S8x4x64x128.Idx → EReal) := by
  unfold res_main_while0b_v139
  rw [H.h1, H.h5]
  exact sl5 hn _
theorem v140 : res_main_while0b_v140 V = (Lf (fun c => v A (c 0) (c 1) (64 * n + c 2) (c 3)) : S8x4x64x128.Idx → EReal) := by
  unfold res_main_while0b_v140
  rw [H.h2, H.h5]
  exact sl5 hn _
theorem v141 : res_main_while0b_v141 V = (Lf (fun c => ig A (c 0) (c 1) (64 * n + c 2)) : S8x4x64.Idx → EReal) := by
  unfold res_main_while0b_v141
  rw [H.h3, H.h5]
  exact sl4 hn _
theorem v143 : res_main_while0b_v143 V = (Lf (fun c => B A n (c 0) (c 1) (c 2)) : S8x4x64.Idx → EReal) := by
  unfold res_main_while0b_v143
  rw [H.h4, H.h5]
  refine (congrArg (fun x : S8x4x64.Idx → EReal => Host.reduceWindowAdd (F := Ideal) (φ := .f32) (t := S8x4x64) ![1, 1, 64] ![1, 1, 1] ![0, 0, 63] ![0, 0, 0] x
    (broadcastInDim S_ ![] bcast_S_S_ (constant (F := Ideal) S_ .f32 0x00000000#32)) reduceWindows_S8x4x64_S8x4x64_w1s1p0_0_w1s1p0_0_w64s1p63_0 h_S_) (sl4 hn _)).trans ?_
  exact cumsum_Lf _ _ (fun _ => c_zero.trans EReal.coe_zero) _ _
theorem v145 : res_main_while0b_v145 V = (Lf (fun c => B A n (c 0) (c 1) 63) : S8x4.Idx → EReal) := by
  unfold res_main_while0b_v145
  rw [v143 H hn, slice3_Lf, k4]
  refine congrArg Lf (funext fun c => ?_)
  simp only [p3_0, p3_1, p3_2, Nat.zero_add, Nat.add_zero]
theorem v156 : res_main_while0b_v156 V = (Lb (fun c => c 3 ≤ c 2)
    (fun c => B A n (c 0) (c 1) (c 2) - B A n (c 0) (c 1) (c 3) + ig A (c 0) (c 1) (64 * n + c 3)) : S8x4x64x64.Idx → EReal) := by
  unfold res_main_while0b_v156
  rw [v143 H hn, v141 H hn, tri_Lm, b23, b17, b18, b20, b21, b20, b21, subf_Lf, addf_Lf]
  exact hselect_Lb _ _ _
theorem v159 : res_main_while0b_v159 V = (Lf (fun c => B A n (c 0) (c 1) (c 2) + μ (p2 (c 0) (c 1))) : S8x4x64.Idx → EReal) := by
  unfold res_main_while0b_v159
  rw [v143 H hn, H.h8, b12, b13, addf_Lf]
  rfl
theorem v161 : ∃ M, res_main_while0b_v161 V = (Lf M : S8x4x64.Idx → EReal) := by
  unfold res_main_while0b_v161
  rw [v159 H hn, v156 H hn]
  obtain ⟨a, ha⟩ := exists_max3 (fun c => c 3 ≤ c 2) (fun _ _ _ => le_refl _)
    (fun c => B A n (c 0) (c 1) (c 2) - B A n (c 0) (c 1) (c 3) + ig A (c 0) (c 1) (64 * n + c 3)) reducesTo_S8x4x64x64_S8x4x64_d3 h_S_
  rw [ha]
  exact ⟨_, maximumf_Lf _ _⟩
theorem v190 : res_main_while0b_v190 V
    = (Lf (fun c => B A n (c 0) (c 1) 63 - B A n (c 0) (c 1) (c 2) + ig A (c 0) (c 1) (64 * n + c 2)) : S8x4x64.Idx → EReal) := by
  unfold res_main_while0b_v190
  rw [v143 H hn, v141 H hn, v145 H hn, b12, b13, subf_Lf, addf_Lf]
  rfl
theorem v193 : ∃ M, res_main_while0b_v193 V = (Lf M : S8x4.Idx → EReal) := by
  unfold res_main_while0b_v193
  rw [v145 H hn, v190 H hn, H.h8, addf_Lf]
  obtain ⟨a, ha⟩ := exists_max2 (fun c => B A n (c 0) (c 1) 63 - B A n (c 0) (c 1) (c 2) + ig A (c 0) (c 1) (64 * n + c 2)) reducesTo_S8x4x64_S8x4_d2 h_S_
  rw [ha]
  exact ⟨_, maximumf_Lf _ _⟩

section Row

variable {M : (ℕ → ℕ) → ℝ} (hM : res_main_while0b_v161 V = (Lf M : S8x4x64.Idx → EReal))

include hM

theorem v167 : res_main_while0b_v167 V = (Lf (fun c => (∑ d ∈ range 128, q A (c 0) (c 1) (64 * n + c 2) d * k A (c 0) (c 1) (64 * n + c 3) d)
    * (if c 3 ≤ c 2 then Real.exp (B A n (c 0) (c 1) (c 2) - B A n (c 0) (c 1) (c 3) + ig A (c 0) (c 1) (64 * n + c 3) - M (p3 (c 0) (c 1) (c 2))) else 0))
      : S8x4x64x64.Idx → EReal) := by
  unfold res_main_while0b_v167
  rw [v138 H hn, v139 H hn, v156 H hn, hM, d2, b17, b18, subf_Lb, hexp_Lb, mulf_Lf]
  rfl
theorem v169 : res_main_while0b_v169 V = (Lf (fun c => Real.exp (B A n (c 0) (c 1) (c 2) + μ (p2 (c 0) (c 1)) - M c)) : S8x4x64.Idx → EReal) := by
  unfold res_main_while0b_v169
  rw [v159 H hn, hM, subf_Lf, hexp_Lf]

/-- The numerator, the divisor and the quotient of the chunk's rows. -/
theorem num : addf (F := Ideal) (φ := .f32) (Host.dotGeneral (φ₁ := .f32) (φ₂ := .f32) dot_S8x4x64x64_S8x4x64x128_S8x4x64x128_3_2_2_3_01_01 none (res_main_while0b_v167 V) (res_main_while0b_v140 V))
      (mulf (broadcastInDim S8x4x64x128 ![0, 1, 2, 3] bcast_S8x4x64x1_S8x4x64x128_0_1_2_3 (broadcastInDim S8x4x64x1 ![0, 1, 2] bcast_S8x4x64_S8x4x64x1_0_1_2 (res_main_while0b_v169 V)))
        (Host.dotGeneral (φ₁ := .f32) (φ₂ := .f32) dot_S8x4x64x128_S8x4x128x128_S8x4x64x128_3_3_2_2_01_01 none (res_main_while0b_v138 V) (V (Proc.devRef .tc main_v79_6))))
    = (Lf (fun c => Real.exp (- M (p3 (c 0) (c 1) (c 2))) * rd A (c 0) (c 1) (64 * n + c 2) (c 3)) : S8x4x64x128.Idx → EReal) := by
  rw [v167 H hn hM, v169 H hn hM, v138 H hn, v140 H hn, H.h6, b17, b19, d3, d4, mulf_Lf, addf_Lf]
  refine Lf_ext4 fun b hb h hh r hr j hj => ?_
  refine Eq.trans ?_ (row_b (lf A b h) (ig A b h) (k A b h) (v A b h) (B A n b h) (64 * n) (hB A n b h) 64 r j hr (q A b h (64 * n + r)) (μ (p2 b h)) (M (p3 b h r)))
  refine congrArg₂ (· + ·) rfl (congrArg₂ (· * ·) rfl (Finset.sum_congr rfl fun d _ => mul_comm _ _))
theorem den : addf (F := Ideal) (φ := .f32) (Host.reduceAdd (res_main_while0b_v167 V) (constant S_ .f32 0x00000000#32) reducesTo_S8x4x64x64_S8x4x64_d3 h_S_)
      (mulf (res_main_while0b_v169 V) (Host.dotGeneral (φ₁ := .f32) (φ₂ := .f32) dot_S8x4x128_S8x4x64x128_S8x4x64_2_3_n_2_01_01 none (V (Proc.devRef .tc main_v79_7)) (res_main_while0b_v138 V)))
    = (Lf (fun c => Real.exp (- M c) * rd A (c 0) (c 1) (64 * n + c 2) 128) : S8x4x64.Idx → EReal) := by
  rw [v167 H hn hM, v169 H hn hM, v138 H hn, H.h7, r2, d5, mulf_Lf, addf_Lf]
  refine Lf_ext3 fun b hb h hh r hr => ?_
  refine Eq.trans ?_ (row_b (lf A b h) (ig A b h) (k A b h) (v A b h) (B A n b h) (64 * n) (hB A n b h) 64 r 128 hr (q A b h (64 * n + r)) (μ (p2 b h)) (M (p3 b h r)))
  refine congrArg₂ (· + ·) (Finset.sum_congr rfl fun s _ => ?_) rfl
  rw [v128, mul_one]
  rfl

end Row

theorem s9 : step_main_v79_9 V
    = (Lf (fun c => if c 0 < n + 1 then att A (c 1) (c 2) (64 * c 0 + c 3) (c 4) else 0) : S64x8x4x64x128.Idx → EReal) := by
  obtain ⟨M, hM⟩ := v161 H hn
  unfold step_main_v79_9
  rw [num H hn hM, den H hn hM, hM, H.h9, H.h5, habsf_Lf, hnegf_Lf, hexp_Lf, maximumf_Lf, b17, b19,
    hdivf_Lf _ _ (fun i => ne_of_gt (lt_max_of_lt_right (Real.exp_pos _))), b22]
  refine (dupdate n hn _ rfl (fun a ha => st5 (fun _ => BitVec.ofNat 32 n) (Shape.Idx.first h_S_) a ha) _ _ _).trans ?_
  refine congrArg Lf (funext fun c => ?_)
  by_cases h : c 0 = n
  · rw [if_pos h, if_pos (by omega), h]
    exact quot (M (p3 (c 1) (c 2) (c 3))) (rd A (c 1) (c 2) (64 * n + c 3) (c 4)) (rd A (c 1) (c 2) (64 * n + c 3) 128)
  · rw [if_neg h]
    by_cases h2 : c 0 < n
    · rw [if_pos h2, if_pos (by omega)]
    · rw [if_neg h2, if_neg (by omega)]

section Next

variable {M : (ℕ → ℕ) → ℝ} (hM : res_main_while0b_v193 V = (Lf M : S8x4.Idx → EReal))

include hM

theorem v197 : res_main_while0b_v197 V = (Lf (fun c => Real.exp (B A n (c 0) (c 1) 63 - B A n (c 0) (c 1) (c 2) + ig A (c 0) (c 1) (64 * n + c 2)
    - M (p2 (c 0) (c 1)))) : S8x4x64.Idx → EReal) := by
  unfold res_main_while0b_v197
  rw [v190 H hn, hM, b12, b13, subf_Lf, hexp_Lf]
  rfl
theorem v200 : res_main_while0b_v200 V = (Lf (fun c => Real.exp (B A n (c 0) (c 1) 63 + μ c - M c)) : S8x4.Idx → EReal) := by
  unfold res_main_while0b_v200
  rw [v145 H hn, H.h8, hM, addf_Lf, subf_Lf, hexp_Lf]
theorem s6 : step_main_v79_6 V
    = (Lf (fun c => Real.exp (- M (p2 (c 0) (c 1))) * S A (c 0) (c 1) (64 * (n + 1)) (c 3) (c 2)) : S8x4x128x128.Idx → EReal) := by
  unfold step_main_v79_6
  rw [v200 H hn hM, v197 H hn hM, v139 H hn, v140 H hn, H.h6, b15, b16, b17, b19, mulf_Lf, mulf_Lf, d6, addf_Lf]
  refine congrArg Lf (funext fun c => ?_)
  exact next_b (lf A (c 0) (c 1)) (ig A (c 0) (c 1)) (k A (c 0) (c 1)) (v A (c 0) (c 1)) (B A n (c 0) (c 1)) (64 * n) (hB A n (c 0) (c 1)) 63 (c 3) (c 2)
    (μ (p2 (c 0) (c 1))) (M (p2 (c 0) (c 1)))
theorem s7 : step_main_v79_7 V
    = (Lf (fun c => Real.exp (- M (p2 (c 0) (c 1))) * S A (c 0) (c 1) (64 * (n + 1)) (c 2) 128) : S8x4x128.Idx → EReal) := by
  unfold step_main_v79_7
  rw [v200 H hn hM, v197 H hn hM, v139 H hn, H.h7, b12, b14, mulf_Lf, d7, addf_Lf]
  refine congrArg Lf (funext fun c => ?_)
  refine Eq.trans ?_ (next_b (lf A (c 0) (c 1)) (ig A (c 0) (c 1)) (k A (c 0) (c 1)) (v A (c 0) (c 1)) (B A n (c 0) (c 1)) (64 * n) (hB A n (c 0) (c 1)) 63 (c 2) 128
    (μ (p2 (c 0) (c 1))) (M (p2 (c 0) (c 1))))
  refine congrArg₂ (· + ·) rfl (Finset.sum_congr rfl fun s _ => ?_)
  rw [v128, mul_one]
  rfl

end Next

/-- The trip keeps the invariant. -/
theorem Inv.next : ∃ M, Inv A (STEP V) (n + 1) M := by
  obtain ⟨M, hM⟩ := v193 H hn
  exact ⟨M, {
    h0 := (STEP_main_v79_0 V).trans H.h0
    h1 := (STEP_main_v79_1 V).trans H.h1
    h2 := (STEP_main_v79_2 V).trans H.h2
    h3 := (STEP_main_v79_3 V).trans H.h3
    h4 := (STEP_main_v79_4 V).trans H.h4
    h5 := (STEP_main_v79_5 V).trans (by
      unfold step_main_v79_5
      rw [H.h5]
      funext i
      show BitVec.ofNat 32 n + 1#32 = BitVec.ofNat 32 (n + 1)
      rw [BitVec.ofNat_add])
    h6 := (STEP_main_v79_6 V).trans (s6 H hn hM)
    h7 := (STEP_main_v79_7 V).trans (s7 H hn hM)
    h8 := (STEP_main_v79_8 V).trans hM
    h9 := (STEP_main_v79_9 V).trans (s9 H hn) }⟩

end Trip

/-- All the trips. -/
theorem Inv.iter {A : Args} {V : Valuation τ Cert.ReferenceIdeal.sig (Elt Ideal)} {μ : (ℕ → ℕ) → ℝ} (H : Inv A V 0 μ) :
    ∀ n, n ≤ 64 → ∃ M, Inv A (STEP^[n] V) n M
  | 0, _ => ⟨μ, H⟩
  | n + 1, h => by
    obtain ⟨M, hM⟩ := Inv.iter H n (by omega)
    rw [Function.iterate_succ_apply']
    exact hM.next (by omega)

end Cert.RStep

end
-- ==== Proof.RefPre.lean ====
/- What the reference's stretches before its loop leave: the projections, the convolution, the gates, and the buffers the
   loop carries. -/
module

public import proofs.«01_k».proof.Proof.RefStep
public import Idealize.ShloMosaic.Lib.StableHlo.RunRead

@[expose] public section

set_option maxRecDepth 16384

noncomputable section

namespace Cert.RPre

open Idealize.ShloMosaic Idealize.ShloMosaic.TcCoe Idealize.ShloMosaic.StableHlo
open Cert.ReferenceIdeal Cert.ReferenceIdeal.Gen Cert.ReferenceIdeal.Value
open Cert.Lift Cert.Mem Cert.Spec Cert.Ref
open scoped BigOperators
open Finset (range)

/-! ## Values of expressions -/

theorem pos1 (y : ℝ) : (1 : ℝ) + Real.exp (-y) ≠ 0 := ne_of_gt (by have := Real.exp_pos (-y); linarith)

/-- The logistic function as the reference writes it, and silu. -/
theorem sig_Lf {t : Shape} (d1 d2) (h1 : S_.BroadcastsInDim t d1) (h2 : S_.BroadcastsInDim t d2) (f : (ℕ → ℕ) → ℝ) :
    Host.divf (F := Ideal) (φ := .f32) (broadcastInDim t d1 h1 (constant (F := Ideal) S_ .f32 0x3F800000#32))
      (addf (broadcastInDim t d2 h2 (constant (F := Ideal) S_ .f32 0x3F800000#32)) (Host.exp (Host.negf (Lf f : t.Idx → EReal)))) = Lf (fun c => Spec.sig (f c)) := by
  rw [hb_one, hb_one, hnegf_Lf, hexp_Lf, addf_Lf, hdivf_Lf _ _ (fun i => pos1 _)]
  rfl
theorem silu_Lf {t : Shape} (d1 d2) (h1 : S_.BroadcastsInDim t d1) (h2 : S_.BroadcastsInDim t d2) (f : (ℕ → ℕ) → ℝ) :
    mulf (F := Ideal) (φ := .f32) (Lf f : t.Idx → EReal) (Host.divf (F := Ideal) (φ := .f32) (broadcastInDim t d1 h1 (constant (F := Ideal) S_ .f32 0x3F800000#32))
      (addf (broadcastInDim t d2 h2 (constant (F := Ideal) S_ .f32 0x3F800000#32)) (Host.exp (Host.negf (Lf f : t.Idx → EReal))))) = Lf (fun c => silu (f c)) := by
  rw [sig_Lf, mulf_Lf]
  rfl

/-- The logarithm of the logistic function. -/
theorem lsg_eq (y : ℝ) : -(max (-y) 0 + Real.log (1 + Real.exp (-|(-y) - 0|))) = lsg y := by
  unfold lsg
  rw [sub_zero, abs_neg]
  have : max (-y) 0 = - min y 0 := by rw [← max_neg_neg, neg_zero]
  rw [this]; ring
theorem lsg_Lf {t : Shape} (d1 d2 d3) (h1 : S_.BroadcastsInDim t d1) (h2 : S_.BroadcastsInDim t d2) (h3 : S_.BroadcastsInDim t d3) (f : (ℕ → ℕ) → ℝ) :
    Host.negf (F := Ideal) (φ := .f32) (select
      (cmpf (F := Ideal) (φ := .f32) .une (subf (Host.negf (Lf f : t.Idx → EReal)) (broadcastInDim t d2 h2 (constant (F := Ideal) S_ .f32 0x00000000#32)))
        (subf (Host.negf (Lf f : t.Idx → EReal)) (broadcastInDim t d2 h2 (constant (F := Ideal) S_ .f32 0x00000000#32))))
      (addf (F := Ideal) (φ := .f32) (Host.negf (Lf f : t.Idx → EReal)) (broadcastInDim t d3 h3 (constant (F := Ideal) S_ .f32 0x00000000#32)))
      (addf (F := Ideal) (φ := .f32) (maximumf (Host.negf (Lf f : t.Idx → EReal)) (broadcastInDim t d1 h1 (constant (F := Ideal) S_ .f32 0x00000000#32)))
        (Host.log1p (Host.exp (Host.negf (Host.absf (subf (Host.negf (Lf f : t.Idx → EReal)) (broadcastInDim t d2 h2 (constant (F := Ideal) S_ .f32 0x00000000#32)))))))))
      = Lf (fun c => lsg (f c)) := by
  rw [hb_zero, hb_zero, hb_zero, hnegf_Lf, subf_Lf, addf_Lf, maximumf_Lf, habsf_Lf, hnegf_Lf, hexp_Lf,
    hlog1p_Lf _ (fun i => by have := Real.exp_pos (-|(-f (cr i)) - 0|); linarith), addf_Lf, une_Lf, hnegf_Lf]
  exact congrArg Lf (funext fun c => lsg_eq (f c))

/-- A column block of the projection. -/
theorem proj (A : Args) (w o o' : ℕ) (ho : 1664 + o = o') (h) :
    extractStridedSlice (⟨3, ![8, 4096, w]⟩ : Shape) ![0, 0, o] (extractStridedSlice S8x4096x3080 ![0, 0, 1664]
      (Host.dotGeneral (F := Ideal) (φ₁ := .f32) (φ₂ := .f32) dot_S8x4096x1024_S1024x4744_S8x4096x4744_2_0_01_1_n_n none
        (extf (F := Ideal) (φ := .bf16) .f32 (Lf A.hn : S8x4096x1024.Idx → EReal) bitsLt_bf16_f32)
        (shapeCast S1024x4744 (Lf A.win : S1x1024x4744.Idx → EReal) shapeCasts_S1x1024x4744_S1024x4744)) slices_S8x4096x4744_S8x4096x3080_0_0_1664) h
      = Lf (fun c => P A (c 0) (c 1) (o' + c 2)) := by
  rw [extf_Lf, cast_1ab_ab, d0, slice3_Lf, slice3_Lf]
  refine congrArg Lf (funext fun c => ?_)
  subst ho
  simp only [p3_0, p3_1, p3_2, p2_0, p2_1, Nat.zero_add, ← Nat.add_assoc]
  rfl

/-- One tap of the convolution. -/
theorem tap (A : Args) (i : ℕ) (hi : i ≤ 3) (h1) (h2) :
    mulf (F := Ideal) (φ := .f32) (broadcastInDim S8x4096x1024 ![0, 1, 2] bcast_S1x1x1024_S8x4096x1024_0_1_2 (broadcastInDim S1x1x1024 ![2] bcast_S1024_S1x1x1024_2
        (shapeCast S1024 (extractStridedSlice S1x1024 ![i, 0] (Lf (fun c => A.cw (p3 0 (c 0) (c 1))) : S4x1024.Idx → EReal) h1) shapeCasts_S1x1024_S1024)))
      (extractStridedSlice S8x4096x1024 ![0, i, 0] (Lf (fun c => if c 1 < 3 then 0 else P A (c 0) (c 1 - 3) (2176 + c 2)) : S8x4099x1024.Idx → EReal) h2)
      = Lf (fun c => A.cw (p3 0 i (c 2)) * up A (c 0) (3 - i) (c 1) (c 2)) := by
  rw [slice2_Lf, slice3_Lf, cast_1a_a, b0, b1, mulf_Lf]
  refine congrArg Lf (funext fun c => ?_)
  simp only [p3_0, p3_1, p3_2, p2_0, p2_1, p1_0, Nat.zero_add, Nat.add_zero]
  unfold up
  congr 1
  by_cases h : i + c 1 < 3
  · rw [if_pos h, if_pos (by omega)]
  · rw [if_neg h, if_neg (by omega)]
    congr 1
    omega

/-! ## The stretches -/

variable (A : Args) (V : Valuation τ Cert.ReferenceIdeal.sig (Elt Ideal))

section Zero

variable (h0 : V (Proc.devRef .tc main_arg0) = (Lf A.hn : S8x4096x1024.Idx → EReal)) (h1 : V (Proc.devRef .tc main_arg1) = (Lf A.win : S1x1024x4744.Idx → EReal))

theorem z2 (h : V (Proc.devRef .tc main_arg3) = (Lf A.ada : S8x3072.Idx → EReal)) :
    after hostOps0 V (Proc.devRef .tc main_v2) = (Lf (fun c => A.ada (p2 (c 0) (2048 + c 1))) : S8x1024.Idx → EReal) := by
  after_reads_simp
  rw [h]
  refine (slice2_Lf _ _ _ _).trans (congrArg Lf (funext fun c => ?_))
  rw [Nat.zero_add]
theorem z15 (h : V (Proc.devRef .tc main_arg7) = (Lf A.cw : S1x4x1024.Idx → EReal)) :
    after hostOps0 V (Proc.devRef .tc main_v15) = (Lf (fun c => A.cw (p3 0 (c 0) (c 1))) : S4x1024.Idx → EReal) := by
  after_reads_simp
  rw [h]
  exact cast_1ab_ab _ _
theorem z16 (h : V (Proc.devRef .tc main_arg8) = (Lf A.cb : S1x1024.Idx → EReal)) :
    after hostOps0 V (Proc.devRef .tc main_v16) = (Lf (fun c => A.cb (p2 0 (c 0))) : S1024.Idx → EReal) := by
  after_reads_simp
  rw [h]
  exact cast_1a_a _ _
theorem z17 (h : V (Proc.devRef .tc main_arg9) = (Lf A.bi : S1x4.Idx → EReal)) :
    after hostOps0 V (Proc.devRef .tc main_v17) = (Lf (fun c => A.bi (p2 0 (c 0))) : S4.Idx → EReal) := by
  after_reads_simp
  rw [h]
  exact cast_1a_a _ _
theorem z18 (h : V (Proc.devRef .tc main_arg10) = (Lf A.bf : S1x4.Idx → EReal)) :
    after hostOps0 V (Proc.devRef .tc main_v18) = (Lf (fun c => A.bf (p2 0 (c 0))) : S4.Idx → EReal) := by
  after_reads_simp
  rw [h]
  exact cast_1a_a _ _
theorem z19 (h : V (Proc.devRef .tc main_arg11) = (Lf A.lw : S1x512.Idx → EReal)) :
    after hostOps0 V (Proc.devRef .tc main_v19) = (Lf (fun c => A.lw (p2 0 (c 0))) : S512.Idx → EReal) := by
  after_reads_simp
  rw [h]
  exact cast_1a_a _ _
theorem z20 (h : V (Proc.devRef .tc main_arg12) = (Lf A.sk : S1x512.Idx → EReal)) :
    after hostOps0 V (Proc.devRef .tc main_v20) = (Lf (fun c => A.sk (p2 0 (c 0))) : S512.Idx → EReal) := by
  after_reads_simp
  rw [h]
  exact cast_1a_a _ _

include h0 h1

theorem z10 : after hostOps0 V (Proc.devRef .tc main_v10) = (Lf (fun c => P A (c 0) (c 1) (3200 + c 2)) : S8x4096x512.Idx → EReal) := by
  after_reads_simp
  rw [h0, h1]
  exact proj A 512 1536 3200 rfl _
theorem z11 : after hostOps0 V (Proc.devRef .tc main_v11) = (Lf (fun c => P A (c 0) (c 1) (3712 + c 2)) : S8x4096x512.Idx → EReal) := by
  after_reads_simp
  rw [h0, h1]
  exact proj A 512 2048 3712 rfl _
theorem z12 : after hostOps0 V (Proc.devRef .tc main_v12) = (Lf (fun c => P A (c 0) (c 1) (4224 + c 2)) : S8x4096x4.Idx → EReal) := by
  after_reads_simp
  rw [h0, h1]
  exact proj A 4 2560 4224 rfl _
theorem z13 : after hostOps0 V (Proc.devRef .tc main_v13) = (Lf (fun c => P A (c 0) (c 1) (4228 + c 2)) : S8x4096x4.Idx → EReal) := by
  after_reads_simp
  rw [h0, h1]
  exact proj A 4 2564 4228 rfl _
theorem z14 : after hostOps0 V (Proc.devRef .tc main_v14) = (Lf (fun c => P A (c 0) (c 1) (4232 + c 2)) : S8x4096x512.Idx → EReal) := by
  after_reads_simp
  rw [h0, h1]
  exact proj A 512 2568 4232 rfl _
theorem z21 : after hostOps0 V (Proc.devRef .tc main_v21) = (Lf (fun c => P A (c 0) (c 1) (2176 + c 2)) : S8x4096x1024.Idx → EReal) := by
  have e8 : upto hostOps0 V 21 (Proc.devRef .tc main_v8) = (Lf (fun c => P A (c 0) (c 1) (2176 + c 2)) : S8x4096x512.Idx → EReal) := by
    after_reads_simp
    rw [h0, h1]
    exact proj A 512 512 2176 rfl _
  have e9 : upto hostOps0 V 21 (Proc.devRef .tc main_v9) = (Lf (fun c => P A (c 0) (c 1) (2688 + c 2)) : S8x4096x512.Idx → EReal) := by
    after_reads_simp
    rw [h0, h1]
    exact proj A 512 1024 2688 rfl _
  after_reads_simp
  refine (congrArg₂ (fun a b : S8x4096x512.Idx → EReal => concatenate S8x4096x1024 2 [⟨S8x4096x512, a⟩, ⟨S8x4096x512, b⟩] concatenates_S8x4096x512_S8x4096x512_S8x4096x1024_d2)
    e8 e9).trans ((concat3_2 _ _ _).trans (Lf_ext3 fun a _ b _ j hj => ?_))
  simp only [p3_0, p3_1, p3_2]
  by_cases h : j < 512
  · exact if_pos h
  · have e : 2688 + (j - 512) = 2176 + j := by omega
    exact (if_neg h).trans (congrArg (P A a b) e)

end Zero

theorem zc : after hostOps0 V (Proc.devRef .tc main_c) = (constantI S_ 32 0#32 : S_.Idx → BitVec 32) := by
  after_reads_simp
theorem z22 (h : V (Proc.devRef .tc main_v21) = (Lf (fun c => P A (c 0) (c 1) (2176 + c 2)) : S8x4096x1024.Idx → EReal))
    (hc : V (Proc.devRef .tc main_c) = (constantI S_ 32 0#32 : S_.Idx → BitVec 32)) :
    after hostOps0_1 V (Proc.devRef .tc main_v22) = (Lf (fun c => if c 1 < 3 then 0 else P A (c 0) (c 1 - 3) (2176 + c 2)) : S8x4099x1024.Idx → EReal) := by
  after_reads_simp
  simp only [TRef.ofBuf_toBuf]
  rw [h, hc]
  refine pad_Lf (fun c => P A (c 0) (c 1) (2176 + c 2)) _ (fun i => ?_) pads_S8x4096x1024_S8x4099x1024_000_300_000 h_S_
  show (((0#32 : BitVec 32).toInt : ℝ) : EReal) = 0
  simp
theorem z52 (h15 : V (Proc.devRef .tc main_v15) = (Lf (fun c => A.cw (p3 0 (c 0) (c 1))) : S4x1024.Idx → EReal))
    (h16 : V (Proc.devRef .tc main_v16) = (Lf (fun c => A.cb (p2 0 (c 0))) : S1024.Idx → EReal))
    (h22 : V (Proc.devRef .tc main_v22) = (Lf (fun c => if c 1 < 3 then 0 else P A (c 0) (c 1 - 3) (2176 + c 2)) : S8x4099x1024.Idx → EReal)) :
    after hostOps0_2 V (Proc.devRef .tc main_v52) = (Lf (fun c => A.cb (p2 0 (c 2)) + A.cw (p3 0 0 (c 2)) * up A (c 0) 3 (c 1) (c 2)
      + A.cw (p3 0 1 (c 2)) * up A (c 0) 2 (c 1) (c 2) + A.cw (p3 0 2 (c 2)) * up A (c 0) 1 (c 1) (c 2)
      + A.cw (p3 0 3 (c 2)) * up A (c 0) 0 (c 1) (c 2)) : S8x4096x1024.Idx → EReal) := by
  after_reads_simp
  rw [h15, h16, h22]
  rw [b0, b1]
  have e (x0 x1 x2 x3 y0 y1 y2 y3 b y : S8x4096x1024.Idx → EReal) (e0 : x0 = y0) (e1 : x1 = y1) (e2 : x2 = y2) (e3 : x3 = y3)
      (H : addf (F := Ideal) (φ := .f32) (addf (F := Ideal) (φ := .f32) (addf (F := Ideal) (φ := .f32) (addf (F := Ideal) (φ := .f32) b y0) y1) y2) y3 = y) :
      addf (F := Ideal) (φ := .f32) (addf (F := Ideal) (φ := .f32) (addf (F := Ideal) (φ := .f32) (addf (F := Ideal) (φ := .f32) b x0) x1) x2) x3 = y := by
    subst e0 e1 e2 e3; exact H
  refine e _ _ _ _ _ _ _ _ _ _ (tap A 0 (by omega) _ _) (tap A 1 (by omega) _ _) (tap A 2 (by omega) _ _) (tap A 3 (by omega) _ _) ?_
  rw [addf_Lf, addf_Lf, addf_Lf, addf_Lf]
  rfl
theorem z53 (f : (ℕ → ℕ) → ℝ) (h : V (Proc.devRef .tc main_v52) = (Lf f : S8x4096x1024.Idx → EReal)) :
    after hostOps0_3 V (Proc.devRef .tc main_v53) = (Lf (fun c => silu (f c)) : S8x4096x1024.Idx → EReal) := by
  after_reads_simp
  simp only [TRef.ofBuf_toBuf]
  rw [h]
  exact silu_Lf _ _ bcast_S_S8x4096x1024 bcast_S_S8x4096x1024 f
theorem z54 (h : V (Proc.devRef .tc main_v53) = (Lf (fun c => qk A (c 0) (c 1) (c 2)) : S8x4096x1024.Idx → EReal)) :
    after hostOps0_4 V (Proc.devRef .tc main_v54) = (Lf (fun c => qk A (c 0) (c 1) (c 2)) : S8x4096x512.Idx → EReal) := by
  after_reads_simp
  rw [h]
  refine (slice3_Lf _ _ _ _ _).trans (congrArg Lf (funext fun c => ?_))
  simp only [p3_0, p3_1, p3_2, Nat.zero_add]
theorem z55 (h : V (Proc.devRef .tc main_v53) = (Lf (fun c => qk A (c 0) (c 1) (c 2)) : S8x4096x1024.Idx → EReal)) :
    after hostOps0_4 V (Proc.devRef .tc main_v55) = (Lf (fun c => qk A (c 0) (c 1) (512 + c 2)) : S8x4096x512.Idx → EReal) := by
  after_reads_simp
  rw [h]
  refine (slice3_Lf _ _ _ _ _).trans (congrArg Lf (funext fun c => ?_))
  simp only [p3_0, p3_1, p3_2, Nat.zero_add]
theorem z58 (h : V (Proc.devRef .tc main_v12) = (Lf (fun c => P A (c 0) (c 1) (4224 + c 2)) : S8x4096x4.Idx → EReal))
    (h' : V (Proc.devRef .tc main_v17) = (Lf (fun c => A.bi (p2 0 (c 0))) : S4.Idx → EReal)) :
    after hostOps0_4 V (Proc.devRef .tc main_v58) = (Lf (fun c => ig A (c 0) (c 2) (c 1)) : S8x4096x4.Idx → EReal) := by
  after_reads_simp
  rw [h, h', b2, b3, addf_Lf]
  rfl
theorem z61 (h : V (Proc.devRef .tc main_v13) = (Lf (fun c => P A (c 0) (c 1) (4228 + c 2)) : S8x4096x4.Idx → EReal))
    (h' : V (Proc.devRef .tc main_v18) = (Lf (fun c => A.bf (p2 0 (c 0))) : S4.Idx → EReal)) :
    after hostOps0_4 V (Proc.devRef .tc main_v61) = (Lf (fun c => P A (c 0) (c 1) (4228 + c 2) + A.bf (p2 0 (c 2))) : S8x4096x4.Idx → EReal) := by
  after_reads_simp
  rw [h, h', b2, b3, addf_Lf]
  rfl
theorem z62 (f : (ℕ → ℕ) → ℝ) (h : V (Proc.devRef .tc main_v61) = (Lf f : S8x4096x4.Idx → EReal)) :
    after hostOps0_5 V (Proc.devRef .tc main_v62) = (Lf (fun c => lsg (f c)) : S8x4096x4.Idx → EReal) := by
  after_reads_simp
  simp only [TRef.ofBuf_toBuf]
  rw [h]
  exact lsg_Lf _ _ _ _ _ _ f

section Six

theorem y0 (h : V (Proc.devRef .tc main_v54) = (Lf (fun c => qk A (c 0) (c 1) (c 2)) : S8x4096x512.Idx → EReal)) :
    after hostOps0_6 V (Proc.devRef .tc main_v79_0) = (Lf (fun c => q A (c 1) (c 2) (64 * c 0 + c 3) (c 4)) : S64x8x4x64x128.Idx → EReal) := by
  after_reads_simp
  rw [h]
  exact (congrArg (fun x => transpose S64x8x4x64x128 [1, 0, 3, 2, 4] x transposes_S8x64x64x4x128_S64x8x4x64x128_1_0_3_2_4) (k0 _ _)).trans (t0 _ _)
theorem y1 (h : V (Proc.devRef .tc main_v55) = (Lf (fun c => qk A (c 0) (c 1) (512 + c 2)) : S8x4096x512.Idx → EReal)) :
    after hostOps0_6 V (Proc.devRef .tc main_v79_1) = (Lf (fun c => k A (c 1) (c 2) (64 * c 0 + c 3) (c 4)) : S64x8x4x64x128.Idx → EReal) := by
  after_reads_simp
  rw [h]
  exact (congrArg₂ (fun x y : S64x8x4x64x128.Idx → EReal => mulf (F := Ideal) (φ := .f32) x y)
    ((congrArg (fun x => transpose S64x8x4x64x128 [1, 0, 3, 2, 4] x transposes_S8x64x64x4x128_S64x8x4x64x128_1_0_3_2_4) (k0 _ _)).trans (t0 _ _)) (hb_ksc _)).trans (mulf_Lf _ _)
theorem y2 (h : V (Proc.devRef .tc main_v10) = (Lf (fun c => P A (c 0) (c 1) (3200 + c 2)) : S8x4096x512.Idx → EReal)) :
    after hostOps0_6 V (Proc.devRef .tc main_v79_2) = (Lf (fun c => v A (c 1) (c 2) (64 * c 0 + c 3) (c 4)) : S64x8x4x64x128.Idx → EReal) := by
  after_reads_simp
  rw [h]
  refine ((congrArg (fun x => transpose S64x8x4x64x128 [1, 0, 3, 2, 4] x transposes_S8x64x64x4x128_S64x8x4x64x128_1_0_3_2_4) (k0 _ _)).trans (t0 _ _)).trans
    (Lf_ext fun i => ?_)
  rw [cr5]
  exact (if_pos (show (i 4).val < 128 from (i 4).isLt)).symm
theorem y3 (h : V (Proc.devRef .tc main_v58) = (Lf (fun c => ig A (c 0) (c 2) (c 1)) : S8x4096x4.Idx → EReal)) :
    after hostOps0_6 V (Proc.devRef .tc main_v79_3) = (Lf (fun c => ig A (c 1) (c 2) (64 * c 0 + c 3)) : S64x8x4x64.Idx → EReal) := by
  after_reads_simp
  rw [h]
  exact (congrArg (fun x => transpose S64x8x4x64 [1, 0, 3, 2] x transposes_S8x64x64x4_S64x8x4x64_1_0_3_2) (k1 _ _)).trans (t1 _ _)
theorem y4 (h : V (Proc.devRef .tc main_v62) = (Lf (fun c => lf A (c 0) (c 2) (c 1)) : S8x4096x4.Idx → EReal)) :
    after hostOps0_6 V (Proc.devRef .tc main_v79_4) = (Lf (fun c => lf A (c 1) (c 2) (64 * c 0 + c 3)) : S64x8x4x64.Idx → EReal) := by
  after_reads_simp
  rw [h]
  exact (congrArg (fun x => transpose S64x8x4x64 [1, 0, 3, 2] x transposes_S8x64x64x4_S64x8x4x64_1_0_3_2) (k1 _ _)).trans (t1 _ _)
theorem y5 : after hostOps0_6 V (Proc.devRef .tc main_v79_5) = (fun _ => BitVec.ofNat 32 0 : S_.Idx → BitVec 32) := by
  after_reads_simp
  rfl
theorem y6 : after hostOps0_6 V (Proc.devRef .tc main_v79_6) = (Lf (fun _ => 0) : S8x4x128x128.Idx → EReal) := by
  after_reads_simp
  exact hb_zero _
theorem y7 : after hostOps0_6 V (Proc.devRef .tc main_v79_7) = (Lf (fun _ => 0) : S8x4x128.Idx → EReal) := by
  after_reads_simp
  exact hb_zero _
theorem y8 : after hostOps0_6 V (Proc.devRef .tc main_v79_8) = (Lf (fun _ => 0) : S8x4.Idx → EReal) := by
  after_reads_simp
  exact hb_zero _
theorem y9 : after hostOps0_6 V (Proc.devRef .tc main_v79_9) = (Lf (fun _ => 0) : S64x8x4x64x128.Idx → EReal) := by
  after_reads_simp
  exact hb_zero _

end Six

/-! ## All of them -/

/-- What the launch hands the reference. -/
structure Args0 : Prop where
  a0 : V (Proc.devRef .tc main_arg0) = (Lf A.hn : S8x4096x1024.Idx → EReal)
  a1 : V (Proc.devRef .tc main_arg1) = (Lf A.win : S1x1024x4744.Idx → EReal)
  a2 : V (Proc.devRef .tc main_arg2) = (Lf A.x : S8x4096x1024.Idx → EReal)
  a3 : V (Proc.devRef .tc main_arg3) = (Lf A.ada : S8x3072.Idx → EReal)
  a4 : V (Proc.devRef .tc main_arg4) = (Lf A.yr : S8x4096x512.Idx → EReal)
  a5 : V (Proc.devRef .tc main_arg5) = (Lf A.wout : S1x1024x1024.Idx → EReal)
  a6 : V (Proc.devRef .tc main_arg6) = (Lf A.fg : S1024.Idx → EReal)
  a7 : V (Proc.devRef .tc main_arg7) = (Lf A.cw : S1x4x1024.Idx → EReal)
  a8 : V (Proc.devRef .tc main_arg8) = (Lf A.cb : S1x1024.Idx → EReal)
  a9 : V (Proc.devRef .tc main_arg9) = (Lf A.bi : S1x4.Idx → EReal)
  a10 : V (Proc.devRef .tc main_arg10) = (Lf A.bf : S1x4.Idx → EReal)
  a11 : V (Proc.devRef .tc main_arg11) = (Lf A.lw : S1x512.Idx → EReal)
  a12 : V (Proc.devRef .tc main_arg12) = (Lf A.sk : S1x512.Idx → EReal)

/-- What the loop neither reads nor writes and the stretches after it read. -/
structure Rest : Prop where
  a2 : V (Proc.devRef .tc main_arg2) = (Lf A.x : S8x4096x1024.Idx → EReal)
  a4 : V (Proc.devRef .tc main_arg4) = (Lf A.yr : S8x4096x512.Idx → EReal)
  a5 : V (Proc.devRef .tc main_arg5) = (Lf A.wout : S1x1024x1024.Idx → EReal)
  a6 : V (Proc.devRef .tc main_arg6) = (Lf A.fg : S1024.Idx → EReal)
  v2 : V (Proc.devRef .tc main_v2) = (Lf (fun c => A.ada (p2 (c 0) (2048 + c 1))) : S8x1024.Idx → EReal)
  v11 : V (Proc.devRef .tc main_v11) = (Lf (fun c => P A (c 0) (c 1) (3712 + c 2)) : S8x4096x512.Idx → EReal)
  v14 : V (Proc.devRef .tc main_v14) = (Lf (fun c => P A (c 0) (c 1) (4232 + c 2)) : S8x4096x512.Idx → EReal)
  v19 : V (Proc.devRef .tc main_v19) = (Lf (fun c => A.lw (p2 0 (c 0))) : S512.Idx → EReal)
  v20 : V (Proc.devRef .tc main_v20) = (Lf (fun c => A.sk (p2 0 (c 0))) : S512.Idx → EReal)
  v54 : V (Proc.devRef .tc main_v54) = (Lf (fun c => qk A (c 0) (c 1) (c 2)) : S8x4096x512.Idx → EReal)

variable {A V}

/-- A buffer none of the six stretches after the first writes is kept by them. -/
theorem keep6 {r : Ref Cert.ReferenceIdeal.sig .tc} {x} (h : V (Proc.devRef .tc r) = x) (r1 : r ∉ hostOps0_1_W) (r2 : r ∉ hostOps0_2_W) (r3 : r ∉ hostOps0_3_W)
    (r4 : r ∉ hostOps0_4_W) (r5 : r ∉ hostOps0_5_W) (r6 : r ∉ hostOps0_6_W) :
    after hostOps0_6 (after hostOps0_5 (after hostOps0_4 (after hostOps0_3 (after hostOps0_2 (after hostOps0_1 V))))) (Proc.devRef .tc r) = x :=
  after_keep hostOps0_6_writes r6 (after_keep hostOps0_5_writes r5 (after_keep hostOps0_4_writes r4 (after_keep hostOps0_3_writes r3
    (after_keep hostOps0_2_writes r2 (after_keep hostOps0_1_writes r1 h)))))

/-- The convolved and activated queries and keys, after the fourth stretch. -/
theorem conv (H : Args0 A V) : after hostOps0_3 (after hostOps0_2 (after hostOps0_1 (after hostOps0 V))) (Proc.devRef .tc main_v53)
    = (Lf (fun c => qk A (c 0) (c 1) (c 2)) : S8x4096x1024.Idx → EReal) :=
  (z53 _ _ (z52 A _ (after_keep hostOps0_1_writes (by decide) (z15 A V H.a7)) (after_keep hostOps0_1_writes (by decide) (z16 A V H.a8))
    (z22 A _ (z21 A V H.a0 H.a1) (zc V)))).trans rfl

/-- The contents where the loop starts. -/
abbrev ent (V : Valuation τ Cert.ReferenceIdeal.sig (Elt Ideal)) : Valuation τ Cert.ReferenceIdeal.sig (Elt Ideal) :=
  after hostOps0_6 (after hostOps0_5 (after hostOps0_4 (after hostOps0_3 (after hostOps0_2 (after hostOps0_1 (after hostOps0 V))))))

theorem rest (H : Args0 A V) : Rest A (ent V) where
  a2 := keep6 (after_keep hostOps0_writes (by decide) H.a2) (by decide) (by decide) (by decide) (by decide) (by decide) (by decide)
  a4 := keep6 (after_keep hostOps0_writes (by decide) H.a4) (by decide) (by decide) (by decide) (by decide) (by decide) (by decide)
  a5 := keep6 (after_keep hostOps0_writes (by decide) H.a5) (by decide) (by decide) (by decide) (by decide) (by decide) (by decide)
  a6 := keep6 (after_keep hostOps0_writes (by decide) H.a6) (by decide) (by decide) (by decide) (by decide) (by decide) (by decide)
  v2 := keep6 (z2 A V H.a3) (by decide) (by decide) (by decide) (by decide) (by decide) (by decide)
  v11 := keep6 (z11 A V H.a0 H.a1) (by decide) (by decide) (by decide) (by decide) (by decide) (by decide)
  v14 := keep6 (z14 A V H.a0 H.a1) (by decide) (by decide) (by decide) (by decide) (by decide) (by decide)
  v19 := keep6 (z19 A V H.a11) (by decide) (by decide) (by decide) (by decide) (by decide) (by decide)
  v20 := keep6 (z20 A V H.a12) (by decide) (by decide) (by decide) (by decide) (by decide) (by decide)
  v54 := after_keep hostOps0_6_writes (by decide) (after_keep hostOps0_5_writes (by decide) (z54 A _ (conv H)))

/-- A buffer the next three stretches do not write is kept by them. -/
theorem keep3 {r : Ref Cert.ReferenceIdeal.sig .tc} {x} (h : V (Proc.devRef .tc r) = x) (r1 : r ∉ hostOps0_1_W) (r2 : r ∉ hostOps0_2_W) (r3 : r ∉ hostOps0_3_W) :
    after hostOps0_3 (after hostOps0_2 (after hostOps0_1 V)) (Proc.devRef .tc r) = x :=
  after_keep hostOps0_3_writes r3 (after_keep hostOps0_2_writes r2 (after_keep hostOps0_1_writes r1 h))

theorem S_zero (A : Args) (b h d j : ℕ) : S A b h (64 * 0) d j = 0 := by
  simp [S, St]

theorem inv0 (H : Args0 A V) : RStep.Inv A (ent V) 0 (fun _ => 0) where
  h0 := y0 A _ (after_keep hostOps0_5_writes (by decide) (z54 A _ (conv H)))
  h1 := y1 A _ (after_keep hostOps0_5_writes (by decide) (z55 A _ (conv H)))
  h2 := y2 A _ (after_keep hostOps0_5_writes (by decide) (after_keep hostOps0_4_writes (by decide)
    (keep3 (z10 A V H.a0 H.a1) (by decide) (by decide) (by decide))))
  h3 := y3 A _ (after_keep hostOps0_5_writes (by decide) (z58 A _ (keep3 (z12 A V H.a0 H.a1) (by decide) (by decide) (by decide))
    (keep3 (z17 A V H.a9) (by decide) (by decide) (by decide))))
  h4 := y4 A _ ((z62 _ _ (z61 A _ (keep3 (z13 A V H.a0 H.a1) (by decide) (by decide) (by decide))
    (keep3 (z18 A V H.a10) (by decide) (by decide) (by decide)))).trans rfl)
  h5 := y5 _
  h6 := (y6 _).trans (congrArg Lf (funext fun c => by rw [S_zero, mul_zero]))
  h7 := (y7 _).trans (congrArg Lf (funext fun c => by rw [S_zero, mul_zero]))
  h8 := y8 _
  h9 := (y9 _).trans (congrArg Lf (funext fun c => (if_neg (Nat.not_lt_zero _)).symm))

end Cert.RPre

end
-- ==== Proof.RefPost.lean ====
/- What the reference's stretches after its loop leave: the layer's output. -/
module

public import proofs.«01_k».proof.Proof.RefPre
public import proofs.«01_k».proof.Proof.TileLf

@[expose] public section

set_option maxRecDepth 16384

noncomputable section

namespace Cert.RPre

open Idealize.ShloMosaic Idealize.ShloMosaic.TcCoe Idealize.ShloMosaic.StableHlo
open Cert.ReferenceIdeal Cert.ReferenceIdeal.Gen Cert.ReferenceIdeal.Value
open Cert.Lift Cert.Mem Cert.Spec Cert.Ref
open scoped BigOperators
open Finset (range)

variable (A : Args) (V : Valuation τ Cert.ReferenceIdeal.sig (Elt Ideal))

/-- The loop's output, put back in the order of the tokens. -/
theorem w81 (h : V (Proc.devRef .tc main_v79_9) = (Lf (fun c => att A (c 1) (c 2) (64 * c 0 + c 3) (c 4)) : S64x8x4x64x128.Idx → EReal)) :
    after hostOps0_7 V (Proc.devRef .tc main_v81) = (Lf (fun c => att A (c 0) (c 2) (c 1) (c 3)) : S8x4096x4x128.Idx → EReal) := by
  after_reads_simp
  rw [h]
  refine ((congrArg (fun x => shapeCast S8x4096x4x128 x shapeCasts_S8x64x64x4x128_S8x4096x4x128) (t2 _ _)).trans (k2 _ _)).trans
    (congrArg Lf (funext fun c => ?_))
  show att A (c 0) (c 2) (64 * (c 1 / 64) + c 1 % 64) (c 3) = _
  rw [Nat.div_add_mod]

/-- Its mean over a head's channels. -/
theorem w85 (h : after hostOps0_7 V (Proc.devRef .tc main_v81) = (Lf (fun c => att A (c 0) (c 2) (c 1) (c 3)) : S8x4096x4x128.Idx → EReal)) :
    after hostOps0_7 V (Proc.devRef .tc main_v85) = (Lf (fun c => mu (att A (c 0) (c 2) (c 1))) : S8x4096x4x1.Idx → EReal) := by
  revert h; after_reads_simp; intro h
  rw [h, hb_128]
  rw [r0, b6, hdivf_Lf _ _ (fun _ => by norm_num)]
  rfl

/-- It less its mean. -/
theorem w94 (h : after hostOps0_7 V (Proc.devRef .tc main_v81) = (Lf (fun c => att A (c 0) (c 2) (c 1) (c 3)) : S8x4096x4x128.Idx → EReal))
    (h' : after hostOps0_7 V (Proc.devRef .tc main_v85) = (Lf (fun c => mu (att A (c 0) (c 2) (c 1))) : S8x4096x4x1.Idx → EReal)) :
    after hostOps0_7 V (Proc.devRef .tc main_v94) = (Lf (fun c => cen (att A (c 0) (c 2) (c 1)) (c 3)) : S8x4096x4x128.Idx → EReal)
      ∧ after hostOps0_7 V (Proc.devRef .tc main_v87) = (Lf (fun c => cen (att A (c 0) (c 2) (c 1)) (c 3)) : S8x4096x4x128.Idx → EReal) := by
  constructor
  all_goals
    revert h h'; after_reads_simp; intro h h'
    rw [h', h]
    rw [b7, subf_Lf]
    rfl

/-- It, normalised. -/
theorem w99 (h : after hostOps0_7 V (Proc.devRef .tc main_v94) = (Lf (fun c => cen (att A (c 0) (c 2) (c 1)) (c 3)) : S8x4096x4x128.Idx → EReal))
    (h' : after hostOps0_7 V (Proc.devRef .tc main_v87) = (Lf (fun c => cen (att A (c 0) (c 2) (c 1)) (c 3)) : S8x4096x4x128.Idx → EReal)) :
    after hostOps0_7 V (Proc.devRef .tc main_v99) = (Lf (fun c => nrm (att A (c 0) (c 2) (c 1)) (c 3)) : S8x4096x4x128.Idx → EReal) := by
  revert h h'; after_reads_simp; intro h h'
  rw [h', hb_128, hb_eps]
  rw [mulf_Lf, r0, b6, hdivf_Lf _ _ (fun _ => by norm_num), addf_Lf,
    hrsqrt_Lf _ (fun i => add_pos_of_nonneg_of_pos (div_nonneg (Finset.sum_nonneg fun k _ => mul_self_nonneg _) (by norm_num)) eps_pos), b7, mulf_Lf]
  rfl

/-- The gated normalised output plus the skip. -/
theorem w114 (R : Rest A V) (h : after hostOps0_7 V (Proc.devRef .tc main_v99) = (Lf (fun c => nrm (att A (c 0) (c 2) (c 1)) (c 3)) : S8x4096x4x128.Idx → EReal)) :
    after hostOps0_7 V (Proc.devRef .tc main_v114) = (Lf (fun c => Spec.sig (P A (c 0) (c 1) (3712 + c 2)) * (nrm (att A (c 0) (c 2 / 128) (c 1)) (c 2 % 128) * A.lw (p2 0 (c 2)))
      + A.sk (p2 0 (c 2)) * qk A (c 0) (c 1) (c 2)) : S8x4096x512.Idx → EReal) := by
  revert h; after_reads_simp; intro h
  rw [h, R.v11, R.v19, R.v20, R.v54]
  rw [sig_Lf, b4, b5, b4, b5, mulf_Lf]
  refine (congrArg (fun x : S8x4096x512.Idx → EReal => addf (F := Ideal) (φ := .f32) (mulf (F := Ideal) (φ := .f32) (Lf _ : S8x4096x512.Idx → EReal)
    (mulf (F := Ideal) (φ := .f32) x (Lf _ : S8x4096x512.Idx → EReal))) (Lf _ : S8x4096x512.Idx → EReal)) (k3 _ shapeCasts_S8x4096x4x128_S8x4096x512)).trans ?_
  rw [mulf_Lf, mulf_Lf, addf_Lf]
  rfl

theorem w115 (R : Rest A V) : after hostOps0_8 V (Proc.devRef .tc main_v115) = (Lf (fun c => silu (P A (c 0) (c 1) (4232 + c 2))) : S8x4096x512.Idx → EReal) := by
  after_reads_simp
  simp only [TRef.ofBuf_toBuf]
  rw [R.v14]
  exact silu_Lf _ _ bcast_S_S8x4096x512 bcast_S_S8x4096x512 (fun c => P A (c 0) (c 1) (4232 + c 2))

/-- Both branches side by side. -/
theorem w118 (R : Rest A V)
    (h : V (Proc.devRef .tc main_v114) = (Lf (fun c => Spec.sig (P A (c 0) (c 1) (3712 + c 2)) * (nrm (att A (c 0) (c 2 / 128) (c 1)) (c 2 % 128) * A.lw (p2 0 (c 2)))
      + A.sk (p2 0 (c 2)) * qk A (c 0) (c 1) (c 2)) : S8x4096x512.Idx → EReal))
    (h' : V (Proc.devRef .tc main_v115) = (Lf (fun c => silu (P A (c 0) (c 1) (4232 + c 2))) : S8x4096x512.Idx → EReal)) :
    after hostOps0_9 V (Proc.devRef .tc main_v118) = (Lf (fun c => cat A (c 0) (c 1) (c 2)) : S8x4096x1024.Idx → EReal) := by
  have e1 : upto hostOps0_9 V 2 (Proc.devRef .tc main_v116) = (Lf (fun c => ym A (c 0) (c 2 / 128) (c 1) (c 2 % 128)) : S8x4096x512.Idx → EReal) := by
    after_reads_simp
    rw [h, h', mulf_Lf]
    refine congrArg Lf (funext fun c => ?_)
    unfold ym q
    rw [Nat.div_add_mod]
  have e2 : upto hostOps0_9 V 2 (Proc.devRef .tc main_v117) = (Lf A.yr : S8x4096x512.Idx → EReal) := by
    after_reads_simp
    rw [R.a4]
    rfl
  after_reads_simp
  refine (congrArg₂ (fun a b : S8x4096x512.Idx → EReal => concatenate S8x4096x1024 2 [⟨S8x4096x512, a⟩, ⟨S8x4096x512, b⟩] concatenates_S8x4096x512_S8x4096x512_S8x4096x1024_d2)
    e2 e1).trans ((concat3_2 _ _ _).trans (Lf_ext3 fun a _ b _ j hj => ?_))
  simp only [p3_0, p3_1, p3_2]
  rfl

/-- The residual plus the gated output projection. -/
theorem w124 (R : Rest A V) (h : after hostOps0_9 V (Proc.devRef .tc main_v118) = (Lf (fun c => cat A (c 0) (c 1) (c 2)) : S8x4096x1024.Idx → EReal)) :
    after hostOps0_9 V (Proc.devRef .tc main_v124) = (Lf (fun c => res A (c 0) (c 1) (c 2)) : S8x4096x1024.Idx → EReal) := by
  revert h; after_reads_simp; intro h
  rw [h, R.v2, R.a2, R.a5]
  rw [b8, b9]
  refine (congrArg (fun y : S8x4096x1024.Idx → EReal => addf (F := Ideal) (φ := .f32) (Lf A.x : S8x4096x1024.Idx → EReal) (mulf (F := Ideal) (φ := .f32) (Lf _ : S8x4096x1024.Idx → EReal) y))
    ((congrArg (fun w : S1024x1024.Idx → EReal => Host.dotGeneral (F := Ideal) (φ₁ := .f32) (φ₂ := .f32) dot_S8x4096x1024_S1024x1024_S8x4096x1024_2_0_01_1_n_n none
      (Lf _ : S8x4096x1024.Idx → EReal) w) (cast_1ab_ab A.wout shapeCasts_S1x1024x1024_S1024x1024)).trans (d1 _ _))).trans ?_
  rw [mulf_Lf, addf_Lf]
  refine Lf_ext3 fun a _ b _ j _ => ?_
  simp only [p3_0, p3_1, p3_2, p2_0, p2_1]
  rfl

/-- The output. -/
theorem w137 (R : Rest A V) (h : after hostOps0_9 V (Proc.devRef .tc main_v124) = (Lf (fun c => res A (c 0) (c 1) (c 2)) : S8x4096x1024.Idx → EReal)) :
    after hostOps0_9 V (Proc.devRef .tc main_v137) = (Lf (fun c => out A (c 0) (c 1) (c 2)) : S8x4096x1024.Idx → EReal) := by
  revert h; after_reads_simp; intro h
  rw [h, R.a6, hb_1024, hb_eps, b0, b1]
  rw [mulf_Lf, r1, b10, hdivf_Lf _ _ (fun _ => by norm_num), addf_Lf,
    hrsqrt_Lf _ (fun i => add_pos_of_nonneg_of_pos (div_nonneg (Finset.sum_nonneg fun k _ => mul_self_nonneg _) (by norm_num)) eps_pos), b11, mulf_Lf, mulf_Lf]
  rfl

variable {A V}

/-- A stretch that writes none of what is needed later leaves it so. -/
theorem Rest.keep (R : Rest A V) {ops : List (HloOp τ Cert.ReferenceIdeal.sig (Elt Ideal))} {W : List (Ref Cert.ReferenceIdeal.sig .tc)}
    (hW : ops.Forall fun op => op.writes ⊆ (W.map (Proc.devRef (τ := τ) .tc)).toFinset)
    (hr : ∀ r ∈ [main_arg2, main_arg4, main_arg5, main_arg6, main_v2, main_v11, main_v14, main_v19, main_v20, main_v54], r ∉ W) : Rest A (after ops V) where
  a2 := after_keep hW (hr _ (by decide)) R.a2
  a4 := after_keep hW (hr _ (by decide)) R.a4
  a5 := after_keep hW (hr _ (by decide)) R.a5
  a6 := after_keep hW (hr _ (by decide)) R.a6
  v2 := after_keep hW (hr _ (by decide)) R.v2
  v11 := after_keep hW (hr _ (by decide)) R.v11
  v14 := after_keep hW (hr _ (by decide)) R.v14
  v19 := after_keep hW (hr _ (by decide)) R.v19
  v20 := after_keep hW (hr _ (by decide)) R.v20
  v54 := after_keep hW (hr _ (by decide)) R.v54

/-- From the end of the loop to the end. -/
theorem post (R : Rest A V) (h : V (Proc.devRef .tc main_v79_9) = (Lf (fun c => att A (c 1) (c 2) (64 * c 0 + c 3) (c 4)) : S64x8x4x64x128.Idx → EReal)) :
    afterL postI V (Proc.devRef .tc main_v137) = (Lf (fun c => out A (c 0) (c 1) (c 2)) : S8x4096x1024.Idx → EReal) := by
  have h81 := w81 A V h
  have h94 := w94 A V h81 (w85 A V h81)
  have R7 := R.keep hostOps0_7_writes (by decide)
  have R8 := R7.keep hostOps0_8_writes (by decide)
  exact w137 A _ R8 (w124 A _ R8 (w118 A _ R8 (after_keep hostOps0_8_writes (by decide) (w114 A V R (w99 A V h94.1 h94.2))) (w115 A _ R7)))

end Cert.RPre

end
-- ==== Proof.RefOut.lean ====
/- What the reference returns: the layer's output. -/
module

public import proofs.«01_k».proof.Proof.RefPost
public import Idealize.ShloMosaic.Lib.Quiescent

@[expose] public section

set_option maxRecDepth 16384

noncomputable section

namespace Cert.RPre

open Idealize.ShloMosaic Idealize.ShloMosaic.TcCoe Idealize.ShloMosaic.StableHlo
open Cert.ReferenceIdeal Cert.ReferenceIdeal.Gen Cert.ReferenceIdeal.Value
open Cert.Lift Cert.Mem Cert.Spec Cert.Ref

variable {A : Args} (m : (ℓ : Loc nD τ Cert.ReferenceIdeal.sig) → Buf (Elt Ideal) ℓ) (c : Dev nD)

/-- What the loop leaves what it does not write at. -/
theorem rest_end (R : Rest A (entryContents preI m c)) : Rest A (after condOps (atK m 64 c)) where
  a2 := (end_keep m (by decide) c).trans R.a2
  a4 := (end_keep m (by decide) c).trans R.a4
  a5 := (end_keep m (by decide) c).trans R.a5
  a6 := (end_keep m (by decide) c).trans R.a6
  v2 := (end_keep m (by decide) c).trans R.v2
  v11 := (end_keep m (by decide) c).trans R.v11
  v14 := (end_keep m (by decide) c).trans R.v14
  v19 := (end_keep m (by decide) c).trans R.v19
  v20 := (end_keep m (by decide) c).trans R.v20
  v54 := (end_keep m (by decide) c).trans R.v54

/-- What the loop leaves its output at. -/
theorem loop_end (H : RStep.Inv A (entryContents preI m c) 0 (fun _ => 0)) : after condOps (atK m 64 c) (Proc.devRef .tc main_v79_9)
    = (Lf (fun c => att A (c 1) (c 2) (64 * c 0 + c 3) (c 4)) : S64x8x4x64x128.Idx → EReal) := by
  obtain ⟨M, I⟩ := RStep.Inv.iter H 64 le_rfl
  refine ((cond_keeps _ main_v79_9 (by decide)).trans ((atK_agree m c 64 main_v79_9 (by decide)).trans I.h9)).trans (Lf_ext fun i => ?_)
  rw [cr5]
  exact if_pos (show (i 0).val < 64 from (i 0).isLt)

/-- The reference's result. -/
theorem value (H : Args0 A (launchContents m c)) : finalContents condOps preI bodyI postI 64 m c (Proc.devRef .tc main_v137)
    = (Lf (fun c => out A (c 0) (c 1) (c 2)) : S8x4096x1024.Idx → EReal) :=
  post (rest_end m c (rest H)) (loop_end m c (inv0 H))

end Cert.RPre

end
-- ==== Proof.Finite.lean ====
/- What the precondition says: every argument holds reals. -/
module

public import proofs.«01_k».proof.Proof.LiftK
public import proofs.«01_k».proof.Proof.Spec
public import proofs.«01_k».proof.Proof.Gen.Pre_finite
public import Idealize.ShloMosaic.Lib.ReduceAll
public import Idealize.ShloMosaic.Lib.Affine

@[expose] public section

set_option maxRecDepth 16384

noncomputable section

namespace Cert.Lift

open Idealize.ShloMosaic
open Cert.Pre_finite Cert.Spec

instance : Subsingleton S_.Idx := ⟨fun a b => funext fun k => k.elim0⟩

/-- An array all of whose magnitudes are below infinity holds reals. -/
theorem fin_of {s : Shape} {axes : List (Fin s.rank)} (x : s.Idx → EReal) (d) (hb : S_.BroadcastsInDim s d) (h : s.ReducesTo axes S_) (hu : 0 < S_.numel) (j : S_.Idx)
    (e : Host.reduce IntOp.andi (cmpf (F := Ideal) (φ := .f32) .olt (Host.absf (F := Ideal) (φ := .f32) x) (broadcastInDim s d hb (constant (F := Ideal) S_ .f32 0x7F800000#32)))
      (constantI S_ 1 1#1) h hu j = 1#1) : ∃ f, x = Lf f := by
  refine exists_Lf x fun i => ?_
  have a := Host.reduce_andi_all _ _ h hu j e i
  have b : max (x i) (-(x i)) < broadcastInDim s d hb (constant (F := Ideal) S_ .f32 0x7F800000#32) i := by
    by_contra hn
    have : (BitVec.ofBool (decide (max (x i) (-(x i)) < broadcastInDim s d hb (constant (F := Ideal) S_ .f32 0x7F800000#32) i)) : BitVec 1) = 1#1 := a
    rw [decide_eq_false hn] at this
    exact absurd this (by decide)
  have l := (le_max_left _ _).trans_lt b
  have r := (le_max_right _ _).trans_lt b
  refine ⟨ne_top_of_lt l, fun hx => ?_⟩
  rw [hx, EReal.neg_bot] at r
  exact absurd r not_top_lt

/-- Where the precondition is met, the arguments are arrays of reals. -/
theorem exists_args (x0 x1 x2 x3 x4 x5 x6 x7 x8 x9 x10 x11 x12) (H : Cert.Pre_finite.fn (F := Ideal) x0 x1 x2 x3 x4 x5 x6 x7 x8 x9 x10 x11 x12 = fun _ => 1#1) :
    ∃ A : Args, x0 = (Lf A.hn : S8x4096x1024.Idx → EReal) ∧ x1 = (Lf A.win : S1x1024x4744.Idx → EReal) ∧ x2 = (Lf A.x : S8x4096x1024.Idx → EReal)
      ∧ x3 = (Lf A.ada : S8x3072.Idx → EReal) ∧ x4 = (Lf A.yr : S8x4096x512.Idx → EReal) ∧ x5 = (Lf A.wout : S1x1024x1024.Idx → EReal)
      ∧ x6 = (Lf A.fg : S1024.Idx → EReal) ∧ x7 = (Lf A.cw : S1x4x1024.Idx → EReal) ∧ x8 = (Lf A.cb : S1x1024.Idx → EReal)
      ∧ x9 = (Lf A.bi : S1x4.Idx → EReal) ∧ x10 = (Lf A.bf : S1x4.Idx → EReal) ∧ x11 = (Lf A.lw : S1x512.Idx → EReal) ∧ x12 = (Lf A.sk : S1x512.Idx → EReal) := by
  have h := congrFun H (fun k => k.elim0)
  dsimp only [Cert.Pre_finite.fn, Cert.Pre_finite.fn_part1, Cert.Pre_finite.fn_part2, Cert.Pre_finite.fn_part3] at h
  obtain ⟨h, e12⟩ := IntOp.andi_eq_one.mp h
  obtain ⟨h, e11⟩ := IntOp.andi_eq_one.mp h
  obtain ⟨h, e10⟩ := IntOp.andi_eq_one.mp h
  obtain ⟨h, e9⟩ := IntOp.andi_eq_one.mp h
  obtain ⟨h, e8⟩ := IntOp.andi_eq_one.mp h
  obtain ⟨h, e7⟩ := IntOp.andi_eq_one.mp h
  obtain ⟨h, e6⟩ := IntOp.andi_eq_one.mp h
  obtain ⟨h, e5⟩ := IntOp.andi_eq_one.mp h
  obtain ⟨h, e3⟩ := IntOp.andi_eq_one.mp h
  obtain ⟨h, e2⟩ := IntOp.andi_eq_one.mp h
  obtain ⟨h, e1⟩ := IntOp.andi_eq_one.mp h
  obtain ⟨e0, e4⟩ := IntOp.andi_eq_one.mp h
  obtain ⟨f0, rfl⟩ := fin_of _ _ _ _ _ _ (show Host.reduce IntOp.andi (cmpf (F := Ideal) (φ := .f32) .olt (Host.absf (F := Ideal) (φ := .f32) (x0 : S8x4096x1024.Idx → EReal)) _) _ _ _ _ = 1#1 from e0)
  obtain ⟨f1, rfl⟩ := fin_of _ _ _ _ _ _ e1
  obtain ⟨f2, rfl⟩ := fin_of _ _ _ _ _ _ e2
  obtain ⟨f3, rfl⟩ := fin_of _ _ _ _ _ _ e3
  obtain ⟨f4, rfl⟩ := fin_of _ _ _ _ _ _ (show Host.reduce IntOp.andi (cmpf (F := Ideal) (φ := .f32) .olt (Host.absf (F := Ideal) (φ := .f32) (x4 : S8x4096x512.Idx → EReal)) _) _ _ _ _ = 1#1 from e4)
  obtain ⟨f5, rfl⟩ := fin_of _ _ _ _ _ _ e5
  obtain ⟨f6, rfl⟩ := fin_of _ _ _ _ _ _ e6
  obtain ⟨f7, rfl⟩ := fin_of _ _ _ _ _ _ e7
  obtain ⟨f8, rfl⟩ := fin_of _ _ _ _ _ _ e8
  obtain ⟨f9, rfl⟩ := fin_of _ _ _ _ _ _ e9
  obtain ⟨f10, rfl⟩ := fin_of _ _ _ _ _ _ e10
  obtain ⟨f11, rfl⟩ := fin_of _ _ _ _ _ _ e11
  obtain ⟨f12, rfl⟩ := fin_of _ _ _ _ _ _ e12
  exact ⟨⟨f0, f1, f2, f3, f4, f5, f6, f7, f8, f9, f10, f11, f12⟩, rfl, rfl, rfl, rfl, rfl, rfl, rfl, rfl, rfl, rfl, rfl, rfl, rfl⟩

end Cert.Lift

end
-- ==== Proof.Ada.lean ====
/- The call that gives the modulation: what the kernel and the reference return. -/
module

public import proofs.«01_k».proof.Proof.LiftR
public import proofs.«01_k».proof.Proof.Finite
public import proofs.«01_k».proof.Proof.Gen.Pre_finite2
public import proofs.«01_k».proof.Proof.Gen.Kernel2Ideal.Value
public import proofs.«01_k».proof.Proof.Gen.Reference2Ideal.Run
public import Idealize.ShloMosaic.Lib.Pipeline.ValueKit.Geometry
public import Idealize.ShloMosaic.Lib.StableHlo.RunRead

@[expose] public section

set_option maxRecDepth 16384

noncomputable section

namespace Cert.Ada

open Idealize.ShloMosaic Idealize.ShloMosaic.TcCoe Idealize.ShloMosaic.StableHlo
open Cert.Kernel2Ideal Cert.Kernel2Ideal.Gen
open Cert.Lift
open scoped BigOperators
open Finset (range)

/-- The conditioning vectors, the weights and the biases. -/
structure Args where
  c : (ℕ → ℕ) → ℝ
  w : (ℕ → ℕ) → ℝ
  b : (ℕ → ℕ) → ℝ

/-- The activated conditioning vector. -/
def act (A : Args) (r k : ℕ) : ℝ := A.c (p2 r k) * (1 / (1 + Real.exp (-A.c (p2 r k))))
/-- The modulation: the product of the activated vector with the weights, and the bias. -/
def ada (A : Args) (r j : ℕ) : ℝ := (∑ k ∈ range 1024, act A r k * A.w (p3 0 k j)) + A.b (p2 0 j)

/-- Where the precondition is met, the arguments are arrays of reals. -/
theorem exists_args (x0 x1 x2) (H : Cert.Pre_finite2.fn (F := Ideal) x0 x1 x2 = fun _ => 1#1) :
    ∃ A : Args, x0 = (Lf A.c : S8x1024.Idx → EReal) ∧ x1 = (Lf A.w : S1x1024x3072.Idx → EReal) ∧ x2 = (Lf A.b : S1x3072.Idx → EReal) := by
  have h := congrFun H (fun k => k.elim0)
  dsimp only [Cert.Pre_finite2.fn] at h
  obtain ⟨h, e2⟩ := IntOp.andi_eq_one.mp h
  obtain ⟨e0, e1⟩ := IntOp.andi_eq_one.mp h
  obtain ⟨f0, rfl⟩ := fin_of _ _ _ _ _ _ e0
  obtain ⟨f1, rfl⟩ := fin_of _ _ _ _ _ _ e1
  obtain ⟨f2, rfl⟩ := fin_of _ _ _ _ _ _ e2
  exact ⟨⟨f0, f1, f2⟩, rfl, rfl, rfl⟩

/-- The kernel's product of two matrices. -/
theorem mm (f g : (ℕ → ℕ) → ℝ) :
    matmul (F := Ideal) (φ₁ := .bf16) (φ₂ := .bf16) dot_S8x1024_S1024x1024_S8x1024_1_0_0_1_n_n none (Lf f : S8x1024.Idx → EReal) (Lf g : S1024x1024.Idx → EReal)
      (constant S8x1024 .f32 0x00000000#32) = Lf (fun c => ∑ k ∈ range 1024, f (p2 (c 0) k) * g (p2 k (c 1))) :=
  funext fun j => (Ideal.matmul_constant_zero_apply (φ₁ := .bf16) (φ₂ := .bf16) _ none (Lf f : FVec Ideal S8x1024 .bf16) (Lf g : FVec Ideal S1024x1024 .bf16) j).trans
    (dot_Lf _ 1024 rfl rfl f g (fun c k => p2 (c 0) k) (fun c k => p2 k (c 1)) (fun j k => by rw [cr2, cr2]; rfl) (fun j k => by rw [cr2, cr2]; rfl) j)

/-- What the body computes of blocks of reals: the parts left over by the casts are zero. -/
theorem pay (f g b : (ℕ → ℕ) → ℝ) :
    k0_pay1 (F := Ideal) (Lf f : S8x1024.Idx → EReal) (Lf g : S1024x1024.Idx → EReal) (Lf b : S1x1024.Idx → EReal)
      = (Lf (fun c => (∑ k ∈ range 1024, f (p2 (c 0) k) * (1 / (1 + Real.exp (-f (p2 (c 0) k)))) * g (p2 k (c 1))) + b (p2 0 (c 1))) : S8x1024.Idx → EReal) := by
  unfold k0_pay1
  dsimp only
  have hs : ∀ i : S8x1024.Idx, 1 + Real.exp (0 - f (cr i)) ≠ 0 := fun i => by positivity
  simp only [bc_zero, bc_one, subf_Lf, exp_Lf, addf_Lf]
  rw [divf_Lf _ _ hs]
  simp only [mulf_Lf, truncf_Lf, extf_Lf, subf_Lf, cast_self_Lf, mm, addf_Lf, broadcastTo2_Lf, sub_self, mul_zero, zero_mul, Finset.sum_const_zero, add_zero]
  refine Lf_ext2 fun r _ j _ => ?_
  simp only [p2_0, p2_1, zero_sub]
  rfl

/-- The block of one store through the whole buffer. -/
theorem out_eq (x0 : Vec Ideal S8x1024 .f32) (x1 : Vec Ideal S1024x1024 .f32) (x2 : Vec Ideal S1x1024 .f32) : out0_3 x0 x1 x2 = k0_pay1 x0 x1 x2 := by
  have z : (![0, 0] : Fin 2 → ℕ) = fun _ => 0 := by decide
  unfold out0_3
  rw [View.canon_unit_zero z, View.ld_unit_zero z, View.ld_unit_zero z, View.ld_unit_zero z]

theorem idx_0 : ∀ t : Fin cfg0.N, win0_0.index t = ![0, 0] := (by decide +kernel : ∀ t : Fin grid0.N, _)
theorem idx_1 : ∀ t : Fin cfg0.N, win0_1.index t = ![0, t.val] := (by decide +kernel : ∀ t : Fin grid0.N, _)
theorem idx_2 : ∀ t : Fin cfg0.N, win0_2.index t = ![0, t.val] := (by decide +kernel : ∀ t : Fin grid0.N, _)
theorem idx_3 : ∀ t : Fin cfg0.N, win0_3.index t = ![0, t.val] := (by decide +kernel : ∀ t : Fin grid0.N, _)

section
variable (A : Args) (m : (ℓ : Loc nD τ sig) → Buf (Elt Ideal) ℓ) (c : Dev nD)
  (h0 : m ((c : Thread nD τ).loc main_arg0) = (Lf A.c : S8x1024.Idx → EReal))
  (h1 : m ((c : Thread nD τ).loc main_arg1) = (Lf A.w : S1x1024x3072.Idx → EReal))
  (h2 : m ((c : Thread nD τ).loc main_arg2) = (Lf A.b : S1x3072.Idx → EReal))

include h1 in
/-- The weights as the pipeline starts. -/
theorem v0_eq : Cert.Kernel2Ideal.Gen.V m c main_v0 = (Lf (fun i => A.w (p3 0 (i 0) (i 1))) : S1024x3072.Idx → EReal) := by
  unfold Cert.Kernel2Ideal.Gen.V
  after_reads_simp
  refine Eq.trans ?_ (cast_1ab_ab A.w shapeCasts_S1x1024x3072_S1024x3072)
  rw [← h1]
  rfl

include h2 in
/-- The biases as the pipeline starts. -/
theorem v2_eq : Cert.Kernel2Ideal.Gen.V m c main_v2 = (Lf (fun i => A.b (p2 0 (i 1))) : S1x3072.Idx → EReal) := by
  unfold Cert.Kernel2Ideal.Gen.V
  after_reads_simp
  have e : shapeCast S1x3072 (shapeCast S3072 (Lf A.b : S1x3072.Idx → EReal) shapeCasts_S1x3072_S3072) shapeCasts_S3072_S1x3072
      = (Lf (fun i => A.b (p2 0 (i 1))) : S1x3072.Idx → EReal) := by
    rw [cast_1a_a, cast_a_1a]
    rfl
  refine Eq.trans ?_ e
  rw [← h2]
  rfl

include h0 in
/-- What each window holds at a point. -/
theorem blk0 (t : Fin cfg0.N) : iblk m c 0 t = (Lf A.c : S8x1024.Idx → EReal) := by
  refine Eq.trans (funext fun y => ?_) h0
  unfold iblk
  show Cert.Kernel2Ideal.Gen.V m c main_arg0 (((cfg0.win 0).blk t).view.emb y) = _
  rw [V_main_arg0]
  congr 1
  blk_ext [idx_0]

include h1 in
@[inherit_doc blk0] theorem blk1 (t : Fin cfg0.N) : iblk m c 1 t = (Lf (fun i => A.w (p3 0 (i 0) (1024 * t.val + i 1))) : S1024x1024.Idx → EReal) := by
  funext y
  unfold iblk
  show Cert.Kernel2Ideal.Gen.V m c main_v0 (((cfg0.win 1).blk t).view.emb y) = _
  rw [v0_eq A m c h1]
  show ((A.w (p3 0 (cr (((cfg0.win 1).blk t).view.emb y) 0) (cr (((cfg0.win 1).blk t).view.emb y) 1)) : ℝ) : EReal) = ((_ : ℝ) : EReal)
  congr 2
  rw [cr2]
  simp only [p2_0, p2_1]
  blk_simp [idx_1]
  rw [Nat.mul_comm _ 1024]
  rfl

include h2 in
@[inherit_doc blk0] theorem blk2 (t : Fin cfg0.N) : iblk m c 2 t = (Lf (fun i => A.b (p2 0 (1024 * t.val + i 1))) : S1x1024.Idx → EReal) := by
  funext y
  unfold iblk
  show Cert.Kernel2Ideal.Gen.V m c main_v2 (((cfg0.win 2).blk t).view.emb y) = _
  rw [v2_eq A m c h2]
  show ((A.b (p2 0 (cr (((cfg0.win 2).blk t).view.emb y) 1)) : ℝ) : EReal) = ((_ : ℝ) : EReal)
  congr 2
  rw [cr2]
  simp only [p2_1]
  blk_simp [idx_2]
  rw [Nat.mul_comm _ 1024]
  rfl

include h0 h1 h2 in
/-- The kernel's result: the modulation. -/
theorem result : (dats m 0 c).arrAt 3 cfg0.N = (Lf (fun i => ada A (i 0) (i 1)) : S8x3072.Idx → EReal) := by
  refine (dats m 0 c).arrAt_eq_of_covers 3 _ (by decide +kernel) fun t hf y => ?_
  clear hf
  have ho : out0_3 (iblk m c 0 t) (iblk m c 1 t) (iblk m c 2 t) = (Lf (fun i => ada A (i 0) (1024 * t.val + i 1)) : S8x1024.Idx → EReal) := by
    rw [blk0 A m c h0 t, blk1 A m c h1 t, blk2 A m c h2 t]
    exact (out_eq _ _ _).trans ((pay _ _ _).trans rfl)
  blk_simp
  rw [after0_3, ho]
  have e0 : cr (((cfg0.win 3).blk t).view.emb y) = p2 (y 0).val (t.val * 1024 + (y 1).val) := by
    rw [cr2]
    blk_simp [idx_3]
  show ((ada A (y 0).val (1024 * t.val + (y 1).val) : ℝ) : EReal)
    = ((ada A (cr (((cfg0.win 3).blk t).view.emb y) 0) (cr (((cfg0.win 3).blk t).view.emb y) 1) : ℝ) : EReal)
  rw [e0, Nat.mul_comm _ 1024]
  rfl

end

/-- The reference's product of two matrices. -/
theorem hd (f g : (ℕ → ℕ) → ℝ) :
    Host.dotGeneral (F := Ideal) (φ₁ := .f32) (φ₂ := .f32) Cert.Reference2Ideal.dot_S8x1024_S1024x3072_S8x3072_1_0_0_1_n_n none (Lf f : S8x1024.Idx → EReal) (Lf g : S1024x3072.Idx → EReal)
      = Lf (fun c => ∑ k ∈ range 1024, f (p2 (c 0) k) * g (p2 k (c 1))) :=
  funext fun j => (Ideal.dotGeneral_apply (φ₁ := .f32) (φ₂ := .f32) _ none _ (Lf f : FVec Ideal S8x1024 .f32) (Lf g : FVec Ideal S1024x3072 .f32) j).trans
    (dot_Lf _ 1024 rfl rfl f g (fun c k => p2 (c 0) k) (fun c k => p2 k (c 1)) (fun j k => by rw [cr2, cr2]; rfl) (fun j k => by rw [cr2, cr2]; rfl) j)

theorem bb0 (f : (ℕ → ℕ) → ℝ) (h) : broadcastInDim S1x3072 ![1] h (Lf f : Cert.Reference2Ideal.S3072.Idx → EReal) = Lf (fun c => f (p1 (c 1))) :=
  bid_Lf _ h (fun c => p1 (c 1)) (fun j => by rw [cr1, cr2]; rfl) f
theorem bb1 (f : (ℕ → ℕ) → ℝ) (h) : broadcastInDim S8x3072 ![0, 1] h (Lf f : S1x3072.Idx → EReal) = Lf (fun c => f (p2 0 (c 1))) :=
  bid_Lf _ h (fun c => p2 0 (c 1)) (fun j => by rw [cr2, cr2]; rfl) f

/-- The reference's result: the modulation. -/
theorem ref (A : Args) (x0 : S8x1024.Idx → EReal) (x1 : S1x1024x3072.Idx → EReal) (x2 : S1x3072.Idx → EReal)
    (h0 : x0 = Lf A.c) (h1 : x1 = Lf A.w) (h2 : x2 = Lf A.b) (u0 u1 u2 u3 u4 u5) :
    addf (F := Ideal) (φ := .f32) (Host.dotGeneral (F := Ideal) (φ₁ := .f32) (φ₂ := .f32) Cert.Reference2Ideal.dot_S8x1024_S1024x3072_S8x3072_1_0_0_1_n_n none (mulf (F := Ideal) (φ := .f32) x0 (Host.divf (broadcastInDim S8x1024 ![] u0 (constant (F := Ideal) Cert.Reference2Ideal.S_ .f32 0x3F800000#32))
      (addf (F := Ideal) (φ := .f32) (broadcastInDim S8x1024 ![] u1 (constant (F := Ideal) Cert.Reference2Ideal.S_ .f32 0x3F800000#32)) (Host.exp (F := Ideal) (φ := .f32) (Host.negf (F := Ideal) (φ := .f32) x0))))) (shapeCast S1024x3072 x1 u2))
      (broadcastInDim S8x3072 ![0, 1] u3 (broadcastInDim S1x3072 ![1] u4 (shapeCast Cert.Reference2Ideal.S3072 x2 u5)))
      = (Lf (fun i => ada A (i 0) (i 1)) : S8x3072.Idx → EReal) := by
  subst h0 h1 h2
  have hs : ∀ i : S8x1024.Idx, 1 + Real.exp (-A.c (cr i)) ≠ 0 := fun i => by positivity
  rw [hnegf_Lf, hexp_Lf, hb_one, addf_Lf, hdivf_Lf _ _ hs, mulf_Lf, cast_1ab_ab, cast_1a_a, bb0, bb1, hd, addf_Lf]
  rfl

end Cert.Ada

end
-- ==== Proof.NormRef.lean ====
/- The modulated activations: the reals that they are, and what the reference returns. -/
module

public import proofs.«01_k».proof.Proof.LiftR
public import proofs.«01_k».proof.Proof.Finite
public import proofs.«01_k».proof.Proof.Gen.Pre_finite3
public import proofs.«01_k».proof.Proof.Gen.Reference3Ideal.Run

@[expose] public section

set_option maxRecDepth 16384

noncomputable section

namespace Cert.Norm

open Idealize.ShloMosaic Idealize.ShloMosaic.TcCoe
open Cert.Reference3Ideal
open Cert.Lift
open Cert.Spec (rmsn)

/-- The residual stream, the modulation and the norm's gain. -/
structure Args where
  x : (ℕ → ℕ) → ℝ
  ada : (ℕ → ℕ) → ℝ
  g : (ℕ → ℕ) → ℝ

/-- The modulated activations: the normalised stream, scaled and shifted. -/
def hn (A : Args) (b t j : ℕ) : ℝ := rmsn (fun k => A.x (p3 b t k)) j * (A.g (p2 0 j) * (1 + A.ada (p2 b (1024 + j)))) + A.ada (p2 b j)

/-- Where the precondition is met, the norm's arguments are arrays of reals. -/
theorem exists_args (x0 x1 x2 x3 x4 x5 x6 x7 x8 x9 x10 x11 x12 x13) (H : Cert.Pre_finite3.fn (F := Ideal) x0 x1 x2 x3 x4 x5 x6 x7 x8 x9 x10 x11 x12 x13 = fun _ => 1#1) :
    ∃ A : Args, x0 = (Lf A.x : S8x4096x1024.Idx → EReal) ∧ x1 = (Lf A.ada : S8x3072.Idx → EReal) ∧ x2 = (Lf A.g : S1x1024.Idx → EReal) := by
  have h := congrFun H (fun k => k.elim0)
  dsimp only [Cert.Pre_finite3.fn] at h
  obtain ⟨h, e2⟩ := IntOp.andi_eq_one.mp h
  obtain ⟨e0, e1⟩ := IntOp.andi_eq_one.mp h
  obtain ⟨f0, rfl⟩ := fin_of _ _ _ _ _ _ e0
  obtain ⟨f1, rfl⟩ := fin_of _ _ _ _ _ _ e1
  obtain ⟨f2, rfl⟩ := fin_of _ _ _ _ _ _ e2
  exact ⟨⟨f0, f1, f2⟩, rfl, rfl, rfl⟩

/-- The reference's result: the modulated activations. -/
theorem ref (A : Args) (x0 : S8x4096x1024.Idx → EReal) (x1 : S8x3072.Idx → EReal) (x2 : S1x1024.Idx → EReal)
    (h0 : x0 = Lf A.x) (h1 : x1 = Lf A.ada) (h2 : x2 = Lf A.g) (u0 u1 u2 u3 u4 u5 u6 u7 u8 u9 u10 u11 u12 u13 u14 u15 u16) :
    truncf (F := Ideal) (φ := .f32) .bf16 (addf (F := Ideal) (φ := .f32) (mulf (F := Ideal) (φ := .f32) (mulf (F := Ideal) (φ := .f32) (mulf (F := Ideal) (φ := .f32) x0
      (broadcastInDim S8x4096x1024 ![0, 1, 2] u0 (Host.rsqrt (F := Ideal) (φ := .f32) (addf (F := Ideal) (φ := .f32) (Host.divf (F := Ideal) (φ := .f32)
        (broadcastInDim S8x4096x1 ![0, 1] u1 (Host.reduceAdd (F := Ideal) (φ := .f32) (axes := [2]) (t := S8x4096) (mulf (F := Ideal) (φ := .f32) x0 x0) (constant (F := Ideal) S_ .f32 0x00000000#32) u2 u3))
        (broadcastInDim S8x4096x1 ![] u4 (constant (F := Ideal) S_ .f32 0x44800000#32))) (broadcastInDim S8x4096x1 ![] u5 (constant (F := Ideal) S_ .f32 0x358637BD#32))))))
      (broadcastInDim S8x4096x1024 ![0, 1, 2] u6 (broadcastInDim S1x1x1024 ![2] u7 (shapeCast S1024 x2 u8))))
      (broadcastInDim S8x4096x1024 ![0, 1, 2] u9 (addf (F := Ideal) (φ := .f32) (broadcastInDim S8x1x1024 ![] u10 (constant (F := Ideal) S_ .f32 0x3F800000#32))
        (broadcastInDim S8x1x1024 ![0, 2] u11 (extractStridedSlice S8x1024 ![0, 1024] x1 u12)))))
      (broadcastInDim S8x4096x1024 ![0, 1, 2] u13 (broadcastInDim S8x1x1024 ![0, 2] u14 (extractStridedSlice S8x1024 ![0, 0] x1 u15)))) u16
      = (Lf (fun i => hn A (i 0) (i 1) (i 2)) : S8x4096x1024.Idx → EReal) := by
  subst h0 h1 h2
  rw [mulf_Lf]
  erw [r1]
  rw [b10]
  erw [hb_1024, hb_eps, hb_one]
  rw [hdivf_Lf _ _ fun i => by norm_num, addf_Lf,
    hrsqrt_Lf _ fun i => add_pos_of_nonneg_of_pos (div_nonneg (Finset.sum_nonneg fun k _ => mul_self_nonneg _) (by norm_num)) eps_pos]
  erw [b11, slice2_Lf, slice2_Lf, b8, b8, addf_Lf, b9, b9, cast_1a_a, b0, b1]
  rw [mulf_Lf, mulf_Lf, mulf_Lf, addf_Lf, truncf_Lf]
  refine Lf_ext fun i => ?_
  simp only [hn, rmsn, cr3, p3_0, p3_1, p3_2, p2_0, p2_1, Nat.zero_add]
  rw [← mul_assoc]
  rfl

end Cert.Norm

end
-- ==== Proof.NormPay.lean ====
/- What one grid step of the call with the first norm computes of a tile's reals. -/
module

public import proofs.«01_k».proof.Proof.NormRef
public import proofs.«01_k».proof.Proof.LiftK
public import proofs.«01_k».proof.Proof.Gen.Kernel3Ideal.Skeleton

@[expose] public section

set_option maxRecDepth 16384

noncomputable section

namespace Cert.Norm

open Idealize.ShloMosaic Idealize.ShloMosaic.TcCoe
open Cert.Kernel3Ideal Cert.Kernel3Ideal.Gen
open Cert.Lift
open Cert.Spec (rmsn)

/-- The tile of the modulated activations, at an even point. -/
theorem pay (f s h g : (ℕ → ℕ) → ℝ) :
    k0_pay3 (F := Ideal) (Lf f : S1x256x1024.Idx → EReal) (Lf s : S1x1x1024.Idx → EReal) (Lf h : S1x1x1024.Idx → EReal) (Lf g : S1x1024.Idx → EReal)
      = (Lf (fun c => rmsn (fun k => f (p3 0 (c 1) k)) (c 2) * (g (p2 0 (c 2)) * (1 + s (p3 0 0 (c 2)))) + h (p3 0 0 (c 2))) : S1x256x1024.Idx → EReal) := by
  unfold k0_pay3 k0_pay2
  dsimp only
  rw [cast_1ab_ab, cast_1ab_ab, cast_1ab_ab, cast_self_Lf, mulf_Lf]
  erw [rowsum_Lf (fun c => f (p3 0 (c 0) (c 1)) * f (p3 0 (c 0) (c 1))) 1024 256]
  rw [cast_a_a1, bc_1024, divf_Lf _ _ fun i => by norm_num]
  rw [bc_eps, addf_Lf, rsqrt_Lf _ fun i => add_pos_of_nonneg_of_pos (div_nonneg (Finset.sum_nonneg fun k _ => mul_self_nonneg _) (by norm_num)) eps_pos]
  rw [broadcastTo2_Lf, mulf_Lf, bc_one, addf_Lf, mulf_Lf, broadcastTo2_Lf, mulf_Lf, broadcastTo2_Lf, addf_Lf, truncf_Lf, cast_ab_1ab]
  exact Lf_ext3 fun q hq r hr s hs => rfl

/-- The same tile, at an odd point: the branches are the same text. -/
theorem pay' (v w x y) : k0_pay818 (F := Ideal) v w x y = k0_pay3 (F := Ideal) v w x y := rfl

end Cert.Norm

end
-- ==== Proof.NormOut.lean ====
/- What each kind of grid point leaves in the block of the modulated activations. -/
module

public import proofs.«01_k».proof.Proof.NormPay
public import proofs.«01_k».proof.Proof.Gen.Kernel3Ideal.Value

@[expose] public section

set_option maxRecDepth 16384

noncomputable section

namespace Cert.Norm

open Idealize.ShloMosaic Idealize.ShloMosaic.TcCoe
open Cert.Kernel3Ideal Cert.Kernel3Ideal.Gen

section
variable (arg1 : Memref sig .tc .vmem S1x256x1024 .f32) (harg1 : arg1.IsWhole) (arg2 : Memref sig .tc .vmem S1x1x1024 .f32) (harg2 : arg2.IsWhole)
  (arg3 : Memref sig .tc .vmem S1x1x1024 .f32) (harg3 : arg3.IsWhole) (arg4 : Memref sig .tc .vmem S1x1024 .f32) (harg4 : arg4.IsWhole)
  (p : Vec Ideal S1x256x1024 .f32 → Vec Ideal S1x1x1024 .f32 → Vec Ideal S1x1x1024 .f32 → Vec Ideal S1x1024 .f32 → FVec Ideal S1x256x1024 .bf16)
  (x0 : Vec Ideal S1x256x1024 .f32) (x1 : Vec Ideal S1x1x1024 .f32) (x2 : Vec Ideal S1x1x1024 .f32) (x3 : Vec Ideal S1x1024 .f32)

/-- The one store of the whole block. -/
def pcs : List (View.Piece (Elt Ideal) S1x256x1024 .bf16) :=
  [⟨Rect.unit (s := S1x256x1024) ![0, 0, 0] S1x256x1024.size inb_S1x256x1024_S1x256x1024_0_0_0,
    p (View.readAt (Elt Ideal) arg1.view (Rect.unit (s := S1x256x1024) ![0, 0, 0] S1x256x1024.size inb_S1x256x1024_S1x256x1024_0_0_0).toLoadRect (harg1.unread x0))
      (View.readAt (Elt Ideal) arg2.view (Rect.unit (s := S1x1x1024) ![0, 0, 0] S1x1x1024.size inb_S1x1x1024_S1x1x1024_0_0_0).toLoadRect (harg2.unread x1))
      (View.readAt (Elt Ideal) arg3.view (Rect.unit (s := S1x1x1024) ![0, 0, 0] S1x1x1024.size inb_S1x1x1024_S1x1x1024_0_0_0).toLoadRect (harg3.unread x2))
      (View.readAt (Elt Ideal) arg4.view (Rect.unit (s := S1x1024) ![0, 0] S1x1024.size inb_S1x1024_S1x1024_0_0).toLoadRect (harg4.unread x3))⟩]

/-- A load of a whole buffer. -/
theorem ldw {s : Shape} {e : EltTy} (a : Memref sig .tc .vmem s e) (ha : a.IsWhole) {off : Fin s.rank → ℕ} (h : off = fun _ => 0) (inb) (x : Vec Ideal s e) :
    View.readAt (Elt Ideal) a.view (Rect.unit (s := s) off s.size inb).toLoadRect (ha.unread x) = x := by
  funext y
  refine (Memref.IsWhole.readAt_unread (Val := Elt Ideal) ha x _ y).trans ?_
  exact congrFun (View.ld_unit_zero (Val := Elt Ideal) h inb x) y

/-- One store of a whole buffer. -/
theorem stw {s : Shape} {e : EltTy} {sp : Space} {κ : Kind} (v : View sig κ sp s e) (f) {off : Fin s.rank → ℕ} (h : off = fun _ => 0) (inb) (w : Vec Ideal s e) :
    v.read (Elt Ideal) (v.writes (Elt Ideal) f [⟨Rect.unit (s := s) off s.size inb, w⟩]) = w :=
  (View.read_writes_eq_canon v f _ fun y => ⟨_, List.mem_singleton_self _, View.mem_set_unit_zero h inb y⟩).trans
    (View.canon_unit_zero (Val := Elt Ideal) h inb w)

/-- What that store leaves. -/
theorem pcs_read {sp : Space} {κ : Kind} (v : View sig κ sp S1x256x1024 .bf16) (f) :
    v.read (Elt Ideal) (v.writes (Elt Ideal) f (pcs arg1 harg1 arg2 harg2 arg3 harg3 arg4 harg4 p x0 x1 x2 x3)) = p x0 x1 x2 x3 := by
  have z2 : (![0, 0] : Fin 2 → ℕ) = fun _ => 0 := by decide
  have z3 : (![0, 0, 0] : Fin 3 → ℕ) = fun _ => 0 := by decide
  unfold pcs
  rw [ldw arg1 harg1 z3, ldw arg2 harg2 z3, ldw arg3 harg3 z3, ldw arg4 harg4 z2]
  exact stw v f z3 _ _

end

/-- At each kind of point, the store and what it leaves. -/
theorem pcs_A (c : Dev nD) (i : grid0.Coords) (arg1 : Memref sig .tc .vmem S1x256x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x2176 .bf16) (harg5 : arg5.IsWhole) (arg6 : Memref sig .tc .vmem S1x1664 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S256x256 .bf16) (harg15 : arg15.IsWhole) (arg16 : Memref sig .tc .vmem S256x256 .bf16) (harg16 : arg16.IsWhole) (arg17 : Memref sig .tc .vmem S1x256x512 .bf16) (harg17 : arg17.IsWhole) (arg18 : Memref sig .tc .vmem S1x256x1024 .bf16) (harg18 : arg18.IsWhole) (arg19 : Memref sig .tc .vmem S256x2176 .f32) (harg19 : arg19.IsWhole) (arg20 : Memref sig .tc .vmem S256x2176 .f32) (harg20 : arg20.IsWhole) (arg21 : Memref sig .tc .vmem S1x1664 .f32) (harg21 : arg21.IsWhole) (arg22 : Memref sig .tc .vmem S4x128x128 .f32) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x512 .bf16) (harg26 : arg26.IsWhole) (arg27 : Memref sig .tc .vmem S256x512 .bf16) (harg27 : arg27.IsWhole) (arg28 : Memref sig .tc .vmem S256x512 .bf16) (harg28 : arg28.IsWhole) (arg29 : Memref sig .tc .vmem S256x512 .bf16) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (hc0 : cond0_0 i) (hc1 : cond0_1 i) (hc2 : cond0_2 i) (hc3 : ¬cond0_3 i)
    (x0 : Vec Ideal S1x256x1024 .f32) (x1 : Vec Ideal S1x1x1024 .f32) (x2 : Vec Ideal S1x1x1024 .f32) (x3 : Vec Ideal S1x1024 .f32) (x4 : Vec Ideal S1024x2176 .bf16) (x5 : Vec Ideal S1x1664 .f32) (x6 : Vec Ideal S2x128x512 .bf16) (x7 : Vec Ideal S1x512 .f32) (x8 : Vec Ideal S1x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S256x256 .bf16) (x15 : Vec Ideal S256x256 .bf16) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hc2 hc3 x0 x1 x2 x3 x4 x5 x6 x7 x8 x9 x10 x11 x12 x13 x14 x15).2.1 = pcs arg1 harg1 arg2 harg2 arg3 harg3 arg4 harg4 (k0_pay3 (F := Ideal)) x0 x1 x2 x3 := by
  sl_kernel_rfl
@[inherit_doc pcs_A] theorem out_A (c : Dev nD) (i : grid0.Coords) (arg1 : Memref sig .tc .vmem S1x256x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x2176 .bf16) (harg5 : arg5.IsWhole) (arg6 : Memref sig .tc .vmem S1x1664 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S256x256 .bf16) (harg15 : arg15.IsWhole) (arg16 : Memref sig .tc .vmem S256x256 .bf16) (harg16 : arg16.IsWhole) (arg17 : Memref sig .tc .vmem S1x256x512 .bf16) (harg17 : arg17.IsWhole) (arg18 : Memref sig .tc .vmem S1x256x1024 .bf16) (harg18 : arg18.IsWhole) (arg19 : Memref sig .tc .vmem S256x2176 .f32) (harg19 : arg19.IsWhole) (arg20 : Memref sig .tc .vmem S256x2176 .f32) (harg20 : arg20.IsWhole) (arg21 : Memref sig .tc .vmem S1x1664 .f32) (harg21 : arg21.IsWhole) (arg22 : Memref sig .tc .vmem S4x128x128 .f32) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x512 .bf16) (harg26 : arg26.IsWhole) (arg27 : Memref sig .tc .vmem S256x512 .bf16) (harg27 : arg27.IsWhole) (arg28 : Memref sig .tc .vmem S256x512 .bf16) (harg28 : arg28.IsWhole) (arg29 : Memref sig .tc .vmem S256x512 .bf16) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (hc0 : cond0_0 i) (hc1 : cond0_1 i) (hc2 : cond0_2 i) (hc3 : ¬cond0_3 i)
    (x0 : Vec Ideal S1x256x1024 .f32) (x1 : Vec Ideal S1x1x1024 .f32) (x2 : Vec Ideal S1x1x1024 .f32) (x3 : Vec Ideal S1x1024 .f32) (x4 : Vec Ideal S1024x2176 .bf16) (x5 : Vec Ideal S1x1664 .f32) (x6 : Vec Ideal S2x128x512 .bf16) (x7 : Vec Ideal S1x512 .f32) (x8 : Vec Ideal S1x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S256x256 .bf16) (x15 : Vec Ideal S256x256 .bf16) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hc2 hc3 x0 x1 x2 x3 x4 x5 x6 x7 x8 x9 x10 x11 x12 x13 x14 x15 = k0_pay3 (F := Ideal) x0 x1 x2 x3 := by
  unfold out0_A_17
  rw [pcs_A]
  exact pcs_read arg1 harg1 arg2 harg2 arg3 harg3 arg4 harg4 (k0_pay3 (F := Ideal)) x0 x1 x2 x3 VO0_17 _
@[inherit_doc pcs_A] theorem pcs_B (c : Dev nD) (i : grid0.Coords) (arg1 : Memref sig .tc .vmem S1x256x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x2176 .bf16) (harg5 : arg5.IsWhole) (arg6 : Memref sig .tc .vmem S1x1664 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S256x256 .bf16) (harg15 : arg15.IsWhole) (arg16 : Memref sig .tc .vmem S256x256 .bf16) (harg16 : arg16.IsWhole) (arg17 : Memref sig .tc .vmem S1x256x512 .bf16) (harg17 : arg17.IsWhole) (arg18 : Memref sig .tc .vmem S1x256x1024 .bf16) (harg18 : arg18.IsWhole) (arg19 : Memref sig .tc .vmem S256x2176 .f32) (harg19 : arg19.IsWhole) (arg20 : Memref sig .tc .vmem S256x2176 .f32) (harg20 : arg20.IsWhole) (arg21 : Memref sig .tc .vmem S1x1664 .f32) (harg21 : arg21.IsWhole) (arg22 : Memref sig .tc .vmem S4x128x128 .f32) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x512 .bf16) (harg26 : arg26.IsWhole) (arg27 : Memref sig .tc .vmem S256x512 .bf16) (harg27 : arg27.IsWhole) (arg28 : Memref sig .tc .vmem S256x512 .bf16) (harg28 : arg28.IsWhole) (arg29 : Memref sig .tc .vmem S256x512 .bf16) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (hc0 : ¬cond0_0 i) (hc1 : cond0_1 i) (hc2 : ¬cond0_2 i) (hc3 : cond0_3 i)
    (x0 : Vec Ideal S1x256x1024 .f32) (x1 : Vec Ideal S1x1x1024 .f32) (x2 : Vec Ideal S1x1x1024 .f32) (x3 : Vec Ideal S1x1024 .f32) (x4 : Vec Ideal S1024x2176 .bf16) (x5 : Vec Ideal S1x1664 .f32) (x6 : Vec Ideal S2x128x512 .bf16) (x7 : Vec Ideal S1x512 .f32) (x8 : Vec Ideal S1x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S256x256 .bf16) (x15 : Vec Ideal S256x256 .bf16) (xs0 : Vec Ideal S256x2176 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hc2 hc3 x0 x1 x2 x3 x4 x5 x6 x7 x8 x9 x10 x11 x12 x13 x14 x15 xs0).2.1 = pcs arg1 harg1 arg2 harg2 arg3 harg3 arg4 harg4 (k0_pay818 (F := Ideal)) x0 x1 x2 x3 := by
  sl_kernel_rfl
@[inherit_doc pcs_A] theorem out_B (c : Dev nD) (i : grid0.Coords) (arg1 : Memref sig .tc .vmem S1x256x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x2176 .bf16) (harg5 : arg5.IsWhole) (arg6 : Memref sig .tc .vmem S1x1664 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S256x256 .bf16) (harg15 : arg15.IsWhole) (arg16 : Memref sig .tc .vmem S256x256 .bf16) (harg16 : arg16.IsWhole) (arg17 : Memref sig .tc .vmem S1x256x512 .bf16) (harg17 : arg17.IsWhole) (arg18 : Memref sig .tc .vmem S1x256x1024 .bf16) (harg18 : arg18.IsWhole) (arg19 : Memref sig .tc .vmem S256x2176 .f32) (harg19 : arg19.IsWhole) (arg20 : Memref sig .tc .vmem S256x2176 .f32) (harg20 : arg20.IsWhole) (arg21 : Memref sig .tc .vmem S1x1664 .f32) (harg21 : arg21.IsWhole) (arg22 : Memref sig .tc .vmem S4x128x128 .f32) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x512 .bf16) (harg26 : arg26.IsWhole) (arg27 : Memref sig .tc .vmem S256x512 .bf16) (harg27 : arg27.IsWhole) (arg28 : Memref sig .tc .vmem S256x512 .bf16) (harg28 : arg28.IsWhole) (arg29 : Memref sig .tc .vmem S256x512 .bf16) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (hc0 : ¬cond0_0 i) (hc1 : cond0_1 i) (hc2 : ¬cond0_2 i) (hc3 : cond0_3 i)
    (x0 : Vec Ideal S1x256x1024 .f32) (x1 : Vec Ideal S1x1x1024 .f32) (x2 : Vec Ideal S1x1x1024 .f32) (x3 : Vec Ideal S1x1024 .f32) (x4 : Vec Ideal S1024x2176 .bf16) (x5 : Vec Ideal S1x1664 .f32) (x6 : Vec Ideal S2x128x512 .bf16) (x7 : Vec Ideal S1x512 .f32) (x8 : Vec Ideal S1x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S256x256 .bf16) (x15 : Vec Ideal S256x256 .bf16) (xs0 : Vec Ideal S256x2176 .f32) :
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hc2 hc3 x0 x1 x2 x3 x4 x5 x6 x7 x8 x9 x10 x11 x12 x13 x14 x15 xs0 = k0_pay3 (F := Ideal) x0 x1 x2 x3 := by
  unfold out0_B_17
  rw [pcs_B]
  exact (pcs_read arg1 harg1 arg2 harg2 arg3 harg3 arg4 harg4 (k0_pay818 (F := Ideal)) x0 x1 x2 x3 VO0_17 _).trans (pay' x0 x1 x2 x3)
@[inherit_doc pcs_A] theorem pcs_C (c : Dev nD) (i : grid0.Coords) (arg1 : Memref sig .tc .vmem S1x256x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x2176 .bf16) (harg5 : arg5.IsWhole) (arg6 : Memref sig .tc .vmem S1x1664 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S256x256 .bf16) (harg15 : arg15.IsWhole) (arg16 : Memref sig .tc .vmem S256x256 .bf16) (harg16 : arg16.IsWhole) (arg17 : Memref sig .tc .vmem S1x256x512 .bf16) (harg17 : arg17.IsWhole) (arg18 : Memref sig .tc .vmem S1x256x1024 .bf16) (harg18 : arg18.IsWhole) (arg19 : Memref sig .tc .vmem S256x2176 .f32) (harg19 : arg19.IsWhole) (arg20 : Memref sig .tc .vmem S256x2176 .f32) (harg20 : arg20.IsWhole) (arg21 : Memref sig .tc .vmem S1x1664 .f32) (harg21 : arg21.IsWhole) (arg22 : Memref sig .tc .vmem S4x128x128 .f32) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x512 .bf16) (harg26 : arg26.IsWhole) (arg27 : Memref sig .tc .vmem S256x512 .bf16) (harg27 : arg27.IsWhole) (arg28 : Memref sig .tc .vmem S256x512 .bf16) (harg28 : arg28.IsWhole) (arg29 : Memref sig .tc .vmem S256x512 .bf16) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (hc0 : ¬cond0_0 i) (hc1 : ¬cond0_1 i) (hc2 : cond0_2 i) (hc3 : ¬cond0_3 i)
    (x0 : Vec Ideal S1x256x1024 .f32) (x1 : Vec Ideal S1x1x1024 .f32) (x2 : Vec Ideal S1x1x1024 .f32) (x3 : Vec Ideal S1x1024 .f32) (x4 : Vec Ideal S1024x2176 .bf16) (x5 : Vec Ideal S1x1664 .f32) (x6 : Vec Ideal S2x128x512 .bf16) (x7 : Vec Ideal S1x512 .f32) (x8 : Vec Ideal S1x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S256x256 .bf16) (x15 : Vec Ideal S256x256 .bf16) (xs1 : Vec Ideal S256x2176 .f32) (xs2 : Vec Ideal S1x1664 .f32) (xs3 : Vec Ideal S4x128x128 .f32) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hc2 hc3 x0 x1 x2 x3 x4 x5 x6 x7 x8 x9 x10 x11 x12 x13 x14 x15 xs1 xs2 xs3).2.1 = pcs arg1 harg1 arg2 harg2 arg3 harg3 arg4 harg4 (k0_pay3 (F := Ideal)) x0 x1 x2 x3 := by
  sl_kernel_rfl
@[inherit_doc pcs_A] theorem out_C (c : Dev nD) (i : grid0.Coords) (arg1 : Memref sig .tc .vmem S1x256x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x2176 .bf16) (harg5 : arg5.IsWhole) (arg6 : Memref sig .tc .vmem S1x1664 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S256x256 .bf16) (harg15 : arg15.IsWhole) (arg16 : Memref sig .tc .vmem S256x256 .bf16) (harg16 : arg16.IsWhole) (arg17 : Memref sig .tc .vmem S1x256x512 .bf16) (harg17 : arg17.IsWhole) (arg18 : Memref sig .tc .vmem S1x256x1024 .bf16) (harg18 : arg18.IsWhole) (arg19 : Memref sig .tc .vmem S256x2176 .f32) (harg19 : arg19.IsWhole) (arg20 : Memref sig .tc .vmem S256x2176 .f32) (harg20 : arg20.IsWhole) (arg21 : Memref sig .tc .vmem S1x1664 .f32) (harg21 : arg21.IsWhole) (arg22 : Memref sig .tc .vmem S4x128x128 .f32) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x512 .bf16) (harg26 : arg26.IsWhole) (arg27 : Memref sig .tc .vmem S256x512 .bf16) (harg27 : arg27.IsWhole) (arg28 : Memref sig .tc .vmem S256x512 .bf16) (harg28 : arg28.IsWhole) (arg29 : Memref sig .tc .vmem S256x512 .bf16) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (hc0 : ¬cond0_0 i) (hc1 : ¬cond0_1 i) (hc2 : cond0_2 i) (hc3 : ¬cond0_3 i)
    (x0 : Vec Ideal S1x256x1024 .f32) (x1 : Vec Ideal S1x1x1024 .f32) (x2 : Vec Ideal S1x1x1024 .f32) (x3 : Vec Ideal S1x1024 .f32) (x4 : Vec Ideal S1024x2176 .bf16) (x5 : Vec Ideal S1x1664 .f32) (x6 : Vec Ideal S2x128x512 .bf16) (x7 : Vec Ideal S1x512 .f32) (x8 : Vec Ideal S1x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S256x256 .bf16) (x15 : Vec Ideal S256x256 .bf16) (xs1 : Vec Ideal S256x2176 .f32) (xs2 : Vec Ideal S1x1664 .f32) (xs3 : Vec Ideal S4x128x128 .f32) :
    out0_C_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hc2 hc3 x0 x1 x2 x3 x4 x5 x6 x7 x8 x9 x10 x11 x12 x13 x14 x15 xs1 xs2 xs3 = k0_pay3 (F := Ideal) x0 x1 x2 x3 := by
  unfold out0_C_17
  rw [pcs_C]
  exact pcs_read arg1 harg1 arg2 harg2 arg3 harg3 arg4 harg4 (k0_pay3 (F := Ideal)) x0 x1 x2 x3 VO0_17 _
@[inherit_doc pcs_A] theorem pcs_D (c : Dev nD) (i : grid0.Coords) (arg1 : Memref sig .tc .vmem S1x256x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x2176 .bf16) (harg5 : arg5.IsWhole) (arg6 : Memref sig .tc .vmem S1x1664 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S256x256 .bf16) (harg15 : arg15.IsWhole) (arg16 : Memref sig .tc .vmem S256x256 .bf16) (harg16 : arg16.IsWhole) (arg17 : Memref sig .tc .vmem S1x256x512 .bf16) (harg17 : arg17.IsWhole) (arg18 : Memref sig .tc .vmem S1x256x1024 .bf16) (harg18 : arg18.IsWhole) (arg19 : Memref sig .tc .vmem S256x2176 .f32) (harg19 : arg19.IsWhole) (arg20 : Memref sig .tc .vmem S256x2176 .f32) (harg20 : arg20.IsWhole) (arg21 : Memref sig .tc .vmem S1x1664 .f32) (harg21 : arg21.IsWhole) (arg22 : Memref sig .tc .vmem S4x128x128 .f32) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x512 .bf16) (harg26 : arg26.IsWhole) (arg27 : Memref sig .tc .vmem S256x512 .bf16) (harg27 : arg27.IsWhole) (arg28 : Memref sig .tc .vmem S256x512 .bf16) (harg28 : arg28.IsWhole) (arg29 : Memref sig .tc .vmem S256x512 .bf16) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (hc0 : ¬cond0_0 i) (hc1 : ¬cond0_1 i) (hc2 : ¬cond0_2 i) (hc3 : cond0_3 i)
    (x0 : Vec Ideal S1x256x1024 .f32) (x1 : Vec Ideal S1x1x1024 .f32) (x2 : Vec Ideal S1x1x1024 .f32) (x3 : Vec Ideal S1x1024 .f32) (x4 : Vec Ideal S1024x2176 .bf16) (x5 : Vec Ideal S1x1664 .f32) (x6 : Vec Ideal S2x128x512 .bf16) (x7 : Vec Ideal S1x512 .f32) (x8 : Vec Ideal S1x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S256x256 .bf16) (x15 : Vec Ideal S256x256 .bf16) (xs0 : Vec Ideal S256x2176 .f32) (xs2 : Vec Ideal S1x1664 .f32) (xs3 : Vec Ideal S4x128x128 .f32) :
    (kernelRun0_D (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hc2 hc3 x0 x1 x2 x3 x4 x5 x6 x7 x8 x9 x10 x11 x12 x13 x14 x15 xs0 xs2 xs3).2.1 = pcs arg1 harg1 arg2 harg2 arg3 harg3 arg4 harg4 (k0_pay818 (F := Ideal)) x0 x1 x2 x3 := by
  sl_kernel_rfl
@[inherit_doc pcs_A] theorem out_D (c : Dev nD) (i : grid0.Coords) (arg1 : Memref sig .tc .vmem S1x256x1024 .f32) (harg1 : arg1.IsWhole) (arg2 : Memref sig .tc .vmem S1x1x1024 .f32) (harg2 : arg2.IsWhole) (arg3 : Memref sig .tc .vmem S1x1x1024 .f32) (harg3 : arg3.IsWhole) (arg4 : Memref sig .tc .vmem S1x1024 .f32) (harg4 : arg4.IsWhole) (arg5 : Memref sig .tc .vmem S1024x2176 .bf16) (harg5 : arg5.IsWhole) (arg6 : Memref sig .tc .vmem S1x1664 .f32) (harg6 : arg6.IsWhole) (arg7 : Memref sig .tc .vmem S2x128x512 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S1x512 .f32) (harg13 : arg13.IsWhole) (arg14 : Memref sig .tc .vmem S1x512 .f32) (harg14 : arg14.IsWhole) (arg15 : Memref sig .tc .vmem S256x256 .bf16) (harg15 : arg15.IsWhole) (arg16 : Memref sig .tc .vmem S256x256 .bf16) (harg16 : arg16.IsWhole) (arg17 : Memref sig .tc .vmem S1x256x512 .bf16) (harg17 : arg17.IsWhole) (arg18 : Memref sig .tc .vmem S1x256x1024 .bf16) (harg18 : arg18.IsWhole) (arg19 : Memref sig .tc .vmem S256x2176 .f32) (harg19 : arg19.IsWhole) (arg20 : Memref sig .tc .vmem S256x2176 .f32) (harg20 : arg20.IsWhole) (arg21 : Memref sig .tc .vmem S1x1664 .f32) (harg21 : arg21.IsWhole) (arg22 : Memref sig .tc .vmem S4x128x128 .f32) (harg22 : arg22.IsWhole) (arg23 : Memref sig .tc .vmem S256x512 .bf16) (harg23 : arg23.IsWhole) (arg24 : Memref sig .tc .vmem S256x512 .bf16) (harg24 : arg24.IsWhole) (arg25 : Memref sig .tc .vmem S256x512 .bf16) (harg25 : arg25.IsWhole) (arg26 : Memref sig .tc .vmem S256x512 .bf16) (harg26 : arg26.IsWhole) (arg27 : Memref sig .tc .vmem S256x512 .bf16) (harg27 : arg27.IsWhole) (arg28 : Memref sig .tc .vmem S256x512 .bf16) (harg28 : arg28.IsWhole) (arg29 : Memref sig .tc .vmem S256x512 .bf16) (harg29 : arg29.IsWhole) (arg30 : Memref sig .tc .vmem S256x512 .f32) (harg30 : arg30.IsWhole) (arg31 : Memref sig .tc .vmem S256x512 .f32) (harg31 : arg31.IsWhole) (arg32 : Memref sig .tc .vmem S256x512 .f32) (harg32 : arg32.IsWhole) (hc0 : ¬cond0_0 i) (hc1 : ¬cond0_1 i) (hc2 : ¬cond0_2 i) (hc3 : cond0_3 i)
    (x0 : Vec Ideal S1x256x1024 .f32) (x1 : Vec Ideal S1x1x1024 .f32) (x2 : Vec Ideal S1x1x1024 .f32) (x3 : Vec Ideal S1x1024 .f32) (x4 : Vec Ideal S1024x2176 .bf16) (x5 : Vec Ideal S1x1664 .f32) (x6 : Vec Ideal S2x128x512 .bf16) (x7 : Vec Ideal S1x512 .f32) (x8 : Vec Ideal S1x512 .f32) (x9 : Vec Ideal S1x512 .f32) (x10 : Vec Ideal S1x512 .f32) (x11 : Vec Ideal S1x512 .f32) (x12 : Vec Ideal S1x512 .f32) (x13 : Vec Ideal S1x512 .f32) (x14 : Vec Ideal S256x256 .bf16) (x15 : Vec Ideal S256x256 .bf16) (xs0 : Vec Ideal S256x2176 .f32) (xs2 : Vec Ideal S1x1664 .f32) (xs3 : Vec Ideal S4x128x128 .f32) :
    out0_D_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 hc0 hc1 hc2 hc3 x0 x1 x2 x3 x4 x5 x6 x7 x8 x9 x10 x11 x12 x13 x14 x15 xs0 xs2 xs3 = k0_pay3 (F := Ideal) x0 x1 x2 x3 := by
  unfold out0_D_17
  rw [pcs_D]
  exact (pcs_read arg1 harg1 arg2 harg2 arg3 harg3 arg4 harg4 (k0_pay818 (F := Ideal)) x0 x1 x2 x3 VO0_17 _).trans (pay' x0 x1 x2 x3)

end Cert.Norm

end
-- ==== Proof.Norm.lean ====
/- The modulated activations that the third call returns. -/
module

public import Idealize.ShloMosaic.Lib.Pipeline.ValueKit.Geometry
public import Idealize.ShloMosaic.Lib.StableHlo.RunRead
public import proofs.«01_k».proof.Proof.NormOut
public import proofs.«01_k».proof.Proof.NormRef

@[expose] public section

set_option maxRecDepth 16384

noncomputable section

namespace Cert.Norm

open Idealize.ShloMosaic Idealize.ShloMosaic.TcCoe Idealize.ShloMosaic.StableHlo
open Cert.Kernel3Ideal Cert.Kernel3Ideal.Gen
open Cert.Lift
open Cert.Spec (rmsn)

theorem idx_0 : ∀ t : Fin cfg0.N, win0_0.index t = ![min t.val 127 / 16, min t.val 127 % 16, 0] := (by decide +kernel : ∀ t : Fin grid0.N, _)
theorem idx_1 : ∀ t : Fin cfg0.N, win0_1.index t = ![min t.val 127 / 16, 0, 1] := (by decide +kernel : ∀ t : Fin grid0.N, _)
theorem idx_2 : ∀ t : Fin cfg0.N, win0_2.index t = ![min t.val 127 / 16, 0, 0] := (by decide +kernel : ∀ t : Fin grid0.N, _)
theorem idx_3 : ∀ t : Fin cfg0.N, win0_3.index t = ![0, 0] := (by decide +kernel : ∀ t : Fin grid0.N, _)
theorem idx_17 : ∀ t : Fin cfg0.N, win0_17.index t = ![min t.val 127 / 16, min t.val 127 % 16, 0] := (by decide +kernel : ∀ t : Fin grid0.N, _)

section
variable (A : Args) (m : (ℓ : Loc nD τ sig) → Buf (Elt Ideal) ℓ) (c : Dev nD)
  (h0 : m ((c : Thread nD τ).loc main_arg0) = (Lf A.x : S8x4096x1024.Idx → EReal))
  (h1 : m ((c : Thread nD τ).loc main_arg1) = (Lf A.ada : S8x3072.Idx → EReal))
  (h2 : m ((c : Thread nD τ).loc main_arg2) = (Lf A.g : S1x1024.Idx → EReal))

/-- What a point leaves in the block, whatever its kind. -/
theorem out17 (t : Fin cfg0.N) : (outsAt0 m c t.val t.isLt).2.1 = k0_pay3 (F := Ideal) (iblk m c 0 t) (iblk m c 1 t) (iblk m c 2 t) (iblk m c 3 t) := by
  have ht : t.val < 129 := t.isLt
  by_cases a0 : t.val % 129 = 0
  · rw [outsAt0_A m c t a0 (Or.inl a0) (by omega) (by omega)]
    dsimp only
    apply out_A
  by_cases a1 : (t.val % 129 = 0 ∨ t.val % 129 = 1 ∨ t.val % 129 = 17 ∨ t.val % 129 = 33 ∨ t.val % 129 = 49 ∨ t.val % 129 = 65 ∨ t.val % 129 = 81 ∨ t.val % 129 = 97 ∨ t.val % 129 = 113)
  · rw [outsAt0_B m c t a0 a1 (by omega) (by omega)]
    dsimp only
    apply out_B
  by_cases a2 : t.val % 2 = 0
  · rw [outsAt0_C m c t a0 a1 a2 (by omega)]
    dsimp only
    apply out_C
  · rw [outsAt0_D m c t a0 a1 a2 (by omega)]
    dsimp only
    apply out_D

include h1 in
/-- The modulation and the gain as the pipeline starts. -/
theorem v36_eq : Cert.Kernel3Ideal.Gen.V m c main_v36 = (Lf (fun i => A.ada (p2 (i 0) (i 2))) : S8x1x3072.Idx → EReal) := by
  unfold Cert.Kernel3Ideal.Gen.V
  simp only [List.flatten_cons, List.flatten_nil, List.append_nil]
  after_reads_simp
  refine Eq.trans ?_ (cast_ab_a1b A.ada shapeCasts_S8x3072_S8x1x3072)
  rw [← h1]
  rfl
include h1 in
@[inherit_doc v36_eq] theorem v37_eq : Cert.Kernel3Ideal.Gen.V m c main_v37 = (Lf (fun i => A.ada (p2 (i 0) (i 2))) : S8x1x3072.Idx → EReal) := by
  unfold Cert.Kernel3Ideal.Gen.V
  simp only [List.flatten_cons, List.flatten_nil, List.append_nil]
  after_reads_simp
  refine Eq.trans ?_ (cast_ab_a1b A.ada shapeCasts_S8x3072_S8x1x3072)
  rw [← h1]
  rfl
include h2 in
@[inherit_doc v36_eq] theorem v38_eq : Cert.Kernel3Ideal.Gen.V m c main_v38 = (Lf (fun i => A.g (p2 0 (i 1))) : S1x1024.Idx → EReal) := by
  unfold Cert.Kernel3Ideal.Gen.V
  simp only [List.flatten_cons, List.flatten_nil, List.append_nil]
  after_reads_simp
  have e : shapeCast S1x1024 (shapeCast S1024 (Lf A.g : S1x1024.Idx → EReal) shapeCasts_S1x1024_S1024) shapeCasts_S1024_S1x1024
      = (Lf (fun i => A.g (p2 0 (i 1))) : S1x1024.Idx → EReal) := by
    rw [cast_1a_a, cast_a_1a]
    rfl
  refine Eq.trans ?_ e
  rw [← h2]
  rfl

include h0 in
/-- What each window holds at a point. -/
theorem blk0 (t : Fin cfg0.N) : iblk m c 0 t = (Lf (fun i => A.x (p3 (min t.val 127 / 16) (256 * (min t.val 127 % 16) + i 1) (i 2))) : S1x256x1024.Idx → EReal) := by
  funext y
  unfold iblk
  show Cert.Kernel3Ideal.Gen.V m c main_arg0 (((cfg0.win 0).blk t).view.emb y) = _
  rw [V_main_arg0]
  refine (congrFun h0 _).trans ?_
  show ((A.x (cr (((cfg0.win 0).blk t).view.emb y)) : ℝ) : EReal) = ((_ : ℝ) : EReal)
  congr 2
  have hy : (y 0).val < 1 := (y 0).isLt
  rw [cr3]
  blk_simp [idx_0]
  rw [Nat.mul_comm _ 256, cr3]
  simp only [p3_1, p3_2]

include h1 in
@[inherit_doc blk0] theorem blk1 (t : Fin cfg0.N) : iblk m c 1 t = (Lf (fun i => A.ada (p2 (min t.val 127 / 16) (1024 + i 2))) : S1x1x1024.Idx → EReal) := by
  funext y
  unfold iblk
  show Cert.Kernel3Ideal.Gen.V m c main_v36 (((cfg0.win 1).blk t).view.emb y) = _
  rw [v36_eq A m c h1]
  show ((A.ada (p2 (cr (((cfg0.win 1).blk t).view.emb y) 0) (cr (((cfg0.win 1).blk t).view.emb y) 2)) : ℝ) : EReal) = ((_ : ℝ) : EReal)
  congr 2
  have hy : (y 0).val < 1 := (y 0).isLt
  rw [cr3]
  simp only [p3_0, p3_2]
  blk_simp [idx_1]
  rw [cr3]
  simp only [p3_2]
include h1 in
@[inherit_doc blk0] theorem blk2 (t : Fin cfg0.N) : iblk m c 2 t = (Lf (fun i => A.ada (p2 (min t.val 127 / 16) (i 2))) : S1x1x1024.Idx → EReal) := by
  funext y
  unfold iblk
  show Cert.Kernel3Ideal.Gen.V m c main_v37 (((cfg0.win 2).blk t).view.emb y) = _
  rw [v37_eq A m c h1]
  show ((A.ada (p2 (cr (((cfg0.win 2).blk t).view.emb y) 0) (cr (((cfg0.win 2).blk t).view.emb y) 2)) : ℝ) : EReal) = ((_ : ℝ) : EReal)
  congr 2
  have hy : (y 0).val < 1 := (y 0).isLt
  rw [cr3]
  simp only [p3_0, p3_2]
  blk_simp [idx_2]
  rw [cr3]
  simp only [p3_2]
include h2 in
@[inherit_doc blk0] theorem blk3 (t : Fin cfg0.N) : iblk m c 3 t = (Lf (fun i => A.g (p2 0 (i 1))) : S1x1024.Idx → EReal) := by
  refine Eq.trans (funext fun y => ?_) (v38_eq A m c h2)
  unfold iblk
  show Cert.Kernel3Ideal.Gen.V m c main_v38 (((cfg0.win 3).blk t).view.emb y) = _
  congr 1
  blk_ext [idx_3]

include h0 h1 h2 in
/-- The kernel's result: the modulated activations. -/
theorem result : (dats m 0 c).arrAt 17 cfg0.N = (Lf (fun i => hn A (i 0) (i 1) (i 2)) : S8x4096x1024.Idx → EReal) := by
  refine (dats m 0 c).arrAt_eq_of_covers 17 _ (by decide +kernel) fun t hf y => ?_
  clear hf
  have ho : (outsAt0 m c t.val t.isLt).2.1 = (Lf (fun i => hn A (min t.val 127 / 16) (256 * (min t.val 127 % 16) + i 1) (i 2)) : S1x256x1024.Idx → EReal) := by
    rw [out17, blk0 A m c h0 t, blk1 A m c h1 t, blk2 A m c h1 t, blk3 A m c h2 t]
    exact (pay _ _ _ _).trans rfl
  blk_simp
  rw [after0_17, ho]
  have hy : (y 0).val < 1 := (y 0).isLt
  have e0 : cr (((cfg0.win 17).blk t).view.emb y) = p3 (min t.val 127 / 16) (256 * (min t.val 127 % 16) + (y 1).val) (y 2).val := by
    rw [cr3]
    blk_simp [idx_17]
    rw [Nat.mul_comm _ 256]
    all_goals (congr 1 <;> omega)
  show ((hn A (min t.val 127 / 16) (256 * (min t.val 127 % 16) + (y 1).val) (y 2).val : ℝ) : EReal)
    = ((hn A (cr (((cfg0.win 17).blk t).view.emb y) 0) (cr (((cfg0.win 17).blk t).view.emb y) 1) (cr (((cfg0.win 17).blk t).view.emb y) 2) : ℝ) : EReal)
  rw [e0]
  rfl

end

end Cert.Norm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Pre_finite2
public import proofs.«01_k».proof.Proof.Gen.Pre_finite3
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.KInv
public import proofs.«01_k».proof.Proof.KEntry
public import proofs.«01_k».proof.Proof.RefOut
public import proofs.«01_k».proof.Proof.Finite
public import proofs.«01_k».proof.Proof.Ada
public import proofs.«01_k».proof.Proof.Norm
public import Idealize.ShloMosaic.Adequacy
public import Idealize.ShloMosaic.Init

@[expose] public section

noncomputable section

namespace Cert.Proof

open Idealize.ShloMosaic Idealize.SL.Sem Cert.Kernel

/-- The reference's run: its arguments end as launched, and it has no semaphore. -/
theorem frame_ref : Cert.quiescent_ReferenceIdeal (hReferenceIdeal := Cert.ReferenceIdeal.Gen.facts) :=
  fun m g _ => (θ_run Cert.ReferenceIdeal.defs _ _).mono (fun r h => ⟨fun c => (h c).2, sem_eq_zero_of_no_sems rfl _⟩) (Cert.Ref.run_kept m g)

/-- The kernel and the reference, on arguments that hold reals: both return the layer's output as `Cert.Spec` spells it. -/
theorem equal : Cert.algebraic_KernelIdeal_ReferenceIdeal_pre_finite (hKernelIdeal := Cert.KernelIdeal.Gen.facts) (hReferenceIdeal := Cert.ReferenceIdeal.Gen.facts)
    (hPre_finite := Cert.Pre_finite.Gen.facts) := by
  intro m g m' g' hpre hm
  choose A hA using fun c => Cert.Lift.exists_args _ _ _ _ _ _ _ _ _ _ _ _ _ (hpre c)
  refine ⟨fun c => (Cert.Lift.Lf (fun i => Cert.Spec.out (A c) (i 0) (i 1) (i 2)) : Cert.KernelIdeal.S8x4096x1024.Idx → EReal), ?_, ?_⟩
  · refine (θ_run Cert.KernelIdeal.defs _ _).mono (fun r h c => ⟨(h c).1.trans (Cert.KVal.result ?_), (h c).2⟩) (Cert.KernelIdeal.Value.run_blocks m g)
    obtain ⟨h0, h1, h2, h3, h4, h5, h6, h7, h8, h9, h10, h11, h12⟩ := hA c
    exact Cert.KVal.entry (A c) m c h0 h1 h2 h3 h4 h5 h6 h7 h8 h9 h10 h11 h12
  · refine (θ_run Cert.ReferenceIdeal.defs _ _).mono (fun r h c => ⟨(h c).1.trans (Cert.RPre.value m' c ?_), (h c).2⟩) (Cert.Ref.run_kept m' g')
    obtain ⟨h0, h1, h2, h3, h4, h5, h6, h7, h8, h9, h10, h11, h12⟩ := hA c
    obtain ⟨e0, e1, e2, e3, e4, e5, e6, e7, e8, e9, e10, e11, e12⟩ := hm c
    exact ⟨e0.trans h0, e1.trans h1, e2.trans h2, e3.trans h3, e4.trans h4, e5.trans h5, e6.trans h6, e7.trans h7, e8.trans h8, e9.trans h9,
      e10.trans h10, e11.trans h11, e12.trans h12⟩

/-- The second reference's run: its arguments end as launched, and it has no semaphore. -/
theorem frame_ref2 : Cert.quiescent_Reference2Ideal (hReference2Ideal := Cert.Reference2Ideal.Gen.facts) :=
  fun m g _ => (θ_run Cert.Reference2Ideal.defs _ _).mono (fun r h => ⟨fun c => (h c).2, sem_eq_zero_of_no_sems rfl _⟩) (Cert.Reference2Ideal.Value.run m g)

/-- The call that gives the modulation and its reference, on arguments that hold reals: both return the activated vector times the weights, plus the bias. -/
theorem equal2 : Cert.algebraic_Kernel2Ideal_Reference2Ideal_pre_finite2 (hKernel2Ideal := Cert.Kernel2Ideal.Gen.facts) (hReference2Ideal := Cert.Reference2Ideal.Gen.facts)
    (hPre_finite2 := Cert.Pre_finite2.Gen.facts) := by
  intro m g m' g' hpre hm
  choose A hA using fun c => Cert.Ada.exists_args _ _ _ (hpre c)
  refine ⟨fun c => (Cert.Lift.Lf (fun i => Cert.Ada.ada (A c) (i 0) (i 1)) : Cert.Kernel2Ideal.S8x3072.Idx → EReal), ?_, ?_⟩
  · refine (θ_run Cert.Kernel2Ideal.defs _ _).mono (fun r h c => ⟨(h c).1.trans ?_, (h c).2⟩) (Cert.Kernel2Ideal.Value.run_blocks m g)
    obtain ⟨h0, h1, h2⟩ := hA c
    exact Cert.Ada.result (A c) m c h0 h1 h2
  · refine (θ_run Cert.Reference2Ideal.defs _ _).mono (fun r h c => ⟨(h c).1.trans ?_, (h c).2⟩) (Cert.Reference2Ideal.Value.run m' g')
    obtain ⟨h0, h1, h2⟩ := hA c
    obtain ⟨e0, e1, e2⟩ := hm c
    exact Cert.Ada.ref (A c) _ _ _ (e0.trans h0) (e1.trans h1) (e2.trans h2) _ _ _ _ _ _

/-- The third reference's run: its arguments end as launched, and it has no semaphore. -/
theorem frame_ref3 : Cert.quiescent_Reference3Ideal (hReference3Ideal := Cert.Reference3Ideal.Gen.facts) :=
  fun m g _ => (θ_run Cert.Reference3Ideal.defs _ _).mono (fun r h => ⟨fun c => (h c).2, sem_eq_zero_of_no_sems rfl _⟩) (Cert.Reference3Ideal.Value.run m g)

/-- The call that gives the modulated activations and its reference, on arguments that hold reals: both return the normalised stream, scaled and shifted. -/
theorem equal3 : Cert.algebraic_Kernel3Ideal_Reference3Ideal_pre_finite3 (hKernel3Ideal := Cert.Kernel3Ideal.Gen.facts) (hReference3Ideal := Cert.Reference3Ideal.Gen.facts)
    (hPre_finite3 := Cert.Pre_finite3.Gen.facts) := by
  intro m g m' g' hpre hm
  choose A hA using fun c => Cert.Norm.exists_args _ _ _ _ _ _ _ _ _ _ _ _ _ _ (hpre c)
  refine ⟨fun c => (Cert.Lift.Lf (fun i => Cert.Norm.hn (A c) (i 0) (i 1) (i 2)) : Cert.Kernel3Ideal.S8x4096x1024.Idx → EReal), ?_, ?_⟩
  · refine (θ_run Cert.Kernel3Ideal.defs _ _).mono (fun r h c => ⟨(h c).2.1.trans ?_, (h c).2.2⟩) (Cert.Kernel3Ideal.Value.run_blocks m g)
    obtain ⟨h0, h1, h2⟩ := hA c
    exact Cert.Norm.result (A c) m c h0 h1 h2
  · refine (θ_run Cert.Reference3Ideal.defs _ _).mono (fun r h c => ⟨(h c).1.trans ?_, (h c).2⟩) (Cert.Reference3Ideal.Value.run m' g')
    obtain ⟨h0, h1, h2⟩ := hA c
    obtain ⟨e0, e1, e2, _⟩ := hm c
    exact Cert.Norm.ref (A c) _ _ _ (e0.trans h0) (e1.trans h1) (e2.trans h2) _ _ _ _ _ _ _ _ _ _ _ _ _ _ _ _ _

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_finite.Gen.facts, Cert.Pre_finite2.Gen.facts, Cert.Pre_finite3.Gen.facts,
  fun m ρ _ => Cert.Kernel.Gen.frame m ρ, fun m ρ _ => Cert.KernelIdeal.Gen.frame m ρ, fun m ρ _ => Cert.KernelIdeal.Gen.frame m ρ,
  frame_ref, fun m ρ _ => frame_ref m ρ trivial,
  fun m ρ _ => Cert.Kernel2.Gen.frame m ρ, fun m ρ _ => Cert.Kernel2Ideal.Gen.frame m ρ, fun m ρ _ => Cert.Kernel2Ideal.Gen.frame m ρ,
  frame_ref2, fun m ρ _ => frame_ref2 m ρ trivial,
  fun m ρ _ => Cert.Kernel3.Gen.frame m ρ, fun m ρ _ => Cert.Kernel3Ideal.Gen.frame m ρ, fun m ρ _ => Cert.Kernel3Ideal.Gen.frame m ρ,
  frame_ref3, fun m ρ _ => frame_ref3 m ρ trivial, trivial, equal, trivial, equal2, trivial, equal3⟩

end Cert.Proof

end
